-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_KernelKIdeal_in_range_k [hPre_in_range_k : Cert.Pre_in_range_k.Facts] (m : (ℓ : Loc Cert.KernelKIdeal.nD Cert.KernelKIdeal.τ Cert.KernelKIdeal.sig) → Buf (Elt Ideal) ℓ) : Prop :=
  ∀ c : Dev Cert.KernelKIdeal.nD,
    (Cert.Pre_in_range_k.fn (F := Ideal) (m ((c.tc : Thread Cert.KernelKIdeal.nD Cert.KernelKIdeal.τ).loc Cert.KernelKIdeal.main_arg0))) = (fun _ => 1#1)

def Pre_ReferenceKIdeal (m : (ℓ : Loc Cert.ReferenceKIdeal.nD Cert.ReferenceKIdeal.τ Cert.ReferenceKIdeal.sig) → Buf (Elt Ideal) ℓ) : Prop :=
  True

def Pre_ReferenceKIdeal_in_range_k [hPre_in_range_k : Cert.Pre_in_range_k.Facts] (m : (ℓ : Loc Cert.ReferenceKIdeal.nD Cert.ReferenceKIdeal.τ Cert.ReferenceKIdeal.sig) → Buf (Elt Ideal) ℓ) : Prop :=
  ∀ c : Dev Cert.ReferenceKIdeal.nD,
    (Cert.Pre_in_range_k.fn (F := Ideal) (m ((c.tc : Thread Cert.ReferenceKIdeal.nD Cert.ReferenceKIdeal.τ).loc Cert.ReferenceKIdeal.main_arg0))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_KernelXIdeal_in_range_x [hPre_in_range_x : Cert.Pre_in_range_x.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_in_range_x.fn (F := Ideal) (m ((c.tc : Thread Cert.KernelXIdeal.nD Cert.KernelXIdeal.τ).loc Cert.KernelXIdeal.main_arg0))) = (fun _ => 1#1)

def Pre_ReferenceXIdeal (m : (ℓ : Loc Cert.ReferenceXIdeal.nD Cert.ReferenceXIdeal.τ Cert.ReferenceXIdeal.sig) → Buf (Elt Ideal) ℓ) : Prop :=
  True

def Pre_ReferenceXIdeal_in_range_x [hPre_in_range_x : Cert.Pre_in_range_x.Facts] (m : (ℓ : Loc Cert.ReferenceXIdeal.nD Cert.ReferenceXIdeal.τ Cert.ReferenceXIdeal.sig) → Buf (Elt Ideal) ℓ) : Prop :=
  ∀ c : Dev Cert.ReferenceXIdeal.nD,
    (Cert.Pre_in_range_x.fn (F := Ideal) (m ((c.tc : Thread Cert.ReferenceXIdeal.nD Cert.ReferenceXIdeal.τ).loc Cert.ReferenceXIdeal.main_arg0))) = (fun _ => 1#1)

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_KernelVIdeal_in_range_v [hPre_in_range_v : Cert.Pre_in_range_v.Facts] (m : (ℓ : Loc Cert.KernelVIdeal.nD Cert.KernelVIdeal.τ Cert.KernelVIdeal.sig) → Buf (Elt Ideal) ℓ) : Prop :=
  ∀ c : Dev Cert.KernelVIdeal.nD,
    (Cert.Pre_in_range_v.fn (F := Ideal) (m ((c.tc : Thread Cert.KernelVIdeal.nD Cert.KernelVIdeal.τ).loc Cert.KernelVIdeal.main_arg0))) = (fun _ => 1#1)

def Pre_ReferenceVIdeal (m : (ℓ : Loc Cert.ReferenceVIdeal.nD Cert.ReferenceVIdeal.τ Cert.ReferenceVIdeal.sig) → Buf (Elt Ideal) ℓ) : Prop :=
  True

def Pre_ReferenceVIdeal_in_range_v [hPre_in_range_v : Cert.Pre_in_range_v.Facts] (m : (ℓ : Loc Cert.ReferenceVIdeal.nD Cert.ReferenceVIdeal.τ Cert.ReferenceVIdeal.sig) → Buf (Elt Ideal) ℓ) : Prop :=
  ∀ c : Dev Cert.ReferenceVIdeal.nD,
    (Cert.Pre_in_range_v.fn (F := Ideal) (m ((c.tc : Thread Cert.ReferenceVIdeal.nD Cert.ReferenceVIdeal.τ).loc Cert.ReferenceVIdeal.main_arg0))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_in_range_all [hPre_in_range_all : Cert.Pre_in_range_all.Facts] (m : (ℓ : Loc Cert.WholeIdeal.nD Cert.WholeIdeal.τ Cert.WholeIdeal.sig) → Buf (Elt Ideal) ℓ) : Prop :=
  ∀ c : Dev Cert.WholeIdeal.nD,
    (Cert.Pre_in_range_all.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_in_range_all [hPre_in_range_all : Cert.Pre_in_range_all.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_in_range_all.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ r.2.sem = fun _ => 0)

def quiescent_KernelKIdeal_pre_in_range_k [hKernelKIdeal : Cert.KernelKIdeal.Facts] [hPre_in_range_k : Cert.Pre_in_range_k.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal_in_range_k m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0))
      ∧ r.2.sem = fun _ => 0)

def quiescent_ReferenceKIdeal_pre_in_range_k [hReferenceKIdeal : Cert.ReferenceKIdeal.Facts] [hPre_in_range_k : Cert.Pre_in_range_k.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal_in_range_k m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_KernelXIdeal_pre_in_range_x [hKernelXIdeal : Cert.KernelXIdeal.Facts] [hPre_in_range_x : Cert.Pre_in_range_x.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal_in_range_x m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0))
      ∧ r.2.sem = fun _ => 0)

def quiescent_ReferenceXIdeal_pre_in_range_x [hReferenceXIdeal : Cert.ReferenceXIdeal.Facts] [hPre_in_range_x : Cert.Pre_in_range_x.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal_in_range_x m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0))
      ∧ r.2.sem = fun _ => 0)

def quiescent_KernelVIdeal_pre_in_range_v [hKernelVIdeal : Cert.KernelVIdeal.Facts] [hPre_in_range_v : Cert.Pre_in_range_v.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal_in_range_v m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0))
      ∧ r.2.sem = fun _ => 0)

def quiescent_ReferenceVIdeal_pre_in_range_v [hReferenceVIdeal : Cert.ReferenceVIdeal.Facts] [hPre_in_range_v : Cert.Pre_in_range_v.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal_in_range_v m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_in_range_all [hWholeIdeal : Cert.WholeIdeal.Facts] [hPre_in_range_all : Cert.Pre_in_range_all.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_in_range_all m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_WholeRefIdeal_pre_in_range_all [hWholeRefIdeal : Cert.WholeRefIdeal.Facts] [hPre_in_range_all : Cert.Pre_in_range_all.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_in_range_all m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 ((((Real.sqrt 128) * (Real.log 2))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelK_KernelKIdeal : Prop :=
  True

def algebraic_KernelKIdeal_ReferenceKIdeal_pre_in_range_k [hKernelKIdeal : Cert.KernelKIdeal.Facts] [hReferenceKIdeal : Cert.ReferenceKIdeal.Facts] [hPre_in_range_k : Cert.Pre_in_range_k.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal_in_range_k m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)) →
    ∃ (v0 : (c : Dev Cert.KernelKIdeal.nD) → Buf (Elt Ideal) ((c.tc : Thread Cert.KernelKIdeal.nD Cert.KernelKIdeal.τ).loc Cert.KernelKIdeal.main_v0_0)) (v1 : (c : Dev Cert.KernelKIdeal.nD) → Buf (Elt Ideal) ((c.tc : Thread Cert.KernelKIdeal.nD Cert.KernelKIdeal.τ).loc Cert.KernelKIdeal.main_v0_1)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0_0) = v0 c
          ∧ r.2.mem ((c.tc : Thread Cert.KernelKIdeal.nD Cert.KernelKIdeal.τ).loc Cert.KernelKIdeal.main_v0_1) = v1 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v7_0) = v0 c
          ∧ r.2.mem ((c.tc : Thread Cert.ReferenceKIdeal.nD Cert.ReferenceKIdeal.τ).loc Cert.ReferenceKIdeal.main_v7_1) = v1 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0))

def preserves_KernelX_KernelXIdeal : Prop :=
  True

def algebraic_KernelXIdeal_ReferenceXIdeal_pre_in_range_x [hKernelXIdeal : Cert.KernelXIdeal.Facts] [hReferenceXIdeal : Cert.ReferenceXIdeal.Facts] [hPre_in_range_x : Cert.Pre_in_range_x.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal_in_range_x m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v7_0) = v0 c
          ∧ r.2.mem ((c.tc : Thread Cert.ReferenceXIdeal.nD Cert.ReferenceXIdeal.τ).loc Cert.ReferenceXIdeal.main_v7_1) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0))

def preserves_KernelV_KernelVIdeal : Prop :=
  True

def algebraic_KernelVIdeal_ReferenceVIdeal_pre_in_range_v [hKernelVIdeal : Cert.KernelVIdeal.Facts] [hReferenceVIdeal : Cert.ReferenceVIdeal.Facts] [hPre_in_range_v : Cert.Pre_in_range_v.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal_in_range_v m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)) →
    ∃ (v0 : (c : Dev Cert.KernelVIdeal.nD) → Buf (Elt Ideal) ((c.tc : Thread Cert.KernelVIdeal.nD Cert.KernelVIdeal.τ).loc Cert.KernelVIdeal.main_v0_0)) (v1 : (c : Dev Cert.KernelVIdeal.nD) → Buf (Elt Ideal) ((c.tc : Thread Cert.KernelVIdeal.nD Cert.KernelVIdeal.τ).loc Cert.KernelVIdeal.main_v0_1)) (v2 : (c : Dev Cert.KernelVIdeal.nD) → Buf (Elt Ideal) ((c.tc : Thread Cert.KernelVIdeal.nD Cert.KernelVIdeal.τ).loc Cert.KernelVIdeal.main_v0_2)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v0_0) = v0 c
          ∧ r.2.mem ((c.tc : Thread Cert.KernelVIdeal.nD Cert.KernelVIdeal.τ).loc Cert.KernelVIdeal.main_v0_1) = v1 c
          ∧ r.2.mem ((c.tc : Thread Cert.KernelVIdeal.nD Cert.KernelVIdeal.τ).loc Cert.KernelVIdeal.main_v0_2) = v2 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v7_0) = v0 c
          ∧ r.2.mem ((c.tc : Thread Cert.ReferenceVIdeal.nD Cert.ReferenceVIdeal.τ).loc Cert.ReferenceVIdeal.main_v7_1) = v1 c
          ∧ r.2.mem ((c.tc : Thread Cert.ReferenceVIdeal.nD Cert.ReferenceVIdeal.τ).loc Cert.ReferenceVIdeal.main_v9) = v2 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0))

def preserves_Whole_WholeIdeal : Prop :=
  IdealRules.named_const.Statement Cert.WholeIdeal.κ "mask" .f32 0xF149F2CA#32 ⊥
  ∧ IdealRules.named_const.Statement Cert.WholeIdeal.κ "scale_log2e" .f32 0x3E0293EE#32 ((((Real.sqrt 128) * (Real.log 2))⁻¹ : ℝ) : EReal)

def algebraic_WholeIdeal_WholeRefIdeal_pre_in_range_all [hWholeIdeal : Cert.WholeIdeal.Facts] [hWholeRefIdeal : Cert.WholeRefIdeal.Facts] [hPre_in_range_all : Cert.Pre_in_range_all.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal_in_range_all m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v3)) (v1 : (c : Dev Cert.WholeIdeal.nD) → Buf (Elt Ideal) ((c.tc : Thread Cert.WholeIdeal.nD Cert.WholeIdeal.τ).loc Cert.WholeIdeal.main_v0_0)) (v2 : (c : Dev Cert.WholeIdeal.nD) → Buf (Elt Ideal) ((c.tc : Thread Cert.WholeIdeal.nD Cert.WholeIdeal.τ).loc Cert.WholeIdeal.main_v0_1)) (v3 : (c : Dev Cert.WholeIdeal.nD) → Buf (Elt Ideal) ((c.tc : Thread Cert.WholeIdeal.nD Cert.WholeIdeal.τ).loc Cert.WholeIdeal.main_v1_0)) (v4 : (c : Dev Cert.WholeIdeal.nD) → Buf (Elt Ideal) ((c.tc : Thread Cert.WholeIdeal.nD Cert.WholeIdeal.τ).loc Cert.WholeIdeal.main_v1_1)) (v5 : (c : Dev Cert.WholeIdeal.nD) → Buf (Elt Ideal) ((c.tc : Thread Cert.WholeIdeal.nD Cert.WholeIdeal.τ).loc Cert.WholeIdeal.main_v2_0)) (v6 : (c : Dev Cert.WholeIdeal.nD) → Buf (Elt Ideal) ((c.tc : Thread Cert.WholeIdeal.nD Cert.WholeIdeal.τ).loc Cert.WholeIdeal.main_v2_1)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v3) = v0 c
          ∧ r.2.mem ((c.tc : Thread Cert.WholeIdeal.nD Cert.WholeIdeal.τ).loc Cert.WholeIdeal.main_v0_0) = v1 c
          ∧ r.2.mem ((c.tc : Thread Cert.WholeIdeal.nD Cert.WholeIdeal.τ).loc Cert.WholeIdeal.main_v0_1) = v2 c
          ∧ r.2.mem ((c.tc : Thread Cert.WholeIdeal.nD Cert.WholeIdeal.τ).loc Cert.WholeIdeal.main_v1_0) = v3 c
          ∧ r.2.mem ((c.tc : Thread Cert.WholeIdeal.nD Cert.WholeIdeal.τ).loc Cert.WholeIdeal.main_v1_1) = v4 c
          ∧ r.2.mem ((c.tc : Thread Cert.WholeIdeal.nD Cert.WholeIdeal.τ).loc Cert.WholeIdeal.main_v2_0) = v5 c
          ∧ r.2.mem ((c.tc : Thread Cert.WholeIdeal.nD Cert.WholeIdeal.τ).loc Cert.WholeIdeal.main_v2_1) = v6 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v21_0) = v0 c
          ∧ r.2.mem ((c.tc : Thread Cert.WholeRefIdeal.nD Cert.WholeRefIdeal.τ).loc Cert.WholeRefIdeal.main_v21_1) = v1 c
          ∧ r.2.mem ((c.tc : Thread Cert.WholeRefIdeal.nD Cert.WholeRefIdeal.τ).loc Cert.WholeRefIdeal.main_v21_2) = v2 c
          ∧ r.2.mem ((c.tc : Thread Cert.WholeRefIdeal.nD Cert.WholeRefIdeal.τ).loc Cert.WholeRefIdeal.main_v21_3) = v3 c
          ∧ r.2.mem ((c.tc : Thread Cert.WholeRefIdeal.nD Cert.WholeRefIdeal.τ).loc Cert.WholeRefIdeal.main_v21_4) = v4 c
          ∧ r.2.mem ((c.tc : Thread Cert.WholeRefIdeal.nD Cert.WholeRefIdeal.τ).loc Cert.WholeRefIdeal.main_v21_5) = v5 c
          ∧ r.2.mem ((c.tc : Thread Cert.WholeRefIdeal.nD Cert.WholeRefIdeal.τ).loc Cert.WholeRefIdeal.main_v21_6) = v6 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2))

def Claim : Prop :=
  ∃ (hKernel : Cert.Kernel.Facts) (hKernelIdeal : Cert.KernelIdeal.Facts) (hReferenceIdeal : Cert.ReferenceIdeal.Facts) (hKernelK : Cert.KernelK.Facts) (hKernelKIdeal : Cert.KernelKIdeal.Facts) (hReferenceKIdeal : Cert.ReferenceKIdeal.Facts) (hKernelX : Cert.KernelX.Facts) (hKernelXIdeal : Cert.KernelXIdeal.Facts) (hReferenceXIdeal : Cert.ReferenceXIdeal.Facts) (hKernelV : Cert.KernelV.Facts) (hKernelVIdeal : Cert.KernelVIdeal.Facts) (hReferenceVIdeal : Cert.ReferenceVIdeal.Facts) (hWhole : Cert.Whole.Facts) (hWholeIdeal : Cert.WholeIdeal.Facts) (hWholeRefIdeal : Cert.WholeRefIdeal.Facts) (hPre_in_range_k : Cert.Pre_in_range_k.Facts) (hPre_in_range_x : Cert.Pre_in_range_x.Facts) (hPre_in_range_v : Cert.Pre_in_range_v.Facts) (hPre_in_range_all : Cert.Pre_in_range_all.Facts),
    quiescent_Kernel (hKernel := hKernel)
    ∧ quiescent_KernelIdeal (hKernelIdeal := hKernelIdeal)
    ∧ quiescent_ReferenceIdeal (hReferenceIdeal := hReferenceIdeal)
    ∧ quiescent_KernelK (hKernelK := hKernelK)
    ∧ quiescent_KernelKIdeal (hKernelKIdeal := hKernelKIdeal)
    ∧ quiescent_KernelKIdeal_pre_in_range_k (hKernelKIdeal := hKernelKIdeal) (hPre_in_range_k := hPre_in_range_k)
    ∧ quiescent_ReferenceKIdeal (hReferenceKIdeal := hReferenceKIdeal)
    ∧ quiescent_ReferenceKIdeal_pre_in_range_k (hReferenceKIdeal := hReferenceKIdeal) (hPre_in_range_k := hPre_in_range_k)
    ∧ quiescent_KernelX (hKernelX := hKernelX)
    ∧ quiescent_KernelXIdeal (hKernelXIdeal := hKernelXIdeal)
    ∧ quiescent_KernelXIdeal_pre_in_range_x (hKernelXIdeal := hKernelXIdeal) (hPre_in_range_x := hPre_in_range_x)
    ∧ quiescent_ReferenceXIdeal (hReferenceXIdeal := hReferenceXIdeal)
    ∧ quiescent_ReferenceXIdeal_pre_in_range_x (hReferenceXIdeal := hReferenceXIdeal) (hPre_in_range_x := hPre_in_range_x)
    ∧ quiescent_KernelV (hKernelV := hKernelV)
    ∧ quiescent_KernelVIdeal (hKernelVIdeal := hKernelVIdeal)
    ∧ quiescent_KernelVIdeal_pre_in_range_v (hKernelVIdeal := hKernelVIdeal) (hPre_in_range_v := hPre_in_range_v)
    ∧ quiescent_ReferenceVIdeal (hReferenceVIdeal := hReferenceVIdeal)
    ∧ quiescent_ReferenceVIdeal_pre_in_range_v (hReferenceVIdeal := hReferenceVIdeal) (hPre_in_range_v := hPre_in_range_v)
    ∧ quiescent_Whole (hWhole := hWhole)
    ∧ quiescent_WholeIdeal (hWholeIdeal := hWholeIdeal)
    ∧ quiescent_WholeIdeal_pre_in_range_all (hWholeIdeal := hWholeIdeal) (hPre_in_range_all := hPre_in_range_all)
    ∧ quiescent_WholeRefIdeal (hWholeRefIdeal := hWholeRefIdeal)
    ∧ quiescent_WholeRefIdeal_pre_in_range_all (hWholeRefIdeal := hWholeRefIdeal) (hPre_in_range_all := hPre_in_range_all)
    ∧ preserves_Kernel_KernelIdeal
    ∧ algebraic_KernelIdeal_ReferenceIdeal (hKernelIdeal := hKernelIdeal) (hReferenceIdeal := hReferenceIdeal)
    ∧ preserves_KernelK_KernelKIdeal
    ∧ algebraic_KernelKIdeal_ReferenceKIdeal_pre_in_range_k (hKernelKIdeal := hKernelKIdeal) (hReferenceKIdeal := hReferenceKIdeal) (hPre_in_range_k := hPre_in_range_k)
    ∧ preserves_KernelX_KernelXIdeal
    ∧ algebraic_KernelXIdeal_ReferenceXIdeal_pre_in_range_x (hKernelXIdeal := hKernelXIdeal) (hReferenceXIdeal := hReferenceXIdeal) (hPre_in_range_x := hPre_in_range_x)
    ∧ preserves_KernelV_KernelVIdeal
    ∧ algebraic_KernelVIdeal_ReferenceVIdeal_pre_in_range_v (hKernelVIdeal := hKernelVIdeal) (hReferenceVIdeal := hReferenceVIdeal) (hPre_in_range_v := hPre_in_range_v)
    ∧ preserves_Whole_WholeIdeal
    ∧ algebraic_WholeIdeal_WholeRefIdeal_pre_in_range_all (hWholeIdeal := hWholeIdeal) (hWholeRefIdeal := hWholeRefIdeal) (hPre_in_range_all := hPre_in_range_all)
-- ==== Pre_in_range_all.lean ====
abbrev S8x8192x2048 : Shape := ⟨3, ![8, 8192, 2048]⟩
abbrev S8x8192x256 : Shape := ⟨3, ![8, 8192, 256]⟩
abbrev S8x64x128x16x128 : Shape := ⟨5, ![8, 64, 128, 16, 128]⟩
abbrev S_ : Shape := ⟨0, ![]⟩
abbrev S8x64x16 : Shape := ⟨3, ![8, 64, 16]⟩
abbrev S8x64x128x2x128 : Shape := ⟨5, ![8, 64, 128, 2, 128]⟩
abbrev S8x64x2 : Shape := ⟨3, ![8, 64, 2]⟩
abbrev S8x64x20 : Shape := ⟨3, ![8, 64, 20]⟩

class Facts : Prop where
  bitsLt_bf16_f32 : FTy.bits .bf16 < FTy.bits .f32
  shapeCasts_S8x8192x2048_S8x64x128x16x128 : S8x8192x2048.ShapeCasts S8x64x128x16x128
  reducesTo_S8x64x128x16x128_S8x64x16_d2_4 : S8x64x128x16x128.ReducesTo [2, 4] S8x64x16
  h_S_ : 0 < S_.numel
  bcast_S_S8x64x16 : S_.BroadcastsInDim S8x64x16 (![] : Fin 0 → Fin S8x64x16.rank)
  shapeCasts_S8x8192x256_S8x64x128x2x128 : S8x8192x256.ShapeCasts S8x64x128x2x128
  reducesTo_S8x64x128x2x128_S8x64x2_d2_4 : S8x64x128x2x128.ReducesTo [2, 4] S8x64x2
  bcast_S_S8x64x2 : S_.BroadcastsInDim S8x64x2 (![] : Fin 0 → Fin S8x64x2.rank)
  concatenates_S8x64x16_S8x64x2_S8x64x2_S8x64x20_d2 : Shape.Concatenates [S8x64x16, S8x64x2, S8x64x2] S8x64x20 2

variable [Facts]

def fn_part2 {F : FTy → Type} [FloatOps F] (main_v11 : IVec S8x64x16 1) (main_v23 : IVec S8x64x2 1) (main_v35 : IVec S8x64x2 1) : IVec S8x64x20 1 :=
  let main_v36 : IVec S8x64x20 1 := concatenate S8x64x20 2 [⟨S8x64x16, main_v11⟩, ⟨S8x64x2, main_v23⟩, ⟨S8x64x2, main_v35⟩] concatenates_S8x64x16_S8x64x2_S8x64x2_S8x64x20_d2
  main_v36

def fn_part1 {F : FTy → Type} [FloatOps F] (main_arg2 : FVec F S8x8192x256 .bf16) (main_v11 : IVec S8x64x16 1) (main_v15 : FVec F S8x64x2 .f32) (main_v17 : IVec S8x64x2 1) : IVec S8x64x20 1 :=
  let main_cst_5 : FVec F S_ .f32 := constant S_ .f32 0x05000000#32
  let main_v18 : FVec F S8x64x2 .f32 := broadcastInDim S8x64x2 ![] bcast_S_S8x64x2 main_cst_5
  let main_v19 : IVec S8x64x2 1 := cmpf .oge main_v15 main_v18
  let main_cst_6 : FVec F S_ .f32 := constant S_ .f32 0x7F7F0000#32
  let main_v20 : FVec F S8x64x2 .f32 := broadcastInDim S8x64x2 ![] bcast_S_S8x64x2 main_cst_6
  let main_v21 : IVec S8x64x2 1 := cmpf .ole main_v15 main_v20
  let main_v22 : IVec S8x64x2 1 := andi main_v19 main_v21
  let main_v23 : IVec S8x64x2 1 := ori main_v17 main_v22
  let main_v24 : FVec F S8x8192x256 .f32 := (extf .f32 · bitsLt_bf16_f32) main_arg2
  let main_v25 : FVec F S8x64x128x2x128 .f32 := shapeCast S8x64x128x2x128 main_v24 shapeCasts_S8x8192x256_S8x64x128x2x128
  let main_v26 : FVec F S8x64x128x2x128 .f32 := Host.absf main_v25
  let main_cst_7 : FVec F S_ .f32 := constant S_ .f32 0xFF800000#32
  let main_v27 : FVec F S8x64x2 .f32 := (fun x v => Host.reduce FloatOps.maximumf x v reducesTo_S8x64x128x2x128_S8x64x2_d2_4 h_S_) main_v26 main_cst_7
  let main_cst_8 : FVec F S_ .f32 := constant S_ .f32 0x00000000#32
  let main_v28 : FVec F S8x64x2 .f32 := broadcastInDim S8x64x2 ![] bcast_S_S8x64x2 main_cst_8
  let main_v29 : IVec S8x64x2 1 := cmpf .oeq main_v27 main_v28
  let main_cst_9 : FVec F S_ .f32 := constant S_ .f32 0x05000000#32
  let main_v30 : FVec F S8x64x2 .f32 := broadcastInDim S8x64x2 ![] bcast_S_S8x64x2 main_cst_9
  let main_v31 : IVec S8x64x2 1 := cmpf .oge main_v27 main_v30
  let main_cst_10 : FVec F S_ .f32 := constant S_ .f32 0x7F7F0000#32
  let main_v32 : FVec F S8x64x2 .f32 := broadcastInDim S8x64x2 ![] bcast_S_S8x64x2 main_cst_10
  let main_v33 : IVec S8x64x2 1 := cmpf .ole main_v27 main_v32
  let main_v34 : IVec S8x64x2 1 := andi main_v31 main_v33
  let main_v35 : IVec S8x64x2 1 := ori main_v29 main_v34
  fn_part2 (F := F) main_v11 main_v23 main_v35

def fn {F : FTy → Type} [FloatOps F] (main_arg0 : FVec F S8x8192x2048 .bf16) (main_arg1 : FVec F S8x8192x256 .bf16) (main_arg2 : FVec F S8x8192x256 .bf16) : IVec S8x64x20 1 :=
  let main_v0 : FVec F S8x8192x2048 .f32 := (extf .f32 · bitsLt_bf16_f32) main_arg0
  let main_v1 : FVec F S8x64x128x16x128 .f32 := shapeCast S8x64x128x16x128 main_v0 shapeCasts_S8x8192x2048_S8x64x128x16x128
  let main_v2 : FVec F S8x64x128x16x128 .f32 := Host.absf main_v1
  let main_cst : FVec F S_ .f32 := constant S_ .f32 0xFF800000#32
  let main_v3 : FVec F S8x64x16 .f32 := (fun x v => Host.reduce FloatOps.maximumf x v reducesTo_S8x64x128x16x128_S8x64x16_d2_4 h_S_) main_v2 main_cst
  let main_cst_0 : FVec F S_ .f32 := constant S_ .f32 0x00000000#32
  let main_v4 : FVec F S8x64x16 .f32 := broadcastInDim S8x64x16 ![] bcast_S_S8x64x16 main_cst_0
  let main_v5 : IVec S8x64x16 1 := cmpf .oeq main_v3 main_v4
  let main_cst_1 : FVec F S_ .f32 := constant S_ .f32 0x05000000#32
  let main_v6 : FVec F S8x64x16 .f32 := broadcastInDim S8x64x16 ![] bcast_S_S8x64x16 main_cst_1
  let main_v7 : IVec S8x64x16 1 := cmpf .oge main_v3 main_v6
  let main_cst_2 : FVec F S_ .f32 := constant S_ .f32 0x7F7F0000#32
  let main_v8 : FVec F S8x64x16 .f32 := broadcastInDim S8x64x16 ![] bcast_S_S8x64x16 main_cst_2
  let main_v9 : IVec S8x64x16 1 := cmpf .ole main_v3 main_v8
  let main_v10 : IVec S8x64x16 1 := andi main_v7 main_v9
  let main_v11 : IVec S8x64x16 1 := ori main_v5 main_v10
  let main_v12 : FVec F S8x8192x256 .f32 := (extf .f32 · bitsLt_bf16_f32) main_arg1
  let main_v13 : FVec F S8x64x128x2x128 .f32 := shapeCast S8x64x128x2x128 main_v12 shapeCasts_S8x8192x256_S8x64x128x2x128
  let main_v14 : FVec F S8x64x128x2x128 .f32 := Host.absf main_v13
  let main_cst_3 : FVec F S_ .f32 := constant S_ .f32 0xFF800000#32
  let main_v15 : FVec F S8x64x2 .f32 := (fun x v => Host.reduce FloatOps.maximumf x v reducesTo_S8x64x128x2x128_S8x64x2_d2_4 h_S_) main_v14 main_cst_3
  let main_cst_4 : FVec F S_ .f32 := constant S_ .f32 0x00000000#32
  let main_v16 : FVec F S8x64x2 .f32 := broadcastInDim S8x64x2 ![] bcast_S_S8x64x2 main_cst_4
  let main_v17 : IVec S8x64x2 1 := cmpf .oeq main_v15 main_v16
  fn_part1 (F := F) main_arg2 main_v11 main_v15 main_v17
-- ==== Pre_in_range_k.lean ====
abbrev S8x8192x256 : Shape := ⟨3, ![8, 8192, 256]⟩
abbrev S8x64x128x2x128 : Shape := ⟨5, ![8, 64, 128, 2, 128]⟩
abbrev S_ : Shape := ⟨0, ![]⟩
abbrev S8x64x2 : Shape := ⟨3, ![8, 64, 2]⟩

class Facts : Prop where
  bitsLt_bf16_f32 : FTy.bits .bf16 < FTy.bits .f32
  shapeCasts_S8x8192x256_S8x64x128x2x128 : S8x8192x256.ShapeCasts S8x64x128x2x128
  reducesTo_S8x64x128x2x128_S8x64x2_d2_4 : S8x64x128x2x128.ReducesTo [2, 4] S8x64x2
  h_S_ : 0 < S_.numel
  bcast_S_S8x64x2 : S_.BroadcastsInDim S8x64x2 (![] : Fin 0 → Fin S8x64x2.rank)

variable [Facts]

def fn {F : FTy → Type} [FloatOps F] (main_arg0 : FVec F S8x8192x256 .bf16) : IVec S8x64x2 1 :=
  let main_v0 : FVec F S8x8192x256 .f32 := (extf .f32 · bitsLt_bf16_f32) main_arg0
  let main_v1 : FVec F S8x64x128x2x128 .f32 := shapeCast S8x64x128x2x128 main_v0 shapeCasts_S8x8192x256_S8x64x128x2x128
  let main_v2 : FVec F S8x64x128x2x128 .f32 := Host.absf main_v1
  let main_cst : FVec F S_ .f32 := constant S_ .f32 0xFF800000#32
  let main_v3 : FVec F S8x64x2 .f32 := (fun x v => Host.reduce FloatOps.maximumf x v reducesTo_S8x64x128x2x128_S8x64x2_d2_4 h_S_) main_v2 main_cst
  let main_cst_0 : FVec F S_ .f32 := constant S_ .f32 0x00000000#32
  let main_v4 : FVec F S8x64x2 .f32 := broadcastInDim S8x64x2 ![] bcast_S_S8x64x2 main_cst_0
  let main_v5 : IVec S8x64x2 1 := cmpf .oeq main_v3 main_v4
  let main_cst_1 : FVec F S_ .f32 := constant S_ .f32 0x05000000#32
  let main_v6 : FVec F S8x64x2 .f32 := broadcastInDim S8x64x2 ![] bcast_S_S8x64x2 main_cst_1
  let main_v7 : IVec S8x64x2 1 := cmpf .oge main_v3 main_v6
  let main_cst_2 : FVec F S_ .f32 := constant S_ .f32 0x7F7F0000#32
  let main_v8 : FVec F S8x64x2 .f32 := broadcastInDim S8x64x2 ![] bcast_S_S8x64x2 main_cst_2
  let main_v9 : IVec S8x64x2 1 := cmpf .ole main_v3 main_v8
  let main_v10 : IVec S8x64x2 1 := andi main_v7 main_v9
  let main_v11 : IVec S8x64x2 1 := ori main_v5 main_v10
  main_v11
-- ==== Pre_in_range_v.lean ====
abbrev S8x8192x256 : Shape := ⟨3, ![8, 8192, 256]⟩
abbrev S8x64x128x2x128 : Shape := ⟨5, ![8, 64, 128, 2, 128]⟩
abbrev S_ : Shape := ⟨0, ![]⟩
abbrev S8x64x2 : Shape := ⟨3, ![8, 64, 2]⟩

class Facts : Prop where
  bitsLt_bf16_f32 : FTy.bits .bf16 < FTy.bits .f32
  shapeCasts_S8x8192x256_S8x64x128x2x128 : S8x8192x256.ShapeCasts S8x64x128x2x128
  reducesTo_S8x64x128x2x128_S8x64x2_d2_4 : S8x64x128x2x128.ReducesTo [2, 4] S8x64x2
  h_S_ : 0 < S_.numel
  bcast_S_S8x64x2 : S_.BroadcastsInDim S8x64x2 (![] : Fin 0 → Fin S8x64x2.rank)

variable [Facts]

def fn {F : FTy → Type} [FloatOps F] (main_arg0 : FVec F S8x8192x256 .bf16) : IVec S8x64x2 1 :=
  let main_v0 : FVec F S8x8192x256 .f32 := (extf .f32 · bitsLt_bf16_f32) main_arg0
  let main_v1 : FVec F S8x64x128x2x128 .f32 := shapeCast S8x64x128x2x128 main_v0 shapeCasts_S8x8192x256_S8x64x128x2x128
  let main_v2 : FVec F S8x64x128x2x128 .f32 := Host.absf main_v1
  let main_cst : FVec F S_ .f32 := constant S_ .f32 0xFF800000#32
  let main_v3 : FVec F S8x64x2 .f32 := (fun x v => Host.reduce FloatOps.maximumf x v reducesTo_S8x64x128x2x128_S8x64x2_d2_4 h_S_) main_v2 main_cst
  let main_cst_0 : FVec F S_ .f32 := constant S_ .f32 0x00000000#32
  let main_v4 : FVec F S8x64x2 .f32 := broadcastInDim S8x64x2 ![] bcast_S_S8x64x2 main_cst_0
  let main_v5 : IVec S8x64x2 1 := cmpf .oeq main_v3 main_v4
  let main_cst_1 : FVec F S_ .f32 := constant S_ .f32 0x05000000#32
  let main_v6 : FVec F S8x64x2 .f32 := broadcastInDim S8x64x2 ![] bcast_S_S8x64x2 main_cst_1
  let main_v7 : IVec S8x64x2 1 := cmpf .oge main_v3 main_v6
  let main_cst_2 : FVec F S_ .f32 := constant S_ .f32 0x7F7F0000#32
  let main_v8 : FVec F S8x64x2 .f32 := broadcastInDim S8x64x2 ![] bcast_S_S8x64x2 main_cst_2
  let main_v9 : IVec S8x64x2 1 := cmpf .ole main_v3 main_v8
  let main_v10 : IVec S8x64x2 1 := andi main_v7 main_v9
  let main_v11 : IVec S8x64x2 1 := ori main_v5 main_v10
  main_v11
-- ==== Pre_in_range_x.lean ====
abbrev S8x8192x2048 : Shape := ⟨3, ![8, 8192, 2048]⟩
abbrev S8x64x128x16x128 : Shape := ⟨5, ![8, 64, 128, 16, 128]⟩
abbrev S_ : Shape := ⟨0, ![]⟩
abbrev S8x64x16 : Shape := ⟨3, ![8, 64, 16]⟩

class Facts : Prop where
  bitsLt_bf16_f32 : FTy.bits .bf16 < FTy.bits .f32
  shapeCasts_S8x8192x2048_S8x64x128x16x128 : S8x8192x2048.ShapeCasts S8x64x128x16x128
  reducesTo_S8x64x128x16x128_S8x64x16_d2_4 : S8x64x128x16x128.ReducesTo [2, 4] S8x64x16
  h_S_ : 0 < S_.numel
  bcast_S_S8x64x16 : S_.BroadcastsInDim S8x64x16 (![] : Fin 0 → Fin S8x64x16.rank)

variable [Facts]

def fn {F : FTy → Type} [FloatOps F] (main_arg0 : FVec F S8x8192x2048 .bf16) : IVec S8x64x16 1 :=
  let main_v0 : FVec F S8x8192x2048 .f32 := (extf .f32 · bitsLt_bf16_f32) main_arg0
  let main_v1 : FVec F S8x64x128x16x128 .f32 := shapeCast S8x64x128x16x128 main_v0 shapeCasts_S8x8192x2048_S8x64x128x16x128
  let main_v2 : FVec F S8x64x128x16x128 .f32 := Host.absf main_v1
  let main_cst : FVec F S_ .f32 := constant S_ .f32 0xFF800000#32
  let main_v3 : FVec F S8x64x16 .f32 := (fun x v => Host.reduce FloatOps.maximumf x v reducesTo_S8x64x128x16x128_S8x64x16_d2_4 h_S_) main_v2 main_cst
  let main_cst_0 : FVec F S_ .f32 := constant S_ .f32 0x00000000#32
  let main_v4 : FVec F S8x64x16 .f32 := broadcastInDim S8x64x16 ![] bcast_S_S8x64x16 main_cst_0
  let main_v5 : IVec S8x64x16 1 := cmpf .oeq main_v3 main_v4
  let main_cst_1 : FVec F S_ .f32 := constant S_ .f32 0x05000000#32
  let main_v6 : FVec F S8x64x16 .f32 := broadcastInDim S8x64x16 ![] bcast_S_S8x64x16 main_cst_1
  let main_v7 : IVec S8x64x16 1 := cmpf .oge main_v3 main_v6
  let main_cst_2 : FVec F S_ .f32 := constant S_ .f32 0x7F7F0000#32
  let main_v8 : FVec F S8x64x16 .f32 := broadcastInDim S8x64x16 ![] bcast_S_S8x64x16 main_cst_2
  let main_v9 : IVec S8x64x16 1 := cmpf .ole main_v3 main_v8
  let main_v10 : IVec S8x64x16 1 := andi main_v7 main_v9
  let main_v11 : IVec S8x64x16 1 := ori main_v5 main_v10
  main_v11
-- ==== Kernel.lean ====
abbrev S8x8192x2048 : Shape := ⟨3, ![8, 8192, 2048]⟩
abbrev S8x64x16 : Shape := ⟨3, ![8, 64, 16]⟩
abbrev S8x8192x256 : Shape := ⟨3, ![8, 8192, 256]⟩
abbrev S8x64x2 : Shape := ⟨3, ![8, 64, 2]⟩
abbrev S8x2x128x8192 : Shape := ⟨4, ![8, 2, 128, 8192]⟩
abbrev S1x64x16 : Shape := ⟨3, ![1, 64, 16]⟩
abbrev S1x64x2 : Shape := ⟨3, ![1, 64, 2]⟩
abbrev S1x128x1024 : Shape := ⟨3, ![1, 128, 1024]⟩
abbrev S1x8192x128 : Shape := ⟨3, ![1, 8192, 128]⟩
abbrev S1x1x128x8192 : Shape := ⟨4, ![1, 1, 128, 8192]⟩
abbrev S128x1024 : Shape := ⟨2, ![128, 1024]⟩
abbrev S1x128x128 : Shape := ⟨3, ![1, 128, 128]⟩
abbrev S128x128 : Shape := ⟨2, ![128, 128]⟩
abbrev S1024x128 : Shape := ⟨2, ![1024, 128]⟩
abbrev S1x1x1 : Shape := ⟨3, ![1, 1, 1]⟩
abbrev S1x128 : Shape := ⟨2, ![1, 128]⟩
abbrev S1x1024 : Shape := ⟨2, ![1, 1024]⟩
abbrev S1x1x128x128 : Shape := ⟨4, ![1, 1, 128, 128]⟩
abbrev S1024 : Shape := ⟨1, ![1024]⟩

abbrev nBuf : Space → Nat
  | .hbm => 7
  | .vmem => 9
  | .smem => 6
  | _ => 0

abbrev bufTy : (tb : Table) → Fin (tcTables nBuf tb) → BufTy
  | .hbm, ⟨0, _⟩ => ⟨S8x8192x2048, .fp8e4m3⟩
  | .hbm, ⟨1, _⟩ => ⟨S8x64x16, .f32⟩
  | .hbm, ⟨2, _⟩ => ⟨S8x8192x256, .fp8e4m3⟩
  | .hbm, ⟨3, _⟩ => ⟨S8x64x2, .f32⟩
  | .hbm, ⟨4, _⟩ => ⟨S8x2x128x8192, .fp8e4m3⟩
  | .hbm, ⟨5, _⟩ => ⟨S8x64x2, .f32⟩
  | .hbm, ⟨6, _⟩ => ⟨S8x8192x2048, .bf16⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x1x128x8192, .fp8e4m3⟩
  | .local _ .vmem, ⟨5, _⟩ => ⟨S1x1x128x8192, .fp8e4m3⟩
  | .local _ .vmem, ⟨6, _⟩ => ⟨S1x128x1024, .bf16⟩
  | .local _ .vmem, ⟨7, _⟩ => ⟨S1x128x1024, .bf16⟩
  | .local _ .vmem, ⟨8, _⟩ => ⟨S128x1024, .f32⟩
  | .local _ .smem, ⟨0, _⟩ => ⟨S1x64x16, .f32⟩
  | .local _ .smem, ⟨1, _⟩ => ⟨S1x64x16, .f32⟩
  | .local _ .smem, ⟨2, _⟩ => ⟨S1x64x2, .f32⟩
  | .local _ .smem, ⟨3, _⟩ => ⟨S1x64x2, .f32⟩
  | .local _ .smem, ⟨4, _⟩ => ⟨S1x64x2, .f32⟩
  | .local _ .smem, ⟨5, _⟩ => ⟨S1x64x2, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_stg2_0 : Ref sig .tc := ⟨.smem, 4, rfl⟩
abbrev cc0_stg2_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 64], ![false, false, false]⟩

def k0_off1 (i : grid0.Coords) (c0_i32 : BitVec 32) : Fin 3 → Nat :=
  let c0_16 : Index := 0#32
  let arg2 : BitVec 32 := BitVec.ofNat 32 (i 2).val
  let v19 : Index := Scalar.indexCast arg2
  let arg1 : BitVec 32 := BitVec.ofNat 32 (i 1).val
  let c8_i32 : BitVec 32 := 8#32
  let v17 : BitVec 32 := Scalar.muli arg1 c8_i32
  let v18 : BitVec 32 := Scalar.addi v17 c0_i32
  let v20 : Index := Scalar.indexCast v18
  ![0, v19.toNat, v20.toNat]
@[reducible] def k0_t1_loop (i : grid0.Coords) : Scf.Loop 32 :=
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_37 : BitVec 32 := 1#32
  ⟨c0_i32_35, v76, c1_i32_37⟩
def k0_off2 (i : grid0.Coords) (k0_t1 : Fin (k0_t1_loop i).trips) : Fin 3 → Nat :=
  let c0_105 : Index := 0#32
  let c0_i32_35 : BitVec 32 := 0#32
  let c1_i32_37 : BitVec 32 := 1#32
  let arg11 : BitVec 32 := Scf.iv c0_i32_35 c1_i32_37 k0_t1
  let c128_i32_104 : BitVec 32 := 128#32
  let v263 : BitVec 32 := Scalar.muli arg11 c128_i32_104
  let v264 : Index := Scalar.indexCast v263
  let c0_106 : Index := 0#32
  ![0, v264.toNat, 0]
def k0_off3 (i : grid0.Coords) (k0_t1 : Fin (k0_t1_loop i).trips) : Fin 4 → Nat :=
  let c0_108 : Index := 0#32
  let c0_109 : Index := 0#32
  let c0_110 : Index := 0#32
  let c0_i32_35 : BitVec 32 := 0#32
  let c1_i32_37 : BitVec 32 := 1#32
  let arg11 : BitVec 32 := Scf.iv c0_i32_35 c1_i32_37 k0_t1
  let c128_i32_107 : BitVec 32 := 128#32
  let v267 : BitVec 32 := Scalar.muli arg11 c128_i32_107
  let v268 : Index := Scalar.indexCast v267
  ![0, 0, 0, v268.toNat]
def k0_off4 (i : grid0.Coords) (k0_t1 : Fin (k0_t1_loop i).trips) : Fin 3 → Nat :=
  let c0_112 : Index := 0#32
  let c0_i32_35 : BitVec 32 := 0#32
  let c1_i32_37 : BitVec 32 := 1#32
  let arg11 : BitVec 32 := Scf.iv c0_i32_35 c1_i32_37 k0_t1
  let v272 : Index := Scalar.indexCast arg11
  let arg1 : BitVec 32 := BitVec.ofNat 32 (i 1).val
  let v273 : Index := Scalar.indexCast arg1
  ![0, v272.toNat, v273.toNat]
@[reducible] def k0_t2_loop (i : grid0.Coords) : Scf.Loop 32 :=
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let v73 : BitVec 32 := Scalar.addi c0_i32_35 v72
  let c1_i32_38 : BitVec 32 := 1#32
  ⟨v76, v73, c1_i32_38⟩
def k0_off5 (i : grid0.Coords) (k0_t2 : Fin (k0_t2_loop i).trips) : Fin 3 → Nat :=
  let c0_105 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k0_t2
  let c128_i32_104 : BitVec 32 := 128#32
  let v263 : BitVec 32 := Scalar.muli arg11 c128_i32_104
  let v264 : Index := Scalar.indexCast v263
  let c0_106 : Index := 0#32
  ![0, v264.toNat, 0]
def k0_off6 (i : grid0.Coords) (k0_t2 : Fin (k0_t2_loop i).trips) : Fin 4 → Nat :=
  let c0_108 : Index := 0#32
  let c0_109 : Index := 0#32
  let c0_110 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k0_t2
  let c128_i32_107 : BitVec 32 := 128#32
  let v267 : BitVec 32 := Scalar.muli arg11 c128_i32_107
  let v268 : Index := Scalar.indexCast v267
  ![0, 0, 0, v268.toNat]
def k0_off7 (i : grid0.Coords) (k0_t2 : Fin (k0_t2_loop i).trips) : Fin 3 → Nat :=
  let c0_112 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k0_t2
  let v272 : Index := Scalar.indexCast arg11
  let arg1 : BitVec 32 := BitVec.ofNat 32 (i 1).val
  let v273 : Index := Scalar.indexCast arg1
  ![0, v272.toNat, v273.toNat]
def k0_off8 (i : grid0.Coords) : Fin 3 → Nat :=
  let c0_39 : Index := 0#32
  let arg2 : BitVec 32 := BitVec.ofNat 32 (i 2).val
  let c128_i32 : BitVec 32 := 128#32
  let v79 : BitVec 32 := Scalar.muli arg2 c128_i32
  let v80 : Index := Scalar.indexCast v79
  let c0_40 : Index := 0#32
  ![0, v80.toNat, 0]
def k0_off9 (i : grid0.Coords) : Fin 4 → Nat :=
  let c0_42 : Index := 0#32
  let c0_43 : Index := 0#32
  let c0_44 : Index := 0#32
  let arg2 : BitVec 32 := BitVec.ofNat 32 (i 2).val
  let c128_i32_41 : BitVec 32 := 128#32
  let v83 : BitVec 32 := Scalar.muli arg2 c128_i32_41
  let v84 : Index := Scalar.indexCast v83
  ![0, 0, 0, v84.toNat]
def k0_off10 (i : grid0.Coords) : Fin 3 → Nat :=
  let c0_46 : Index := 0#32
  let arg2 : BitVec 32 := BitVec.ofNat 32 (i 2).val
  let v88 : Index := Scalar.indexCast arg2
  let arg1 : BitVec 32 := BitVec.ofNat 32 (i 1).val
  let v89 : Index := Scalar.indexCast arg1
  ![0, v88.toNat, v89.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .smem S1x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .smem S1x64x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .smem S1x64x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "scale_log2e" => some ((((Real.sqrt 128) * (Real.log 2))⁻¹ : ℝ) : EReal)
  | _ => none
-- ==== ReferenceIdeal.lean ====
abbrev S8x8192x2048 : Shape := ⟨3, ![8, 8192, 2048]⟩
abbrev S8x64x16 : Shape := ⟨3, ![8, 64, 16]⟩
abbrev S8x8192x256 : Shape := ⟨3, ![8, 8192, 256]⟩
abbrev S8x64x2 : Shape := ⟨3, ![8, 64, 2]⟩
abbrev S8x2x128x8192 : Shape := ⟨4, ![8, 2, 128, 8192]⟩
abbrev S1x128x128 : Shape := ⟨3, ![1, 128, 128]⟩
abbrev S128x128 : Shape := ⟨2, ![128, 128]⟩
abbrev S1x1x1 : Shape := ⟨3, ![1, 1, 1]⟩
abbrev S128x1 : Shape := ⟨2, ![128, 1]⟩
abbrev S1x1x128x128 : Shape := ⟨4, ![1, 1, 128, 128]⟩
abbrev S128 : Shape := ⟨1, ![128]⟩

abbrev nBuf : Space → Nat
  | .hbm => 7
  | .vmem => 4
  | .smem => 3
  | _ => 0

abbrev bufTy : (tb : Table) → Fin (tcTables nBuf tb) → BufTy
  | .hbm, ⟨0, _⟩ => ⟨S8x8192x2048, .fp8e4m3⟩
  | .hbm, ⟨1, _⟩ => ⟨S8x64x16, .f32⟩
  | .hbm, ⟨2, _⟩ => ⟨S8x8192x256, .fp8e4m3⟩
  | .hbm, ⟨3, _⟩ => ⟨S8x64x2, .f32⟩
  | .hbm, ⟨4, _⟩ => ⟨S8x2x128x8192, .fp8e4m3⟩
  | .hbm, ⟨5, _⟩ => ⟨S8x64x2, .f32⟩
  | .hbm, ⟨6, _⟩ => ⟨S8x8192x2048, .bf16⟩
  | .local _ .vmem, ⟨0, _⟩ => ⟨S8x8192x2048, .fp8e4m3⟩
  | .local _ .vmem, ⟨1, _⟩ => ⟨S8x8192x256, .fp8e4m3⟩
  | .local _ .vmem, ⟨2, _⟩ => ⟨S8x2x128x8192, .fp8e4m3⟩
  | .local _ .vmem, ⟨3, _⟩ => ⟨S8x8192x2048, .bf16⟩
  | .local _ .smem, ⟨0, _⟩ => ⟨S8x64x16, .f32⟩
  | .local _ .smem, ⟨1, _⟩ => ⟨S8x64x2, .f32⟩
  | .local _ .smem, ⟨2, _⟩ => ⟨S8x64x2, .f32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg6_0 : Ref sig .tc := ⟨.vmem, 3, rfl⟩
abbrev cc0_stg1_0 : Ref sig .tc := ⟨.smem, 0, rfl⟩
abbrev cc0_stg3_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln2" => some ((Real.log 2 : ℝ) : EReal)
  | "mask" => some ⊥
  | "scale" => some (((Real.sqrt 128)⁻¹ : ℝ) : EReal)
  | _ => none

abbrev grid0 : Pipeline.Grid := .none

@[reducible] def k0_t1_loop : Scf.Loop 32 :=
  let c0_i32 : BitVec 32 := 0#32
  let c8192_i32 : BitVec 32 := 8192#32
  let v0 : BitVec 32 := Scalar.addi c0_i32 c8192_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v8 : Index := Scalar.indexCast v1
  let c64_i32_1 : BitVec 32 := 64#32
  let v4 : BitVec 32 := Scalar.remsi arg7 c64_i32_1
  let c128_i32 : BitVec 32 := 128#32
  let v6 : BitVec 32 := Scalar.muli v4 c128_i32
  let v9 : Index := Scalar.indexCast v6
  let c64_i32 : BitVec 32 := 64#32
  let v2 : BitVec 32 := Scalar.divsi arg7 c64_i32
  let c16_i32 : BitVec 32 := 16#32
  let v3 : BitVec 32 := Scalar.remsi v2 c16_i32
  let c128_i32_2 : BitVec 32 := 128#32
  let v7 : BitVec 32 := Scalar.muli v3 c128_i32_2
  let v10 : Index := Scalar.indexCast v7
  ![v8.toNat, v9.toNat, v10.toNat]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v13 : Index := Scalar.indexCast v1
  let c64_i32_1 : BitVec 32 := 64#32
  let v4 : BitVec 32 := Scalar.remsi arg7 c64_i32_1
  let v14 : Index := Scalar.indexCast v4
  let c64_i32 : BitVec 32 := 64#32
  let v2 : BitVec 32 := Scalar.divsi arg7 c64_i32
  let c16_i32 : BitVec 32 := 16#32
  let v3 : BitVec 32 := Scalar.remsi v2 c16_i32
  let v15 : Index := Scalar.indexCast v3
  ![v13.toNat, v14.toNat, v15.toNat]
@[reducible] def k0_t2_loop (k0_t1 : Fin k0_t1_loop.trips) : Scf.Loop 32 :=
  let c0_i32_6 : BitVec 32 := 0#32
  let c0_i32 : BitVec 32 := 0#32
  let c1_i32 : BitVec 32 := 1#32
  let arg7 : BitVec 32 := Scf.iv c0_i32 c1_i32 k0_t1
  let c64_i32_1 : BitVec 32 := 64#32
  let v4 : BitVec 32 := Scalar.remsi arg7 c64_i32_1
  let c1_i32_5 : BitVec 32 := 1#32
  let v20 : BitVec 32 := Scalar.addi v4 c1_i32_5
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_8 : BitVec 32 := 1#32
  ⟨c0_i32_6, v25, c1_i32_8⟩
def k0_off3 (k0_t1 : Fin k0_t1_loop.trips) (k0_t2 : Fin (k0_t2_loop k0_t1).trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v47 : Index := Scalar.indexCast v1
  let c0_i32_6 : BitVec 32 := 0#32
  let c1_i32_8 : BitVec 32 := 1#32
  let arg8 : BitVec 32 := Scf.iv c0_i32_6 c1_i32_8 k0_t2
  let c128_i32_14 : BitVec 32 := 128#32
  let v45 : BitVec 32 := Scalar.muli arg8 c128_i32_14
  let v48 : Index := Scalar.indexCast v45
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let c128_i32_15 : BitVec 32 := 128#32
  let v46 : BitVec 32 := Scalar.muli v5 c128_i32_15
  let v49 : Index := Scalar.indexCast v46
  ![v47.toNat, v48.toNat, v49.toNat]
def k0_off4 (k0_t1 : Fin k0_t1_loop.trips) (k0_t2 : Fin (k0_t2_loop k0_t1).trips) : Fin 4 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v53 : Index := Scalar.indexCast v1
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let v54 : Index := Scalar.indexCast v5
  let c0 : Index := 0#32
  let c0_i32_6 : BitVec 32 := 0#32
  let c1_i32_8 : BitVec 32 := 1#32
  let arg8 : BitVec 32 := Scf.iv c0_i32_6 c1_i32_8 k0_t2
  let c128_i32_16 : BitVec 32 := 128#32
  let v52 : BitVec 32 := Scalar.muli arg8 c128_i32_16
  let v55 : Index := Scalar.indexCast v52
  ![v53.toNat, v54.toNat, 0, v55.toNat]
def k0_off5 (k0_t1 : Fin k0_t1_loop.trips) (k0_t2 : Fin (k0_t2_loop k0_t1).trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v59 : Index := Scalar.indexCast v1
  let c0_i32_6 : BitVec 32 := 0#32
  let c1_i32_8 : BitVec 32 := 1#32
  let arg8 : BitVec 32 := Scf.iv c0_i32_6 c1_i32_8 k0_t2
  let v60 : Index := Scalar.indexCast arg8
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let v61 : Index := Scalar.indexCast v5
  ![v59.toNat, v60.toNat, v61.toNat]
@[reducible] def k0_t3_loop (k0_t1 : Fin k0_t1_loop.trips) : Scf.Loop 32 :=
  let c0_i32_6 : BitVec 32 := 0#32
  let c0_i32 : BitVec 32 := 0#32
  let c1_i32 : BitVec 32 := 1#32
  let arg7 : BitVec 32 := Scf.iv c0_i32 c1_i32 k0_t1
  let c64_i32_1 : BitVec 32 := 64#32
  let v4 : BitVec 32 := Scalar.remsi arg7 c64_i32_1
  let c1_i32_5 : BitVec 32 := 1#32
  let v20 : BitVec 32 := Scalar.addi v4 c1_i32_5
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let v22 : BitVec 32 := Scalar.addi c0_i32_6 v21
  let c1_i32_9 : BitVec 32 := 1#32
  ⟨v25, v22, c1_i32_9⟩
def k0_off6 (k0_t1 : Fin k0_t1_loop.trips) (k0_t3 : Fin (k0_t3_loop k0_t1).trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v47 : Index := Scalar.indexCast v1
  let c0_i32_6 : BitVec 32 := 0#32
  let c64_i32_1 : BitVec 32 := 64#32
  let v4 : BitVec 32 := Scalar.remsi arg7 c64_i32_1
  let c1_i32_5 : BitVec 32 := 1#32
  let v20 : BitVec 32 := Scalar.addi v4 c1_i32_5
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_9 : BitVec 32 := 1#32
  let arg8 : BitVec 32 := Scf.iv v25 c1_i32_9 k0_t3
  let c128_i32_14 : BitVec 32 := 128#32
  let v45 : BitVec 32 := Scalar.muli arg8 c128_i32_14
  let v48 : Index := Scalar.indexCast v45
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let c128_i32_15 : BitVec 32 := 128#32
  let v46 : BitVec 32 := Scalar.muli v5 c128_i32_15
  let v49 : Index := Scalar.indexCast v46
  ![v47.toNat, v48.toNat, v49.toNat]
def k0_off7 (k0_t1 : Fin k0_t1_loop.trips) (k0_t3 : Fin (k0_t3_loop k0_t1).trips) : Fin 4 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v53 : Index := Scalar.indexCast v1
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let v54 : Index := Scalar.indexCast v5
  let c0 : Index := 0#32
  let c0_i32_6 : BitVec 32 := 0#32
  let c64_i32_1 : BitVec 32 := 64#32
  let v4 : BitVec 32 := Scalar.remsi arg7 c64_i32_1
  let c1_i32_5 : BitVec 32 := 1#32
  let v20 : BitVec 32 := Scalar.addi v4 c1_i32_5
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_9 : BitVec 32 := 1#32
  let arg8 : BitVec 32 := Scf.iv v25 c1_i32_9 k0_t3
  let c128_i32_16 : BitVec 32 := 128#32
  let v52 : BitVec 32 := Scalar.muli arg8 c128_i32_16
  let v55 : Index := Scalar.indexCast v52
  ![v53.toNat, v54.toNat, 0, v55.toNat]
def k0_off8 (k0_t1 : Fin k0_t1_loop.trips) (k0_t3 : Fin (k0_t3_loop k0_t1).trips) : Fin 3 → Nat :=
  let c0_i32 : BitVec 32 := 0#32
  let c1_i32 : BitVec 32 := 1#32
  let arg7 : BitVec 32 := Scf.iv c0_i32 c1_i32 k0_t1
  let c1024_i32 : BitVec 32 := 1024#32
  let v1 : BitVec 32 := Scalar.divsi arg7 c1024_i32
  let v59 : Index := Scalar.indexCast v1
  let c0_i32_6 : BitVec 32 := 0#32
  let c64_i32_1 : BitVec 32 := 64#32
  let v4 : BitVec 32 := Scalar.remsi arg7 c64_i32_1
  let c1_i32_5 : BitVec 32 := 1#32
  let v20 : BitVec 32 := Scalar.addi v4 c1_i32_5
  let v21 : BitVec 32 := Scalar.subi v20 c0_i32_6
  let c1_i32_7 : BitVec 32 := 1#32
  let v23 : BitVec 32 := Scalar.divsi v21 c1_i32_7
  let v24 : BitVec 32 := Scalar.muli v23 c1_i32_7
  let v25 : BitVec 32 := Scalar.addi c0_i32_6 v24
  let c1_i32_9 : BitVec 32 := 1#32
  let arg8 : BitVec 32 := Scf.iv v25 c1_i32_9 k0_t3
  let v60 : Index := Scalar.indexCast arg8
  let c64_i32 : BitVec 32 := 64#32
  let v2 : BitVec 32 := Scalar.divsi arg7 c64_i32
  let c16_i32 : BitVec 32 := 16#32
  let v3 : BitVec 32 := Scalar.remsi v2 c16_i32
  let c8_i32 : BitVec 32 := 8#32
  let v5 : BitVec 32 := Scalar.divsi v3 c8_i32
  let v61 : Index := Scalar.indexCast v5
  ![v59.toNat, v60.toNat, v61.toNat]
abbrev stage0_0 : Fin 1 → Memref sig .tc .vmem S8x8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S8x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8x64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2x128x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S8x64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelK.lean ====
abbrev S8x8192x256 : Shape := ⟨3, ![8, 8192, 256]⟩
abbrev S8x64x2 : Shape := ⟨3, ![8, 64, 2]⟩
abbrev S1x1024x256 : Shape := ⟨3, ![1, 1024, 256]⟩
abbrev S1x8x2 : Shape := ⟨3, ![1, 8, 2]⟩
abbrev S8x128 : Shape := ⟨2, ![8, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x2 : Shape := ⟨2, ![8, 2]⟩

abbrev nBuf : Space → Nat
  | .hbm => 3
  | .vmem => 6
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .fp8e4m3⟩
  | .hbm, ⟨2, _⟩ => ⟨S8x64x2, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .fp8e4m3⟩
  | .local _ .vmem, ⟨3, _⟩ => ⟨S1x1024x256, .fp8e4m3⟩
  | .local _ .vmem, ⟨4, _⟩ => ⟨S1x8x2, .f32⟩
  | .local _ .vmem, ⟨5, _⟩ => ⟨S1x8x2, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKIdeal.lean ====
abbrev S8x8192x256 : Shape := ⟨3, ![8, 8192, 256]⟩
abbrev S8x64x128x2x128 : Shape := ⟨5, ![8, 64, 128, 2, 128]⟩
abbrev S_ : Shape := ⟨0, ![]⟩
abbrev S8x64x2 : Shape := ⟨3, ![8, 64, 2]⟩
abbrev S8x64x1x2x1 : Shape := ⟨5, ![8, 64, 1, 2, 1]⟩

abbrev nBuf : Space → Nat
  | .hbm => 11
  | .vmem => 5
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .f32⟩
  | .hbm, ⟨2, _⟩ => ⟨S8x64x128x2x128, .f32⟩
  | .hbm, ⟨3, _⟩ => ⟨S8x64x128x2x128, .f32⟩
  | .hbm, ⟨4, _⟩ => ⟨S_, .f32⟩
  | .hbm, ⟨5, _⟩ => ⟨S8x64x2, .f32⟩
  | .hbm, ⟨6, _⟩ => ⟨S8x64x1x2x1, .f32⟩
  | .hbm, ⟨7, _⟩ => ⟨S8x64x128x2x128, .f32⟩
  | .hbm, ⟨8, _⟩ => ⟨S8x8192x256, .f32⟩
  | .hbm, ⟨9, _⟩ => ⟨S8x8192x256, .fp8e4m3⟩
  | .hbm, ⟨10, _⟩ => ⟨S8x64x2, .f32⟩
  | .local _ .vmem, ⟨0, _⟩ => ⟨S8x8192x256, .bf16⟩
  | .local _ .vmem, ⟨1, _⟩ => ⟨S8x8192x256, .f32⟩
  | .local _ .vmem, ⟨2, _⟩ => ⟨S8x64x2, .f32⟩
  | .local _ .vmem, ⟨3, _⟩ => ⟨S8x8192x256, .fp8e4m3⟩
  | .local _ .vmem, ⟨4, _⟩ => ⟨S8x64x2, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelX.lean ====
abbrev S8x8192x2048 : Shape := ⟨3, ![8, 8192, 2048]⟩
abbrev S8x64x16 : Shape := ⟨3, ![8, 64, 16]⟩
abbrev S1x1024x2048 : Shape := ⟨3, ![1, 1024, 2048]⟩
abbrev S1x8x16 : Shape := ⟨3, ![1, 8, 16]⟩
abbrev S8x128 : Shape := ⟨2, ![8, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x16 : Shape := ⟨2, ![8, 16]⟩

abbrev nBuf : Space → Nat
  | .hbm => 3
  | .vmem => 6
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x2048, .fp8e4m3⟩
  | .hbm, ⟨2, _⟩ => ⟨S8x64x16, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x8x16, .f32⟩
  | .local _ .vmem, ⟨5, _⟩ => ⟨S1x8x16, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceXIdeal.lean ====
abbrev S8x8192x2048 : Shape := ⟨3, ![8, 8192, 2048]⟩
abbrev S8x64x128x16x128 : Shape := ⟨5, ![8, 64, 128, 16, 128]⟩
abbrev S_ : Shape := ⟨0, ![]⟩
abbrev S8x64x16 : Shape := ⟨3, ![8, 64, 16]⟩
abbrev S8x64x1x16x1 : Shape := ⟨5, ![8, 64, 1, 16, 1]⟩

abbrev nBuf : Space → Nat
  | .hbm => 11
  | .vmem => 5
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x2048, .f32⟩
  | .hbm, ⟨2, _⟩ => ⟨S8x64x128x16x128, .f32⟩
  | .hbm, ⟨3, _⟩ => ⟨S8x64x128x16x128, .f32⟩
  | .hbm, ⟨4, _⟩ => ⟨S_, .f32⟩
  | .hbm, ⟨5, _⟩ => ⟨S8x64x16, .f32⟩
  | .hbm, ⟨6, _⟩ => ⟨S8x64x1x16x1, .f32⟩
  | .hbm, ⟨7, _⟩ => ⟨S8x64x128x16x128, .f32⟩
  | .hbm, ⟨8, _⟩ => ⟨S8x8192x2048, .f32⟩
  | .hbm, ⟨9, _⟩ => ⟨S8x8192x2048, .fp8e4m3⟩
  | .hbm, ⟨10, _⟩ => ⟨S8x64x16, .f32⟩
  | .local _ .vmem, ⟨0, _⟩ => ⟨S8x8192x2048, .bf16⟩
  | .local _ .vmem, ⟨1, _⟩ => ⟨S8x8192x2048, .f32⟩
  | .local _ .vmem, ⟨2, _⟩ => ⟨S8x64x16, .f32⟩
  | .local _ .vmem, ⟨3, _⟩ => ⟨S8x8192x2048, .fp8e4m3⟩
  | .local _ .vmem, ⟨4, _⟩ => ⟨S8x64x16, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelV.lean ====
abbrev S8x8192x256 : Shape := ⟨3, ![8, 8192, 256]⟩
abbrev S8x64x2 : Shape := ⟨3, ![8, 64, 2]⟩
abbrev S8x2x128x8192 : Shape := ⟨4, ![8, 2, 128, 8192]⟩
abbrev S1x1024x256 : Shape := ⟨3, ![1, 1024, 256]⟩
abbrev S1x8x2 : Shape := ⟨3, ![1, 8, 2]⟩
abbrev S1x2x128x1024 : Shape := ⟨4, ![1, 2, 128, 1024]⟩
abbrev S8x128 : Shape := ⟨2, ![8, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x1x128x128 : Shape := ⟨4, ![1, 1, 128, 128]⟩
abbrev S8x2 : Shape := ⟨2, ![8, 2]⟩

abbrev nBuf : Space → Nat
  | .hbm => 4
  | .vmem => 8
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .fp8e4m3⟩
  | .hbm, ⟨2, _⟩ => ⟨S8x64x2, .f32⟩
  | .hbm, ⟨3, _⟩ => ⟨S8x2x128x8192, .fp8e4m3⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .fp8e4m3⟩
  | .local _ .vmem, ⟨3, _⟩ => ⟨S1x1024x256, .fp8e4m3⟩
  | .local _ .vmem, ⟨4, _⟩ => ⟨S1x8x2, .f32⟩
  | .local _ .vmem, ⟨5, _⟩ => ⟨S1x8x2, .f32⟩
  | .local _ .vmem, ⟨6, _⟩ => ⟨S1x2x128x1024, .fp8e4m3⟩
  | .local _ .vmem, ⟨7, _⟩ => ⟨S1x2x128x1024, .fp8e4m3⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceVIdeal.lean ====
abbrev S8x8192x256 : Shape := ⟨3, ![8, 8192, 256]⟩
abbrev S8x64x128x2x128 : Shape := ⟨5, ![8, 64, 128, 2, 128]⟩
abbrev S_ : Shape := ⟨0, ![]⟩
abbrev S8x64x2 : Shape := ⟨3, ![8, 64, 2]⟩
abbrev S8x64x1x2x1 : Shape := ⟨5, ![8, 64, 1, 2, 1]⟩
abbrev S8x8192x2x128 : Shape := ⟨4, ![8, 8192, 2, 128]⟩
abbrev S8x2x128x8192 : Shape := ⟨4, ![8, 2, 128, 8192]⟩

abbrev nBuf : Space → Nat
  | .hbm => 13
  | .vmem => 5
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .f32⟩
  | .hbm, ⟨2, _⟩ => ⟨S8x64x128x2x128, .f32⟩
  | .hbm, ⟨3, _⟩ => ⟨S8x64x128x2x128, .f32⟩
  | .hbm, ⟨4, _⟩ => ⟨S_, .f32⟩
  | .hbm, ⟨5, _⟩ => ⟨S8x64x2, .f32⟩
  | .hbm, ⟨6, _⟩ => ⟨S8x64x1x2x1, .f32⟩
  | .hbm, ⟨7, _⟩ => ⟨S8x64x128x2x128, .f32⟩
  | .hbm, ⟨8, _⟩ => ⟨S8x8192x256, .f32⟩
  | .hbm, ⟨9, _⟩ => ⟨S8x8192x256, .fp8e4m3⟩
  | .hbm, ⟨10, _⟩ => ⟨S8x64x2, .f32⟩
  | .hbm, ⟨11, _⟩ => ⟨S8x8192x2x128, .fp8e4m3⟩
  | .hbm, ⟨12, _⟩ => ⟨S8x2x128x8192, .fp8e4m3⟩
  | .local _ .vmem, ⟨0, _⟩ => ⟨S8x8192x256, .bf16⟩
  | .local _ .vmem, ⟨1, _⟩ => ⟨S8x8192x256, .f32⟩
  | .local _ .vmem, ⟨2, _⟩ => ⟨S8x64x2, .f32⟩
  | .local _ .vmem, ⟨3, _⟩ => ⟨S8x8192x256, .fp8e4m3⟩
  | .local _ .vmem, ⟨4, _⟩ => ⟨S8x64x2, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Whole.lean ====
abbrev S8x8192x2048 : Shape := ⟨3, ![8, 8192, 2048]⟩
abbrev S8x8192x256 : Shape := ⟨3, ![8, 8192, 256]⟩
abbrev S8x64x16 : Shape := ⟨3, ![8, 64, 16]⟩
abbrev S1x1024x2048 : Shape := ⟨3, ![1, 1024, 2048]⟩
abbrev S1x8x16 : Shape := ⟨3, ![1, 8, 16]⟩
abbrev S8x128 : Shape := ⟨2, ![8, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x16 : Shape := ⟨2, ![8, 16]⟩
abbrev S8x64x2 : Shape := ⟨3, ![8, 64, 2]⟩
abbrev S1x1024x256 : Shape := ⟨3, ![1, 1024, 256]⟩
abbrev S1x8x2 : Shape := ⟨3, ![1, 8, 2]⟩
abbrev S8x2 : Shape := ⟨2, ![8, 2]⟩
abbrev S8x2x128x8192 : Shape := ⟨4, ![8, 2, 128, 8192]⟩
abbrev S1x2x128x1024 : Shape := ⟨4, ![1, 2, 128, 1024]⟩
abbrev S1x1x128x128 : Shape := ⟨4, ![1, 1, 128, 128]⟩
abbrev S1x64x16 : Shape := ⟨3, ![1, 64, 16]⟩
abbrev S1x64x2 : Shape := ⟨3, ![1, 64, 2]⟩
abbrev S1x128x1024 : Shape := ⟨3, ![1, 128, 1024]⟩
abbrev S1x8192x128 : Shape := ⟨3, ![1, 8192, 128]⟩
abbrev S1x1x128x8192 : Shape := ⟨4, ![1, 1, 128, 8192]⟩
abbrev S128x1024 : Shape := ⟨2, ![128, 1024]⟩
abbrev S1024x128 : Shape := ⟨2, ![1024, 128]⟩
abbrev S1x1x1 : Shape := ⟨3, ![1, 1, 1]⟩
abbrev S1x1024 : Shape := ⟨2, ![1, 1024]⟩
abbrev S1024 : Shape := ⟨1, ![1024]⟩

abbrev nBuf : Space → Nat
  | .hbm => 11
  | .vmem => 29
  | .smem => 6
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .fp8e4m3⟩
  | .hbm, ⟨4, _⟩ => ⟨S8x64x16, .f32⟩
  | .hbm, ⟨5, _⟩ => ⟨S8x8192x256, .fp8e4m3⟩
  | .hbm, ⟨6, _⟩ => ⟨S8x64x2, .f32⟩
  | .hbm, ⟨7, _⟩ => ⟨S8x8192x256, .fp8e4m3⟩
  | .hbm, ⟨8, _⟩ => ⟨S8x64x2, .f32⟩
  | .hbm, ⟨9, _⟩ => ⟨S8x2x128x8192, .fp8e4m3⟩
  | .hbm, ⟨10, _⟩ => ⟨S8x8192x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .fp8e4m3⟩
  | .local _ .vmem, ⟨3, _⟩ => ⟨S1x1024x2048, .fp8e4m3⟩
  | .local _ .vmem, ⟨4, _⟩ => ⟨S1x8x16, .f32⟩
  | .local _ .vmem, ⟨5, _⟩ => ⟨S1x8x16, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .fp8e4m3⟩
  | .local _ .vmem, ⟨9, _⟩ => ⟨S1x1024x256, .fp8e4m3⟩
  | .local _ .vmem, ⟨10, _⟩ => ⟨S1x8x2, .f32⟩
  | .local _ .vmem, ⟨11, _⟩ => ⟨S1x8x2, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .fp8e4m3⟩
  | .local _ .vmem, ⟨15, _⟩ => ⟨S1x1024x256, .fp8e4m3⟩
  | .local _ .vmem, ⟨16, _⟩ => ⟨S1x8x2, .f32⟩
  | .local _ .vmem, ⟨17, _⟩ => ⟨S1x8x2, .f32⟩
  | .local _ .vmem, ⟨18, _⟩ => ⟨S1x2x128x1024, .fp8e4m3⟩
  | .local _ .vmem, ⟨19, _⟩ => ⟨S1x2x128x1024, .fp8e4m3⟩
  | .local _ .vmem, ⟨20, _⟩ => ⟨S1x128x1024, .fp8e4m3⟩
  | .local _ .vmem, ⟨21, _⟩ => ⟨S1x128x1024, .fp8e4m3⟩
  | .local _ .vmem, ⟨22, _⟩ => ⟨S1x8192x128, .fp8e4m3⟩
  | .local _ .vmem, ⟨23, _⟩ => ⟨S1x8192x128, .fp8e4m3⟩
  | .local _ .vmem, ⟨24, _⟩ => ⟨S1x1x128x8192, .fp8e4m3⟩
  | .local _ .vmem, ⟨25, _⟩ => ⟨S1x1x128x8192, .fp8e4m3⟩
  | .local _ .vmem, ⟨26, _⟩ => ⟨S1x128x1024, .bf16⟩
  | .local _ .vmem, ⟨27, _⟩ => ⟨S1x128x1024, .bf16⟩
  | .local _ .vmem, ⟨28, _⟩ => ⟨S128x1024, .f32⟩
  | .local _ .smem, ⟨0, _⟩ => ⟨S1x64x16, .f32⟩
  | .local _ .smem, ⟨1, _⟩ => ⟨S1x64x16, .f32⟩
  | .local _ .smem, ⟨2, _⟩ => ⟨S1x64x2, .f32⟩
  | .local _ .smem, ⟨3, _⟩ => ⟨S1x64x2, .f32⟩
  | .local _ .smem, ⟨4, _⟩ => ⟨S1x64x2, .f32⟩
  | .local _ .smem, ⟨5, _⟩ => ⟨S1x64x2, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc3_scratch0 : Ref sig .tc := ⟨.vmem, 28, rfl⟩
abbrev cc3_stg0_0 : Ref sig .tc := ⟨.smem, 0, rfl⟩
abbrev cc3_stg0_1 : Ref sig .tc := ⟨.smem, 1, rfl⟩
abbrev cc3_stg1_0 : Ref sig .tc := ⟨.smem, 2, rfl⟩
abbrev cc3_stg1_1 : Ref sig .tc := ⟨.smem, 3, rfl⟩
abbrev cc3_stg2_0 : Ref sig .tc := ⟨.smem, 4, rfl⟩
abbrev cc3_stg2_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 2 → Memref sig .tc .vmem S1x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2x128x1024 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![8, 2, 64], ![false, false, false]⟩

def k3_off1 (i : grid3.Coords) (c0_i32 : BitVec 32) : Fin 3 → Nat :=
  let c0_16 : Index := 0#32
  let arg2 : BitVec 32 := BitVec.ofNat 32 (i 2).val
  let v19 : Index := Scalar.indexCast arg2
  let arg1 : BitVec 32 := BitVec.ofNat 32 (i 1).val
  let c8_i32 : BitVec 32 := 8#32
  let v17 : BitVec 32 := Scalar.muli arg1 c8_i32
  let v18 : BitVec 32 := Scalar.addi v17 c0_i32
  let v20 : Index := Scalar.indexCast v18
  ![0, v19.toNat, v20.toNat]
@[reducible] def k3_t1_loop (i : grid3.Coords) : Scf.Loop 32 :=
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_37 : BitVec 32 := 1#32
  ⟨c0_i32_35, v76, c1_i32_37⟩
def k3_off2 (i : grid3.Coords) (k3_t1 : Fin (k3_t1_loop i).trips) : Fin 3 → Nat :=
  let c0_105 : Index := 0#32
  let c0_i32_35 : BitVec 32 := 0#32
  let c1_i32_37 : BitVec 32 := 1#32
  let arg11 : BitVec 32 := Scf.iv c0_i32_35 c1_i32_37 k3_t1
  let c128_i32_104 : BitVec 32 := 128#32
  let v263 : BitVec 32 := Scalar.muli arg11 c128_i32_104
  let v264 : Index := Scalar.indexCast v263
  let c0_106 : Index := 0#32
  ![0, v264.toNat, 0]
def k3_off3 (i : grid3.Coords) (k3_t1 : Fin (k3_t1_loop i).trips) : Fin 4 → Nat :=
  let c0_108 : Index := 0#32
  let c0_109 : Index := 0#32
  let c0_110 : Index := 0#32
  let c0_i32_35 : BitVec 32 := 0#32
  let c1_i32_37 : BitVec 32 := 1#32
  let arg11 : BitVec 32 := Scf.iv c0_i32_35 c1_i32_37 k3_t1
  let c128_i32_107 : BitVec 32 := 128#32
  let v267 : BitVec 32 := Scalar.muli arg11 c128_i32_107
  let v268 : Index := Scalar.indexCast v267
  ![0, 0, 0, v268.toNat]
def k3_off4 (i : grid3.Coords) (k3_t1 : Fin (k3_t1_loop i).trips) : Fin 3 → Nat :=
  let c0_112 : Index := 0#32
  let c0_i32_35 : BitVec 32 := 0#32
  let c1_i32_37 : BitVec 32 := 1#32
  let arg11 : BitVec 32 := Scf.iv c0_i32_35 c1_i32_37 k3_t1
  let v272 : Index := Scalar.indexCast arg11
  let arg1 : BitVec 32 := BitVec.ofNat 32 (i 1).val
  let v273 : Index := Scalar.indexCast arg1
  ![0, v272.toNat, v273.toNat]
@[reducible] def k3_t2_loop (i : grid3.Coords) : Scf.Loop 32 :=
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let v73 : BitVec 32 := Scalar.addi c0_i32_35 v72
  let c1_i32_38 : BitVec 32 := 1#32
  ⟨v76, v73, c1_i32_38⟩
def k3_off5 (i : grid3.Coords) (k3_t2 : Fin (k3_t2_loop i).trips) : Fin 3 → Nat :=
  let c0_105 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k3_t2
  let c128_i32_104 : BitVec 32 := 128#32
  let v263 : BitVec 32 := Scalar.muli arg11 c128_i32_104
  let v264 : Index := Scalar.indexCast v263
  let c0_106 : Index := 0#32
  ![0, v264.toNat, 0]
def k3_off6 (i : grid3.Coords) (k3_t2 : Fin (k3_t2_loop i).trips) : Fin 4 → Nat :=
  let c0_108 : Index := 0#32
  let c0_109 : Index := 0#32
  let c0_110 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k3_t2
  let c128_i32_107 : BitVec 32 := 128#32
  let v267 : BitVec 32 := Scalar.muli arg11 c128_i32_107
  let v268 : Index := Scalar.indexCast v267
  ![0, 0, 0, v268.toNat]
def k3_off7 (i : grid3.Coords) (k3_t2 : Fin (k3_t2_loop i).trips) : Fin 3 → Nat :=
  let c0_112 : Index := 0#32
  let c0_i32_35 : BitVec 32 := 0#32
  let arg2 : BitVec 32 := BitVec.ofNat 32 (i 2).val
  let v72 : BitVec 32 := Scalar.subi arg2 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg11 : BitVec 32 := Scf.iv v76 c1_i32_38 k3_t2
  let v272 : Index := Scalar.indexCast arg11
  let arg1 : BitVec 32 := BitVec.ofNat 32 (i 1).val
  let v273 : Index := Scalar.indexCast arg1
  ![0, v272.toNat, v273.toNat]
def k3_off8 (i : grid3.Coords) : Fin 3 → Nat :=
  let c0_39 : Index := 0#32
  let arg2 : BitVec 32 := BitVec.ofNat 32 (i 2).val
  let c128_i32 : BitVec 32 := 128#32
  let v79 : BitVec 32 := Scalar.muli arg2 c128_i32
  let v80 : Index := Scalar.indexCast v79
  let c0_40 : Index := 0#32
  ![0, v80.toNat, 0]
def k3_off9 (i : grid3.Coords) : Fin 4 → Nat :=
  let c0_42 : Index := 0#32
  let c0_43 : Index := 0#32
  let c0_44 : Index := 0#32
  let arg2 : BitVec 32 := BitVec.ofNat 32 (i 2).val
  let c128_i32_41 : BitVec 32 := 128#32
  let v83 : BitVec 32 := Scalar.muli arg2 c128_i32_41
  let v84 : Index := Scalar.indexCast v83
  ![0, 0, 0, v84.toNat]
def k3_off10 (i : grid3.Coords) : Fin 3 → Nat :=
  let c0_46 : Index := 0#32
  let arg2 : BitVec 32 := BitVec.ofNat 32 (i 2).val
  let v88 : Index := Scalar.indexCast arg2
  let arg1 : BitVec 32 := BitVec.ofNat 32 (i 1).val
  let v89 : Index := Scalar.indexCast arg1
  ![0, v88.toNat, v89.toNat]
def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .smem S1x64x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .smem S1x64x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, false]

abbrev stage3_2 : Fin 2 → Memref sig .tc .smem S1x64x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S1x128x1024 .fp8e4m3 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x8192x128 .fp8e4m3 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1x128x8192 .fp8e4m3 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1x128x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]
-- ==== WholeIdeal.lean ====
variable {F : FTy → Type} [FloatOps F] [Named F]
def κ : String → Option EReal := fun
  | "mask" => some ⊥
  | "scale_log2e" => some ((((Real.sqrt 128) * (Real.log 2))⁻¹ : ℝ) : EReal)
  | _ => none
-- ==== WholeRefIdeal.lean ====
abbrev S8x8192x2048 : Shape := ⟨3, ![8, 8192, 2048]⟩
abbrev S8x8192x256 : Shape := ⟨3, ![8, 8192, 256]⟩
abbrev S8x64x128x16x128 : Shape := ⟨5, ![8, 64, 128, 16, 128]⟩
abbrev S_ : Shape := ⟨0, ![]⟩
abbrev S8x64x16 : Shape := ⟨3, ![8, 64, 16]⟩
abbrev S8x64x128x2x128 : Shape := ⟨5, ![8, 64, 128, 2, 128]⟩
abbrev S8x64x2 : Shape := ⟨3, ![8, 64, 2]⟩
abbrev S8x64x1x16x1 : Shape := ⟨5, ![8, 64, 1, 16, 1]⟩
abbrev S8x64x1x2x1 : Shape := ⟨5, ![8, 64, 1, 2, 1]⟩
abbrev S1x128x128 : Shape := ⟨3, ![1, 128, 128]⟩
abbrev S128x128 : Shape := ⟨2, ![128, 128]⟩
abbrev S1x1x1 : Shape := ⟨3, ![1, 1, 1]⟩
abbrev S1x1 : Shape := ⟨2, ![1, 1]⟩
abbrev S128x1 : Shape := ⟨2, ![128, 1]⟩
abbrev S128 : Shape := ⟨1, ![128]⟩

abbrev nBuf : Space → Nat
  | .hbm => 34
  | .vmem => 16
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .f32⟩
  | .hbm, ⟨4, _⟩ => ⟨S8x64x128x16x128, .f32⟩
  | .hbm, ⟨5, _⟩ => ⟨S8x64x128x16x128, .f32⟩
  | .hbm, ⟨6, _⟩ => ⟨S_, .f32⟩
  | .hbm, ⟨7, _⟩ => ⟨S8x64x16, .f32⟩
  | .hbm, ⟨8, _⟩ => ⟨S8x8192x256, .f32⟩
  | .hbm, ⟨9, _⟩ => ⟨S8x64x128x2x128, .f32⟩
  | .hbm, ⟨10, _⟩ => ⟨S8x64x128x2x128, .f32⟩
  | .hbm, ⟨11, _⟩ => ⟨S_, .f32⟩
  | .hbm, ⟨12, _⟩ => ⟨S8x64x2, .f32⟩
  | .hbm, ⟨13, _⟩ => ⟨S8x8192x256, .f32⟩
  | .hbm, ⟨14, _⟩ => ⟨S8x64x128x2x128, .f32⟩
  | .hbm, ⟨15, _⟩ => ⟨S8x64x128x2x128, .f32⟩
  | .hbm, ⟨16, _⟩ => ⟨S_, .f32⟩
  | .hbm, ⟨17, _⟩ => ⟨S8x64x2, .f32⟩
  | .hbm, ⟨18, _⟩ => ⟨S8x64x1x16x1, .f32⟩
  | .hbm, ⟨19, _⟩ => ⟨S8x64x128x16x128, .f32⟩
  | .hbm, ⟨20, _⟩ => ⟨S8x8192x2048, .f32⟩
  | .hbm, ⟨21, _⟩ => ⟨S8x64x1x2x1, .f32⟩
  | .hbm, ⟨22, _⟩ => ⟨S8x64x128x2x128, .f32⟩
  | .hbm, ⟨23, _⟩ => ⟨S8x8192x256, .f32⟩
  | .hbm, ⟨24, _⟩ => ⟨S8x64x1x2x1, .f32⟩
  | .hbm, ⟨25, _⟩ => ⟨S8x64x128x2x128, .f32⟩
  | .hbm, ⟨26, _⟩ => ⟨S8x8192x256, .f32⟩
  | .hbm, ⟨27, _⟩ => ⟨S8x8192x2048, .bf16⟩
  | .hbm, ⟨28, _⟩ => ⟨S8x8192x2048, .fp8e4m3⟩
  | .hbm, ⟨29, _⟩ => ⟨S8x64x16, .f32⟩
  | .hbm, ⟨30, _⟩ => ⟨S8x8192x256, .fp8e4m3⟩
  | .hbm, ⟨31, _⟩ => ⟨S8x64x2, .f32⟩
  | .hbm, ⟨32, _⟩ => ⟨S8x8192x256, .fp8e4m3⟩
  | .hbm, ⟨33, _⟩ => ⟨S8x64x2, .f32⟩
  | .local _ .vmem, ⟨0, _⟩ => ⟨S8x8192x2048, .bf16⟩
  | .local _ .vmem, ⟨1, _⟩ => ⟨S8x8192x2048, .f32⟩
  | .local _ .vmem, ⟨2, _⟩ => ⟨S8x64x16, .f32⟩
  | .local _ .vmem, ⟨3, _⟩ => ⟨S8x8192x256, .bf16⟩
  | .local _ .vmem, ⟨4, _⟩ => ⟨S8x8192x256, .f32⟩
  | .local _ .vmem, ⟨5, _⟩ => ⟨S8x64x2, .f32⟩
  | .local _ .vmem, ⟨6, _⟩ => ⟨S8x8192x256, .bf16⟩
  | .local _ .vmem, ⟨7, _⟩ => ⟨S8x8192x256, .f32⟩
  | .local _ .vmem, ⟨8, _⟩ => ⟨S8x64x2, .f32⟩
  | .local _ .vmem, ⟨9, _⟩ => ⟨S8x8192x2048, .bf16⟩
  | .local _ .vmem, ⟨10, _⟩ => ⟨S8x8192x2048, .fp8e4m3⟩
  | .local _ .vmem, ⟨11, _⟩ => ⟨S8x64x16, .f32⟩
  | .local _ .vmem, ⟨12, _⟩ => ⟨S8x8192x256, .fp8e4m3⟩
  | .local _ .vmem, ⟨13, _⟩ => ⟨S8x64x2, .f32⟩
  | .local _ .vmem, ⟨14, _⟩ => ⟨S8x8192x256, .fp8e4m3⟩
  | .local _ .vmem, ⟨15, _⟩ => ⟨S8x64x2, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev main_v21_4 : Ref sig .tc := ⟨.hbm, 31, rfl⟩
abbrev main_v21_5 : Ref sig .tc := ⟨.hbm, 32, rfl⟩
abbrev main_v21_6 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F] [Named F]

def κ : String → Option EReal := fun
  | "ln2" => some ((Real.log 2 : ℝ) : EReal)
  | "mask" => some ⊥
  | "scale" => some (((Real.sqrt 128)⁻¹ : ℝ) : EReal)
  | _ => none

abbrev grid0 : Pipeline.Grid := .none

@[reducible] def k0_t1_loop : Scf.Loop 32 :=
  let c0_i32 : BitVec 32 := 0#32
  let c8192_i32 : BitVec 32 := 8192#32
  let v126 : BitVec 32 := Scalar.addi c0_i32 c8192_i32
  let c1_i32 : BitVec 32 := 1#32
  ⟨c0_i32, v126, c1_i32⟩
def k0_off1 (k0_t1 : Fin k0_t1_loop.trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v134 : Index := Scalar.indexCast v127
  let c64_i32_83 : BitVec 32 := 64#32
  let v130 : BitVec 32 := Scalar.remsi arg16 c64_i32_83
  let c128_i32 : BitVec 32 := 128#32
  let v132 : BitVec 32 := Scalar.muli v130 c128_i32
  let v135 : Index := Scalar.indexCast v132
  let c64_i32 : BitVec 32 := 64#32
  let v128 : BitVec 32 := Scalar.divsi arg16 c64_i32
  let c16_i32 : BitVec 32 := 16#32
  let v129 : BitVec 32 := Scalar.remsi v128 c16_i32
  let c128_i32_84 : BitVec 32 := 128#32
  let v133 : BitVec 32 := Scalar.muli v129 c128_i32_84
  let v136 : Index := Scalar.indexCast v133
  ![v134.toNat, v135.toNat, v136.toNat]
def k0_off2 (k0_t1 : Fin k0_t1_loop.trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v139 : Index := Scalar.indexCast v127
  let c64_i32_83 : BitVec 32 := 64#32
  let v130 : BitVec 32 := Scalar.remsi arg16 c64_i32_83
  let v140 : Index := Scalar.indexCast v130
  let c64_i32 : BitVec 32 := 64#32
  let v128 : BitVec 32 := Scalar.divsi arg16 c64_i32
  let c16_i32 : BitVec 32 := 16#32
  let v129 : BitVec 32 := Scalar.remsi v128 c16_i32
  let v141 : Index := Scalar.indexCast v129
  ![v139.toNat, v140.toNat, v141.toNat]
@[reducible] def k0_t2_loop (k0_t1 : Fin k0_t1_loop.trips) : Scf.Loop 32 :=
  let c0_i32_89 : BitVec 32 := 0#32
  let c0_i32 : BitVec 32 := 0#32
  let c1_i32 : BitVec 32 := 1#32
  let arg16 : BitVec 32 := Scf.iv c0_i32 c1_i32 k0_t1
  let c64_i32_83 : BitVec 32 := 64#32
  let v130 : BitVec 32 := Scalar.remsi arg16 c64_i32_83
  let c1_i32_88 : BitVec 32 := 1#32
  let v147 : BitVec 32 := Scalar.addi v130 c1_i32_88
  let v148 : BitVec 32 := Scalar.subi v147 c0_i32_89
  let c1_i32_90 : BitVec 32 := 1#32
  let v150 : BitVec 32 := Scalar.divsi v148 c1_i32_90
  let v151 : BitVec 32 := Scalar.muli v150 c1_i32_90
  let v152 : BitVec 32 := Scalar.addi c0_i32_89 v151
  let c1_i32_91 : BitVec 32 := 1#32
  ⟨c0_i32_89, v152, c1_i32_91⟩
def k0_off3 (k0_t1 : Fin k0_t1_loop.trips) (k0_t2 : Fin (k0_t2_loop k0_t1).trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v174 : Index := Scalar.indexCast v127
  let c0_i32_89 : BitVec 32 := 0#32
  let c1_i32_91 : BitVec 32 := 1#32
  let arg17 : BitVec 32 := Scf.iv c0_i32_89 c1_i32_91 k0_t2
  let c128_i32_97 : BitVec 32 := 128#32
  let v172 : BitVec 32 := Scalar.muli arg17 c128_i32_97
  let v175 : Index := Scalar.indexCast v172
  let c64_i32 : BitVec 32 := 64#32
  let v128 : BitVec 32 := Scalar.divsi arg16 c64_i32
  let c16_i32 : BitVec 32 := 16#32
  let v129 : BitVec 32 := Scalar.remsi v128 c16_i32
  let c8_i32 : BitVec 32 := 8#32
  let v131 : BitVec 32 := Scalar.divsi v129 c8_i32
  let c128_i32_98 : BitVec 32 := 128#32
  let v173 : BitVec 32 := Scalar.muli v131 c128_i32_98
  let v176 : Index := Scalar.indexCast v173
  ![v174.toNat, v175.toNat, v176.toNat]
def k0_off4 (k0_t1 : Fin k0_t1_loop.trips) (k0_t2 : Fin (k0_t2_loop k0_t1).trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v187 : Index := Scalar.indexCast v127
  let c0_i32_89 : BitVec 32 := 0#32
  let c1_i32_91 : BitVec 32 := 1#32
  let arg17 : BitVec 32 := Scf.iv c0_i32_89 c1_i32_91 k0_t2
  let v188 : Index := Scalar.indexCast arg17
  let c64_i32 : BitVec 32 := 64#32
  let v128 : BitVec 32 := Scalar.divsi arg16 c64_i32
  let c16_i32 : BitVec 32 := 16#32
  let v129 : BitVec 32 := Scalar.remsi v128 c16_i32
  let c8_i32 : BitVec 32 := 8#32
  let v131 : BitVec 32 := Scalar.divsi v129 c8_i32
  let v189 : Index := Scalar.indexCast v131
  ![v187.toNat, v188.toNat, v189.toNat]
@[reducible] def k0_t3_loop (k0_t1 : Fin k0_t1_loop.trips) : Scf.Loop 32 :=
  let c0_i32_89 : BitVec 32 := 0#32
  let c0_i32 : BitVec 32 := 0#32
  let c1_i32 : BitVec 32 := 1#32
  let arg16 : BitVec 32 := Scf.iv c0_i32 c1_i32 k0_t1
  let c64_i32_83 : BitVec 32 := 64#32
  let v130 : BitVec 32 := Scalar.remsi arg16 c64_i32_83
  let c1_i32_88 : BitVec 32 := 1#32
  let v147 : BitVec 32 := Scalar.addi v130 c1_i32_88
  let v148 : BitVec 32 := Scalar.subi v147 c0_i32_89
  let c1_i32_90 : BitVec 32 := 1#32
  let v150 : BitVec 32 := Scalar.divsi v148 c1_i32_90
  let v151 : BitVec 32 := Scalar.muli v150 c1_i32_90
  let v152 : BitVec 32 := Scalar.addi c0_i32_89 v151
  let v149 : BitVec 32 := Scalar.addi c0_i32_89 v148
  let c1_i32_92 : BitVec 32 := 1#32
  ⟨v152, v149, c1_i32_92⟩
def k0_off5 (k0_t1 : Fin k0_t1_loop.trips) (k0_t3 : Fin (k0_t3_loop k0_t1).trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v174 : Index := Scalar.indexCast v127
  let c0_i32_89 : BitVec 32 := 0#32
  let c64_i32_83 : BitVec 32 := 64#32
  let v130 : BitVec 32 := Scalar.remsi arg16 c64_i32_83
  let c1_i32_88 : BitVec 32 := 1#32
  let v147 : BitVec 32 := Scalar.addi v130 c1_i32_88
  let v148 : BitVec 32 := Scalar.subi v147 c0_i32_89
  let c1_i32_90 : BitVec 32 := 1#32
  let v150 : BitVec 32 := Scalar.divsi v148 c1_i32_90
  let v151 : BitVec 32 := Scalar.muli v150 c1_i32_90
  let v152 : BitVec 32 := Scalar.addi c0_i32_89 v151
  let c1_i32_92 : BitVec 32 := 1#32
  let arg17 : BitVec 32 := Scf.iv v152 c1_i32_92 k0_t3
  let c128_i32_97 : BitVec 32 := 128#32
  let v172 : BitVec 32 := Scalar.muli arg17 c128_i32_97
  let v175 : Index := Scalar.indexCast v172
  let c64_i32 : BitVec 32 := 64#32
  let v128 : BitVec 32 := Scalar.divsi arg16 c64_i32
  let c16_i32 : BitVec 32 := 16#32
  let v129 : BitVec 32 := Scalar.remsi v128 c16_i32
  let c8_i32 : BitVec 32 := 8#32
  let v131 : BitVec 32 := Scalar.divsi v129 c8_i32
  let c128_i32_98 : BitVec 32 := 128#32
  let v173 : BitVec 32 := Scalar.muli v131 c128_i32_98
  let v176 : Index := Scalar.indexCast v173
  ![v174.toNat, v175.toNat, v176.toNat]
def k0_off6 (k0_t1 : Fin k0_t1_loop.trips) (k0_t3 : Fin (k0_t3_loop k0_t1).trips) : Fin 3 → Nat :=
  let c0_i32 : BitVec 32 := 0#32
  let c1_i32 : BitVec 32 := 1#32
  let arg16 : BitVec 32 := Scf.iv c0_i32 c1_i32 k0_t1
  let c1024_i32 : BitVec 32 := 1024#32
  let v127 : BitVec 32 := Scalar.divsi arg16 c1024_i32
  let v187 : Index := Scalar.indexCast v127
  let c0_i32_89 : BitVec 32 := 0#32
  let c64_i32_83 : BitVec 32 := 64#32
  let v130 : BitVec 32 := Scalar.remsi arg16 c64_i32_83
  let c1_i32_88 : BitVec 32 := 1#32
  let v147 : BitVec 32 := Scalar.addi v130 c1_i32_88
  let v148 : BitVec 32 := Scalar.subi v147 c0_i32_89
  let c1_i32_90 : BitVec 32 := 1#32
  let v150 : BitVec 32 := Scalar.divsi v148 c1_i32_90
  let v151 : BitVec 32 := Scalar.muli v150 c1_i32_90
  let v152 : BitVec 32 := Scalar.addi c0_i32_89 v151
  let c1_i32_92 : BitVec 32 := 1#32
  let arg17 : BitVec 32 := Scf.iv v152 c1_i32_92 k0_t3
  let v188 : Index := Scalar.indexCast arg17
  let c64_i32 : BitVec 32 := 64#32
  let v128 : BitVec 32 := Scalar.divsi arg16 c64_i32
  let c16_i32 : BitVec 32 := 16#32
  let v129 : BitVec 32 := Scalar.remsi v128 c16_i32
  let c8_i32 : BitVec 32 := 8#32
  let v131 : BitVec 32 := Scalar.divsi v129 c8_i32
  let v189 : Index := Scalar.indexCast v131
  ![v187.toNat, v188.toNat, v189.toNat]
abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x64x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8192x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x8192x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x8192x256 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x64x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x8192x256 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x64x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.RefRun.lean ====
/- The run of the reference's kernel: one trip of its loop over output tiles, the loop by an invariant on the output
   array, the body's triple, and the launch. Nothing here depends on what the numbers are. -/
module

public import proofs.«01_k».proof.Defs
public import proofs.«01_k».proof.Proof.Gen.ReferenceIdeal.Frame
public import proofs.«01_k».proof.Proof.Gen.ReferenceIdeal.Points
public import proofs.«01_k».proof.Proof.Gen.ReferenceIdeal.Loops
public import Idealize.ShloMosaic.Lib.Pipeline.Value
public import Idealize.ShloMosaic.Lib.Tactic
public import Idealize.ShloMosaic.Lib.Quiescent
public import Idealize.ShloMosaic.Lib.WritesUnit
public import Idealize.ShloMosaic.Lib.Claim
public import Idealize.ShloMosaic.Lib.Pointwise

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section body

variable (c : Dev nD) (arg0 : Memref sig .tc .vmem S8x8192x2048 .fp8e4m3) (harg0 : arg0.IsWhole)
  (arg1 : Memref sig .tc .smem S8x64x16 .f32) (harg1 : arg1.IsWhole)
  (arg2 : Memref sig .tc .vmem S8x8192x256 .fp8e4m3) (harg2 : arg2.IsWhole)
  (arg3 : Memref sig .tc .smem S8x64x2 .f32) (harg3 : arg3.IsWhole)
  (arg4 : Memref sig .tc .vmem S8x2x128x8192 .fp8e4m3) (harg4 : arg4.IsWhole)
  (arg5 : Memref sig .tc .smem S8x64x2 .f32) (harg5 : arg5.IsWhole)
  (arg6 : Memref sig .tc .vmem S8x8192x2048 .bf16) (harg6 : arg6.IsWhole)
  (X0 : BufTy.Contents (Elt F) arg0.view.ty) (X1 : BufTy.Contents (Elt F) arg1.view.ty)
  (X2 : BufTy.Contents (Elt F) arg2.view.ty) (X3 : BufTy.Contents (Elt F) arg3.view.ty)
  (X4 : BufTy.Contents (Elt F) arg4.view.ty) (X5 : BufTy.Contents (Elt F) arg5.view.ty)

/-- What a trip of the tile loop holds: the six inputs at their contents, the output at `f`. -/
abbrev Trip (f : BufTy.Contents (Elt F) arg6.view.ty) : sProp 𝕄 :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f))

/-- One trip stores one tile: its value is found by the run. -/
@[irreducible] def trip (k : Fin k0_t1_loop.trips) :
    { P : FVec F S1x128x128 .bf16 // ∀ (E : Set ℕ) (f : BufTy.Contents (Elt F) arg6.view.ty),
      Trip c arg0 arg1 arg2 arg3 arg4 arg5 arg6 X0 X1 X2 X3 X4 X5 f
      ⊢ wp frame (wpE (defs₀ (F := F)) Variants.none (c : Thread nD τ) none) E
          (k0_t1_body (F := F) arg0 harg0 arg1 harg1 arg2 harg2 arg3 harg3 arg4 harg4 arg5 harg5 arg6 harg6 k ())
          (fun _ => Trip c arg0 arg1 arg2 arg3 arg4 arg5 arg6 X0 X1 X2 X3 X4 X5 (arg6.view.writes (Elt F) f
            [⟨Rect.unit (s := S8x8192x2048) (k0_off1 k) S1x128x128.size (k0_off1_inb k), P⟩])) } := by
  refine ⟨?_, fun E f => ?run⟩
  case run =>
    unfold k0_t1_body
    simp only [k0_part3_eq_skeleton]
    iintro ⟨H0, H1, H2, H3, H4, H5, H6⟩
    sl_exec
    sl_step
    sl_close

/-- The tile loop runs once per output tile. -/
theorem trips_eq : k0_t1_loop.trips = 8192 := by decide +kernel

/-- Which tile trip `k` stores: batch `k / 1024`, query block `k % 64`, head `k / 64 % 16`. -/
theorem off1_eq : ∀ k : Fin k0_t1_loop.trips,
    k0_off1 k = ![k.val / 1024, k.val % 64 * 128, k.val / 64 % 16 * 128] := by
  have h : ∀ k : Fin k0_t1_loop.trips, k0_off1 k 0 = k.val / 1024 ∧ k0_off1 k 1 = k.val % 64 * 128
      ∧ k0_off1 k 2 = k.val / 64 % 16 * 128 := by decide +kernel
  intro k; funext a
  match a with
  | ⟨0, _⟩ => exact (h k).1
  | ⟨1, _⟩ => exact (h k).2.1
  | ⟨2, _⟩ => exact (h k).2.2

/-- The trip that stores element `y` of the output. -/
def tileOf (y : S8x8192x2048.Idx) : Fin k0_t1_loop.trips :=
  ⟨(y 0).val * 1024 + (y 2).val / 128 * 64 + (y 1).val / 128, by
    have h0 : (y 0).val < 8 := (y 0).isLt
    have h1 : (y 1).val < 8192 := (y 1).isLt
    have h2 : (y 2).val < 2048 := (y 2).isLt
    rw [trips_eq]; omega⟩

/-- Where in its tile element `y` lies. -/
def inTile (y : S8x8192x2048.Idx) : S1x128x128.Idx :=
  ix3 (0 : Fin 1) (⟨(y 1).val % 128, Nat.mod_lt _ (by omega)⟩ : Fin 128) (⟨(y 2).val % 128, Nat.mod_lt _ (by omega)⟩ : Fin 128)

/-- What the output holds when every tile has been stored. -/
def out : Vec F S8x8192x2048 .bf16 := fun y =>
  (trip c arg0 harg0 arg1 harg1 arg2 harg2 arg3 harg3 arg4 harg4 arg5 harg5 arg6 harg6 X0 X1 X2 X3 X4 X5 (tileOf y)).1 (inTile y)

/-- The tile loop's invariant: every element whose tile has been stored holds its value. -/
abbrev inv (k : ℕ) : sProp 𝕄 :=
  iprop((arg0.view.loc (c : Thread nD τ) ↦[arg0.view.set]{fullShare} X0)
    ∗ (arg1.view.loc (c : Thread nD τ) ↦[arg1.view.set]{fullShare} X1)
    ∗ (arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg6.view.loc (c : Thread nD τ) ↦[arg6.view.set]{fullShare} f)
        ∗ ⌜∀ y, (tileOf y).val < k → arg6.view.read (Elt F) f y
            = out c arg0 harg0 arg1 harg1 arg2 harg2 arg3 harg3 arg4 harg4 arg5 harg5 arg6 harg6 X0 X1 X2 X3 X4 X5 y⌝))

/-- One more tile stored. -/
theorem stored (k : Fin k0_t1_loop.trips) (f : BufTy.Contents (Elt F) arg6.view.ty)
    (h : ∀ y, (tileOf y).val < k.val → arg6.view.read (Elt F) f y
      = out c arg0 harg0 arg1 harg1 arg2 harg2 arg3 harg3 arg4 harg4 arg5 harg5 arg6 harg6 X0 X1 X2 X3 X4 X5 y)
    (y : S8x8192x2048.Idx) (hy : (tileOf y).val < k.val + 1) :
    arg6.view.read (Elt F) (arg6.view.writes (Elt F) f
      [⟨Rect.unit (s := S8x8192x2048) (k0_off1 k) S1x128x128.size (k0_off1_inb k),
        (trip c arg0 harg0 arg1 harg1 arg2 harg2 arg3 harg3 arg4 harg4 arg5 harg5 arg6 harg6 X0 X1 X2 X3 X4 X5 k).1⟩]) y
      = out c arg0 harg0 arg1 harg1 arg2 harg2 arg3 harg3 arg4 harg4 arg5 harg5 arg6 harg6 X0 X1 X2 X3 X4 X5 y := by
  have h0 : (y 0).val < 8 := (y 0).isLt
  have h1 : (y 1).val < 8192 := (y 1).isLt
  have h2 : (y 2).val < 2048 := (y 2).isLt
  have hk : k.val < 8192 := trips_eq ▸ k.isLt
  have ht : (tileOf y).val = (y 0).val * 1024 + (y 2).val / 128 * 64 + (y 1).val / 128 := rfl
  by_cases e : tileOf y = k
  · subst e
    unfold out
    refine View.read_writes_cons_unit_of_mem arg6.view f (k0_off1_inb _) _ _ y (inTile y) (off1_eq _) fun a => ?_
    rw [ht]
    match a with
    | ⟨0, _⟩ =>
      show (y 0).val = ((y 0).val * 1024 + (y 2).val / 128 * 64 + (y 1).val / 128) / 1024 + 0
      omega
    | ⟨1, _⟩ =>
      show (y 1).val = ((y 0).val * 1024 + (y 2).val / 128 * 64 + (y 1).val / 128) % 64 * 128 + (y 1).val % 128
      omega
    | ⟨2, _⟩ =>
      show (y 2).val = ((y 0).val * 1024 + (y 2).val / 128 * 64 + (y 1).val / 128) / 64 % 16 * 128 + (y 2).val % 128
      omega
  · have hne : (tileOf y).val ≠ k.val := fun h => e (Fin.ext h)
    rw [← h y (by omega)]
    have hs : (y 0).val < k.val / 1024 ∨ k.val / 1024 + 1 ≤ (y 0).val
        ∨ (y 1).val < k.val % 64 * 128 ∨ k.val % 64 * 128 + 128 ≤ (y 1).val
        ∨ (y 2).val < k.val / 64 % 16 * 128 ∨ k.val / 64 % 16 * 128 + 128 ≤ (y 2).val := by omega
    rcases hs with hs | hs | hs | hs | hs | hs
    · exact View.read_writes_cons_unit_of_not_mem arg6.view f (k0_off1_inb _) _ _ y (off1_eq k) 0 (.inl hs)
    · exact View.read_writes_cons_unit_of_not_mem arg6.view f (k0_off1_inb _) _ _ y (off1_eq k) 0 (.inr hs)
    · exact View.read_writes_cons_unit_of_not_mem arg6.view f (k0_off1_inb _) _ _ y (off1_eq k) 1 (.inl hs)
    · exact View.read_writes_cons_unit_of_not_mem arg6.view f (k0_off1_inb _) _ _ y (off1_eq k) 1 (.inr hs)
    · exact View.read_writes_cons_unit_of_not_mem arg6.view f (k0_off1_inb _) _ _ y (off1_eq k) 2 (.inl hs)
    · exact View.read_writes_cons_unit_of_not_mem arg6.view f (k0_off1_inb _) _ _ y (off1_eq k) 2 (.inr hs)

set_option warn.classDefReducibility false in
/-- The tile loop by its invariant. -/
@[sl_loop] def loopInv (E : Set ℕ) :
    LoopInvTy_k0_t1 (F := F) Unit ℕ (UR sig nD τ) ℕ Variants.none c none E arg0 harg0 arg1 harg1 arg2 harg2 arg3 harg3 arg4 harg4 arg5 harg5 arg6 harg6 where
  inv k _ := inv c arg0 harg0 arg1 harg1 arg2 harg2 arg3 harg3 arg4 harg4 arg5 harg5 arg6 harg6 X0 X1 X2 X3 X4 X5 k
  step k acc := by
    iintro ⟨H0, H1, H2, H3, H4, H5, ⟨%f, H6, %h⟩⟩
    iapply (wp_wand_r Idealize.ShloMosaic.frame (wpE (defs₀ (F := F)) Variants.none (c : Thread nD τ) none) E)
    isplitl [H0 H1 H2 H3 H4 H5 H6]
    · iapply ((trip c arg0 harg0 arg1 harg1 arg2 harg2 arg3 harg3 arg4 harg4 arg5 harg5 arg6 harg6 X0 X1 X2 X3 X4 X5 k).2 E f)
      isplitl [H0]; · iexact H0
      isplitl [H1]; · iexact H1
      isplitl [H2]; · iexact H2
      isplitl [H3]; · iexact H3
      isplitl [H4]; · iexact H4
      isplitl [H5]; · iexact H5
      iexact H6
    · iintro %yld ⟨H0, H1, H2, H3, H4, H5, H6⟩
      isplitl [H0]; · iexact H0
      isplitl [H1]; · iexact H1
      isplitl [H2]; · iexact H2
      isplitl [H3]; · iexact H3
      isplitl [H4]; · iexact H4
      isplitl [H5]; · iexact H5
      iexists _; isplitl [H6]; · iexact H6
      ipureintro
      exact stored c arg0 harg0 arg1 harg1 arg2 harg2 arg3 harg3 arg4 harg4 arg5 harg5 arg6 harg6 X0 X1 X2 X3 X4 X5 k f h

/-- The body's triple: the inputs are left as they were, the output holds `out`. -/
theorem bodyRun (x0 : Vec F S8x8192x2048 .fp8e4m3) (x1 : Vec F S8x64x16 .f32) (x2 : Vec F S8x8192x256 .fp8e4m3)
    (x3 : Vec F S8x64x2 .f32) (x4 : Vec F S8x2x128x8192 .fp8e4m3) (x5 : Vec F S8x64x2 .f32) (E : Set ℕ) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2
          ∗ owns (c : Thread nD τ) arg3 fullShare x3 ∗ owns (c : Thread nD τ) arg4 fullShare x4 ∗ owns (c : Thread nD τ) arg5 fullShare x5
          ∗ owns (c : Thread nD τ) arg6 fullShare (out c arg0 harg0 arg1 harg1 arg2 harg2 arg3 harg3 arg4 harg4 arg5 harg5 arg6 harg6
              (harg0.unread x0) (harg1.unread x1) (harg2.unread x2) (harg3.unread x3) (harg4.unread x4) (harg5.unread x5))) -∗ K ⟨⟩))
      ⊢ wp frame (wpE (defs₀ (F := F)) Variants.none c none) E
          (cc0__reference_body arg0 harg0 arg1 harg1 arg2 harg2 arg3 harg3 arg4 harg4 arg5 harg5 arg6 harg6) K := by
  simp only [cc0__reference_body_eq_skeleton]; unfold cc0__reference_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg0.eq_unread hf0; obtain rfl := harg1.eq_unread hf1; obtain rfl := harg2.eq_unread hf2
  obtain rfl := harg3.eq_unread hf3; obtain rfl := harg4.eq_unread hf4; obtain rfl := harg5.eq_unread hf5
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  iexists _; isplitr; swap; · iexact H6
  ipureintro
  exact funext fun y => hL7 y (tileOf y).isLt

end body

/-! ## The launch -/

variable (m : (ℓ : Loc nD τ sig) → Buf (Elt F) ℓ) (ρ : Dev nD → PrngReg)

/-- What the output's staging buffer holds after the body. -/
def outAt (c : Dev nD) (t : Fin cfg0.N) : Vec F S8x8192x2048 .bf16 :=
  out c (win0_0.stage (cfg0.slots t 0)) (hstage0_0 0) (win0_1.stage (cfg0.slots t 1)) (hstage0_1 0)
    (win0_2.stage (cfg0.slots t 2)) (hstage0_2 0) (win0_3.stage (cfg0.slots t 3)) (hstage0_3 0)
    (win0_4.stage (cfg0.slots t 4)) (hstage0_4 0) (win0_5.stage (cfg0.slots t 5)) (hstage0_5 0)
    (win0_6.stage (cfg0.slots t 6)) (hstage0_6 0)
    ((hstage0_0 0).unread (iblk m c 0 t)) ((hstage0_1 0).unread (iblk m c 1 t)) ((hstage0_2 0).unread (iblk m c 2 t))
    ((hstage0_3 0).unread (iblk m c 3 t)) ((hstage0_4 0).unread (iblk m c 4 t)) ((hstage0_5 0).unread (iblk m c 5 t))

/-- The pipeline's proof data: each input at its block, the output at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  unfold outAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply (bodyRun c _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run ends with every array at its final contents and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.Ref

end
-- ==== Proof.Scalar.lean ====
/- The arithmetic of one query row over the extended reals: the plain step of the blocked softmax, and the two quantised
   steps (the reference's and the kernel's) that compute it. Quantising is a change of scale here: a code is the
   probability times a power of two, no code is clipped, and the power of two is multiplied back. -/
module

public import Idealize.ShloMosaic.PureOps.Ideal
public import Idealize.ShloMosaic.Lib.IdealHost
public import Idealize.ShloMosaic.Lib.Pointwise

@[expose] public section

set_option maxRecDepth 16384

noncomputable section

namespace Cert.Proof

open Idealize.ShloMosaic

/-! ## The plain step -/

/-- What a query row carries from block to block: the running maximum, the sum and the output row. -/
structure Row where
  m : EReal
  l : EReal
  acc : Fin 128 → EReal

/-- The row before the first block. -/
def Row.init : Row := ⟨⊥, 0, fun _ => 0⟩

/-- The running maximum after a block with scores `s`. -/
def newMax (s : Fin 128 → EReal) (m : EReal) : EReal := max m (Finset.univ.sup s)

/-- The probability of key `k` of the block, against the new maximum. -/
def prob (s : Fin 128 → EReal) (m : EReal) (k : Fin 128) : EReal := Ideal.exp (s k - newMax s m)

/-- How the carried sums shrink when the maximum grows. -/
def shrink (s : Fin 128 → EReal) (m : EReal) : EReal := Ideal.exp (m - newMax s m)

/-- One block of the softmax, with no quantiser: scores `s`, values `v k d`, the values' scale `sv`. -/
def step (s : Fin 128 → EReal) (v : Fin 128 → Fin 128 → EReal) (sv : EReal) (r : Row) : Row :=
  ⟨newMax s r.m, r.l * shrink s r.m + ∑ k, prob s r.m k,
    fun d => r.acc d * shrink s r.m + (∑ k, prob s r.m k * v k d) * sv⟩

/-! ## Extended-real facts -/

theorem sum_mul_coe {n : ℕ} (f : Fin n → EReal) (a : ℝ) (ha : 0 ≤ a) : (∑ k, f k) * (a : EReal) = ∑ k, f k * a := by
  classical
  induction (Finset.univ : Finset (Fin n)) using Finset.induction_on with
  | empty => simp
  | insert x s hx ih =>
    rw [Finset.sum_insert hx, Finset.sum_insert hx, ← ih]
    exact EReal.right_distrib_of_nonneg_of_ne_top (by exact_mod_cast ha) (EReal.coe_ne_top a) _ _

theorem sum_coe {n : ℕ} (f : Fin n → ℝ) : (∑ k, (f k : EReal)) = ((∑ k, f k : ℝ) : EReal) := by
  classical
  induction (Finset.univ : Finset (Fin n)) using Finset.induction_on with
  | empty => simp
  | insert x s hx ih => rw [Finset.sum_insert hx, Finset.sum_insert hx, ih, EReal.coe_add]

theorem exp_bot : Ideal.exp ⊥ = 0 := rfl
theorem exp2_bot : Ideal.exp2 ⊥ = 0 := rfl

theorem fold_max {n : ℕ} (f : Fin n → EReal) : Finset.univ.fold max ⊥ f = Finset.univ.sup f := rfl

/-- The exponential of `x − M`, for `x ≤ M`, is a real number between 0 and 1. -/
theorem exp_sub_range {x M : EReal} (h : x ≤ M) : ∃ p : ℝ, Ideal.exp (x - M) = (p : EReal) ∧ 0 ≤ p ∧ p ≤ 1 := by
  induction M with
  | bot =>
    rw [le_bot_iff.1 h]
    exact ⟨0, by simp [exp_bot, sub_eq_add_neg], le_rfl, zero_le_one⟩
  | top => exact ⟨0, by simp [exp_bot, sub_eq_add_neg], le_rfl, zero_le_one⟩
  | coe M =>
    induction x with
    | bot => exact ⟨0, by simp [exp_bot, sub_eq_add_neg], le_rfl, zero_le_one⟩
    | top => exact absurd h (by simp)
    | coe x =>
      refine ⟨Real.exp (x - M), ?_, (Real.exp_pos _).le, ?_⟩
      · rw [← EReal.coe_sub]; rfl
      · have : x ≤ M := by exact_mod_cast h
        exact Real.exp_le_one_iff.2 (by linarith)

theorem exp_mono {x y : EReal} (h : x ≤ y) : Ideal.exp x ≤ Ideal.exp y := by
  induction y with
  | bot => rw [le_bot_iff.1 h]
  | top => exact le_top
  | coe y =>
    induction x with
    | bot => show (0 : EReal) ≤ ((Real.exp y : ℝ) : EReal); exact_mod_cast (Real.exp_pos y).le
    | top => exact absurd h (by simp)
    | coe x =>
      show ((Real.exp x : ℝ) : EReal) ≤ ((Real.exp y : ℝ) : EReal)
      have : x ≤ y := by exact_mod_cast h
      exact_mod_cast Real.exp_le_exp.2 this

/-- `1 / ln 2`: a base-two exponent is a natural one times this. -/
def r2 : ℝ := (Real.log 2)⁻¹

theorem r2_pos : 0 < r2 := inv_pos.2 (Real.log_pos one_lt_two)

theorem rpow_two (x : ℝ) : Real.rpow 2 (x * r2) = Real.exp x := by
  show (2 : ℝ) ^ (x * r2) = _
  rw [Real.rpow_def_of_pos two_pos, r2]
  congr 1
  have := (Real.log_pos one_lt_two).ne'
  field_simp

theorem rpow_two_add (x z : ℝ) : Real.rpow 2 (x * r2 - z) = Real.exp x * (2 : ℝ) ^ (-z) := by
  rw [← rpow_two]
  show (2 : ℝ) ^ (x * r2 - z) = (2 : ℝ) ^ (x * r2) * _
  rw [sub_eq_add_neg, Real.rpow_add two_pos]

/-- Base-two exponentials of scaled arguments, with an integer (any real) shift pulled out. -/
theorem exp2_shift {s M : EReal} (h : s ≤ M) (z : ℝ) :
    Ideal.exp2 (s * r2 - (M * r2 + z)) = Ideal.exp (s - M) * (((2 : ℝ) ^ (-z) : ℝ) : EReal) := by
  have hp := r2_pos
  induction M with
  | bot =>
    rw [le_bot_iff.1 h]
    simp [exp_bot, exp2_bot, sub_eq_add_neg, EReal.bot_mul_coe_of_pos hp]
  | top =>
    rw [EReal.top_mul_coe_of_pos hp, EReal.top_add_coe]
    simp [exp_bot, exp2_bot, sub_eq_add_neg]
  | coe M =>
    induction s with
    | bot =>
      rw [EReal.bot_mul_coe_of_pos hp]
      simp [exp_bot, exp2_bot, sub_eq_add_neg]
    | top => exact absurd h (by simp)
    | coe s =>
      rw [← EReal.coe_mul, ← EReal.coe_mul, ← EReal.coe_add, ← EReal.coe_sub, ← EReal.coe_sub]
      show ((Real.rpow 2 _ : ℝ) : EReal) = ((Real.exp _ : ℝ) : EReal) * _
      rw [← EReal.coe_mul, ← rpow_two_add]
      congr 2; ring

theorem exp2_sub {s M : EReal} (h : s ≤ M) : Ideal.exp2 (s * r2 - M * r2) = Ideal.exp (s - M) := by
  have := exp2_shift h 0
  simpa using this

theorem scale_mono : Monotone fun x : EReal => x * r2 := fun _ _ h =>
  mul_le_mul_of_nonneg_right h (by exact_mod_cast r2_pos.le)

theorem sup_scale (s : Fin 128 → EReal) : (Finset.univ.sup fun k => s k * r2) = Finset.univ.sup s * r2 :=
  (Finset.comp_sup_eq_sup_comp_of_is_total (g := fun x : EReal => x * r2) scale_mono
    (EReal.bot_mul_coe_of_pos r2_pos)).symm

theorem newMax_scale (s : Fin 128 → EReal) (m : EReal) :
    max (m * r2) (Finset.univ.sup fun k => s k * r2) = newMax s m * r2 := by
  rw [sup_scale]; exact (scale_mono.map_max).symm

/-! ## The plain step's numbers are real -/

theorem le_newMax (s : Fin 128 → EReal) (m : EReal) (k : Fin 128) : s k ≤ newMax s m :=
  le_max_of_le_right (Finset.le_sup (f := s) (Finset.mem_univ k))

theorem sup_le_newMax (s : Fin 128 → EReal) (m : EReal) : Finset.univ.sup s ≤ newMax s m := le_max_right _ _

theorem exists_prob (s : Fin 128 → EReal) (m : EReal) :
    ∃ p : Fin 128 → ℝ, (∀ k, prob s m k = (p k : EReal)) ∧ ∀ k, 0 ≤ p k ∧ p k ≤ 1 := by
  choose p h1 h2 using fun k => exp_sub_range (le_newMax s m k)
  exact ⟨p, h1, h2⟩

theorem exists_shrink (s : Fin 128 → EReal) (m : EReal) :
    ∃ p : ℝ, shrink s m = (p : EReal) ∧ 0 ≤ p ∧ p ≤ 1 := exp_sub_range (le_max_left _ _)

/-- The row's sum is a real number, not negative, and the row is zero where the sum is. -/
def Good (r : Row) : Prop := ∃ l : ℝ, r.l = (l : EReal) ∧ 0 ≤ l ∧ (l = 0 → ∀ d, r.acc d = 0)

theorem good_init : Good Row.init := ⟨0, rfl, le_rfl, fun _ _ => rfl⟩

theorem good_step (s : Fin 128 → EReal) (v : Fin 128 → Fin 128 → EReal) (sv : EReal) {r : Row} (h : Good r) :
    Good (step s v sv r) := by
  obtain ⟨l, hl, h0, hz⟩ := h
  obtain ⟨p, hp, hp01⟩ := exists_prob s r.m
  obtain ⟨a, ha, ha0, -⟩ := exists_shrink s r.m
  have hs : 0 ≤ ∑ k, p k := Finset.sum_nonneg fun k _ => (hp01 k).1
  refine ⟨l * a + ∑ k, p k, ?_, by positivity, fun e d => ?_⟩
  · show r.l * shrink s r.m + ∑ k, prob s r.m k = _
    simp only [hl, ha, hp]
    rw [sum_coe, ← EReal.coe_mul, ← EReal.coe_add]
  · have hla : 0 ≤ l * a := mul_nonneg h0 ha0
    have h1 : l * a = 0 := by linarith
    have h2 : ∑ k, p k = 0 := by linarith
    have h3 : ∀ k, p k = 0 := fun k =>
      (Finset.sum_eq_zero_iff_of_nonneg (fun k _ => (hp01 k).1)).1 h2 k (Finset.mem_univ k)
    show r.acc d * shrink s r.m + (∑ k, prob s r.m k * v k d) * sv = 0
    simp only [ha, hp, h3, EReal.coe_zero, zero_mul, Finset.sum_const_zero, add_zero]
    rcases mul_eq_zero.1 h1 with h | h
    · rw [hz h d, zero_mul]
    · rw [h, EReal.coe_zero, mul_zero]

/-! ## Dividing by the sum -/

/-- The finished row: the quotient, and zero where the sum is. -/
def finish (r : Row) (d : Fin 128) : EReal := if 0 < r.l then Ideal.div (r.acc d) r.l else 0

/-- Multiplying by the reciprocal of the sum finishes the row too. -/
theorem mul_reciprocal {r : Row} (h : Good r) (d : Fin 128) : r.acc d * Ideal.div 1 r.l = finish r d := by
  obtain ⟨l, hl, h0, hz⟩ := h
  unfold finish
  rw [hl]
  rcases h0.eq_or_lt with e | e
  · rw [hz e.symm d, ← e]; simp
  · have h1 : ((l : ℝ) : EReal) ≠ 0 := by exact_mod_cast e.ne'
    rw [if_pos (by exact_mod_cast e)]
    unfold Ideal.div
    rw [if_neg h1, if_neg h1, one_mul]

/-! ## Quantising by a power of two -/

/-- Codes `p σ⁻¹` summed against the values and scaled by `σ` again. -/
theorem rescale (p : Fin 128 → ℝ) (v : Fin 128 → EReal) (σ : ℝ) (hσ : 0 < σ) (sv : EReal) :
    (∑ k, ((p k * σ⁻¹ : ℝ) : EReal) * v k) * ((σ : EReal) * sv) = (∑ k, (p k : EReal) * v k) * sv := by
  rw [← mul_assoc, sum_mul_coe _ _ hσ.le]
  congr 1
  refine Finset.sum_congr rfl fun k _ => ?_
  rw [mul_right_comm, ← EReal.coe_mul]
  congr 2
  field_simp

/-- A code that is not clipped. -/
theorem clip_eq {hi : EReal} {x : ℝ} (h0 : 0 ≤ x) (h : (x : EReal) ≤ hi) : min hi (max 0 (x : EReal)) = x := by
  rw [max_eq_right (by exact_mod_cast h0), min_eq_right h]

/-- The format's largest finite code. -/
theorem ofBits_448 : Ideal.ofBits .f32 0x43E00000#32 = ((448 : ℝ) : EReal) := by
  simp [Ideal.ofBits, Ideal.ieee, -EReal.coe_mul]; norm_num

/-- The rounded `1 / 448`. -/
def c448 : ℝ := 9586981 * (2 : ℝ) ^ (-32 : ℤ)

theorem ofBits_c448 : Ideal.ofBits .f32 0x3B124925#32 = (c448 : EReal) := by
  simp [Ideal.ofBits, Ideal.ieee, -EReal.coe_mul, c448]

theorem c448_pos : 0 < c448 := by unfold c448; positivity
theorem c448_ge : 1 ≤ 448 * c448 := by unfold c448; norm_num
theorem c448_lt : c448 < (2 : ℝ) ^ (-8 : ℤ) := by unfold c448; norm_num

theorem fits {p a σ : ℝ} (h0 : 0 ≤ p) (hpa : p ≤ a) (hσ : 0 < σ) (h : a * c448 ≤ σ) :
    0 ≤ p * σ⁻¹ ∧ p * σ⁻¹ ≤ 448 := by
  refine ⟨by positivity, ?_⟩
  rw [← div_eq_mul_inv, div_le_iff₀ hσ]
  have := c448_ge
  have ha : 0 ≤ a := h0.trans hpa
  nlinarith

/-! ## The reference's quantiser -/

/-- The exponent the reference quantises with: zero, or the one that puts the block's largest probability under the
    format's largest code. -/
def refExpo (a : EReal) : EReal :=
  if a = 0 then 0 else Ideal.liftRound Int.floor (Ideal.div (Ideal.log (a * c448)) ((Real.log 2 : ℝ) : EReal)) + 1

theorem refExpo_spec (a : ℝ) (ha : 0 ≤ a) : ∃ e : ℝ, refExpo a = (e : EReal) ∧ a * c448 ≤ (2 : ℝ) ^ e := by
  unfold refExpo
  rcases ha.eq_or_lt with h | h
  · subst h; exact ⟨0, by simp, by simp⟩
  · have hx : 0 < a * c448 := mul_pos h c448_pos
    have hl : Real.log 2 ≠ 0 := (Real.log_pos one_lt_two).ne'
    rw [if_neg (by exact_mod_cast h.ne'), ← EReal.coe_mul]
    have h1 : Ideal.log ((a * c448 : ℝ) : EReal) = ((Real.log (a * c448) : ℝ) : EReal) := by
      show (if a * c448 ≤ 0 then (⊥ : EReal) else _) = _
      rw [if_neg (not_le.2 hx)]
    rw [h1]
    unfold Ideal.div
    rw [if_neg (by exact_mod_cast hl), ← EReal.coe_inv, ← EReal.coe_mul]
    refine ⟨((⌊Real.log (a * c448) * (Real.log 2)⁻¹⌋ : ℤ) : ℝ) + 1, ?_, ?_⟩
    · rw [EReal.coe_add]; rfl
    · rw [← Real.log_le_log_iff hx (by positivity), Real.log_rpow two_pos, ← div_le_iff₀ (Real.log_pos one_lt_two)]
      exact (Int.lt_floor_add_one _).le

theorem exp2_coe (x : ℝ) : Ideal.exp2 (x : EReal) = (((2 : ℝ) ^ x : ℝ) : EReal) := rfl

/-- The reference's codes summed against the values and scaled again: the plain sum. -/
theorem ref_quantised (p : Fin 128 → ℝ) (hp : ∀ k, 0 ≤ p k) (v : Fin 128 → EReal) (sv : EReal) :
    (∑ k, min ((448 : ℝ) : EReal) (max 0 ((p k : EReal)
        * Ideal.exp2 (0 - refExpo (Finset.univ.sup fun k => (p k : EReal))))) * v k)
      * (Ideal.exp2 (refExpo (Finset.univ.sup fun k => (p k : EReal))) * sv)
    = (∑ k, (p k : EReal) * v k) * sv := by
  obtain ⟨i, -, hi⟩ := Finset.exists_mem_eq_sup Finset.univ Finset.univ_nonempty fun k => (p k : EReal)
  have hle : ∀ k, p k ≤ p i := fun k => by
    have : (p k : EReal) ≤ (p i : EReal) := hi ▸ Finset.le_sup (f := fun k => (p k : EReal)) (Finset.mem_univ k)
    exact_mod_cast this
  rw [hi]
  obtain ⟨e, he, hb⟩ := refExpo_spec (p i) (hp i)
  rw [he, exp2_coe, zero_sub, ← EReal.coe_neg, exp2_coe]
  have hσ : (0 : ℝ) < (2 : ℝ) ^ e := by positivity
  have h1 : ∀ k, min ((448 : ℝ) : EReal) (max 0 ((p k : EReal) * (((2 : ℝ) ^ (-e) : ℝ) : EReal)))
      = ((p k * ((2 : ℝ) ^ e)⁻¹ : ℝ) : EReal) := fun k => by
    have := fits (hp k) (hle k) hσ hb
    rw [Real.rpow_neg two_pos.le, ← EReal.coe_mul]
    exact clip_eq this.1 (by exact_mod_cast this.2)
  simp only [h1]
  exact rescale p v _ hσ sv

/-! ## The kernel's quantiser: the exponent by bisection -/

/-- The float with exponent field `e` and a zero fraction. -/
def fromBiased (e : BitVec 32) : EReal := Ideal.ofBits .f32 (IntOp.shli .vector e 23#32)

/-- One bisection step: add the bit `b` unless that passes `x`. -/
def up (x : EReal) (e b : BitVec 32) : BitVec 32 := if x < fromBiased (e + b) then e else e + b

/-- The exponent field of `x` found bit by bit. -/
def bisect (x : EReal) : BitVec 32 :=
  up x (up x (up x (up x (up x (up x (up x (up x 0#32 128#32) 64#32) 32#32) 16#32) 8#32) 4#32) 2#32) 1#32

/-- The exponent field the kernel quantises with. -/
def kerExpo (x : EReal) : BitVec 32 := if bisect x = 0#32 then 126#32 else bisect x

theorem fields : ∀ n : Fin 255, (IntOp.shli .vector (BitVec.ofNat 32 n.val) 23#32).extractLsb' 23 8 = BitVec.ofNat 8 n.val
    ∧ (IntOp.shli .vector (BitVec.ofNat 32 n.val) 23#32).extractLsb' 0 23 = 0#23
    ∧ (IntOp.shli .vector (BitVec.ofNat 32 n.val) 23#32).extractLsb' 31 1 = 0#1 := by decide +kernel

theorem fromBiased_eq (n : ℕ) (h1 : 1 ≤ n) (h2 : n ≤ 254) :
    fromBiased (BitVec.ofNat 32 n) = (((2 : ℝ) ^ ((n : ℤ) - 127) : ℝ) : EReal) := by
  obtain ⟨e1, e2, e3⟩ := fields ⟨n, by omega⟩
  simp only at e1 e2 e3
  have hn : (BitVec.ofNat 8 n).toNat = n := by rw [BitVec.toNat_ofNat]; omega
  unfold fromBiased Ideal.ofBits Ideal.ieee
  simp only [Nat.reduceAdd, e1, e2, e3, hn]
  rw [if_neg (by norm_num; omega), if_neg (by omega)]
  congr 1
  have h : (2 : ℝ) ^ ((n : ℤ) - 127) = (2 : ℝ) ^ (23 : ℕ) * (2 : ℝ) ^ ((n : ℤ) - (2 ^ (8 - 1) - 1) - 23) := by
    rw [← zpow_natCast, ← zpow_add₀ two_ne_zero]; congr 1; norm_num
  rw [h]; norm_num

theorem up_spec {x : ℝ} (hx : x < (2 : ℝ) ^ (-8 : ℤ)) {n b : ℕ} (hn : n < 119) (hb : 1 ≤ b) (hb' : b ≤ 128)
    (hu : x < (2 : ℝ) ^ ((n : ℤ) + 2 * b - 127)) :
    ∃ n' : ℕ, up x (BitVec.ofNat 32 n) (BitVec.ofNat 32 b) = BitVec.ofNat 32 n' ∧ n' < 119
      ∧ x < (2 : ℝ) ^ ((n' : ℤ) + b - 127) := by
  unfold up
  rw [← BitVec.ofNat_add, fromBiased_eq _ (by omega) (by omega)]
  split
  case isTrue h =>
    refine ⟨n, rfl, hn, ?_⟩
    have : x < (2 : ℝ) ^ (((n + b : ℕ) : ℤ) - 127) := by exact_mod_cast h
    push_cast at this; exact this
  case isFalse h =>
    have h' : (2 : ℝ) ^ (((n + b : ℕ) : ℤ) - 127) ≤ x := by exact_mod_cast not_lt.1 h
    refine ⟨n + b, rfl, ?_, ?_⟩
    · have := (zpow_lt_zpow_iff_right₀ (one_lt_two (α := ℝ))).1 (h'.trans_lt hx)
      omega
    · push_cast; convert hu using 2; ring

theorem kerExpo_spec {x : ℝ} (hx : x < (2 : ℝ) ^ (-8 : ℤ)) :
    ∃ n : ℕ, kerExpo x = BitVec.ofNat 32 n ∧ 1 ≤ n ∧ n ≤ 126 ∧ x < (2 : ℝ) ^ ((n : ℤ) - 126) := by
  have h0 : x < (2 : ℝ) ^ (((0 : ℕ) : ℤ) + 2 * (128 : ℕ) - 127) := hx.trans (by norm_num)
  obtain ⟨n1, e1, g1, u1⟩ := up_spec hx (n := 0) (b := 128) (by omega) (by omega) (by omega) h0
  obtain ⟨n2, e2, g2, u2⟩ := up_spec hx (n := n1) (b := 64) g1 (by omega) (by omega) (by convert u1 using 3; norm_num)
  obtain ⟨n3, e3, g3, u3⟩ := up_spec hx (n := n2) (b := 32) g2 (by omega) (by omega) (by convert u2 using 3; norm_num)
  obtain ⟨n4, e4, g4, u4⟩ := up_spec hx (n := n3) (b := 16) g3 (by omega) (by omega) (by convert u3 using 3; norm_num)
  obtain ⟨n5, e5, g5, u5⟩ := up_spec hx (n := n4) (b := 8) g4 (by omega) (by omega) (by convert u4 using 3; norm_num)
  obtain ⟨n6, e6, g6, u6⟩ := up_spec hx (n := n5) (b := 4) g5 (by omega) (by omega) (by convert u5 using 3; norm_num)
  obtain ⟨n7, e7, g7, u7⟩ := up_spec hx (n := n6) (b := 2) g6 (by omega) (by omega) (by convert u6 using 3; norm_num)
  obtain ⟨n8, e8, g8, u8⟩ := up_spec hx (n := n7) (b := 1) g7 (by omega) (by omega) (by convert u7 using 3; norm_num)
  have hb : bisect x = BitVec.ofNat 32 n8 := by
    unfold bisect
    rw [show (0#32 : BitVec 32) = BitVec.ofNat 32 0 from rfl, e1, e2, e3, e4, e5, e6, e7, e8]
  unfold kerExpo
  rw [hb]
  split
  case isTrue h =>
    refine ⟨126, rfl, by omega, le_rfl, hx.trans (by norm_num)⟩
  case isFalse h =>
    refine ⟨n8, rfl, ?_, by omega, ?_⟩
    · rcases Nat.eq_zero_or_pos n8 with h' | h'
      · exact absurd (by rw [h']) h
      · exact h'
    · convert u8 using 2; push_cast; ring

theorem sub_126 : ∀ n : Fin 127, (BitVec.ofNat 32 n.val - 126#32).toInt = (n.val : ℤ) - 126 := by decide +kernel

/-! ## The kernel's step -/

/-- The exponent field of a block whose scores (base two) are `t`, against the carried maximum `M`. -/
def kExpo (t : Fin 128 → EReal) (M : EReal) : BitVec 32 :=
  kerExpo (Ideal.exp2 (Finset.univ.sup t - max M (Finset.univ.sup t)) * c448)

/-- The kernel's scaled probability. -/
def kProb (t : Fin 128 → EReal) (M : EReal) (k : Fin 128) : EReal :=
  Ideal.exp2 (t k - (max M (Finset.univ.sup t) + (((kExpo t M - 126#32).toInt : ℝ) : EReal)))

/-- The factor that undoes the kernel's scaling. -/
def kScale (t : Fin 128 → EReal) (M : EReal) : EReal := fromBiased (kExpo t M + 1#32)

/-- What the kernel's scaled probabilities and factor are, in terms of the plain step's probabilities. -/
theorem kernel_quantised (s : Fin 128 → EReal) (m : EReal) : ∃ (p : Fin 128 → ℝ) (σ : ℝ), 0 < σ
    ∧ (∀ k, prob s m k = (p k : EReal)) ∧ (∀ k, kProb (fun k => s k * r2) (m * r2) k = ((p k * σ⁻¹ : ℝ) : EReal))
    ∧ kScale (fun k => s k * r2) (m * r2) = (σ : EReal) ∧ ∀ k, 0 ≤ p k * σ⁻¹ ∧ p k * σ⁻¹ ≤ 448 := by
  obtain ⟨p, hp, hp01⟩ := exists_prob s m
  obtain ⟨a, ha, ha0, ha1⟩ := exp_sub_range (sup_le_newMax s m)
  have hpa : ∀ k, p k ≤ a := fun k => by
    have h : prob s m k ≤ (a : EReal) := ha ▸ exp_mono
      (EReal.sub_le_sub (Finset.le_sup (f := s) (Finset.mem_univ k)) le_rfl)
    rw [hp] at h; exact_mod_cast h
  have hx : a * c448 < (2 : ℝ) ^ (-8 : ℤ) := by
    have h1 := c448_pos; have h2 := c448_lt; nlinarith
  obtain ⟨n, hn, hn1, hn2, hb⟩ := kerExpo_spec hx
  have he : kExpo (fun k => s k * r2) (m * r2) = BitVec.ofNat 32 n := by
    unfold kExpo
    rw [newMax_scale, sup_scale, exp2_sub (sup_le_newMax s m), ha, ← EReal.coe_mul, hn]
  refine ⟨p, (2 : ℝ) ^ ((n : ℤ) - 126), by positivity, hp, fun k => ?_, ?_, fun k => ?_⟩
  · unfold kProb
    rw [he, newMax_scale, show ((BitVec.ofNat 32 n - 126#32).toInt) = (n : ℤ) - 126 from sub_126 ⟨n, by omega⟩,
      exp2_shift (le_newMax s m k)]
    show prob s m k * _ = _
    rw [hp, ← EReal.coe_mul, Real.rpow_neg two_pos.le, Real.rpow_intCast]
  · unfold kScale
    rw [he, show (1#32 : BitVec 32) = BitVec.ofNat 32 1 from rfl, ← BitVec.ofNat_add,
      fromBiased_eq _ (by omega) (by omega)]
    congr 2; push_cast; ring
  · exact fits (hp01 k).1 (hpa k) (by positivity) hb.le

/-- The kernel's sum is the plain step's. -/
theorem kernel_l (s : Fin 128 → EReal) (v : Fin 128 → Fin 128 → EReal) (sv : EReal) (r : Row) :
    r.l * Ideal.exp2 (r.m * r2 - max (r.m * r2) (Finset.univ.sup fun k => s k * r2))
      + (∑ k, kProb (fun k => s k * r2) (r.m * r2) k) * kScale (fun k => s k * r2) (r.m * r2)
    = (step s v sv r).l := by
  obtain ⟨p, σ, hσ, hp, hk, hs, -⟩ := kernel_quantised s r.m
  rw [newMax_scale, exp2_sub (show r.m ≤ newMax s r.m from le_max_left _ _), hs]
  simp only [hk]
  rw [sum_mul_coe _ _ hσ.le]
  show _ = r.l * shrink s r.m + ∑ k, prob s r.m k
  congr 1
  refine Finset.sum_congr rfl fun k _ => ?_
  rw [hp, ← EReal.coe_mul]; congr 1; field_simp

/-- The kernel's output row is the plain step's. -/
theorem kernel_acc (s : Fin 128 → EReal) (v : Fin 128 → Fin 128 → EReal) (sv : EReal) (r : Row) (d : Fin 128) :
    r.acc d * Ideal.exp2 (r.m * r2 - max (r.m * r2) (Finset.univ.sup fun k => s k * r2))
      + (∑ k, v k d * min ((448 : ℝ) : EReal) (max 0 (kProb (fun k => s k * r2) (r.m * r2) k)))
        * (kScale (fun k => s k * r2) (r.m * r2) * sv)
    = (step s v sv r).acc d := by
  obtain ⟨p, σ, hσ, hp, hk, hs, hf⟩ := kernel_quantised s r.m
  rw [newMax_scale, exp2_sub (show r.m ≤ newMax s r.m from le_max_left _ _), hs]
  show _ = r.acc d * shrink s r.m + (∑ k, prob s r.m k * v k d) * sv
  congr 1
  simp only [hp, ← rescale p (fun k => v k d) σ hσ sv]
  congr 1
  refine Finset.sum_congr rfl fun k _ => ?_
  rw [hk, clip_eq (hf k).1 (by exact_mod_cast (hf k).2), mul_comm]

/-- The reference's output row is the plain step's. -/
theorem ref_acc (s : Fin 128 → EReal) (v : Fin 128 → Fin 128 → EReal) (sv : EReal) (r : Row) (d : Fin 128) :
    r.acc d * shrink s r.m
      + (∑ k, min ((448 : ℝ) : EReal) (max 0 (prob s r.m k * Ideal.exp2 (0 - refExpo (Finset.univ.sup (prob s r.m))))) * v k d)
        * (Ideal.exp2 (refExpo (Finset.univ.sup (prob s r.m))) * sv)
    = (step s v sv r).acc d := by
  obtain ⟨p, hp, hp01⟩ := exists_prob s r.m
  show _ = r.acc d * shrink s r.m + (∑ k, prob s r.m k * v k d) * sv
  congr 1
  have : prob s r.m = fun k => (p k : EReal) := funext hp
  rw [this]
  exact ref_quantised p (fun k => (hp01 k).1) (fun k => v k d) sv

end Cert.Proof
-- ==== Proof.Spec.lean ====
/- The mathematics both programs compute: blocked causal attention of the decoded codes, row by row, with no quantiser
   inside. A row is a query of one head of one batch entry; a block is 128 keys. -/
module

public import proofs.«01_k».proof.Proof.Scalar

@[expose] public section

noncomputable section

namespace Cert.Proof

open Idealize.ShloMosaic

/-- `1 / √128`. -/
def c1 : ℝ := (Real.sqrt 128)⁻¹

/-- `1 / (√128 · ln 2)`. -/
def c2 : ℝ := (Real.sqrt 128 * Real.log 2)⁻¹

/-- The score of query `r` of query block `i` against key `k` of key block `j`: the codes' product times the two scales
    and `1 / √128`, and `−∞` where the key is later than the query. -/
def score (q kb : Fin 128 → Fin 128 → EReal) (sq sk : EReal) (i j : ℕ) (r k : Fin 128) : EReal :=
  if j * 128 + k.val ≤ i * 128 + r.val then (∑ d, q r d * kb k d) * (sq * sk * c1) else ⊥

/-- The kernel's base-two score, masked or not, is the score over `ln 2`. -/
theorem score_two (q kb : Fin 128 → Fin 128 → EReal) (sq sk : EReal) (i j : ℕ) (r k : Fin 128) :
    (if j * 128 + k.val ≤ i * 128 + r.val then (∑ d, kb k d * q r d) * (sq * (sk * (c2 : EReal))) else ⊥)
      = score q kb sq sk i j r k * r2 := by
  unfold score
  have hc : (c2 : EReal) = (c1 : EReal) * (r2 : EReal) := by
    rw [← EReal.coe_mul]; congr 1; unfold c1 c2 r2; rw [mul_inv]
  split
  · rw [hc, show (∑ d, kb k d * q r d) = ∑ d, q r d * kb k d from Finset.sum_congr rfl fun _ _ => mul_comm _ _]
    simp only [mul_assoc]
  · exact (EReal.bot_mul_coe_of_pos r2_pos).symm

variable (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal)

/-- Position `k` of block `j` along the sequence. -/
def pos (j : Fin 64) (k : Fin 128) : Fin 8192 := ⟨j.val * 128 + k.val, by omega⟩

/-- Column `d` of query head `h`. -/
def qcol (h : Fin 16) (d : Fin 128) : Fin 2048 := ⟨h.val * 128 + d.val, by omega⟩

/-- Column `d` of key head `g`. -/
def kcol (g : Fin 2) (d : Fin 128) : Fin 256 := ⟨g.val * 128 + d.val, by omega⟩

/-- The key head query head `h` attends to. -/
def kvOf (h : Fin 16) : Fin 2 := ⟨h.val / 8, by omega⟩

/-- The row of query `r` of block `i`, head `h`, batch entry `b`, after its first `n` key blocks. -/
def rows (b : Fin 8) (h : Fin 16) (i : Fin 64) (r : Fin 128) : ℕ → Row
  | 0 => Row.init
  | n + 1 =>
    if hn : n < 64 then
      step (score (fun r d => Q (ix3 b (pos i r) (qcol h d))) (fun k d => K (ix3 b (pos ⟨n, hn⟩ k) (kcol (kvOf h) d)))
          (SQ (ix3 b i h)) (SK (ix3 b ⟨n, hn⟩ (kvOf h))) i.val n r)
        (fun k d => VT (ix4 b (kvOf h) d (pos ⟨n, hn⟩ k))) (SV (ix3 b ⟨n, hn⟩ (kvOf h))) (rows b h i r n)
    else rows b h i r n

theorem rows_good (b : Fin 8) (h : Fin 16) (i : Fin 64) (r : Fin 128) : ∀ n, Good (rows Q SQ K SK VT SV b h i r n)
  | 0 => good_init
  | n + 1 => by
    rw [rows]
    split
    · exact good_step _ _ _ (rows_good b h i r n)
    · exact rows_good b h i r n

/-- The attention output: each row after the key blocks up to its own, divided by its sum. -/
def attention : (⟨3, ![8, 8192, 2048]⟩ : Shape).Idx → EReal := fun y =>
  finish (rows Q SQ K SK VT SV (y 0) ⟨(y 2).val / 128, by have : (y 2).val < 2048 := (y 2).isLt; omega⟩
      ⟨(y 1).val / 128, by have : (y 1).val < 8192 := (y 1).isLt; omega⟩ ⟨(y 1).val % 128, Nat.mod_lt _ (by omega)⟩
      ((y 1).val / 128 + 1))
    ⟨(y 2).val % 128, Nat.mod_lt _ (by omega)⟩

end Cert.Proof
-- ==== Proof.RefStep.lean ====
/- One trip of the reference's block loop, element by element: the row carried for query `r` takes the plain step. -/
module

public import proofs.«01_k».proof.Proof.RefRun
public import proofs.«01_k».proof.Proof.Spec

@[expose] public section

set_option maxRecDepth 16384
set_option maxHeartbeats 4000000

noncomputable section

namespace Cert.Proof.Ref

open Cert.ReferenceIdeal Cert.ReferenceIdeal.Gen
open Idealize.ShloMosaic

/-- What the block loop carries: running maxima, sums and output rows of a tile's 128 queries. -/
abbrev Carry := FVec Ideal S128x1 .f32 × FVec Ideal S128x1 .f32 × FVec Ideal S128x128 .f32

/-- The carried row of query `r`. -/
def rowOf (a : Carry) (r : Fin 128) : Row := ⟨a.1 (ix2 r 0), a.2.1 (ix2 r 0), fun d => a.2.2 (ix2 r d)⟩

theorem named_scale : (Named.named κ "scale" 0x3DB504F3#32 : Ideal .f32) = (c1 : EReal) := rfl
theorem named_mask : (Named.named κ "mask" 0xF149F2CA#32 : Ideal .f32) = ⊥ := rfl
theorem named_ln2 : (Named.named κ "ln2" 0x3F317218#32 : Ideal .f32) = ((Real.log 2 : ℝ) : EReal) := rfl

theorem ofBits_neg_inf : Ideal.ofBits .f32 0xFF800000#32 = ⊥ := by simp [Ideal.ofBits, Ideal.ieee]

/-- The positions compare as numbers: nothing wraps. -/
theorem sle_pos (i j : ℕ) (hi : i < 64) (hj : j < 64) (r k : Fin 128) :
    IntOp.cmpi .sle (IntOp.addi (Scalar.muli (Scf.iv 0#32 1#32 j) 128#32) (BitVec.ofNat 32 k.val))
      (IntOp.addi (Scalar.muli (BitVec.ofNat 32 i) 128#32) (BitVec.ofNat 32 r.val))
    = BitVec.ofBool (decide (j * 128 + k.val ≤ i * 128 + r.val)) := by
  have e1 : IntOp.addi (Scalar.muli (Scf.iv 0#32 1#32 j) 128#32) (BitVec.ofNat 32 k.val)
      = BitVec.ofNat 32 (j * 128 + k.val) := by
    show (0#32 + BitVec.ofNat 32 j * 1#32) * 128#32 + BitVec.ofNat 32 k.val = _
    apply BitVec.eq_of_toNat_eq; simp
  have e2 : IntOp.addi (Scalar.muli (BitVec.ofNat 32 i) 128#32) (BitVec.ofNat 32 r.val)
      = BitVec.ofNat 32 (i * 128 + r.val) := by
    show BitVec.ofNat 32 i * 128#32 + BitVec.ofNat 32 r.val = _
    apply BitVec.eq_of_toNat_eq; simp
  rw [e1, e2]
  show BitVec.ofBool (BitVec.sle _ _) = _
  congr 1
  rw [BitVec.sle_eq_decide, BitVec.toInt_ofNat', BitVec.toInt_ofNat']
  have hk := k.isLt; have hr := r.isLt
  rw [Int.bmod_eq_of_le (by omega) (by omega), Int.bmod_eq_of_le (by omega) (by omega)]
  congr 1
  exact propext (by omega)

section pay

variable (t : Fin k0_t1_loop.trips) (n : Fin (k0_t2_loop t).trips) (v11 kb : Vec Ideal S1x128x128 .fp8e4m3)
  (v16 sk : Elt Ideal .f32) (m : FVec Ideal S128x1 .f32) (i : ℕ) (hi : i < 64) (hn : n.val < 64) (r k : Fin 128)

/-- The tile's scores. -/
abbrev sc : Fin 128 → EReal := score (fun r d => v11 (ix3 0 r d)) (fun k d => kb (ix3 0 k d)) v16 sk i n.val r

include hi hn

theorem pay3_at : k0_pay3 t (BitVec.ofNat 32 i) (k0_pay16 v11) v16 0#32 1#32 n kb sk (ix2 r k)
    = sc t n v11 kb v16 sk i r k := by
  unfold k0_pay3 k0_pay16
  pointwise
  rw [sle_pos i n.val hi hn, named_scale, named_mask, Scalar.select_decide]
  rfl

theorem pay4_at : k0_pay4 t (BitVec.ofNat 32 i) (k0_pay16 v11) v16 0#32 1#32 n m kb sk (ix2 r 0)
    = newMax (sc t n v11 kb v16 sk i r) (m (ix2 r 0)) := by
  unfold k0_pay4
  pointwise
  rw [ofBits_neg_inf]
  simp only [pay3_at t n v11 kb v16 sk i hi hn]
  rfl

theorem pay5_at : k0_pay5 t (BitVec.ofNat 32 i) (k0_pay16 v11) v16 0#32 1#32 n m kb sk (ix2 r 0)
    = shrink (sc t n v11 kb v16 sk i r) (m (ix2 r 0)) := by
  unfold k0_pay5
  pointwise
  rw [pay4_at t n v11 kb v16 sk m i hi hn]
  rfl

theorem pay6_at : k0_pay6 t (BitVec.ofNat 32 i) (k0_pay16 v11) v16 0#32 1#32 n m kb sk (ix2 r k)
    = prob (sc t n v11 kb v16 sk i r) (m (ix2 r 0)) k := by
  unfold k0_pay6
  pointwise
  rw [pay4_at t n v11 kb v16 sk m i hi hn, pay3_at t n v11 kb v16 sk i hi hn]
  rfl

theorem pay20_at (l : FVec Ideal S128x1 .f32) :
    k0_pay20 (k0_pay7 t (BitVec.ofNat 32 i) (k0_pay16 v11) v16 0#32 1#32 n m l kb sk)
      (k0_pay8 t (BitVec.ofNat 32 i) (k0_pay16 v11) v16 0#32 1#32 n m kb sk) (ix2 r 0)
    = l (ix2 r 0) * shrink (sc t n v11 kb v16 sk i r) (m (ix2 r 0))
      + ∑ k, prob (sc t n v11 kb v16 sk i r) (m (ix2 r 0)) k := by
  unfold k0_pay20 k0_pay7 k0_pay8
  pointwise
  rw [pay5_at t n v11 kb v16 sk m i hi hn]
  simp only [pay6_at t n v11 kb v16 sk m i hi hn]

omit hi hn

/-- The stored row, from the probabilities: the reference's quantiser and its second product. -/
theorem pay21_at (acc : FVec Ideal S128x128 .f32) (v57 : FVec Ideal S128x128 .fp8e4m3) (v66 : Elt Ideal .f32)
    (v86 : FVec Ideal S128x1 .f32) (v89 : FVec Ideal S128x128 .f32) (d : Fin 128) :
    k0_pay21 acc v57 v66 v86 v89 (ix2 r d) = acc (ix2 r d) * v86 (ix2 r 0)
      + (∑ k, min ((448 : ℝ) : EReal) (max 0 (v89 (ix2 r k)
          * Ideal.exp2 (0 - refExpo (Finset.univ.sup fun k => v89 (ix2 r k))))) * v57 (ix2 d k))
        * (Ideal.exp2 (refExpo (Finset.univ.sup fun k => v89 (ix2 r k))) * v66) := by
  unfold k0_pay21
  pointwise
  rw [ofBits_neg_inf, ofBits_448, ofBits_c448, named_ln2]
  rfl

include hi hn

/-- One trip of the block loop is the plain step on every row. -/
theorem step_row (vt : Vec Ideal S1x1x128x128 .fp8e4m3) (sv : Elt Ideal .f32) (a : Carry) :
    rowOf (k0_pay4 t (BitVec.ofNat 32 i) (k0_pay16 v11) v16 0#32 1#32 n a.1 kb sk,
        k0_pay20 (k0_pay7 t (BitVec.ofNat 32 i) (k0_pay16 v11) v16 0#32 1#32 n a.1 a.2.1 kb sk)
          (k0_pay8 t (BitVec.ofNat 32 i) (k0_pay16 v11) v16 0#32 1#32 n a.1 kb sk),
        k0_pay21 a.2.2 (k0_pay2 vt) sv (k0_pay5 t (BitVec.ofNat 32 i) (k0_pay16 v11) v16 0#32 1#32 n a.1 kb sk)
          (k0_pay6 t (BitVec.ofNat 32 i) (k0_pay16 v11) v16 0#32 1#32 n a.1 kb sk)) r
      = step (sc t n v11 kb v16 sk i r) (fun k d => vt (ix4 0 0 d k)) sv (rowOf a r) := by
  unfold rowOf
  refine congr (congr (congrArg Row.mk ?_) ?_) (funext fun d => ?_)
  · exact pay4_at t n v11 kb v16 sk a.1 i hi hn r
  · exact pay20_at t n v11 kb v16 sk a.1 i hi hn r a.2.1
  · show k0_pay21 _ _ _ _ _ (ix2 r d) = _
    rw [pay21_at, pay5_at t n v11 kb v16 sk a.1 i hi hn]
    simp only [pay6_at t n v11 kb v16 sk a.1 i hi hn]
    have hv : ∀ k, k0_pay2 vt (ix2 d k) = vt (ix4 0 0 d k) := fun k => by
      unfold k0_pay2
      pointwise
    simp only [hv]
    exact ref_acc (sc t n v11 kb v16 sk i r) (fun k d => vt (ix4 0 0 d k)) sv (rowOf a r) d

end pay

end Cert.Proof.Ref
-- ==== Proof.RefIndex.lean ====
/- Which tile a trip of the reference's loop works on, and where its loads start. -/
module

public import proofs.«01_k».proof.Proof.RefRun
public import Idealize.ShloMosaic.Lib.Pipeline.ValueKit

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

/-! ## Index arithmetic -/

/-- A tile's batch entry, head and query block. -/
def bOf (t : Fin k0_t1_loop.trips) : Fin 8 := ⟨t.val / 1024, by have := lt_of_lt_of_eq t.isLt trips_eq; omega⟩
def hOf (t : Fin k0_t1_loop.trips) : Fin 16 := ⟨t.val / 64 % 16, by omega⟩
def iOf (t : Fin k0_t1_loop.trips) : Fin 64 := ⟨t.val % 64, by omega⟩

theorem blocks_eq : ∀ t : Fin k0_t1_loop.trips, (k0_t2_loop t).trips = t.val % 64 + 1 := by decide +kernel

theorem tail_eq : ∀ t : Fin k0_t1_loop.trips, (k0_t3_loop t).trips = 0 := by decide +kernel

theorem block_lt (t : Fin k0_t1_loop.trips) (n : Fin (k0_t2_loop t).trips) : n.val < 64 := by
  have := lt_of_lt_of_eq n.isLt (blocks_eq t); omega

theorem v4_eq : ∀ t : Fin k0_t1_loop.trips,
    Scalar.remsi (Scf.iv 0#32 1#32 t.val) 64#32 = BitVec.ofNat 32 (t.val % 64) := by decide +kernel

theorem words : ∀ t : Fin k0_t1_loop.trips,
    (Scalar.indexCast (Scalar.divsi (Scf.iv 0#32 1#32 t.val) 1024#32)).toNat = t.val / 1024
    ∧ (Scalar.indexCast (Scalar.divsi (Scalar.remsi (Scalar.divsi (Scf.iv 0#32 1#32 t.val) 64#32) 16#32) 8#32)).toNat
        = t.val / 64 % 16 / 8
    ∧ (Scalar.indexCast (Scalar.muli (Scalar.divsi (Scalar.remsi (Scalar.divsi (Scf.iv 0#32 1#32 t.val) 64#32) 16#32) 8#32)
        128#32)).toNat = t.val / 64 % 16 / 8 * 128 := by decide +kernel

theorem off2_eq (t : Fin k0_t1_loop.trips) : k0_off2 t = ![t.val / 1024, t.val % 64, t.val / 64 % 16] := by
  have h : ∀ k : Fin k0_t1_loop.trips, k0_off2 k 0 = k.val / 1024 ∧ k0_off2 k 1 = k.val % 64
      ∧ k0_off2 k 2 = k.val / 64 % 16 := by decide +kernel
  funext a
  match a with
  | ⟨0, _⟩ => exact (h t).1
  | ⟨1, _⟩ => exact (h t).2.1
  | ⟨2, _⟩ => exact (h t).2.2

theorem iv_words : ∀ n : Fin 64, (Scalar.indexCast (Scf.iv 0#32 1#32 n.val)).toNat = n.val
    ∧ (Scalar.indexCast (Scalar.muli (Scf.iv 0#32 1#32 n.val) 128#32)).toNat = n.val * 128 := by decide +kernel

theorem off3_eq (t : Fin k0_t1_loop.trips) (n : Fin (k0_t2_loop t).trips) :
    k0_off3 t n = ![t.val / 1024, n.val * 128, t.val / 64 % 16 / 8 * 128] := by
  obtain ⟨h1, h2, h3⟩ := words t
  have h4 := iv_words ⟨n.val, block_lt t n⟩
  show ![_, _, _] = _
  rw [h1, h3, h4.2]

theorem off4_eq (t : Fin k0_t1_loop.trips) (n : Fin (k0_t2_loop t).trips) :
    k0_off4 t n = ![t.val / 1024, t.val / 64 % 16 / 8, 0, n.val * 128] := by
  obtain ⟨h1, h2, h3⟩ := words t
  have h4 := iv_words ⟨n.val, block_lt t n⟩
  show ![_, _, _, _] = _
  rw [h1, h2, h4.2]

theorem off5_eq (t : Fin k0_t1_loop.trips) (n : Fin (k0_t2_loop t).trips) :
    k0_off5 t n = ![t.val / 1024, n.val, t.val / 64 % 16 / 8] := by
  obtain ⟨h1, h2, h3⟩ := words t
  have h4 := iv_words ⟨n.val, block_lt t n⟩
  show ![_, _, _] = _
  rw [h1, h2, h4.1]

end Cert.Proof.Ref
-- ==== Proof.RefValue.lean ====
/- What the reference's tile loop stores: the attention of its inputs, element by element. -/
module

public import proofs.«01_k».proof.Proof.RefStep
public import proofs.«01_k».proof.Proof.RefIndex
public import Idealize.ShloMosaic.Lib.Pipeline.ValueKit

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

section value

variable (c : Dev nD) (arg0 : Memref sig .tc .vmem S8x8192x2048 .fp8e4m3) (harg0 : arg0.IsWhole)
  (arg1 : Memref sig .tc .smem S8x64x16 .f32) (harg1 : arg1.IsWhole)
  (arg2 : Memref sig .tc .vmem S8x8192x256 .fp8e4m3) (harg2 : arg2.IsWhole)
  (arg3 : Memref sig .tc .smem S8x64x2 .f32) (harg3 : arg3.IsWhole)
  (arg4 : Memref sig .tc .vmem S8x2x128x8192 .fp8e4m3) (harg4 : arg4.IsWhole)
  (arg5 : Memref sig .tc .smem S8x64x2 .f32) (harg5 : arg5.IsWhole)
  (arg6 : Memref sig .tc .vmem S8x8192x2048 .bf16) (harg6 : arg6.IsWhole)
  (X0 : BufTy.Contents (Elt Ideal) arg0.view.ty) (X1 : BufTy.Contents (Elt Ideal) arg1.view.ty)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)

/-! ## The loads -/

variable (t : Fin k0_t1_loop.trips) (n : Fin (k0_t2_loop t).trips)

theorem ld_q (r d : Fin 128) :
    View.readAt (Elt Ideal) arg0.view (Rect.unit (s := S8x8192x2048) (k0_off1 t) S1x128x128.size (k0_off1_inb t)).toLoadRect X0 (ix3 0 r d)
      = arg0.view.read (Elt Ideal) X0 (ix3 (bOf t) (pos (iOf t) r) (qcol (hOf t) d)) := by
  rw [View.readAt_eq_ld]
  refine View.ld_unit_apply_of _ _ _ _ _ _ fun a => ?_
  refine Eq.trans ?_ (congrArg (· + _) (congrFun (off1_eq t) a).symm)
  match a with
  | ⟨0, _⟩ => rfl
  | ⟨1, _⟩ => rfl
  | ⟨2, _⟩ => rfl

theorem ld_k (k d : Fin 128) :
    View.readAt (Elt Ideal) arg2.view (Rect.unit (s := S8x8192x256) (k0_off3 t n) S1x128x128.size (k0_off3_inb t n)).toLoadRect X2 (ix3 0 k d)
      = arg2.view.read (Elt Ideal) X2 (ix3 (bOf t) (pos ⟨n.val, block_lt t n⟩ k) (kcol (kvOf (hOf t)) d)) := by
  rw [View.readAt_eq_ld]
  refine View.ld_unit_apply_of _ _ _ _ _ _ fun a => ?_
  refine Eq.trans ?_ (congrArg (· + _) (congrFun (off3_eq t n) a).symm)
  match a with
  | ⟨0, _⟩ => rfl
  | ⟨1, _⟩ => rfl
  | ⟨2, _⟩ => rfl

theorem ld_v (d k : Fin 128) :
    View.readAt (Elt Ideal) arg4.view (Rect.unit (s := S8x2x128x8192) (k0_off4 t n) S1x1x128x128.size (k0_off4_inb t n)).toLoadRect X4 (ix4 0 0 d k)
      = arg4.view.read (Elt Ideal) X4 (ix4 (bOf t) (kvOf (hOf t)) d (pos ⟨n.val, block_lt t n⟩ k)) := by
  rw [View.readAt_eq_ld]
  refine View.ld_unit_apply_of _ _ _ _ _ _ fun a => ?_
  refine Eq.trans ?_ (congrArg (· + _) (congrFun (off4_eq t n) a).symm)
  match a with
  | ⟨0, _⟩ => rfl
  | ⟨1, _⟩ => rfl
  | ⟨2, _⟩ => exact (Nat.zero_add _).symm
  | ⟨3, _⟩ => rfl

theorem ld_sq (x) :
    View.readAt (Elt Ideal) arg1.view (Rect.unit (s := S8x64x16) (k0_off2 t) S1x1x1.size (k0_off2_inb t)).toLoadRect X1 x
      = arg1.view.read (Elt Ideal) X1 (ix3 (bOf t) (iOf t) (hOf t)) := by
  rw [View.readAt_eq_ld]
  refine View.ld_unit_apply_of _ _ _ _ _ _ fun a => ?_
  refine Eq.trans ?_ (congrArg (· + _) (congrFun (off2_eq t) a).symm)
  match a with
  | ⟨0, _⟩ => have := (x 0).isLt; change _ < 1 at this; show t.val / 1024 = t.val / 1024 + (x 0).val; omega
  | ⟨1, _⟩ => have := (x 1).isLt; change _ < 1 at this; show t.val % 64 = t.val % 64 + (x 1).val; omega
  | ⟨2, _⟩ => have := (x 2).isLt; change _ < 1 at this; show t.val / 64 % 16 = t.val / 64 % 16 + (x 2).val; omega

theorem ld_s (arg : Memref sig .tc .smem S8x64x2 .f32) (X : BufTy.Contents (Elt Ideal) arg.view.ty) (x) :
    View.readAt (Elt Ideal) arg.view (Rect.unit (s := S8x64x2) (k0_off5 t n) S1x1x1.size (k0_off5_inb t n)).toLoadRect X x
      = arg.view.read (Elt Ideal) X (ix3 (bOf t) ⟨n.val, block_lt t n⟩ (kvOf (hOf t))) := by
  rw [View.readAt_eq_ld]
  refine View.ld_unit_apply_of _ _ _ _ _ _ fun a => ?_
  refine Eq.trans ?_ (congrArg (· + _) (congrFun (off5_eq t n) a).symm)
  match a with
  | ⟨0, _⟩ => have := (x 0).isLt; change _ < 1 at this; show t.val / 1024 = t.val / 1024 + (x 0).val; omega
  | ⟨1, _⟩ => have := (x 1).isLt; change _ < 1 at this; show n.val = n.val + (x 1).val; omega
  | ⟨2, _⟩ => have := (x 2).isLt; change _ < 1 at this; show t.val / 64 % 16 / 8 = t.val / 64 % 16 / 8 + (x 2).val; omega

/-! ## The block loop -/

/-- The rows of tile `t`, from what the inputs' views read. -/
abbrev tileRows (r : Fin 128) : ℕ → Row :=
  rows (arg0.view.read (Elt Ideal) X0) (arg1.view.read (Elt Ideal) X1) (arg2.view.read (Elt Ideal) X2)
    (arg3.view.read (Elt Ideal) X3) (arg4.view.read (Elt Ideal) X4) (arg5.view.read (Elt Ideal) X5) (bOf t) (hOf t) (iOf t) r

/-- The tile's query codes and scale, as its trip reads them. -/
abbrev qOf := View.readAt (Elt Ideal) arg0.view (Rect.unit (s := S8x8192x2048) (k0_off1 t) S1x128x128.size (k0_off1_inb t)).toLoadRect X0

abbrev kOf := View.readAt (Elt Ideal) arg2.view (Rect.unit (s := S8x8192x256) (k0_off3 t n) S1x128x128.size (k0_off3_inb t n)).toLoadRect X2

abbrev vOf := View.readAt (Elt Ideal) arg4.view (Rect.unit (s := S8x2x128x8192) (k0_off4 t n) S1x1x128x128.size (k0_off4_inb t n)).toLoadRect X4

/-- A key block's scale. -/
abbrev sOf (arg : Memref sig .tc .smem S8x64x2 .f32) (X : BufTy.Contents (Elt Ideal) arg.view.ty) : Elt Ideal .f32 :=
  View.readAt (Elt Ideal) arg.view (Rect.unit (s := S8x64x2) (k0_off5 t n) S1x1x1.size (k0_off5_inb t n)).toLoadRect X (Shape.Idx.first (numel1_S1x1x1.symm ▸ Nat.one_pos))

theorem trip_row (w1 w5 : BitVec 32) (sq : Elt Ideal .f32) (hsq : sq = arg1.view.read (Elt Ideal) X1 (ix3 (bOf t) (iOf t) (hOf t)))
    (a : Carry) (r : Fin 128) :
    rowOf (tripR_k0_t2 (F := Ideal) Variants.none c none arg0 harg0 arg1 harg1 arg2 harg2 arg3 harg3 arg4 harg4 arg5 harg5 arg6 harg6
        0#32 1#32 t w1 (BitVec.ofNat 32 (t.val % 64)) w5 (qOf arg0 X0 t) sq X2 X3 X4 X5 n a) r
      = step (score (fun r d => arg0.view.read (Elt Ideal) X0 (ix3 (bOf t) (pos (iOf t) r) (qcol (hOf t) d)))
            (fun k d => arg2.view.read (Elt Ideal) X2 (ix3 (bOf t) (pos ⟨n.val, block_lt t n⟩ k) (kcol (kvOf (hOf t)) d)))
            (arg1.view.read (Elt Ideal) X1 (ix3 (bOf t) (iOf t) (hOf t)))
            (arg3.view.read (Elt Ideal) X3 (ix3 (bOf t) ⟨n.val, block_lt t n⟩ (kvOf (hOf t)))) (iOf t).val n.val r)
          (fun k d => arg4.view.read (Elt Ideal) X4 (ix4 (bOf t) (kvOf (hOf t)) d (pos ⟨n.val, block_lt t n⟩ k)))
          (arg5.view.read (Elt Ideal) X5 (ix3 (bOf t) ⟨n.val, block_lt t n⟩ (kvOf (hOf t)))) (rowOf a r) := by
  have hi : t.val % 64 < 64 := Nat.mod_lt _ (by omega)
  have hn := block_lt t n
  have h : tripR_k0_t2 (F := Ideal) Variants.none c none arg0 harg0 arg1 harg1 arg2 harg2 arg3 harg3 arg4 harg4 arg5 harg5 arg6 harg6
      0#32 1#32 t w1 (BitVec.ofNat 32 (t.val % 64)) w5 (qOf arg0 X0 t) sq X2 X3 X4 X5 n a
      = (k0_pay4 t (BitVec.ofNat 32 (t.val % 64)) (k0_pay16 (qOf arg0 X0 t)) sq 0#32 1#32 n a.1 (kOf arg2 X2 t n) (sOf t n arg3 X3),
        k0_pay20 (k0_pay7 t (BitVec.ofNat 32 (t.val % 64)) (k0_pay16 (qOf arg0 X0 t)) sq 0#32 1#32 n a.1 a.2.1 (kOf arg2 X2 t n) (sOf t n arg3 X3))
          (k0_pay8 t (BitVec.ofNat 32 (t.val % 64)) (k0_pay16 (qOf arg0 X0 t)) sq 0#32 1#32 n a.1 (kOf arg2 X2 t n) (sOf t n arg3 X3)),
        k0_pay21 a.2.2 (k0_pay2 (vOf arg4 X4 t n)) (sOf t n arg5 X5)
          (k0_pay5 t (BitVec.ofNat 32 (t.val % 64)) (k0_pay16 (qOf arg0 X0 t)) sq 0#32 1#32 n a.1 (kOf arg2 X2 t n) (sOf t n arg3 X3))
          (k0_pay6 t (BitVec.ofNat 32 (t.val % 64)) (k0_pay16 (qOf arg0 X0 t)) sq 0#32 1#32 n a.1 (kOf arg2 X2 t n) (sOf t n arg3 X3))) := by
    unfold tripR_k0_t2 trip_k0_t2
    rfl
  rw [h, step_row t n (qOf arg0 X0 t) (kOf arg2 X2 t n) sq (sOf t n arg3 X3) (t.val % 64) hi hn]
  unfold sc
  simp only [ld_q, ld_k, ld_v, ld_s]
  rw [hsq]
  rfl

/-- After `n` blocks the carried rows are the specification's. -/
theorem st_row (w1 w5 : BitVec 32) (sq : Elt Ideal .f32) (hsq : sq = arg1.view.read (Elt Ideal) X1 (ix3 (bOf t) (iOf t) (hOf t)))
    (r : Fin 128) : ∀ k : ℕ, k ≤ (k0_t2_loop t).trips →
    rowOf (st_k0_t2 (F := Ideal) Variants.none c none arg0 harg0 arg1 harg1 arg2 harg2 arg3 harg3 arg4 harg4 arg5 harg5 arg6 harg6
        0#32 1#32 t w1 (BitVec.ofNat 32 (t.val % 64)) w5 (qOf arg0 X0 t) sq X2 X3 X4 X5 (k0_pay17, k0_pay18, k0_pay19) k) r
      = tileRows arg0 arg1 arg2 arg3 arg4 arg5 X0 X1 X2 X3 X4 X5 t r k
  | 0, _ => by
    rw [st_k0_t2_zero]
    unfold rowOf k0_pay17 k0_pay18 k0_pay19
    pointwise
    rfl
  | k + 1, h => by
    have hk : k < (k0_t2_loop t).trips := h
    have e := st_k0_t2_succ (F := Ideal) Variants.none c none arg0 harg0 arg1 harg1 arg2 harg2 arg3 harg3 arg4 harg4 arg5 harg5 arg6 harg6
        0#32 1#32 t w1 (BitVec.ofNat 32 (t.val % 64)) w5 (qOf arg0 X0 t) sq X2 X3 X4 X5 (k0_pay17, k0_pay18, k0_pay19) ⟨k, hk⟩
    rw [show k + 1 = (⟨k, hk⟩ : Fin (k0_t2_loop t).trips).val + 1 from rfl, e, trip_row (hsq := hsq),
      st_row w1 w5 sq hsq r k hk.le]
    unfold tileRows
    rw [rows, dif_pos (block_lt t ⟨k, hk⟩)]

/-- What a trip stores. -/
theorem trip_value (r d : Fin 128) :
    (trip c arg0 harg0 arg1 harg1 arg2 harg2 arg3 harg3 arg4 harg4 arg5 harg5 arg6 harg6 X0 X1 X2 X3 X4 X5 t).1 (ix3 0 r d)
      = finish (tileRows arg0 arg1 arg2 arg3 arg4 arg5 X0 X1 X2 X3 X4 X5 t r (t.val % 64 + 1)) d := by
  have hst := st_row c arg0 harg0 arg1 harg1 arg2 harg2 arg3 harg3 arg4 harg4 arg5 harg5 arg6 harg6 X0 X1 X2 X3 X4 X5 t
    (trip.sl.v1 t) (trip.sl.v5 t) (trip.sl.r arg1 X1 t) (ld_sq arg1 X1 t _) r _ le_rfl
  have ht : Scf.trips (k0_t3_loop t).lb (k0_t3_loop t).ub (k0_t3_loop t).st = 0 := tail_eq t
  have hv4 : trip.sl.v4 t = BitVec.ofNat 32 (t.val % 64) := v4_eq t
  rw [← blocks_eq t, ← hst]
  unfold trip
  dsimp only
  unfold trip.sl.r_1
  rw [ht, hv4, st_k0_t3_zero]
  generalize st_k0_t2 (F := Ideal) Variants.none c none arg0 harg0 arg1 harg1 arg2 harg2 arg3 harg3 arg4 harg4 arg5 harg5 arg6 harg6
        0#32 1#32 t _ _ _ _ _ X2 X3 X4 X5 _ _ = st
  unfold k0_pay1 k0_pay24
  pointwise
  rfl

/-- What the tile loop leaves is the attention of what the inputs' views read. -/
theorem out_eq (y : S8x8192x2048.Idx) :
    out c arg0 harg0 arg1 harg1 arg2 harg2 arg3 harg3 arg4 harg4 arg5 harg5 arg6 harg6 X0 X1 X2 X3 X4 X5 y
      = attention (arg0.view.read (Elt Ideal) X0) (arg1.view.read (Elt Ideal) X1) (arg2.view.read (Elt Ideal) X2)
          (arg3.view.read (Elt Ideal) X3) (arg4.view.read (Elt Ideal) X4) (arg5.view.read (Elt Ideal) X5) y := by
  have h0 : (y 0).val < 8 := (y 0).isLt
  have h1 : (y 1).val < 8192 := (y 1).isLt
  have h2 : (y 2).val < 2048 := (y 2).isLt
  have hv : (tileOf y).val = (y 0).val * 1024 + (y 2).val / 128 * 64 + (y 1).val / 128 := rfl
  have e0 : bOf (tileOf y) = y 0 := Fin.ext (by show (tileOf y).val / 1024 = _; omega)
  have e1 : hOf (tileOf y) = ⟨(y 2).val / 128, by omega⟩ := Fin.ext (by show (tileOf y).val / 64 % 16 = (y 2).val / 128; omega)
  have e2 : iOf (tileOf y) = ⟨(y 1).val / 128, by omega⟩ := Fin.ext (by show (tileOf y).val % 64 = (y 1).val / 128; omega)
  have e3 : (tileOf y).val % 64 = (y 1).val / 128 := by omega
  unfold out
  refine (trip_value c arg0 harg0 arg1 harg1 arg2 harg2 arg3 harg3 arg4 harg4 arg5 harg5 arg6 harg6 X0 X1 X2 X3 X4 X5 _ _ _).trans ?_
  unfold tileRows attention
  rw [e0, e1, e2, e3]

end value

end Cert.Proof.Ref
-- ==== Proof.RefResult.lean ====
/- The reference's run, read: its result is the attention of its arguments. -/
module

public import proofs.«01_k».proof.Proof.RefValue
public import Idealize.ShloMosaic.Lib.Pipeline.Value

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Every window's one block is its array -/

theorem iblk0 (c : Dev nD) (t : Fin cfg0.N) : iblk m c 0 t = m ((c : Thread nD τ).loc main_arg0) := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) _
theorem iblk1 (c : Dev nD) (t : Fin cfg0.N) : iblk m c 1 t = m ((c : Thread nD τ).loc main_arg1) := by
  have hz : (fun a => win0_1.index t a * main_arg1.ty.shape.size a) = fun _ => 0 := funext fun a => by fin_cases a <;> exact Nat.zero_mul _
  exact Memref.read_access_unit_zero (Elt Ideal) main_arg1 hz (fun a => by rw [congrFun hz a]; simp) _
theorem iblk2 (c : Dev nD) (t : Fin cfg0.N) : iblk m c 2 t = m ((c : Thread nD τ).loc main_arg2) := by
  have hz : (fun a => win0_2.index t a * main_arg2.ty.shape.size a) = fun _ => 0 := funext fun a => by fin_cases a <;> exact Nat.zero_mul _
  exact Memref.read_access_unit_zero (Elt Ideal) main_arg2 hz (fun a => by rw [congrFun hz a]; simp) _
theorem iblk3 (c : Dev nD) (t : Fin cfg0.N) : iblk m c 3 t = m ((c : Thread nD τ).loc main_arg3) := by
  have hz : (fun a => win0_3.index t a * main_arg3.ty.shape.size a) = fun _ => 0 := funext fun a => by fin_cases a <;> exact Nat.zero_mul _
  exact Memref.read_access_unit_zero (Elt Ideal) main_arg3 hz (fun a => by rw [congrFun hz a]; simp) _
theorem iblk4 (c : Dev nD) (t : Fin cfg0.N) : iblk m c 4 t = m ((c : Thread nD τ).loc main_arg4) := by
  have hz : (fun a => win0_4.index t a * main_arg4.ty.shape.size a) = fun _ => 0 := funext fun a => by fin_cases a <;> exact Nat.zero_mul _
  exact Memref.read_access_unit_zero (Elt Ideal) main_arg4 hz (fun a => by rw [congrFun hz a]; simp) _
theorem iblk5 (c : Dev nD) (t : Fin cfg0.N) : iblk m c 5 t = m ((c : Thread nD τ).loc main_arg5) := by
  have hz : (fun a => win0_5.index t a * main_arg5.ty.shape.size a) = fun _ => 0 := funext fun a => by fin_cases a <;> exact Nat.zero_mul _
  exact Memref.read_access_unit_zero (Elt Ideal) main_arg5 hz (fun a => by rw [congrFun hz a]; simp) _

/-! ## The result -/

/-- The attention of the arguments. -/
abbrev result (c : Dev nD) : Buf (Elt Ideal) ((c : Thread nD τ).loc main_v0) :=
  attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem outAt_eq (c : Dev nD) (t : Fin cfg0.N) : outAt m c t = result m c := by
  funext y
  unfold outAt
  rw [out_eq]
  simp only [(hstage0_0 0).read_unread, (hstage0_1 0).read_unread, (hstage0_2 0).read_unread, (hstage0_3 0).read_unread,
    (hstage0_4 0).read_unread, (hstage0_5 0).read_unread, iblk0, iblk1, iblk2, iblk3, iblk4, iblk5]

theorem final_o (c : Dev nD) : (dats m 0 c).arrAt 6 cfg0.N = result m c := by
  have hz : ∀ t, (fun a => win0_6.index t a * main_v0.ty.shape.size a) = fun _ => 0 := fun t => funext fun a => by fin_cases a <;> exact Nat.zero_mul _
  refine (dats m 0 c).arrAt_eq_of_cover 6 (result m c) (fun t _ => ?_) fun (i : S8x8192x2048.Idx) => ⟨(⟨0, by decide⟩ : Fin cfg0.N), by decide, ?_⟩
  · show (cfg0.win 6).cut (grid0.coords t) ((dats m 0 c).after 6 t) = _
    rw [after6, outAt_eq]
    exact (Memref.read_access_unit_zero (Elt Ideal) main_v0 (hz t) (fun a => by rw [congrFun (hz t) a]; simp) (result m c)).symm
  · change _ ∈ ((View.whole main_v0).slice (win0_6.rect _)).set
    rw [View.set_slice_whole, Rect.mem_set_unit]
    intro a
    have h0 : (i 0 : Nat) < 8 := (i 0).isLt
    have h1 : (i 1 : Nat) < 8192 := (i 1).isLt
    have h2 : (i 2 : Nat) < 2048 := (i 2).isLt
    match a with
    | ⟨0, _⟩ => exact ⟨le_of_eq_of_le (Nat.zero_mul _) (Nat.zero_le _), by show (i 0 : Nat) < 0 * 8 + 8; omega⟩
    | ⟨1, _⟩ => exact ⟨le_of_eq_of_le (Nat.zero_mul _) (Nat.zero_le _), by show (i 1 : Nat) < 0 * 8192 + 8192; omega⟩
    | ⟨2, _⟩ => exact ⟨le_of_eq_of_le (Nat.zero_mul _) (Nat.zero_le _), by show (i 2 : Nat) < 0 * 2048 + 2048; omega⟩

/-- The run, read: the result is the attention of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final_o m c),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _), ((h c).1 5).trans ((dats m 0 c).arrAt_in 5 rfl _)⟩)
    (run_main m ρ)

end Cert.Proof.Ref

end
-- ==== Proof.KerStep.lean ====
/- One key block of the kernel, column by column: the payloads of a trip read at an index, and the carried column they leave. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384
set_option maxHeartbeats 4000000

noncomputable section

namespace Cert.Proof.Ker

open Cert.KernelIdeal Cert.KernelIdeal.Gen
open Idealize.ShloMosaic Idealize.ShloMosaic.TcCoe Idealize.ShloMosaic.Tactic

variable (v16 : FVec Ideal S1024x128 .fp8e4m3) (v65 : FVec Ideal S1x1024 .f32) (kb : Vec Ideal S1x128x128 .fp8e4m3)
  (vt : Vec Ideal S1x1x128x128 .fp8e4m3) (sk sv : Elt Ideal .f32) (m l : FVec Ideal S1x1024 .f32) (acc : FVec Ideal S128x1024 .f32)
  (x : Fin 1024)

/-- One step of the bit search, on vectors. -/
def upV (a : FVec Ideal S1x1024 .f32) (e : IVec S1x1024 32) (b : BitVec 32) : IVec S1x1024 32 :=
  select (cmpf .olt a (bitcastToFloat .f32 (shli (addi e (broadcast S1x1024 b)) (broadcast S1x1024 23#32)))) e
    (addi e (broadcast S1x1024 b))

theorem upV_at (a : FVec Ideal S1x1024 .f32) (e : IVec S1x1024 32) (b : BitVec 32) :
    upV a e b (ix2 0 x) = up (a (ix2 0 x)) (e (ix2 0 x)) b := by
  unfold upV
  pointwise
  rfl

theorem expo_at (a : FVec Ideal S1x1024 .f32) :
    k0_pay13 a (upV a (upV a (broadcast S1x1024 0#32) 128#32) 64#32) 32#32 (ix2 0 x) = kerExpo (a (ix2 0 x)) := by
  have h : k0_pay13 a (upV a (upV a (broadcast S1x1024 0#32) 128#32) 64#32) 32#32
      = (fun e : IVec S1x1024 32 => select (cmpi .eq e (broadcast S1x1024 0#32)) (broadcast S1x1024 126#32) e)
        (upV a (upV a (upV a (upV a (upV a (upV a (upV a (upV a (broadcast S1x1024 0#32) 128#32) 64#32) 32#32) 16#32) 8#32) 4#32) 2#32) 1#32) := rfl
  rw [h]
  dsimp only
  generalize hv : upV a (upV a (upV a (upV a (upV a (upV a (upV a (upV a (broadcast S1x1024 0#32) 128#32) 64#32) 32#32) 16#32) 8#32) 4#32) 2#32) 1#32 = v
  pointwise
  rw [← hv]
  simp only [upV_at]
  show Scalar.select (BitVec.ofBool (bisect (a (ix2 0 x)) == 0#32)) _ _ = _
  rw [beq_eq_decide, Scalar.select_decide]
  rfl

/-! ## A full block -/

/-- The block's scores in powers of two, query column `x`. -/
abbrev sc : Fin 128 → EReal := fun k => (∑ d, kb (ix3 0 k d) * v16 (ix2 x d)) * (v65 (ix2 0 x) * (sk * (c2 : EReal)))

theorem named_scale : (Named.named κ "scale_log2e" 0x3E0293EE#32 : Ideal .f32) = (c2 : EReal) := rfl
theorem named_mask : (Named.named κ "mask" 0xF149F2CA#32 : Ideal .f32) = ⊥ := rfl
theorem ofBits_neg_inf : Ideal.ofBits .f32 0xFF800000#32 = ⊥ := by simp [Ideal.ofBits, Ideal.ieee]

theorem pay7_at (k : Fin 128) : k0_pay7 v16 v65 kb sk (ix2 k x) = sc v16 v65 kb sk x k := by
  unfold k0_pay7
  pointwise
  rw [named_scale]

theorem pay8_at : k0_pay8 v16 v65 kb sk (ix2 0 x) = Finset.univ.sup (sc v16 v65 kb sk x) := by
  unfold k0_pay8
  pointwise
  rw [ofBits_neg_inf]
  simp only [pay7_at]
  rfl

theorem pay9_at : k0_pay9 v16 v65 m kb sk (ix2 0 x) = max (m (ix2 0 x)) (Finset.univ.sup (sc v16 v65 kb sk x)) := by
  unfold k0_pay9
  pointwise
  rw [pay8_at]

theorem pay10_at : k0_pay10 v16 v65 m kb sk (ix2 0 x)
    = Ideal.exp2 (m (ix2 0 x) - max (m (ix2 0 x)) (Finset.univ.sup (sc v16 v65 kb sk x))) := by
  unfold k0_pay10
  pointwise
  rw [pay9_at]
  rfl

theorem pay11_at : k0_pay11 v16 v65 m kb sk (ix2 0 x)
    = Ideal.exp2 (Finset.univ.sup (sc v16 v65 kb sk x) - max (m (ix2 0 x)) (Finset.univ.sup (sc v16 v65 kb sk x))) * c448 := by
  unfold k0_pay11
  pointwise
  rw [pay9_at, pay8_at, ofBits_c448]
  rfl

/-- The exponents the kernel finds. -/
theorem pay13_at : k0_pay13 (k0_pay11 v16 v65 m kb sk) (k0_pay12 v16 v65 m kb sk) 32#32 (ix2 0 x)
    = kExpo (sc v16 v65 kb sk x) (m (ix2 0 x)) := by
  rw [show k0_pay12 v16 v65 m kb sk = upV (k0_pay11 v16 v65 m kb sk) (upV (k0_pay11 v16 v65 m kb sk) (broadcast S1x1024 0#32) 128#32) 64#32
    from rfl, expo_at, pay11_at]
  rfl

section quantise

/- The quantiser and the second product, for any scores, maxima and exponents. -/
variable (S : FVec Ideal S128x1024 .f32) (M a : FVec Ideal S1x1024 .f32) (e : IVec S1x1024 32) (t : Fin 128 → EReal) (M0 : EReal)
  (hS : ∀ k, S (ix2 k x) = t k) (hM : M (ix2 0 x) = max M0 (Finset.univ.sup t)) (he : e (ix2 0 x) = kExpo t M0)

include hM hS he in
theorem pay29_at (k : Fin 128) : k0_pay29 S M e 126#32 (ix2 k x) = kProb t M0 k := by
  unfold k0_pay29
  pointwise
  rw [hS, hM, he]
  rfl

include he in
theorem pay30_at : k0_pay30 (F := Ideal) e (ix2 0 x) = kScale t M0 := by
  unfold k0_pay30
  pointwise
  rw [he]
  rfl

include hM hS he in
theorem pay31_at : k0_pay31 l S M a e 126#32 (ix2 0 x) = l (ix2 0 x) * a (ix2 0 x) + (∑ k, kProb t M0 k) * kScale t M0 := by
  unfold k0_pay31
  pointwise
  rw [pay30_at x e t M0 he]
  simp only [pay29_at x S M e t M0 hS hM he]

include hM hS he in
theorem pay32_at (vt : Vec Ideal S1x1x128x128 .fp8e4m3) (d : Fin 128) : k0_pay32 (k0_pay6 vt) S M a e 126#32 acc sv (ix2 d x)
    = acc (ix2 d x) * a (ix2 0 x)
      + (∑ k, vt (ix4 0 0 d k) * min ((448 : ℝ) : EReal) (max 0 (kProb t M0 k))) * (kScale t M0 * sv) := by
  unfold k0_pay32 k0_pay6
  pointwise
  rw [pay30_at x e t M0 he, ofBits_448]
  simp only [pay29_at x S M e t M0 hS hM he]

end quantise

/-! ## The diagonal block -/

/-- The diagonal block's scores: a query sees the keys up to its own position in the block. -/
abbrev scM : Fin 128 → EReal := fun k => if k.val ≤ x.val % 128 then sc v16 v65 kb sk x k else ⊥

theorem sle_pos (k : Fin 128) : IntOp.cmpi .sle (BitVec.ofNat 32 k.val) (IntOp.andi (BitVec.ofNat 32 x.val) 127#32)
    = BitVec.ofBool (decide (k.val ≤ x.val % 128)) := by
  have e : IntOp.andi (BitVec.ofNat 32 x.val) 127#32 = BitVec.ofNat 32 (x.val % 128) := by
    show BitVec.ofNat 32 x.val &&& 127#32 = _
    apply BitVec.eq_of_toNat_eq
    rw [BitVec.toNat_and, BitVec.toNat_ofNat, BitVec.toNat_ofNat, BitVec.toNat_ofNat]
    have hx := x.isLt
    rw [Nat.mod_eq_of_lt (by omega : x.val < 2 ^ 32), Nat.mod_eq_of_lt (by omega : 127 < 2 ^ 32),
      Nat.mod_eq_of_lt (by omega : x.val % 128 < 2 ^ 32)]
    exact Nat.and_two_pow_sub_one_eq_mod x.val 7
  rw [e]
  show BitVec.ofBool (BitVec.sle _ _) = _
  congr 1
  rw [BitVec.sle_eq_decide, BitVec.toInt_ofNat', BitVec.toInt_ofNat']
  have hk := k.isLt; have hr := x.isLt
  rw [Int.bmod_eq_of_le (by omega) (by omega), Int.bmod_eq_of_le (by omega) (by omega)]
  congr 1
  exact propext (by omega)

theorem pay38_at (k : Fin 128) : k0_pay38 v16 v65 kb sk (ix2 k x) = scM v16 v65 kb sk x k := by
  unfold k0_pay38
  pointwise
  rw [sle_pos, named_scale, named_mask, Scalar.select_decide]

theorem pay39_at : k0_pay39 v16 v65 kb sk (ix2 0 x) = Finset.univ.sup (scM v16 v65 kb sk x) := by
  unfold k0_pay39
  pointwise
  rw [ofBits_neg_inf]
  simp only [pay38_at]
  rfl

theorem pay40_at : k0_pay40 v16 v65 m kb sk (ix2 0 x) = max (m (ix2 0 x)) (Finset.univ.sup (scM v16 v65 kb sk x)) := by
  unfold k0_pay40
  pointwise
  rw [pay39_at]

theorem pay41_at : k0_pay41 m (k0_pay40 v16 v65 m kb sk) (ix2 0 x)
    = Ideal.exp2 (m (ix2 0 x) - max (m (ix2 0 x)) (Finset.univ.sup (scM v16 v65 kb sk x))) := by
  unfold k0_pay41
  pointwise
  rw [pay40_at]
  rfl

theorem pay42_at : k0_pay42 (k0_pay39 v16 v65 kb sk) (k0_pay40 v16 v65 m kb sk) (ix2 0 x)
    = Ideal.exp2 (Finset.univ.sup (scM v16 v65 kb sk x) - max (m (ix2 0 x)) (Finset.univ.sup (scM v16 v65 kb sk x))) * c448 := by
  unfold k0_pay42
  pointwise
  rw [pay40_at, pay39_at, ofBits_c448]
  rfl

/-- The diagonal block's exponents are found by the same search. -/
theorem pay46_eq (A B : FVec Ideal S1x1024 .f32) : k0_pay46 (k0_pay42 A B) (k0_pay43 A B) (k0_pay44 A B) (k0_pay45 A B)
    = k0_pay13 (k0_pay42 A B) (upV (k0_pay42 A B) (upV (k0_pay42 A B) (broadcast S1x1024 0#32) 128#32) 64#32) 32#32 := rfl

theorem pay46_at : k0_pay46 (k0_pay42 (k0_pay39 v16 v65 kb sk) (k0_pay40 v16 v65 m kb sk))
      (k0_pay43 (k0_pay39 v16 v65 kb sk) (k0_pay40 v16 v65 m kb sk)) (k0_pay44 (k0_pay39 v16 v65 kb sk) (k0_pay40 v16 v65 m kb sk))
      (k0_pay45 (k0_pay39 v16 v65 kb sk) (k0_pay40 v16 v65 m kb sk)) (ix2 0 x)
    = kExpo (scM v16 v65 kb sk x) (m (ix2 0 x)) := by
  rw [pay46_eq, expo_at, pay42_at]
  rfl

/- The rest of the diagonal block is the full block's arithmetic. -/
section same
variable (S : FVec Ideal S128x1024 .f32) (M a A acc0 : FVec Ideal S1x1024 .f32) (e1 e2 e3 : IVec S1x1024 32)

theorem pay49_eq : k0_pay49 l S M a A e1 e2 e3 = k0_pay31 l S M a (k0_pay46 A e1 e2 e3) 126#32 := rfl
theorem pay51_eq (vt : Vec Ideal S1x1x128x128 .fp8e4m3) :
    k0_pay51 a (k0_pay48 A e1 e2 e3) (k0_pay50 (k0_pay37 vt) S M A e1 e2 e3) acc sv
    = k0_pay32 (k0_pay6 vt) S M a (k0_pay46 A e1 e2 e3) 126#32 acc sv := rfl
end same

/-! ## The query operand -/

/-- Column `x` of the queries is row `x % 128` of head `x / 128`'s piece. -/
theorem pay22_at (d : Fin 128) (a : Fin 8 → Vec Ideal S1x128x128 .fp8e4m3) :
    k0_pay22 (F := Ideal) (a 0) (a 1) (a 2) (a 3) (a 4) (a 5) (a 6) (a 7) (ix2 x d)
      = a ⟨x.val / 128, by omega⟩ (ix3 0 ⟨x.val % 128, by omega⟩ d) := by
  unfold k0_pay22
  pointwise
  have hx := x.isLt
  have key : ∀ (n : ℕ) (hn : n < 8) (z : Fin 128), x.val = n * 128 + z.val →
      a ⟨n, hn⟩ (ix3 0 z d) = a ⟨x.val / 128, by omega⟩ (ix3 0 ⟨x.val % 128, by omega⟩ d) := fun n hn z hz => by
    have e1 : (⟨x.val / 128, by omega⟩ : Fin 8) = ⟨n, hn⟩ := Fin.ext (by show x.val / 128 = n; omega)
    have e2 : (⟨x.val % 128, by omega⟩ : Fin 128) = z := Fin.ext (by show x.val % 128 = z.val; omega)
    rw [e1, e2]
  split
  · exact key 0 (by omega) _ (by simp only []; omega)
  split
  · exact key 1 (by omega) _ (by simp only []; omega)
  split
  · exact key 2 (by omega) _ (by simp only []; omega)
  split
  · exact key 3 (by omega) _ (by simp only []; omega)
  split
  · exact key 4 (by omega) _ (by simp only []; omega)
  split
  · exact key 5 (by omega) _ (by simp only []; omega)
  split
  · exact key 6 (by omega) _ (by simp only []; omega)
  · exact key 7 (by omega) _ (by simp only []; omega)

theorem pay24_at (a : Fin 8 → Elt Ideal .f32) :
    k0_pay24 (F := Ideal) (k0_pay23 (a 0)) (a 1) (a 2) (a 3) (a 4) (a 5) (a 6) (a 7) (ix2 0 x) = a ⟨x.val / 128, by omega⟩ := by
  unfold k0_pay24 k0_pay23
  pointwise
  have hx := x.isLt
  have key : ∀ (n : ℕ) (hn : n < 8), x.val / 128 = n → a ⟨n, hn⟩ = a ⟨x.val / 128, by omega⟩ := fun n hn hz => by
    subst hz; rfl
  split
  · exact key 0 (by omega) (by omega)
  split
  · exact key 1 (by omega) (by omega)
  split
  · exact key 2 (by omega) (by omega)
  split
  · exact key 3 (by omega) (by omega)
  split
  · exact key 4 (by omega) (by omega)
  split
  · exact key 5 (by omega) (by omega)
  split
  · exact key 6 (by omega) (by omega)
  · exact key 7 (by omega) (by omega)

end Cert.Proof.Ker

end
-- ==== Proof.KerLoop.lean ====
/- The kernel's loop over full key blocks: after each trip every query column holds the specification's row. -/
module

public import proofs.«01_k».proof.Proof.KerStep
public import Idealize.ShloMosaic.Lib.VecWindow

@[expose] public section

set_option maxRecDepth 16384
set_option maxHeartbeats 4000000

noncomputable section

namespace Cert.Proof.Ker

open Cert.KernelIdeal Cert.KernelIdeal.Gen
open Idealize.ShloMosaic Idealize.ShloMosaic.TcCoe Idealize.ShloMosaic.Tactic

/-! ## A column against a row -/

/-- Column `x` of the kernel's state is the row `R`: its maximum in powers of two, its sum and its accumulator as they are. -/
def Sim (m l : FVec Ideal S1x1024 .f32) (acc : FVec Ideal S128x1024 .f32) (x : Fin 1024) (R : Row) : Prop :=
  m (ix2 0 x) = R.m * (r2 : EReal) ∧ l (ix2 0 x) = R.l ∧ ∀ d : Fin 128, acc (ix2 d x) = R.acc d

theorem sim_init (x : Fin 1024) : Sim (k0_pay27 (F := Ideal)) (k0_pay28 (F := Ideal)) (k0_pay26 (k0_pay25 (F := Ideal))) x Row.init := by
  refine ⟨?_, ?_, fun d => ?_⟩
  · unfold k0_pay27
    pointwise
    exact (EReal.bot_mul_coe_of_pos r2_pos).symm
  · unfold k0_pay28
    pointwise
    rfl
  · unfold k0_pay26 k0_pay25
    pointwise
    rfl

section sim

variable (v16 : FVec Ideal S1024x128 .fp8e4m3) (v65 : FVec Ideal S1x1024 .f32) (kb : Vec Ideal S1x128x128 .fp8e4m3)
  (vt : Vec Ideal S1x1x128x128 .fp8e4m3) (sk sv : Elt Ideal .f32) (m l : FVec Ideal S1x1024 .f32) (acc : FVec Ideal S128x1024 .f32)
  (x : Fin 1024) (R : Row) (s : Fin 128 → EReal)

/-- The exponents of a full block. -/
abbrev expo : IVec S1x1024 32 := k0_pay13 (k0_pay11 v16 v65 m kb sk) (k0_pay12 v16 v65 m kb sk) 32#32

/-- The accumulator after a full block. -/
abbrev accNext : FVec Ideal S128x1024 .f32 :=
  k0_pay32 (k0_pay6 vt) (k0_pay7 v16 v65 kb sk) (k0_pay9 v16 v65 m kb sk) (k0_pay10 v16 v65 m kb sk) (expo v16 v65 kb sk m) 126#32 acc sv

/-- The running sum after a full block. -/
abbrev lNext : FVec Ideal S1x1024 .f32 :=
  k0_pay31 l (k0_pay7 v16 v65 kb sk) (k0_pay9 v16 v65 m kb sk) (k0_pay10 v16 v65 m kb sk) (expo v16 v65 kb sk m) 126#32

/-- A full block takes the row to its next one. -/
theorem sim_full (h : Sim m l acc x R) (hs : sc v16 v65 kb sk x = fun k => s k * (r2 : EReal)) :
    Sim (k0_pay9 v16 v65 m kb sk) (lNext v16 v65 kb sk m l) (accNext v16 v65 kb vt sk sv m acc) x
      (step s (fun k d => vt (ix4 0 0 d k)) sv R) := by
  obtain ⟨hm, hl, ha⟩ := h
  have h9 := pay9_at v16 v65 kb sk m x
  have he := pay13_at v16 v65 kb sk m x
  have h10 := pay10_at v16 v65 kb sk m x
  refine ⟨?_, ?_, fun d => ?_⟩
  · rw [h9, hs, hm, newMax_scale]
    rfl
  · refine (pay31_at l x _ _ _ _ (sc v16 v65 kb sk x) (m (ix2 0 x)) (pay7_at v16 v65 kb sk x) h9 he).trans ?_
    rw [h10, hs, hm, hl]
    exact kernel_l s _ sv R
  · refine (pay32_at sv acc x _ _ _ _ (sc v16 v65 kb sk x) (m (ix2 0 x)) (pay7_at v16 v65 kb sk x) h9 he vt d).trans ?_
    rw [h10, hs, hm, ha]
    exact kernel_acc s (fun k d => vt (ix4 0 0 d k)) sv R d

/-- The exponents of the diagonal block. -/
abbrev expoM : IVec S1x1024 32 :=
  k0_pay46 (k0_pay42 (k0_pay39 v16 v65 kb sk) (k0_pay40 v16 v65 m kb sk))
    (k0_pay43 (k0_pay39 v16 v65 kb sk) (k0_pay40 v16 v65 m kb sk)) (k0_pay44 (k0_pay39 v16 v65 kb sk) (k0_pay40 v16 v65 m kb sk))
    (k0_pay45 (k0_pay39 v16 v65 kb sk) (k0_pay40 v16 v65 m kb sk))

/-- The diagonal block takes the row to its next one. -/
theorem sim_diag (h : Sim m l acc x R) (hs : scM v16 v65 kb sk x = fun k => s k * (r2 : EReal)) :
    Sim (k0_pay40 v16 v65 m kb sk)
      (k0_pay31 l (k0_pay38 v16 v65 kb sk) (k0_pay40 v16 v65 m kb sk) (k0_pay41 m (k0_pay40 v16 v65 m kb sk)) (expoM v16 v65 kb sk m) 126#32)
      (k0_pay32 (k0_pay6 vt) (k0_pay38 v16 v65 kb sk) (k0_pay40 v16 v65 m kb sk) (k0_pay41 m (k0_pay40 v16 v65 m kb sk))
        (expoM v16 v65 kb sk m) 126#32 acc sv) x
      (step s (fun k d => vt (ix4 0 0 d k)) sv R) := by
  obtain ⟨hm, hl, ha⟩ := h
  have h9 := pay40_at v16 v65 kb sk m x
  have he := pay46_at v16 v65 kb sk m x
  have h10 := pay41_at v16 v65 kb sk m x
  refine ⟨?_, ?_, fun d => ?_⟩
  · rw [h9, hs, hm, newMax_scale]
    rfl
  · refine (pay31_at l x _ _ _ _ (scM v16 v65 kb sk x) (m (ix2 0 x)) (pay38_at v16 v65 kb sk x) h9 he).trans ?_
    rw [h10, hs, hm, hl]
    exact kernel_l s _ sv R
  · refine (pay32_at sv acc x _ _ _ _ (scM v16 v65 kb sk x) (m (ix2 0 x)) (pay38_at v16 v65 kb sk x) h9 he vt d).trans ?_
    rw [h10, hs, hm, ha]
    exact kernel_acc s (fun k d => vt (ix4 0 0 d k)) sv R d

end sim

/-! ## Index arithmetic -/

variable (i : grid0.Coords)

theorem i0_lt : (i 0).val < 8 := (i 0).isLt
theorem i1_lt : (i 1).val < 2 := (i 1).isLt
theorem i2_lt : (i 2).val < 64 := (i 2).isLt

theorem trips1 : (k0_t1_loop i).trips = (i 2).val := by
  have h : ∀ n : Fin 64, Scf.trips 0#32 (Scalar.addi 0#32 (Scalar.muli (Scalar.divsi (Scalar.subi (BitVec.ofNat 32 n.val) 0#32) 1#32) 1#32)) 1#32
      = n.val := by decide +kernel
  exact h ⟨(i 2).val, i2_lt i⟩

theorem trips2 : (k0_t2_loop i).trips = 0 := by
  have h : ∀ n : Fin 64, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h ⟨(i 2).val, i2_lt i⟩

theorem block_lt (n : Fin (k0_t1_loop i).trips) : n.val < (i 2).val := lt_of_lt_of_eq n.isLt (trips1 i)

theorem iv_words : ∀ n : Fin 64, (Scalar.indexCast (Scf.iv 0#32 1#32 n.val)).toNat = n.val
    ∧ (Scalar.indexCast (Scalar.muli (Scf.iv 0#32 1#32 n.val) 128#32)).toNat = n.val * 128
    ∧ (Scalar.indexCast (BitVec.ofNat 32 n.val)).toNat = n.val
    ∧ (Scalar.indexCast (Scalar.muli (BitVec.ofNat 32 n.val) 128#32)).toNat = n.val * 128 := by decide +kernel

theorem head_words : ∀ (g : Fin 2) (r : Fin 8), (Scalar.indexCast (BitVec.ofNat 32 g.val)).toNat = g.val
    ∧ (Scalar.indexCast (Scalar.addi (Scalar.muli (BitVec.ofNat 32 g.val) 8#32) (BitVec.ofNat 32 r.val))).toNat = g.val * 8 + r.val := by
  decide +kernel

variable (n : Fin (k0_t1_loop i).trips)

theorem off2_eq : k0_off2 i n = ![0, n.val * 128, 0] := by
  have h := (iv_words ⟨n.val, by have := block_lt i n; have := i2_lt i; omega⟩).2.1
  show ![0, _, 0] = _
  rw [h]
theorem off3_eq : k0_off3 i n = ![0, 0, 0, n.val * 128] := by
  have h := (iv_words ⟨n.val, by have := block_lt i n; have := i2_lt i; omega⟩).2.1
  show ![0, 0, 0, _] = _
  rw [h]
theorem off4_eq : k0_off4 i n = ![0, n.val, (i 1).val] := by
  have h := (iv_words ⟨n.val, by have := block_lt i n; have := i2_lt i; omega⟩).1
  have h' := (head_words ⟨(i 1).val, i1_lt i⟩ 0).1
  show ![0, _, _] = _
  rw [h, h']
theorem off8_eq : k0_off8 i = ![0, (i 2).val * 128, 0] := by
  have h := (iv_words ⟨(i 2).val, i2_lt i⟩).2.2.2
  show ![0, _, 0] = _
  rw [h]
theorem off9_eq : k0_off9 i = ![0, 0, 0, (i 2).val * 128] := by
  have h := (iv_words ⟨(i 2).val, i2_lt i⟩).2.2.2
  show ![0, 0, 0, _] = _
  rw [h]
theorem off10_eq : k0_off10 i = ![0, (i 2).val, (i 1).val] := by
  have h := (iv_words ⟨(i 2).val, i2_lt i⟩).2.2.1
  have h' := (head_words ⟨(i 1).val, i1_lt i⟩ 0).1
  show ![0, _, _] = _
  rw [h, h']
theorem off1_eq (r : Fin 8) : k0_off1 i (BitVec.ofNat 32 r.val) = ![0, (i 2).val, (i 1).val * 8 + r.val] := by
  have h := (iv_words ⟨(i 2).val, i2_lt i⟩).2.2.1
  have h' := (head_words ⟨(i 1).val, i1_lt i⟩ r).2
  show ![0, _, _] = _
  rw [h, h']

/-! ## The loads -/

variable (arg4 : Memref sig .tc .smem S1x64x2 .f32) (arg7 : Memref sig .tc .vmem S1x8192x128 .fp8e4m3)
  (arg8 : Memref sig .tc .vmem S1x1x128x8192 .fp8e4m3)
  (X4 : BufTy.Contents (Elt Ideal) arg4.view.ty) (X7 : BufTy.Contents (Elt Ideal) arg7.view.ty)
  (X8 : BufTy.Contents (Elt Ideal) arg8.view.ty)

/-- A trip's key codes, value codes and scales, as it reads them. -/
abbrev kOf := View.readAt (Elt Ideal) arg7.view (Rect.unit (s := S1x8192x128) (k0_off2 i n) S1x128x128.size (k0_off2_inb i n)).toLoadRect X7
abbrev vOf := View.readAt (Elt Ideal) arg8.view (Rect.unit (s := S1x1x128x8192) (k0_off3 i n) S1x1x128x128.size (k0_off3_inb i n)).toLoadRect X8
abbrev sOf : Elt Ideal .f32 :=
  View.readAt (Elt Ideal) arg4.view (Rect.unit (s := S1x64x2) (k0_off4 i n) S1x1x1.size (k0_off4_inb i n)).toLoadRect X4
    (Shape.Idx.first (numel1_S1x1x1.symm ▸ Nat.one_pos))

/-- The diagonal block's. -/
abbrev kOfM := View.readAt (Elt Ideal) arg7.view (Rect.unit (s := S1x8192x128) (k0_off8 i) S1x128x128.size (k0_off8_inb i)).toLoadRect X7
abbrev vOfM := View.readAt (Elt Ideal) arg8.view (Rect.unit (s := S1x1x128x8192) (k0_off9 i) S1x1x128x128.size (k0_off9_inb i)).toLoadRect X8
abbrev sOfM : Elt Ideal .f32 :=
  View.readAt (Elt Ideal) arg4.view (Rect.unit (s := S1x64x2) (k0_off10 i) S1x1x1.size (k0_off10_inb i)).toLoadRect X4
    (Shape.Idx.first (numel1_S1x1x1.symm ▸ Nat.one_pos))

theorem n_lt : n.val < 64 := by have := block_lt i n; have := i2_lt i; omega

theorem ld_k (k d : Fin 128) : kOf i n arg7 X7 (ix3 0 k d) = arg7.view.read (Elt Ideal) X7 (ix3 0 (pos ⟨n.val, n_lt i n⟩ k) d) := by
  unfold kOf
  rw [View.readAt_eq_ld]
  refine View.ld_unit_apply_of _ _ _ _ _ _ fun a => ?_
  refine Eq.trans ?_ (congrArg (· + _) (congrFun (off2_eq i n) a).symm)
  match a with
  | ⟨0, _⟩ => rfl
  | ⟨1, _⟩ => rfl
  | ⟨2, _⟩ => exact (Nat.zero_add _).symm

theorem ld_v (d k : Fin 128) : vOf i n arg8 X8 (ix4 0 0 d k) = arg8.view.read (Elt Ideal) X8 (ix4 0 0 d (pos ⟨n.val, n_lt i n⟩ k)) := by
  unfold vOf
  rw [View.readAt_eq_ld]
  refine View.ld_unit_apply_of _ _ _ _ _ _ fun a => ?_
  refine Eq.trans ?_ (congrArg (· + _) (congrFun (off3_eq i n) a).symm)
  match a with
  | ⟨0, _⟩ => rfl
  | ⟨1, _⟩ => rfl
  | ⟨2, _⟩ => exact (Nat.zero_add _).symm
  | ⟨3, _⟩ => rfl

theorem ld_s : sOf i n arg4 X4 = arg4.view.read (Elt Ideal) X4 (ix3 0 ⟨n.val, n_lt i n⟩ (i 1)) := by
  unfold sOf
  rw [View.readAt_eq_ld]
  refine View.ld_unit_apply_of _ _ _ _ _ _ fun a => ?_
  refine Eq.trans ?_ (congrArg (· + _) (congrFun (off4_eq i n) a).symm)
  match a with
  | ⟨0, _⟩ => rfl
  | ⟨1, _⟩ => rfl
  | ⟨2, _⟩ => rfl

theorem ld_kM (k d : Fin 128) : kOfM i arg7 X7 (ix3 0 k d) = arg7.view.read (Elt Ideal) X7 (ix3 0 (pos (i 2) k) d) := by
  unfold kOfM
  rw [View.readAt_eq_ld]
  refine View.ld_unit_apply_of _ _ _ _ _ _ fun a => ?_
  refine Eq.trans ?_ (congrArg (· + _) (congrFun (off8_eq i) a).symm)
  match a with
  | ⟨0, _⟩ => rfl
  | ⟨1, _⟩ => rfl
  | ⟨2, _⟩ => exact (Nat.zero_add _).symm

theorem ld_vM (d k : Fin 128) : vOfM i arg8 X8 (ix4 0 0 d k) = arg8.view.read (Elt Ideal) X8 (ix4 0 0 d (pos (i 2) k)) := by
  unfold vOfM
  rw [View.readAt_eq_ld]
  refine View.ld_unit_apply_of _ _ _ _ _ _ fun a => ?_
  refine Eq.trans ?_ (congrArg (· + _) (congrFun (off9_eq i) a).symm)
  match a with
  | ⟨0, _⟩ => rfl
  | ⟨1, _⟩ => rfl
  | ⟨2, _⟩ => exact (Nat.zero_add _).symm
  | ⟨3, _⟩ => rfl

theorem ld_sM : sOfM i arg4 X4 = arg4.view.read (Elt Ideal) X4 (ix3 0 (i 2) (i 1)) := by
  unfold sOfM
  rw [View.readAt_eq_ld]
  refine View.ld_unit_apply_of _ _ _ _ _ _ fun a => ?_
  refine Eq.trans ?_ (congrArg (· + _) (congrFun (off10_eq i) a).symm)
  match a with
  | ⟨0, _⟩ => rfl
  | ⟨1, _⟩ => rfl
  | ⟨2, _⟩ => rfl

/-! ## One trip -/

variable (c : Dev nD) (arg3 : Memref sig .tc .smem S1x64x16 .f32) (harg3 : arg3.IsWhole) (harg4 : arg4.IsWhole)
  (arg5 : Memref sig .tc .smem S1x64x2 .f32) (harg5 : arg5.IsWhole)
  (arg6 : Memref sig .tc .vmem S1x128x1024 .fp8e4m3) (harg6 : arg6.IsWhole) (harg7 : arg7.IsWhole) (harg8 : arg8.IsWhole)
  (arg9 : Memref sig .tc .vmem S1x128x1024 .bf16) (harg9 : arg9.IsWhole)
  (arg10 : Memref sig .tc .vmem S128x1024 .f32) (harg10 : arg10.IsWhole) (w1 w2 : BitVec 32)
  (v16 : FVec Ideal S1024x128 .fp8e4m3) (v65 : FVec Ideal S1x1024 .f32) (v66 : FVec Ideal S128x1024 .f32)
  (X5 : BufTy.Contents (Elt Ideal) arg5.view.ty) (f : BufTy.Contents (Elt Ideal) arg10.view.ty)
  (a : FVec Ideal S1x1024 .f32 × FVec Ideal S1x1024 .f32)

theorem trip_carry : tripR_k0_t1 (F := Ideal) Variants.none c none i arg3 harg3 arg4 harg4 arg5 harg5 arg6 harg6 arg7 harg7 arg8 harg8 arg9
      harg9 arg10 harg10 w1 w2 v16 v65 v66 X4 X5 X7 X8 n a f
    = (k0_pay9 v16 v65 a.1 (kOf i n arg7 X7) (sOf i n arg4 X4), lNext v16 v65 (kOf i n arg7 X7) (sOf i n arg4 X4) a.1 a.2) := by
  unfold tripR_k0_t1 trip_k0_t1
  rfl

theorem trip_acc : arg10.view.read (Elt Ideal) (arg10.view.writes (Elt Ideal) f (tripL_k0_t1 (F := Ideal) Variants.none c none i arg3 harg3
      arg4 harg4 arg5 harg5 arg6 harg6 arg7 harg7 arg8 harg8 arg9 harg9 arg10 harg10 w1 w2 v16 v65 v66 X4 X5 X7 X8 n a f))
    = accNext v16 v65 (kOf i n arg7 X7) (vOf i n arg8 X8) (sOf i n arg4 X4) (sOf i n arg5 X5) a.1 (arg10.view.read (Elt Ideal) f) := by
  have h : tripL_k0_t1 (F := Ideal) Variants.none c none i arg3 harg3
      arg4 harg4 arg5 harg5 arg6 harg6 arg7 harg7 arg8 harg8 arg9 harg9 arg10 harg10 w1 w2 v16 v65 v66 X4 X5 X7 X8 n a f
      = [⟨Rect.unit ![0, 0] S128x1024.size inb_S128x1024_S128x1024_0_0,
          accNext v16 v65 (kOf i n arg7 X7) (vOf i n arg8 X8) (sOf i n arg4 X4) (sOf i n arg5 X5) a.1
            (View.readAt (Elt Ideal) arg10.view (Rect.unit ![0, 0] S128x1024.size inb_S128x1024_S128x1024_0_0).toLoadRect f)⟩] := by
    unfold tripL_k0_t1 trip_k0_t1
    rfl
  rw [h, View.read_writes_full, View.readAt_full]

/-! ## The loop -/

variable (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal) (x : Fin 1024)

/-- The head and the query of column `x`. -/
def hdOf : Fin 16 := ⟨(i 1).val * 8 + x.val / 128, by have := i1_lt i; omega⟩
def qrOf : Fin 128 := ⟨x.val % 128, by omega⟩

theorem kv_eq : kvOf (hdOf i x) = i 1 := Fin.ext (by show ((i 1).val * 8 + x.val / 128) / 8 = (i 1).val; omega)

/-- Column `x`'s row after `k` blocks. -/
abbrev colRows : ℕ → Row := rows Q SQ K SK VT SV (i 0) (hdOf i x) (i 2) (qrOf x)

/-- The operands are the arrays' blocks. -/
structure Blocks : Prop where
  q : ∀ x d, v16 (ix2 x d) = Q (ix3 (i 0) (pos (i 2) (qrOf x)) (qcol (hdOf i x) d))
  sq : ∀ x, v65 (ix2 0 x) = SQ (ix3 (i 0) (i 2) (hdOf i x))
  k : ∀ p d, arg7.view.read (Elt Ideal) X7 (ix3 0 p d) = K (ix3 (i 0) p (kcol (i 1) d))
  sk : ∀ j, arg4.view.read (Elt Ideal) X4 (ix3 0 j (i 1)) = SK (ix3 (i 0) j (i 1))
  v : ∀ d p, arg8.view.read (Elt Ideal) X8 (ix4 0 0 d p) = VT (ix4 (i 0) (i 1) d p)
  sv : ∀ j, arg5.view.read (Elt Ideal) X5 (ix3 0 j (i 1)) = SV (ix3 (i 0) j (i 1))

variable (hB : Blocks i arg4 arg7 arg8 X4 X7 X8 arg5 v16 v65 X5 Q SQ K SK VT SV)

include hB in
theorem scores_full : sc v16 v65 (kOf i n arg7 X7) (sOf i n arg4 X4) x = fun k =>
    score (fun r d => Q (ix3 (i 0) (pos (i 2) r) (qcol (hdOf i x) d))) (fun k d => K (ix3 (i 0) (pos ⟨n.val, n_lt i n⟩ k) (kcol (kvOf (hdOf i x)) d)))
      (SQ (ix3 (i 0) (i 2) (hdOf i x))) (SK (ix3 (i 0) ⟨n.val, n_lt i n⟩ (kvOf (hdOf i x)))) (i 2).val n.val (qrOf x) k * (r2 : EReal) := by
  funext k
  rw [← score_two, if_pos (by have := block_lt i n; have := k.isLt; omega), kv_eq]
  unfold sc
  simp only [ld_k, ld_s, hB.q, hB.sq, hB.k, hB.sk]

include hB in
theorem scores_diag : scM v16 v65 (kOfM i arg7 X7) (sOfM i arg4 X4) x = fun k =>
    score (fun r d => Q (ix3 (i 0) (pos (i 2) r) (qcol (hdOf i x) d))) (fun k d => K (ix3 (i 0) (pos (i 2) k) (kcol (kvOf (hdOf i x)) d)))
      (SQ (ix3 (i 0) (i 2) (hdOf i x))) (SK (ix3 (i 0) (i 2) (kvOf (hdOf i x)))) (i 2).val (i 2).val (qrOf x) k * (r2 : EReal) := by
  funext k
  rw [← score_two, kv_eq]
  unfold scM sc
  simp only [ld_kM, ld_sM, hB.q, hB.sq, hB.k, hB.sk]
  have e : (k.val ≤ x.val % 128) = ((i 2).val * 128 + k.val ≤ (i 2).val * 128 + (qrOf x).val) :=
    propext (by show _ ↔ (i 2).val * 128 + k.val ≤ (i 2).val * 128 + x.val % 128; omega)
  have e' : arg4.view.read (Elt Ideal) X4 (ix3 0 (i 2) (i 1)) = SK (ix3 (i 0) (i 2) (i 1)) := hB.sk (i 2)
  simp only [e, e']

theorem rows_succ (b : Fin 8) (h : Fin 16) (j : Fin 64) (r : Fin 128) (k : ℕ) (hk : k < 64) : rows Q SQ K SK VT SV b h j r (k + 1)
    = step (score (fun r d => Q (ix3 b (pos j r) (qcol h d))) (fun k' d => K (ix3 b (pos ⟨k, hk⟩ k') (kcol (kvOf h) d)))
          (SQ (ix3 b j h)) (SK (ix3 b ⟨k, hk⟩ (kvOf h))) j.val k r)
        (fun k' d => VT (ix4 b (kvOf h) d (pos ⟨k, hk⟩ k'))) (SV (ix3 b ⟨k, hk⟩ (kvOf h))) (rows Q SQ K SK VT SV b h j r k) := by
  rw [rows, dif_pos hk]

/-- The loop's state after `k` trips, over the scratch as the zero store left it. -/
abbrev stAt (G : BufTy.Contents (Elt Ideal) arg10.view.ty) (k : ℕ) :=
  st_k0_t1 (F := Ideal) Variants.none c none i arg3 harg3 arg4 harg4 arg5 harg5 arg6 harg6 arg7 harg7 arg8 harg8 arg9 harg9 arg10 harg10
    w1 w2 v16 v65 v66 X4 X5 X7 X8 G (k0_pay27, k0_pay28) k

include hB in
theorem loop_row (G : BufTy.Contents (Elt Ideal) arg10.view.ty) (hG : arg10.view.read (Elt Ideal) G = k0_pay26 (k0_pay25 (F := Ideal))) :
    ∀ k : ℕ, k ≤ (k0_t1_loop i).trips →
    Sim (stAt i arg4 arg7 arg8 X4 X7 X8 c arg3 harg3 harg4 arg5 harg5 arg6 harg6 harg7 harg8 arg9 harg9 arg10 harg10 w1 w2 v16 v65 v66 X5 G k).1.1
      (stAt i arg4 arg7 arg8 X4 X7 X8 c arg3 harg3 harg4 arg5 harg5 arg6 harg6 harg7 harg8 arg9 harg9 arg10 harg10 w1 w2 v16 v65 v66 X5 G k).1.2
      (arg10.view.read (Elt Ideal) (arg10.view.writes (Elt Ideal) G
        (stAt i arg4 arg7 arg8 X4 X7 X8 c arg3 harg3 harg4 arg5 harg5 arg6 harg6 harg7 harg8 arg9 harg9 arg10 harg10 w1 w2 v16 v65 v66 X5 G k).2))
      x (colRows i Q SQ K SK VT SV x k)
  | 0, _ => by
    have e : stAt i arg4 arg7 arg8 X4 X7 X8 c arg3 harg3 harg4 arg5 harg5 arg6 harg6 harg7 harg8 arg9 harg9 arg10 harg10 w1 w2 v16 v65 v66 X5 G 0
        = ((k0_pay27, k0_pay28), []) := rfl
    rw [e, View.writes_nil, hG]
    exact sim_init x
  | k + 1, h => by
    have hk : k < (k0_t1_loop i).trips := h
    have ih := loop_row G hG k hk.le
    have e := st_k0_t1_succ (F := Ideal) Variants.none c none i arg3 harg3 arg4 harg4 arg5 harg5 arg6 harg6 arg7 harg7 arg8 harg8 arg9 harg9
      arg10 harg10 w1 w2 v16 v65 v66 X4 X5 X7 X8 G (k0_pay27, k0_pay28) ⟨k, hk⟩
    change stAt i arg4 arg7 arg8 X4 X7 X8 c arg3 harg3 harg4 arg5 harg5 arg6 harg6 harg7 harg8 arg9 harg9 arg10 harg10 w1 w2 v16 v65 v66 X5 G (k + 1)
      = _ at e
    rw [e]
    dsimp only
    rw [View.writes_append, trip_acc, trip_carry]
    refine Eq.mpr (congrArg (Sim _ _ _ x) (rows_succ Q SQ K SK VT SV (i 0) (hdOf i x) (i 2) (qrOf x) k (n_lt i ⟨k, hk⟩))) ?_
    have hv : (fun (k' : Fin 128) (d : Fin 128) => VT (ix4 (i 0) (kvOf (hdOf i x)) d (pos ⟨k, n_lt i ⟨k, hk⟩⟩ k')))
        = fun k' d => vOf i ⟨k, hk⟩ arg8 X8 (ix4 0 0 d k') := by
      funext k' d; rw [ld_v, hB.v, kv_eq]
    have hsv : SV (ix3 (i 0) ⟨k, n_lt i ⟨k, hk⟩⟩ (kvOf (hdOf i x))) = sOf i ⟨k, hk⟩ arg5 X5 := by
      rw [ld_s, hB.sv, kv_eq]
    rw [hv, hsv]
    exact sim_full _ _ _ _ _ _ _ _ _ _ _ _ ih (scores_full i ⟨k, hk⟩ arg4 arg7 arg8 X4 X7 X8 arg5 v16 v65 X5 Q SQ K SK VT SV x hB)

end Cert.Proof.Ker

end
-- ==== Proof.KerPoint.lean ====
/- One grid point of the kernel: what it leaves in its output block, from its input blocks. -/
module

public import proofs.«01_k».proof.Proof.KerLoop
public import Idealize.ShloMosaic.Lib.Pipeline.Value
public import Idealize.ShloMosaic.Lib.Pipeline.ValueKit.Tiles

@[expose] public section

set_option maxRecDepth 16384
set_option maxHeartbeats 4000000

noncomputable section

namespace Cert.Proof.Ker

open Cert.KernelIdeal Cert.KernelIdeal.Gen
open Idealize.ShloMosaic Idealize.ShloMosaic.TcCoe Idealize.ShloMosaic.Tactic

variable (c : Dev nD) (i : grid0.Coords) (arg3 : Memref sig .tc .smem S1x64x16 .f32) (harg3 : arg3.IsWhole)
  (arg4 : Memref sig .tc .smem S1x64x2 .f32) (harg4 : arg4.IsWhole) (arg5 : Memref sig .tc .smem S1x64x2 .f32) (harg5 : arg5.IsWhole)
  (arg6 : Memref sig .tc .vmem S1x128x1024 .fp8e4m3) (harg6 : arg6.IsWhole)
  (arg7 : Memref sig .tc .vmem S1x8192x128 .fp8e4m3) (harg7 : arg7.IsWhole)
  (arg8 : Memref sig .tc .vmem S1x1x128x8192 .fp8e4m3) (harg8 : arg8.IsWhole)
  (arg9 : Memref sig .tc .vmem S1x128x1024 .bf16) (harg9 : arg9.IsWhole)
  (arg10 : Memref sig .tc .vmem S128x1024 .f32) (harg10 : arg10.IsWhole)
  (x0 : Vec Ideal S1x64x16 .f32) (x1 : Vec Ideal S1x64x2 .f32) (x2 : Vec Ideal S1x64x2 .f32) (x3 : Vec Ideal S1x128x1024 .fp8e4m3)
  (x4 : Vec Ideal S1x8192x128 .fp8e4m3) (x5 : Vec Ideal S1x1x128x8192 .fp8e4m3)

/-! ## The query operands -/

theorem q_inb (g : Fin 8) : ∀ a, (![0, 0, g.val * 128] : Fin 3 → ℕ) a + S1x128x128.size a ≤ S1x128x1024.size a := fun a =>
  match a with
  | ⟨0, _⟩ => by show 0 + 1 ≤ 1; omega
  | ⟨1, _⟩ => by show 0 + 128 ≤ 128; omega
  | ⟨2, _⟩ => by show g.val * 128 + 128 ≤ 1024; omega

/-- Query head `g`'s codes, as the kernel loads them. -/
def qld (g : Fin 8) : Vec Ideal S1x128x128 .fp8e4m3 :=
  View.readAt (Elt Ideal) arg6.view (Rect.unit (s := S1x128x1024) ![0, 0, g.val * 128] S1x128x128.size (q_inb g)).toLoadRect (harg6.unread x3)

theorem q_at (x : Fin 1024) (d : Fin 128) : kernelRun0_A.sl.r_1 (F := Ideal) c arg6 harg6 x3 (ix2 x d)
    = x3 (ix3 0 (qrOf x) ⟨x.val / 128 * 128 + d.val, by omega⟩) := by
  have e : kernelRun0_A.sl.r_1 (F := Ideal) c arg6 harg6 x3 = k0_pay22 (qld arg6 harg6 x3 0) (qld arg6 harg6 x3 1) (qld arg6 harg6 x3 2)
      (qld arg6 harg6 x3 3) (qld arg6 harg6 x3 4) (qld arg6 harg6 x3 5) (qld arg6 harg6 x3 6) (qld arg6 harg6 x3 7) := rfl
  rw [e, pay22_at x d (qld arg6 harg6 x3)]
  unfold qld
  rw [View.readAt_eq_ld, harg6.read_unread]
  refine View.ld_unit_apply_of _ _ _ _ _ _ fun a => ?_
  match a with
  | ⟨0, _⟩ => rfl
  | ⟨1, _⟩ => exact (Nat.zero_add _).symm
  | ⟨2, _⟩ => rfl

theorem off1_inb (g : Fin 8) : ∀ a, k0_off1 i (BitVec.ofNat 32 g.val) a + S1x1x1.size a ≤ S1x64x16.size a := fun a => by
  rw [off1_eq]
  have h1 := i1_lt i
  have h2 := i2_lt i
  exact match a with
  | ⟨0, _⟩ => by show 0 + 1 ≤ 1; omega
  | ⟨1, _⟩ => by show (i 2).val + 1 ≤ 64; omega
  | ⟨2, _⟩ => by show (i 1).val * 8 + g.val + 1 ≤ 16; omega

/-- Query head `g`'s scale, as the kernel loads it. -/
def sld (g : Fin 8) : Elt Ideal .f32 :=
  View.readAt (Elt Ideal) arg3.view (Rect.unit (s := S1x64x16) (k0_off1 i (BitVec.ofNat 32 g.val)) S1x1x1.size (off1_inb i g)).toLoadRect
    (harg3.unread x0) (Shape.Idx.first (numel1_S1x1x1.symm ▸ Nat.one_pos))

theorem sq_at (x : Fin 1024) : kernelRun0_A.sl.r_10 (F := Ideal) c i arg3 harg3 x0 (ix2 0 x) = x0 (ix3 0 (i 2) (hdOf i x)) := by
  have e : kernelRun0_A.sl.r_10 (F := Ideal) c i arg3 harg3 x0 = k0_pay24 (k0_pay23 (sld i arg3 harg3 x0 0)) (sld i arg3 harg3 x0 1)
      (sld i arg3 harg3 x0 2) (sld i arg3 harg3 x0 3) (sld i arg3 harg3 x0 4) (sld i arg3 harg3 x0 5) (sld i arg3 harg3 x0 6)
      (sld i arg3 harg3 x0 7) := rfl
  rw [e, pay24_at x (sld i arg3 harg3 x0)]
  unfold sld
  rw [View.readAt_eq_ld, harg3.read_unread]
  refine View.ld_unit_apply_of _ _ _ _ _ _ fun a => ?_
  refine Eq.trans ?_ (congrArg (· + _) (congrFun (off1_eq i _) a).symm)
  match a with
  | ⟨0, _⟩ => rfl
  | ⟨1, _⟩ => rfl
  | ⟨2, _⟩ => rfl

/-! ## The run's names -/

/-- The state the diagonal block starts from, as the run spells it. -/
abbrev S1 := stAt i arg4 arg7 arg8 (harg4.unread x1) (harg7.unread x4) (harg8.unread x5) c arg3 harg3 harg4 arg5 harg5 arg6 harg6 harg7 harg8 arg9 harg9 arg10 harg10
    (BitVec.ofNat 32 (i 1).val) (BitVec.ofNat 32 (i 2).val) (kernelRun0_A.sl.r_1 (F := Ideal) c arg6 harg6 x3)
    (kernelRun0_A.sl.r_10 (F := Ideal) c i arg3 harg3 x0) k0_pay25 (harg5.unread x2)
    (arg10.view.writes (Elt Ideal) arg10.view.junk kernelRun0_A.sl.HS0_1) (k0_t1_loop i).trips

/-- The state after the second loop, which takes no trip. -/
abbrev S2 := st_k0_t2 (F := Ideal) Variants.none c none i arg3 harg3 arg4 harg4 arg5 harg5 arg6 harg6 arg7 harg7 arg8 harg8 arg9 harg9 arg10 harg10
    (BitVec.ofNat 32 (i 1).val) (BitVec.ofNat 32 (i 2).val) (kernelRun0_A.sl.r_1 (F := Ideal) c arg6 harg6 x3)
    (kernelRun0_A.sl.r_10 (F := Ideal) c i arg3 harg3 x0) k0_pay25 (kernelRun0_A.sl.v76 i) (harg4.unread x1) (harg5.unread x2) (harg7.unread x4) (harg8.unread x5)
    (arg10.view.writes (Elt Ideal) arg10.view.junk ((S1 c i arg3 harg3 arg4 harg4 arg5 harg5 arg6 harg6 arg7 harg7 arg8 harg8 arg9 harg9 arg10 harg10 x0 x1 x2 x3 x4 x5).2
      ++ kernelRun0_A.sl.HS0_1))
    ((S1 c i arg3 harg3 arg4 harg4 arg5 harg5 arg6 harg6 arg7 harg7 arg8 harg8 arg9 harg9 arg10 harg10 x0 x1 x2 x3 x4 x5).1.1,
      (S1 c i arg3 harg3 arg4 harg4 arg5 harg5 arg6 harg6 arg7 harg7 arg8 harg8 arg9 harg9 arg10 harg10 x0 x1 x2 x3 x4 x5).1.2)
    (k0_t2_loop i).trips

theorem S2_eq : S2 c i arg3 harg3 arg4 harg4 arg5 harg5 arg6 harg6 arg7 harg7 arg8 harg8 arg9 harg9 arg10 harg10 x0 x1 x2 x3 x4 x5
    = ((S1 c i arg3 harg3 arg4 harg4 arg5 harg5 arg6 harg6 arg7 harg7 arg8 harg8 arg9 harg9 arg10 harg10 x0 x1 x2 x3 x4 x5).1, []) := by
  unfold S2
  rw [trips2]
  rfl

/-- The new sum, maximum and accumulator of the diagonal block. -/
abbrev diagM (a : FVec Ideal S1x1024 .f32) : FVec Ideal S1x1024 .f32 :=
  k0_pay40 (kernelRun0_A.sl.r_1 (F := Ideal) c arg6 harg6 x3) (kernelRun0_A.sl.r_10 (F := Ideal) c i arg3 harg3 x0) a
    (kOfM i arg7 (harg7.unread x4)) (sOfM i arg4 (harg4.unread x1))
abbrev diagL (a l : FVec Ideal S1x1024 .f32) : FVec Ideal S1x1024 .f32 :=
  k0_pay31 l (k0_pay38 (kernelRun0_A.sl.r_1 (F := Ideal) c arg6 harg6 x3) (kernelRun0_A.sl.r_10 (F := Ideal) c i arg3 harg3 x0)
      (kOfM i arg7 (harg7.unread x4)) (sOfM i arg4 (harg4.unread x1)))
    (diagM c i arg3 harg3 arg4 harg4 arg6 harg6 arg7 harg7 x0 x1 x3 x4 a)
    (k0_pay41 a (diagM c i arg3 harg3 arg4 harg4 arg6 harg6 arg7 harg7 x0 x1 x3 x4 a))
    (expoM (kernelRun0_A.sl.r_1 (F := Ideal) c arg6 harg6 x3) (kernelRun0_A.sl.r_10 (F := Ideal) c i arg3 harg3 x0)
      (kOfM i arg7 (harg7.unread x4)) (sOfM i arg4 (harg4.unread x1)) a) 126#32
abbrev diagA (a : FVec Ideal S1x1024 .f32) (acc : FVec Ideal S128x1024 .f32) : FVec Ideal S128x1024 .f32 :=
  k0_pay32 (k0_pay6 (vOfM i arg8 (harg8.unread x5))) (k0_pay38 (kernelRun0_A.sl.r_1 (F := Ideal) c arg6 harg6 x3)
      (kernelRun0_A.sl.r_10 (F := Ideal) c i arg3 harg3 x0) (kOfM i arg7 (harg7.unread x4)) (sOfM i arg4 (harg4.unread x1)))
    (diagM c i arg3 harg3 arg4 harg4 arg6 harg6 arg7 harg7 x0 x1 x3 x4 a)
    (k0_pay41 a (diagM c i arg3 harg3 arg4 harg4 arg6 harg6 arg7 harg7 x0 x1 x3 x4 a))
    (expoM (kernelRun0_A.sl.r_1 (F := Ideal) c arg6 harg6 x3) (kernelRun0_A.sl.r_10 (F := Ideal) c i arg3 harg3 x0)
      (kOfM i arg7 (harg7.unread x4)) (sOfM i arg4 (harg4.unread x1)) a) 126#32 acc (sOfM i arg5 (harg5.unread x2))

theorem sum_eq : kernelRun0_A.sl.r_24 (F := Ideal) c i arg3 harg3 arg4 harg4 arg5 harg5 arg6 harg6 arg7 harg7 arg8 harg8 arg9 harg9 arg10 harg10 x0 x1 x2 x3 x4 x5
    = diagL c i arg3 harg3 arg4 harg4 arg6 harg6 arg7 harg7 x0 x1 x3 x4
      (S2 c i arg3 harg3 arg4 harg4 arg5 harg5 arg6 harg6 arg7 harg7 arg8 harg8 arg9 harg9 arg10 harg10 x0 x1 x2 x3 x4 x5).1.1
      (S2 c i arg3 harg3 arg4 harg4 arg5 harg5 arg6 harg6 arg7 harg7 arg8 harg8 arg9 harg9 arg10 harg10 x0 x1 x2 x3 x4 x5).1.2 := by
  rfl

theorem acc_eq : kernelRun0_A.sl.v210 (F := Ideal) c i arg3 harg3 arg4 harg4 arg5 harg5 arg6 harg6 arg7 harg7 arg8 harg8 arg9 harg9 arg10 harg10 x0 x1 x2 x3 x4 x5
    = diagA c i arg3 harg3 arg4 harg4 arg5 harg5 arg6 harg6 arg7 harg7 arg8 harg8 x0 x1 x2 x3 x4 x5
      (S2 c i arg3 harg3 arg4 harg4 arg5 harg5 arg6 harg6 arg7 harg7 arg8 harg8 arg9 harg9 arg10 harg10 x0 x1 x2 x3 x4 x5).1.1
      (arg10.view.read (Elt Ideal) (arg10.view.writes (Elt Ideal) arg10.view.junk
        ((S2 c i arg3 harg3 arg4 harg4 arg5 harg5 arg6 harg6 arg7 harg7 arg8 harg8 arg9 harg9 arg10 harg10 x0 x1 x2 x3 x4 x5).2
          ++ ((S1 c i arg3 harg3 arg4 harg4 arg5 harg5 arg6 harg6 arg7 harg7 arg8 harg8 arg9 harg9 arg10 harg10 x0 x1 x2 x3 x4 x5).2
            ++ kernelRun0_A.sl.HS0_1)))) := by
  unfold kernelRun0_A.sl.v210 kernelRun0_A.sl.HS0_1_1
  rw [View.readCov_full]
  have h : kernelRun0_A.sl.v196 (F := Ideal) c i arg3 harg3 arg4 harg4 arg5 harg5 arg6 harg6 arg7 harg7 arg8 harg8 arg9 harg9 arg10 harg10 x0 x1 x2 x3 x4 x5
      = arg10.view.read (Elt Ideal) (arg10.view.writes (Elt Ideal) arg10.view.junk
        ((S2 c i arg3 harg3 arg4 harg4 arg5 harg5 arg6 harg6 arg7 harg7 arg8 harg8 arg9 harg9 arg10 harg10 x0 x1 x2 x3 x4 x5).2 ++ ((S1 c i arg3 harg3 arg4 harg4 arg5 harg5 arg6 harg6 arg7 harg7 arg8 harg8 arg9 harg9 arg10 harg10 x0 x1 x2 x3 x4 x5).2 ++ kernelRun0_A.sl.HS0_1))) := View.readAt_full _ _ _
  rw [h]
  rfl

/-! ## The column's row at the end -/

variable (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal)

/-- The input blocks are the arrays' at this grid point. -/
structure Arrays : Prop where
  q : ∀ (r : Fin 128) (z : Fin 1024), x3 (ix3 0 r z)
    = Q (ix3 (i 0) (pos (i 2) r) ⟨(i 1).val * 1024 + z.val, by have := i1_lt i; omega⟩)
  sq : ∀ (j : Fin 64) (h : Fin 16), x0 (ix3 0 j h) = SQ (ix3 (i 0) j h)
  k : ∀ (p : Fin 8192) (d : Fin 128), x4 (ix3 0 p d) = K (ix3 (i 0) p (kcol (i 1) d))
  sk : ∀ (j : Fin 64) (g : Fin 2), x1 (ix3 0 j g) = SK (ix3 (i 0) j g)
  v : ∀ (d : Fin 128) (p : Fin 8192), x5 (ix4 0 0 d p) = VT (ix4 (i 0) (i 1) d p)
  sv : ∀ (j : Fin 64) (g : Fin 2), x2 (ix3 0 j g) = SV (ix3 (i 0) j g)

variable (hA : Arrays i x0 x1 x2 x3 x4 x5 Q SQ K SK VT SV)

include hA in
theorem blocks : Blocks i arg4 arg7 arg8 (harg4.unread x1) (harg7.unread x4) (harg8.unread x5) arg5
    (kernelRun0_A.sl.r_1 (F := Ideal) c arg6 harg6 x3) (kernelRun0_A.sl.r_10 (F := Ideal) c i arg3 harg3 x0) (harg5.unread x2) Q SQ K SK VT SV where
  q x d := by
    rw [q_at, hA.q]
    exact congrArg (fun z => Q (ix3 (i 0) (pos (i 2) (qrOf x)) z)) (Fin.ext (by
      show (i 1).val * 1024 + (x.val / 128 * 128 + d.val) = ((i 1).val * 8 + x.val / 128) * 128 + d.val; omega))
  sq x := (sq_at c i arg3 harg3 x0 x).trans (hA.sq _ _)
  k p d := by rw [harg7.read_unread]; exact hA.k p d
  sk j := by rw [harg4.read_unread]; exact hA.sk j (i 1)
  v d p := by rw [harg8.read_unread]; exact hA.v d p
  sv j := by rw [harg5.read_unread]; exact hA.sv j (i 1)

theorem zero_read : arg10.view.read (Elt Ideal) (arg10.view.writes (Elt Ideal) arg10.view.junk (kernelRun0_A.sl.HS0_1 (F := Ideal)))
    = k0_pay26 (k0_pay25 (F := Ideal)) := by
  unfold kernelRun0_A.sl.HS0_1
  rw [View.read_writes_full]

include hA in
theorem final_row (x : Fin 1024) : ∃ m, Sim m
    (kernelRun0_A.sl.r_24 (F := Ideal) c i arg3 harg3 arg4 harg4 arg5 harg5 arg6 harg6 arg7 harg7 arg8 harg8 arg9 harg9 arg10 harg10 x0 x1 x2 x3 x4 x5)
    (kernelRun0_A.sl.v210 (F := Ideal) c i arg3 harg3 arg4 harg4 arg5 harg5 arg6 harg6 arg7 harg7 arg8 harg8 arg9 harg9 arg10 harg10 x0 x1 x2 x3 x4 x5)
    x (colRows i Q SQ K SK VT SV x ((i 2).val + 1)) := by
  have hB := blocks c i arg3 harg3 arg4 harg4 arg5 harg5 arg6 harg6 arg7 harg7 arg8 harg8 x0 x1 x2 x3 x4 x5 Q SQ K SK VT SV hA
  have h := loop_row i arg4 arg7 arg8 (harg4.unread x1) (harg7.unread x4) (harg8.unread x5) c arg3 harg3 harg4 arg5 harg5 arg6 harg6 harg7 harg8
    arg9 harg9 arg10 harg10 (BitVec.ofNat 32 (i 1).val) (BitVec.ofNat 32 (i 2).val) _ _ k0_pay25 (harg5.unread x2) Q SQ K SK VT SV x hB
    (arg10.view.writes (Elt Ideal) arg10.view.junk kernelRun0_A.sl.HS0_1) (zero_read arg10) _ le_rfl
  rw [← View.writes_append, trips1] at h
  rw [sum_eq, acc_eq, S2_eq, List.nil_append]
  refine ⟨diagM c i arg3 harg3 arg4 harg4 arg6 harg6 arg7 harg7 x0 x1 x3 x4
    (S1 c i arg3 harg3 arg4 harg4 arg5 harg5 arg6 harg6 arg7 harg7 arg8 harg8 arg9 harg9 arg10 harg10 x0 x1 x2 x3 x4 x5).1.1, Eq.mpr (congrArg (Sim _ _ _ x) (rows_succ Q SQ K SK VT SV (i 0) (hdOf i x) (i 2) (qrOf x) (i 2).val (i2_lt i))) ?_⟩
  have hv : (fun (k' : Fin 128) (d : Fin 128) => VT (ix4 (i 0) (kvOf (hdOf i x)) d (pos ⟨(i 2).val, i2_lt i⟩ k')))
      = fun k' d => vOfM i arg8 (harg8.unread x5) (ix4 0 0 d k') := by
    funext k' d; rw [ld_vM, hB.v, kv_eq]; rfl
  have hsv : SV (ix3 (i 0) ⟨(i 2).val, i2_lt i⟩ (kvOf (hdOf i x))) = sOfM i arg5 (harg5.unread x2) := by
    rw [ld_sM, kv_eq]; exact (hB.sv (i 2)).symm
  rw [hv, hsv]
  refine sim_diag _ _ _ _ _ _ _ _ _ _ _ _ ?_ (scores_diag i arg4 arg7 arg8 _ _ _ arg5 _ _ _ Q SQ K SK VT SV x hB)
  unfold S1
  rw [trips1]
  exact h

/-- The normalised accumulator is the row's output. -/
theorem norm_at (x : Fin 1024) (d : Fin 128) (m l : FVec Ideal S1x1024 .f32) (acc : FVec Ideal S128x1024 .f32) (R : Row) (h : Sim m l acc x R)
    (hR : Good R) : k0_pay52 l acc (ix2 d x) = finish R d := by
  have e : k0_pay52 l acc (ix2 d x) = acc (ix2 d x) * Ideal.div 1 (l (ix2 0 x)) := by
    unfold k0_pay52
    pointwise
  rw [e, h.2.1, h.2.2, mul_reciprocal hR]

end Cert.Proof.Ker

end
-- ==== Proof.KerResult.lean ====
/- The kernel's run, read: its result is the attention of its arguments. -/
module

public import proofs.«01_k».proof.Proof.KerPoint
public import proofs.«01_k».proof.Proof.Gen.KernelIdeal.Value
public import Idealize.ShloMosaic.Lib.Pipeline.ValueKit
public import Idealize.ShloMosaic.Lib.Pipeline.Covers

@[expose] public section

set_option maxRecDepth 16384
set_option maxHeartbeats 4000000

noncomputable section

namespace Cert.Proof.Ker

open Cert.KernelIdeal Cert.KernelIdeal.Gen
open Idealize.ShloMosaic Idealize.ShloMosaic.TcCoe Idealize.ShloMosaic.Tactic Idealize.SL.Sem
open Idealize.ShloMosaic.Pipeline (Dat)

/-! ## The output block -/

section block

variable (l : FVec Ideal S1x1024 .f32) (acc : FVec Ideal S128x1024 .f32) (e : FVec Ideal S128x1024 .f32) (r d : Fin 128)

theorem out0_at : k0_pay53 l acc (ix3 0 r d) = k0_pay52 l acc (ix2 d ⟨0 + r.val, by omega⟩) := by
  unfold k0_pay53
  pointwise
theorem out1_at : k0_pay54 l acc (ix3 0 r d) = k0_pay52 l acc (ix2 d ⟨128 + r.val, by omega⟩) := by
  unfold k0_pay54
  pointwise
theorem out2_at : k0_pay55 l acc (ix3 0 r d) = k0_pay52 l acc (ix2 d ⟨256 + r.val, by omega⟩) := by
  unfold k0_pay55
  pointwise
theorem out3_at : k0_pay1 (k0_pay56 l acc) (ix3 0 r d) = k0_pay52 l acc (ix2 d ⟨384 + r.val, by omega⟩) := by
  unfold k0_pay1 k0_pay56
  pointwise
theorem out4_at : k0_pay2 e (ix3 0 r d) = e (ix2 d ⟨512 + r.val, by omega⟩) := by
  unfold k0_pay2
  pointwise
theorem out5_at : k0_pay3 e (ix3 0 r d) = e (ix2 d ⟨640 + r.val, by omega⟩) := by
  unfold k0_pay3
  pointwise
theorem out6_at : k0_pay4 e (ix3 0 r d) = e (ix2 d ⟨768 + r.val, by omega⟩) := by
  unfold k0_pay4
  pointwise
theorem out7_at : k0_pay5 e (ix3 0 r d) = e (ix2 d ⟨896 + r.val, by omega⟩) := by
  unfold k0_pay5
  pointwise

end block

section point

variable (c : Dev nD) (i : grid0.Coords) (arg3 : Memref sig .tc .smem S1x64x16 .f32) (harg3 : arg3.IsWhole)
  (arg4 : Memref sig .tc .smem S1x64x2 .f32) (harg4 : arg4.IsWhole) (arg5 : Memref sig .tc .smem S1x64x2 .f32) (harg5 : arg5.IsWhole)
  (arg6 : Memref sig .tc .vmem S1x128x1024 .fp8e4m3) (harg6 : arg6.IsWhole)
  (arg7 : Memref sig .tc .vmem S1x8192x128 .fp8e4m3) (harg7 : arg7.IsWhole)
  (arg8 : Memref sig .tc .vmem S1x1x128x8192 .fp8e4m3) (harg8 : arg8.IsWhole)
  (arg9 : Memref sig .tc .vmem S1x128x1024 .bf16) (harg9 : arg9.IsWhole)
  (arg10 : Memref sig .tc .vmem S128x1024 .f32) (harg10 : arg10.IsWhole)
  (x0 : Vec Ideal S1x64x16 .f32) (x1 : Vec Ideal S1x64x2 .f32) (x2 : Vec Ideal S1x64x2 .f32) (x3 : Vec Ideal S1x128x1024 .fp8e4m3)
  (x4 : Vec Ideal S1x8192x128 .fp8e4m3) (x5 : Vec Ideal S1x1x128x8192 .fp8e4m3)
  (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal)
  (hA : Arrays i x0 x1 x2 x3 x4 x5 Q SQ K SK VT SV)

include hA in
/-- The normalised accumulator at a column, read in the attention's own indices. -/
theorem norm_attention (x : Fin 1024) (d : Fin 128) (y : (⟨3, ![8, 8192, 2048]⟩ : Shape).Idx) (h0 : y 0 = i 0)
    (h1 : (y 1).val = (i 2).val * 128 + x.val % 128) (h2 : (y 2).val = (i 1).val * 1024 + x.val / 128 * 128 + d.val) :
    k0_pay52 (kernelRun0_A.sl.r_24 (F := Ideal) c i arg3 harg3 arg4 harg4 arg5 harg5 arg6 harg6 arg7 harg7 arg8 harg8 arg9 harg9 arg10 harg10 x0 x1 x2 x3 x4 x5)
      (kernelRun0_A.sl.v210 (F := Ideal) c i arg3 harg3 arg4 harg4 arg5 harg5 arg6 harg6 arg7 harg7 arg8 harg8 arg9 harg9 arg10 harg10 x0 x1 x2 x3 x4 x5) (ix2 d x)
      = attention Q SQ K SK VT SV y := by
  obtain ⟨m, hm⟩ := final_row c i arg3 harg3 arg4 harg4 arg5 harg5 arg6 harg6 arg7 harg7 arg8 harg8 arg9 harg9 arg10 harg10 x0 x1 x2 x3 x4 x5
    Q SQ K SK VT SV hA x
  rw [norm_at x d m _ _ _ hm (rows_good _ _ _ _ _ _ _ _ _ _ _)]
  unfold attention
  have e1 : (⟨(y 2).val / 128, by have : (y 2).val < 2048 := (y 2).isLt; omega⟩ : Fin 16) = hdOf i x :=
    Fin.ext (by show (y 2).val / 128 = (i 1).val * 8 + x.val / 128; omega)
  have e2 : (⟨(y 1).val / 128, by have : (y 1).val < 8192 := (y 1).isLt; omega⟩ : Fin 64) = i 2 :=
    Fin.ext (by show (y 1).val / 128 = (i 2).val; omega)
  have e3 : (⟨(y 1).val % 128, Nat.mod_lt _ (by omega)⟩ : Fin 128) = qrOf x :=
    Fin.ext (by show (y 1).val % 128 = x.val % 128; omega)
  have e4 : (⟨(y 2).val % 128, Nat.mod_lt _ (by omega)⟩ : Fin 128) = d :=
    Fin.ext (by show (y 2).val % 128 = d.val; omega)
  have e5 : (y 1).val / 128 + 1 = (i 2).val + 1 := by omega
  rw [e1, e2, e3, e4, e5, h0]

include hA in
theorem point_eq (r : Fin 128) (z : Fin 1024) (y : (⟨3, ![8, 8192, 2048]⟩ : Shape).Idx) (h0 : y 0 = i 0)
    (h1 : (y 1).val = (i 2).val * 128 + r.val) (h2 : (y 2).val = (i 1).val * 1024 + z.val) :
    out0_A_6 (F := Ideal) c i arg3 harg3 arg4 harg4 arg5 harg5 arg6 harg6 arg7 harg7 arg8 harg8 arg9 harg9 arg10 harg10 x0 x1 x2 x3 x4 x5 (ix3 0 r z)
      = attention Q SQ K SK VT SV y := by
  have key := fun x d => norm_attention c i arg3 harg3 arg4 harg4 arg5 harg5 arg6 harg6 arg7 harg7 arg8 harg8 arg9 harg9 arg10 harg10
    x0 x1 x2 x3 x4 x5 Q SQ K SK VT SV hA x d y h0
  unfold out0_A_6
  rw [View.read_writes_eq_canon _ _ _ (cover0_A_6 c i arg3 harg3 arg4 harg4 arg5 harg5 arg6 harg6 arg7 harg7 arg8 harg8 arg9 harg9 arg10 harg10
    x0 x1 x2 x3 x4 x5)]
  refine View.canon_eq_of_allAt _ _ _ (cover0_A_6 c i arg3 harg3 arg4 harg4 arg5 harg5 arg6 harg6 arg7 harg7 arg8 harg8 arg9 harg9 arg10 harg10
    x0 x1 x2 x3 x4 x5 _) ?_
  unfold kernelRun0_A
  dsimp only
  refine View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_nil _ _))))))))
  all_goals
    have hr : r.val = 0 + (x 1).val := hx 1
    have x1_lt : (x 1).val < 128 := (x 1).isLt
    have x2_lt : (x 2).val < 128 := (x 2).isLt
    have ex : x = ix3 0 (⟨(x 1).val, x1_lt⟩ : Fin 128) (⟨(x 2).val, x2_lt⟩ : Fin 128) := funext fun a =>
      match a with
      | ⟨0, _⟩ => Fin.ext (by have : (x 0).val < 1 := (x 0).isLt; show (x 0).val = 0; omega)
      | ⟨1, _⟩ => rfl
      | ⟨2, _⟩ => rfl
  · have hz : z.val = 896 + (x 2).val := hx 2
    rw [ex]
    refine (out7_at _ _ _).trans (key _ _ ?_ ?_) <;> dsimp only <;> omega
  · have hz : z.val = 768 + (x 2).val := hx 2
    rw [ex]
    refine (out6_at _ _ _).trans (key _ _ ?_ ?_) <;> dsimp only <;> omega
  · have hz : z.val = 640 + (x 2).val := hx 2
    rw [ex]
    refine (out5_at _ _ _).trans (key _ _ ?_ ?_) <;> dsimp only <;> omega
  · have hz : z.val = 512 + (x 2).val := hx 2
    rw [ex]
    refine (out4_at _ _ _).trans (key _ _ ?_ ?_) <;> dsimp only <;> omega
  · have hz : z.val = 384 + (x 2).val := hx 2
    rw [ex]
    refine (out3_at _ _ _ _).trans (key _ _ ?_ ?_) <;> dsimp only <;> omega
  · have hz : z.val = 256 + (x 2).val := hx 2
    rw [ex]
    refine (out2_at _ _ _ _).trans (key _ _ ?_ ?_) <;> dsimp only <;> omega
  · have hz : z.val = 128 + (x 2).val := hx 2
    rw [ex]
    refine (out1_at _ _ _ _).trans (key _ _ ?_ ?_) <;> dsimp only <;> omega
  · have hz : z.val = 0 + (x 2).val := hx 2
    rw [ex]
    refine (out0_at _ _ _ _).trans (key _ _ ?_ ?_) <;> dsimp only <;> omega

end point

/-! ## The blocks and the final array -/

variable (m : (ℓ : Loc nD τ sig) → Buf (Elt Ideal) ℓ) (ρ : Dev nD → PrngReg)

theorem word (n : ℕ) (h : n < 2 ^ 32) : (BitVec.ofNat 32 n).toNat = n := by rw [BitVec.toNat_ofNat, Nat.mod_eq_of_lt h]

section idx

variable (t : Fin cfg0.N)

theorem w0 : (BitVec.ofNat 32 (grid0.coords t 0).val).toNat = (grid0.coords t 0).val :=
  word _ (lt_trans (i0_lt _) (by norm_num))
theorem w1 : (BitVec.ofNat 32 (grid0.coords t 1).val).toNat = (grid0.coords t 1).val :=
  word _ (lt_trans (i1_lt _) (by norm_num))
theorem w2 : (BitVec.ofNat 32 (grid0.coords t 2).val).toNat = (grid0.coords t 2).val :=
  word _ (lt_trans (i2_lt _) (by norm_num))

theorem idx0 : win0_0.index t = ![(grid0.coords t 0).val, 0, 0] := by
  show ![(BitVec.ofNat 32 _).toNat, 0, 0] = _
  rw [w0]
theorem idx1 : win0_1.index t = ![(grid0.coords t 0).val, 0, 0] := by
  show ![(BitVec.ofNat 32 _).toNat, 0, 0] = _
  rw [w0]
theorem idx2 : win0_2.index t = ![(grid0.coords t 0).val, 0, 0] := by
  show ![(BitVec.ofNat 32 _).toNat, 0, 0] = _
  rw [w0]
theorem idx3 : win0_3.index t = ![(grid0.coords t 0).val, (grid0.coords t 2).val, (grid0.coords t 1).val] := by
  show ![(BitVec.ofNat 32 _).toNat, (BitVec.ofNat 32 _).toNat, (BitVec.ofNat 32 _).toNat] = _
  rw [w0, w1, w2]
theorem idx4 : win0_4.index t = ![(grid0.coords t 0).val, 0, (grid0.coords t 1).val] := by
  show ![(BitVec.ofNat 32 _).toNat, 0, (BitVec.ofNat 32 _).toNat] = _
  rw [w0, w1]
theorem idx5 : win0_5.index t = ![(grid0.coords t 0).val, (grid0.coords t 1).val, 0, 0] := by
  show ![(BitVec.ofNat 32 _).toNat, (BitVec.ofNat 32 _).toNat, 0, 0] = _
  rw [w0, w1]
theorem idx6 : win0_6.index t = ![(grid0.coords t 0).val, (grid0.coords t 2).val, (grid0.coords t 1).val] := by
  show ![(BitVec.ofNat 32 _).toNat, (BitVec.ofNat 32 _).toNat, (BitVec.ofNat 32 _).toNat] = _
  rw [w0, w1, w2]

end idx

theorem arrays (c : Dev nD) (t : Fin cfg0.N) : Arrays (grid0.coords t) (iblk m c 0 t) (iblk m c 1 t) (iblk m c 2 t) (iblk m c 3 t) (iblk m c 4 t)
    (iblk m c 5 t) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) where
  q r z := by blk_ext [iblk, V, idx3 t, pos]
  sq j h := by blk_ext [iblk, V, idx0 t]
  k p d := by blk_ext [iblk, V, idx4 t, kcol]
  sk j g := by blk_ext [iblk, V, idx1 t]
  v d p := by blk_ext [iblk, V, idx5 t]
  sv j g := by blk_ext [iblk, V, idx2 t]

/-- The attention of the arguments. -/
abbrev result (c : Dev nD) : Buf (Elt Ideal) ((c : Thread nD τ).loc main_v0) :=
  attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem covers6 : (cfg0.win 6).Covers :=
  (cfg0.win 6).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 64 := lt_of_lt_of_eq (β (⟨1, by decide⟩ : Fin 3)).isLt (by decide)
    have h2 : (β (⟨2, by decide⟩ : Fin 3)).val < 2 := lt_of_lt_of_eq (β (⟨2, by decide⟩ : Fin 3)).isLt (by decide)
    refine ⟨fun a => match a with | ⟨0, _⟩ => (⟨_, h0⟩ : Fin 8) | ⟨1, _⟩ => (⟨_, h2⟩ : Fin 2) | ⟨2, _⟩ => (⟨_, h1⟩ : Fin 64), fun a => ?_⟩
    match a with
    | ⟨0, _⟩ => exact word _ (lt_trans h0 (by norm_num))
    | ⟨1, _⟩ => exact word _ (lt_trans h1 (by norm_num))
    | ⟨2, _⟩ => exact word _ (lt_trans h2 (by norm_num))

theorem final_o (c : Dev nD) : (dats m 0 c).arrAt 6 cfg0.N = result m c := by
  refine (dats m 0 c).arrAt_eq_of_covers 6 _ covers6 fun t hf (y : S1x128x1024.Idx) => ?_
  blk_simp
  rw [after0_6]
  have y1_lt : (y 1).val < 128 := (y 1).isLt
  have y2_lt : (y 2).val < 1024 := (y 2).isLt
  have y0_lt : (y 0).val < 1 := (y 0).isLt
  have ey : y = ix3 0 (⟨(y 1).val, y1_lt⟩ : Fin 128) (⟨(y 2).val, y2_lt⟩ : Fin 1024) := funext fun a =>
    match a with
    | ⟨0, _⟩ => Fin.ext (by show (y 0).val = 0; omega)
    | ⟨1, _⟩ => rfl
    | ⟨2, _⟩ => rfl
  have e : ∀ a : Fin 3, (((win0_6.blk t).view.emb y) a : ℕ) = win0_6.index t a * win0_6.size a + y a := fun a => win0_6.rect_emb_val t y a
  unfold outsAt0
  refine (congrArg _ ey).trans (point_eq c (grid0.coords t) _ _ _ _ _ _ _ _ _ _ _ _ _ _ _ _ _ _ _ _ _ _ _ _ _ _ _ _ (arrays m c t) _ _
    ((win0_6.blk t).view.emb y) (Fin.ext ?_) ?_ ?_)
  · refine (e 0).trans ?_
    rw [idx6]
    show (grid0.coords t 0).val * 1 + (y 0).val = (grid0.coords t 0).val
    omega
  · refine (e 1).trans ?_
    rw [idx6]
    rfl
  · refine (e 2).trans ?_
    rw [idx6]
    rfl

/-- The run, read: the result is the attention of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_o m c), (h c).2⟩) (Cert.KernelIdeal.Value.run_blocks m ρ)

end Cert.Proof.Ker

end
-- ==== Proof.QuantScalar.lean ====
/- The arithmetic of one quantised block over the extended reals: the power of two the reference finds with a logarithm, and
   the one the kernel finds by searching the exponent field, are the same for every block whose largest magnitude is zero or
   a normal number. -/
module

public import proofs.«01_k».proof.Proof.Scalar

@[expose] public section

set_option maxRecDepth 16384

noncomputable section

namespace Cert.Proof

open Idealize.ShloMosaic

/-- The largest magnitude of a block of 128 tokens and 128 channels. -/
def amaxOf (f : Fin 128 → Fin 128 → EReal) : EReal :=
  Finset.univ.sup fun d => Finset.univ.sup fun r => max (f r d) (-f r d)

/-- The block's scale. -/
def scaleOf (a : EReal) : EReal := Ideal.exp2 (refExpo a)

/-- What a block's entries are multiplied by. -/
def invOf (a : EReal) : EReal := Ideal.exp2 (0 - refExpo a)

/-- An entry's code, in a block whose largest magnitude is `a`. -/
def codeOf (x a : EReal) : EReal := min ((448 : ℝ) : EReal) (max ((-448 : ℝ) : EReal) (x * invOf a))

/-- A block's largest magnitude is zero or a normal number. -/
def InRange (a : EReal) : Prop :=
  a = 0 ∨ (((2 : ℝ) ^ (-117 : ℤ) : ℝ) : EReal) ≤ a ∧ a ≤ ((255 * (2 : ℝ) ^ (120 : ℤ) : ℝ) : EReal)

theorem ofBits_neg_448 : Ideal.ofBits .f32 0xC3E00000#32 = ((-448 : ℝ) : EReal) := by
  simp [Ideal.ofBits, Ideal.ieee, -EReal.coe_mul]; norm_num

theorem up_bounds {x : ℝ} (hx : x < (2 : ℝ) ^ (126 : ℤ)) {n b : ℕ} (hn : n < 253) (hb : 1 ≤ b) (hs : n + 2 * b ≤ 256)
    (hl : n = 0 ∨ (2 : ℝ) ^ ((n : ℤ) - 127) ≤ x) (hu : x < (2 : ℝ) ^ ((n : ℤ) + 2 * b - 127)) :
    ∃ n' : ℕ, up x (BitVec.ofNat 32 n) (BitVec.ofNat 32 b) = BitVec.ofNat 32 n' ∧ n' < 253 ∧ n' + b ≤ 256
      ∧ (n' = 0 ∨ (2 : ℝ) ^ ((n' : ℤ) - 127) ≤ x) ∧ x < (2 : ℝ) ^ ((n' : ℤ) + b - 127) := by
  unfold up
  rw [← BitVec.ofNat_add, fromBiased_eq _ (by omega) (by omega)]
  split
  case isTrue h =>
    have : x < (2 : ℝ) ^ (((n + b : ℕ) : ℤ) - 127) := by exact_mod_cast h
    push_cast at this
    exact ⟨n, rfl, hn, by omega, hl, this⟩
  case isFalse h =>
    have h' : (2 : ℝ) ^ (((n + b : ℕ) : ℤ) - 127) ≤ x := by exact_mod_cast not_lt.1 h
    refine ⟨n + b, rfl, ?_, by omega, .inr h', ?_⟩
    · have := (zpow_lt_zpow_iff_right₀ (one_lt_two (α := ℝ))).1 (h'.trans_lt hx)
      omega
    · push_cast; convert hu using 2; ring

/-- The exponent field found is that of the largest power of two not above `x`. -/
theorem bisect_bounds {x : ℝ} (hx : x < (2 : ℝ) ^ (126 : ℤ)) : ∃ n : ℕ, bisect x = BitVec.ofNat 32 n ∧ n < 253
    ∧ (n = 0 ∨ (2 : ℝ) ^ ((n : ℤ) - 127) ≤ x) ∧ x < (2 : ℝ) ^ ((n : ℤ) - 126) := by
  have h0 : x < (2 : ℝ) ^ (((0 : ℕ) : ℤ) + 2 * (128 : ℕ) - 127) := hx.trans (by norm_num)
  obtain ⟨n1, e1, g1, s1, l1, u1⟩ := up_bounds hx (n := 0) (b := 128) (by omega) (by omega) (by omega) (.inl rfl) h0
  obtain ⟨n2, e2, g2, s2, l2, u2⟩ := up_bounds hx (n := n1) (b := 64) g1 (by omega) (by omega) l1 (by convert u1 using 3; norm_num)
  obtain ⟨n3, e3, g3, s3, l3, u3⟩ := up_bounds hx (n := n2) (b := 32) g2 (by omega) (by omega) l2 (by convert u2 using 3; norm_num)
  obtain ⟨n4, e4, g4, s4, l4, u4⟩ := up_bounds hx (n := n3) (b := 16) g3 (by omega) (by omega) l3 (by convert u3 using 3; norm_num)
  obtain ⟨n5, e5, g5, s5, l5, u5⟩ := up_bounds hx (n := n4) (b := 8) g4 (by omega) (by omega) l4 (by convert u4 using 3; norm_num)
  obtain ⟨n6, e6, g6, s6, l6, u6⟩ := up_bounds hx (n := n5) (b := 4) g5 (by omega) (by omega) l5 (by convert u5 using 3; norm_num)
  obtain ⟨n7, e7, g7, s7, l7, u7⟩ := up_bounds hx (n := n6) (b := 2) g6 (by omega) (by omega) l6 (by convert u6 using 3; norm_num)
  obtain ⟨n8, e8, g8, s8, l8, u8⟩ := up_bounds hx (n := n7) (b := 1) g7 (by omega) (by omega) l7 (by convert u7 using 3; norm_num)
  refine ⟨n8, ?_, g8, l8, by convert u8 using 2; push_cast; ring⟩
  unfold bisect
  rw [show (0#32 : BitVec 32) = BitVec.ofNat 32 0 from rfl, e1, e2, e3, e4, e5, e6, e7, e8]

/-- A field `n` one above which the scale's lies, and the field of its reciprocal. -/
theorem fields_of {a : EReal} {n : ℕ} (h1 : 1 ≤ n) (h2 : n < 253) (hk : kerExpo (a * c448) = BitVec.ofNat 32 n)
    (hr : refExpo a = (((n : ℝ) - 126 : ℝ) : EReal)) :
    fromBiased (kerExpo (a * c448) + 1#32) = scaleOf a ∧ fromBiased (253#32 - kerExpo (a * c448)) = invOf a := by
  have hsub : 253#32 - BitVec.ofNat 32 n = BitVec.ofNat 32 (253 - n) := by
    apply BitVec.eq_of_toNat_eq
    simp only [BitVec.toNat_sub, BitVec.toNat_ofNat]
    omega
  unfold scaleOf invOf
  rw [hk, hr, hsub, show (1#32 : BitVec 32) = BitVec.ofNat 32 1 from rfl, ← BitVec.ofNat_add,
    fromBiased_eq _ (by omega) (by omega), fromBiased_eq _ (by omega) (by omega), zero_sub, ← EReal.coe_neg, exp2_coe, exp2_coe]
  constructor
  · rw [← show (((n : ℤ) - 126 : ℤ) : ℝ) = (n : ℝ) - 126 by push_cast; ring, Real.rpow_intCast]
    congr 2; push_cast; ring
  · rw [← show ((126 - (n : ℤ) : ℤ) : ℝ) = -((n : ℝ) - 126) by push_cast; ring, Real.rpow_intCast]
    congr 2; push_cast [show n ≤ 253 by omega]; ring

/-- The kernel's scale and multiplier are the reference's. -/
theorem kernel_scale {a : EReal} (h : InRange a) :
    fromBiased (kerExpo (a * c448) + 1#32) = scaleOf a ∧ fromBiased (253#32 - kerExpo (a * c448)) = invOf a := by
  rcases h with rfl | ⟨hlo, hhi⟩
  · refine fields_of (n := 126) (by omega) (by omega) ?_ (by unfold refExpo; rw [if_pos rfl]; norm_num)
    obtain ⟨n, hn, -, hl, -⟩ := bisect_bounds (x := 0) (by positivity)
    rcases hl with rfl | hl
    · rw [zero_mul, ← EReal.coe_zero]
      unfold kerExpo
      rw [hn]; rfl
    · exact absurd hl (not_le.2 (by positivity))
  · obtain ⟨a, rfl⟩ : ∃ r : ℝ, a = r := by
      induction a with
      | bot => exact absurd hlo (not_le.2 (EReal.bot_lt_coe _))
      | top => exact absurd hhi (not_le.2 (EReal.coe_lt_top _))
      | coe r => exact ⟨r, rfl⟩
    have hlo' : (2 : ℝ) ^ (-117 : ℤ) ≤ a := by exact_mod_cast hlo
    have hhi' : a ≤ 255 * (2 : ℝ) ^ (120 : ℤ) := by exact_mod_cast hhi
    have ha : 0 < a := lt_of_lt_of_le (by positivity) hlo'
    have hx0 : 0 < a * c448 := mul_pos ha c448_pos
    have hx1 : (2 : ℝ) ^ (-126 : ℤ) ≤ a * c448 := by
      have h1 : (2 : ℝ) ^ (-9 : ℤ) ≤ c448 := by unfold c448; norm_num
      calc (2 : ℝ) ^ (-126 : ℤ) = (2 : ℝ) ^ (-117 : ℤ) * (2 : ℝ) ^ (-9 : ℤ) := by rw [← zpow_add₀ two_ne_zero]; norm_num
        _ ≤ a * c448 := mul_le_mul hlo' h1 (by positivity) ha.le
    have hx2 : a * c448 < (2 : ℝ) ^ (126 : ℤ) := by
      have h2 := c448_lt
      calc a * c448 ≤ 255 * (2 : ℝ) ^ (120 : ℤ) * c448 := mul_le_mul_of_nonneg_right hhi' c448_pos.le
        _ < 255 * (2 : ℝ) ^ (120 : ℤ) * (2 : ℝ) ^ (-8 : ℤ) := by
            have : (0 : ℝ) < 255 * (2 : ℝ) ^ (120 : ℤ) := by positivity
            exact mul_lt_mul_of_pos_left h2 this
        _ < (2 : ℝ) ^ (126 : ℤ) := by norm_num
    obtain ⟨n, hn, h253, hl, hu⟩ := bisect_bounds hx2
    have hn0 : n ≠ 0 := fun e => by
      subst e
      exact absurd (hu.trans_le (by norm_num)) (not_lt.2 hx1)
    have hl' := hl.resolve_left hn0
    refine fields_of (n := n) (by omega) h253 ?_ ?_
    · rw [← EReal.coe_mul]
      unfold kerExpo
      rw [hn, if_neg]
      intro e
      have := congrArg BitVec.toNat e
      rw [BitVec.toNat_ofNat] at this
      simp at this
      omega
    · obtain ⟨e, he, -⟩ := refExpo_spec a ha.le
      unfold refExpo
      rw [if_neg (by exact_mod_cast ha.ne'), ← EReal.coe_mul]
      have h1 : Ideal.log ((a * c448 : ℝ) : EReal) = ((Real.log (a * c448) : ℝ) : EReal) := by
        show (if a * c448 ≤ 0 then (⊥ : EReal) else _) = _
        rw [if_neg (not_le.2 hx0)]
      have hp := Real.log_pos one_lt_two
      rw [h1]
      unfold Ideal.div
      rw [if_neg (by exact_mod_cast hp.ne'), ← EReal.coe_inv, ← EReal.coe_mul]
      have hf : ⌊Real.log (a * c448) * (Real.log 2)⁻¹⌋ = (n : ℤ) - 127 := by
        rw [Int.floor_eq_iff, ← div_eq_mul_inv]
        constructor
        · rw [le_div_iff₀ hp, ← Real.log_zpow]
          exact Real.log_le_log (by positivity) hl'
        · rw [div_lt_iff₀ hp]
          have : (((n : ℤ) - 127 : ℤ) : ℝ) + 1 = (((n : ℤ) - 126 : ℤ) : ℝ) := by push_cast; ring
          rw [this, ← Real.log_zpow]
          exact Real.log_lt_log hx0 hu
      show (((⌊Real.log (a * c448) * (Real.log 2)⁻¹⌋ : ℤ) : ℝ) : EReal) + 1 = _
      rw [hf, ← EReal.coe_one, ← EReal.coe_add]
      congr 1; push_cast; ring

end Cert.Proof

end
-- ==== Proof.QuantTile.lean ====
/- One tile of the quantising kernel: 128 tokens by 128 channels, as the vector operations the kernel applies to it, and what
   they are at an index. -/
module

public import proofs.«01_k».proof.Proof.QuantScalar
public import proofs.«01_k».proof.Proof.Gen.KernelKIdeal
public import Idealize.ShloMosaic.Lib.Pointwise
public import Idealize.ShloMosaic.Lib.Pipeline.ValueKit

@[expose] public section

set_option maxRecDepth 16384
set_option maxHeartbeats 4000000

noncomputable section

namespace Cert.Proof.Quant

open Cert.KernelKIdeal Cert.KernelKIdeal.Gen
open Idealize.ShloMosaic Idealize.ShloMosaic.TcCoe Idealize.ShloMosaic.Tactic

variable (t : Vec Ideal S1x128x128 .bf16)

/-- The tile as a matrix. -/
def mat : FVec Ideal S128x128 .bf16 := shapeCast S128x128 t shapeCasts_S1x128x128_S128x128

/-- Its largest magnitude: over the tokens, then over the channels. -/
def tileMax : FVec Ideal S1x1 .f32 :=
  shapeCast S1x1 (multiReduction .maximumf [1] S1 (extf .f32 (shapeCast S1x128
    (multiReduction .maximumf [0] S128 (absf (mat t)) 0xFF80#16 reduces_S128x128_S128 (.inr rfl) rfl)
    shapeCasts_S128_S1x128) bitsLt_bf16_f32) 0xFF800000#32 reduces_S1x128_S1 (.inl rfl) rfl) shapeCasts_S1_S1x1

/-- What the exponent is searched for. -/
def tileArg : FVec Ideal S1x1 .f32 := mulf (tileMax t) (broadcast S1x1 (Scalar.ofBits .f32 0x3B124925#32))

/-- One step of the bit search. -/
def upT (a : FVec Ideal S1x1 .f32) (e : IVec S1x1 32) (b : BitVec 32) : IVec S1x1 32 :=
  select (cmpf .olt a (bitcastToFloat .f32 (shli (addi e (broadcast S1x1 b)) (broadcast S1x1 23#32)))) e
    (addi e (broadcast S1x1 b))

/-- All eight steps. -/
def searchT (a : FVec Ideal S1x1 .f32) : IVec S1x1 32 :=
  upT a (upT a (upT a (upT a (upT a (upT a (upT a (upT a (broadcast S1x1 0#32) 128#32) 64#32) 32#32) 16#32) 8#32) 4#32) 2#32) 1#32

/-- The exponent, a zero block's being that of one half. -/
def expoT (a : FVec Ideal S1x1 .f32) : IVec S1x1 32 :=
  select (cmpi .eq (searchT a) (broadcast S1x1 0#32)) (broadcast S1x1 126#32) (searchT a)

/-- The tile's scale. -/
def tileScale : FVec Ideal S1x1 .f32 :=
  bitcastToFloat .f32 (shli (addi (expoT (tileArg t)) (broadcast S1x1 1#32)) (broadcast S1x1 23#32))

/-- The tile over its scale, clipped. -/
def tileScaled : FVec Ideal S128x128 .bf16 :=
  minimumf (broadcast S128x128 (Scalar.truncf .bf16 bitsLt_bf16_f32 (Scalar.ofBits .f32 0x43E00000#32)))
    (maximumf (broadcast S128x128 (Scalar.truncf .bf16 bitsLt_bf16_f32 (Scalar.ofBits .f32 0xC3E00000#32)))
      (mulf (mat t) (broadcastTo S128x128 (truncf .bf16 (bitcastToFloat (F := Ideal) .f32
        (shli (subi (broadcast S1x1 253#32) (expoT (tileArg t))) (broadcast S1x1 23#32))) bitsLt_bf16_f32) broadcasts_S1x1_S128x128)))

/-- The tile's codes. -/
def tileCodes : FVec Ideal S1x128x128 .fp8e4m3 :=
  shapeCast S1x128x128 (truncf .fp8e4m3 (tileScaled t) bitsLt_fp8e4m3_bf16) shapeCasts_S128x128_S1x128x128

/-- The tile's largest magnitude as a number. -/
def tileAmax : EReal := amaxOf fun r d => t (ix3 0 r d)

theorem mat_at (r d : Fin 128) : mat t (ix2 r d) = t (ix3 0 r d) := by
  unfold mat
  pointwise

theorem ofBits_bf16_neg_inf : Ideal.ofBits .bf16 0xFF80#16 = ⊥ := by simp [Ideal.ofBits, Ideal.ieee]
theorem ofBits_f32_neg_inf : Ideal.ofBits .f32 0xFF800000#32 = ⊥ := by simp [Ideal.ofBits, Ideal.ieee]

theorem tileMax_at : tileMax t (ix2 0 0) = tileAmax t := by
  unfold tileMax
  pointwise
  rw [ofBits_f32_neg_inf]
  simp only [ofBits_bf16_neg_inf, mat_at]
  rfl

theorem tileArg_at : tileArg t (ix2 0 0) = tileAmax t * c448 := by
  unfold tileArg
  pointwise
  rw [tileMax_at, ofBits_c448]

theorem upT_at (a : FVec Ideal S1x1 .f32) (e : IVec S1x1 32) (b : BitVec 32) :
    upT a e b (ix2 0 0) = up (a (ix2 0 0)) (e (ix2 0 0)) b := by
  unfold upT
  pointwise
  rfl

theorem expoT_at (a : FVec Ideal S1x1 .f32) : expoT a (ix2 0 0) = kerExpo (a (ix2 0 0)) := by
  have h : searchT a (ix2 0 0) = bisect (a (ix2 0 0)) := by
    unfold searchT
    simp only [upT_at]
    rfl
  unfold expoT
  generalize searchT a = v at h
  pointwise
  rw [h]
  show Scalar.select (BitVec.ofBool (bisect (a (ix2 0 0)) == 0#32)) _ _ = _
  rw [beq_eq_decide, Scalar.select_decide]
  rfl

theorem tileScale_at (h : InRange (tileAmax t)) : tileScale t (ix2 0 0) = scaleOf (tileAmax t) := by
  rw [← (kernel_scale h).1]
  unfold tileScale
  pointwise
  rw [expoT_at, tileArg_at]
  rfl

theorem tileScaled_at (h : InRange (tileAmax t)) (r d : Fin 128) :
    tileScaled t (ix2 r d) = codeOf (t (ix3 0 r d)) (tileAmax t) := by
  unfold codeOf
  rw [← (kernel_scale h).2, ← ofBits_neg_448, ← ofBits_448]
  unfold tileScaled
  pointwise
  rw [expoT_at, tileArg_at, mat_at]
  rfl

theorem tileCodes_at (h : InRange (tileAmax t)) (r d : Fin 128) :
    tileCodes t (ix3 0 r d) = codeOf (t (ix3 0 r d)) (tileAmax t) := by
  rw [← tileScaled_at t h]
  unfold tileCodes
  pointwise

end Cert.Proof.Quant

end
-- ==== Proof.QuantBlock.lean ====
/- A block of the quantising kernel, `n` heads wide: its codes are stored tile by tile and its scales put one by one into an
   array. Both are read here at an index, for any order of the tiles. -/
module

public import proofs.«01_k».proof.Proof.QuantTile
public import Idealize.ShloMosaic.Lib.Pipeline.Value

@[expose] public section

set_option maxRecDepth 16384
set_option maxHeartbeats 4000000
set_option backward.proofsInPublic true

noncomputable section

namespace Cert.Proof.Quant

open Cert.KernelKIdeal Cert.KernelKIdeal.Gen
open Idealize.ShloMosaic Idealize.ShloMosaic.TcCoe Idealize.ShloMosaic.Tactic

/-- A block of `1024` tokens and `n` heads. -/
abbrev SB (n : ℕ) : Shape := ⟨3, ![1, 1024, 128 * n]⟩

theorem tile_inb (n : ℕ) (p : Fin 8 × Fin n) (a : Fin 3) :
    (![0, 128 * p.1.val, 128 * p.2.val] : Fin 3 → ℕ) a + S1x128x128.size a ≤ (SB n).size a := match a with
  | ⟨0, _⟩ => by show 0 + 1 ≤ 1; omega
  | ⟨1, _⟩ => by show 128 * p.1.val + 128 ≤ 1024; omega
  | ⟨2, _⟩ => by show 128 * p.2.val + 128 ≤ 128 * n; omega

/-- The tile of block row `p.1` and head `p.2`. -/
abbrev tileRect (n : ℕ) (p : Fin 8 × Fin n) : Rect (SB n) :=
  Rect.unit (s := SB n) ![0, 128 * p.1.val, 128 * p.2.val] S1x128x128.size (tile_inb n p)

variable {n : ℕ} (x0 : Vec Ideal (SB n) .bf16)

/-- The tile's store. -/
def codesPiece (p : Fin 8 × Fin n) : View.Piece (Elt Ideal) (SB n) .fp8e4m3 := ⟨tileRect n p, tileCodes (View.ld x0 (tileRect n p))⟩

/-- The largest magnitude of a tile of the block. -/
def amaxAt (p : Fin 8 × Fin n) : EReal :=
  amaxOf fun r d => x0 (ix3 0 (⟨128 * p.1.val + r.val, by omega⟩ : Fin 1024) (⟨128 * p.2.val + d.val, by omega⟩ : Fin (128 * n)))

theorem ld_at (p : Fin 8 × Fin n) (r d : Fin 128) : View.ld x0 (tileRect n p) (ix3 0 r d)
    = x0 (ix3 0 (⟨128 * p.1.val + r.val, by omega⟩ : Fin 1024) (⟨128 * p.2.val + d.val, by omega⟩ : Fin (128 * n))) :=
  View.ld_unit_apply_of _ _ _ _ _ _ fun a => match a with
    | ⟨0, _⟩ => rfl
    | ⟨1, _⟩ => rfl
    | ⟨2, _⟩ => rfl

theorem tileAmax_ld (p : Fin 8 × Fin n) : tileAmax (View.ld x0 (tileRect n p)) = amaxAt x0 p := by
  unfold tileAmax amaxAt
  exact congrArg amaxOf (funext fun r => funext fun d => ld_at x0 p r d)

/-- The tile an index of the block lies in. -/
def tileOf (y : (SB n).Idx) : Fin 8 × Fin n :=
  (⟨(y 1).val / 128, by have : (y 1).val < 1024 := (y 1).isLt; omega⟩,
    ⟨(y 2).val / 128, by have : (y 2).val < 128 * n := (y 2).isLt; omega⟩)

theorem codes_at (hIn : ∀ p, InRange (amaxAt x0 p)) (L : List (Fin 8 × Fin n)) (hL : ∀ p, p ∈ L) (y : (SB n).Idx) :
    View.canon (L.map (codesPiece x0)) y = codeOf (x0 y) (amaxAt x0 (tileOf y)) := by
  refine View.canon_apply_of_pieces (Val := Elt Ideal) (e := .fp8e4m3) (fun y => codeOf (x0 y) (amaxAt x0 (tileOf y))) _ (fun q hq x => ?_) y ?_
  · obtain ⟨p, -, rfl⟩ := List.mem_map.1 hq
    have x1 : (x 1).val < 128 := (x 1).isLt
    have x2 : (x 2).val < 128 := (x 2).isLt
    have x0' : (x 0).val < 1 := (x 0).isLt
    have ex : x = ix3 0 (⟨(x 1).val, x1⟩ : Fin 128) (⟨(x 2).val, x2⟩ : Fin 128) := funext fun a =>
      match a with
      | ⟨0, _⟩ => Fin.ext (by show (x 0).val = 0; omega)
      | ⟨1, _⟩ => rfl
      | ⟨2, _⟩ => rfl
    have ep : tileOf ((tileRect n p).emb x) = p := by
      refine Prod.ext (Fin.ext ?_) (Fin.ext ?_)
      · show (128 * p.1.val + 1 * (x 1).val) / 128 = p.1.val
        omega
      · show (128 * p.2.val + 1 * (x 2).val) / 128 = p.2.val
        omega
    show tileCodes (View.ld x0 (tileRect n p)) x = codeOf (x0 ((tileRect n p).emb x)) (amaxAt x0 (tileOf ((tileRect n p).emb x)))
    rw [ep, ← tileAmax_ld]
    refine (congrArg _ ex).trans ((tileCodes_at _ (by rw [tileAmax_ld]; exact hIn p) _ _).trans ?_)
    congr 1
    exact congrArg (View.ld x0 (tileRect n p)) ex.symm
  · refine ⟨_, List.mem_map.2 ⟨tileOf y, hL _, rfl⟩, (Rect.mem_set_unit (inb := tile_inb n (tileOf y))).2 fun a => ?_⟩
    have y0 : (y 0).val < 1 := (y 0).isLt
    match a with
    | ⟨0, _⟩ => show 0 ≤ (y 0).val ∧ (y 0).val < 0 + 1; omega
    | ⟨1, _⟩ => show 128 * ((y 1).val / 128) ≤ (y 1).val ∧ (y 1).val < 128 * ((y 1).val / 128) + 128; omega
    | ⟨2, _⟩ => show 128 * ((y 2).val / 128) ≤ (y 2).val ∧ (y 2).val < 128 * ((y 2).val / 128) + 128; omega

/-- Put a scale at row `a`, column `b`. -/
def put (acc : FVec Ideal S8x128 .f32) (a b : BitVec 32) (s : FVec Ideal S1x1 .f32) : FVec Ideal S8x128 .f32 :=
  select (andi (cmpi .eq (iota .tc S8x128 32 [0] iota_S8x128_d0_w32) (broadcast S8x128 a))
      (cmpi .eq (iota .tc S8x128 32 [1] iota_S8x128_d1_w32) (broadcast S8x128 b)))
    (broadcastTo S8x128 (shapeCast S1x1 s shapeCasts_S1x1_S1x1) broadcasts_S1x1_S8x128) acc

/-- Put the scales of the tiles in a list. -/
def putAll (L : List (Fin 8 × Fin n)) : FVec Ideal S8x128 .f32 :=
  L.foldl (fun acc p => put acc (BitVec.ofNat 32 p.1.val) (BitVec.ofNat 32 p.2.val) (tileScale (View.ld x0 (tileRect n p))))
    (broadcast S8x128 (Scalar.ofBits .f32 0x00000000#32))

theorem put_at (acc : FVec Ideal S8x128 .f32) (a b : BitVec 32) (s : FVec Ideal S1x1 .f32) (i : Fin 8) (j : Fin 128) :
    put acc a b s (ix2 i j) = if BitVec.ofNat 32 i.val = a ∧ BitVec.ofNat 32 j.val = b then s (ix2 0 0) else acc (ix2 i j) := by
  unfold put
  pointwise
  show Scalar.select (BitVec.ofBool (BitVec.ofNat 32 i.val == a) &&& BitVec.ofBool (BitVec.ofNat 32 j.val == b)) _ _ = _
  rw [beq_eq_decide, beq_eq_decide]
  by_cases ha : BitVec.ofNat 32 i.val = a <;> by_cases hb : BitVec.ofNat 32 j.val = b <;> simp only [ha, hb] <;> simp [Scalar.select]

/-- After the tiles of a list are put, a tile of the list, or one put before, is in its place. -/
theorem foldl_put_at (hIn : ∀ p, InRange (amaxAt x0 p)) (i : Fin 8) (j : Fin n) (z : Fin 128) (hz : z.val = j.val) (hn : n ≤ 128) :
    ∀ (L : List (Fin 8 × Fin n)) (acc : FVec Ideal S8x128 .f32), (acc (ix2 i z) = scaleOf (amaxAt x0 (i, j)) ∨ (i, j) ∈ L) →
      L.foldl (fun acc p => put acc (BitVec.ofNat 32 p.1.val) (BitVec.ofNat 32 p.2.val) (tileScale (View.ld x0 (tileRect n p)))) acc (ix2 i z)
        = scaleOf (amaxAt x0 (i, j))
  | [], acc, h => h.resolve_right (by simp)
  | p :: L, acc, h => by
    rw [List.foldl_cons]
    refine foldl_put_at hIn i j z hz hn L _ ?_
    rw [put_at]
    by_cases e : (i, j) = p
    · subst e
      refine .inl ?_
      rw [if_pos ⟨rfl, by rw [hz]⟩, tileScale_at _ (by rw [tileAmax_ld]; exact hIn _), tileAmax_ld]
    · refine (h.imp_right fun h => (List.mem_cons.1 h).resolve_left e).imp_left fun h => ?_
      rw [if_neg, h]
      rintro ⟨h1, h2⟩
      have h1' := congrArg BitVec.toNat h1
      have h2' := congrArg BitVec.toNat h2
      rw [BitVec.toNat_ofNat, BitVec.toNat_ofNat, Nat.mod_eq_of_lt (by omega), Nat.mod_eq_of_lt (by omega)] at h1' h2'
      exact e (Prod.ext (Fin.ext h1') (Fin.ext (hz.symm.trans h2')))

theorem putAll_at (hIn : ∀ p, InRange (amaxAt x0 p)) (L : List (Fin 8 × Fin n)) (hL : ∀ p, p ∈ L) (i : Fin 8) (j : Fin n) (z : Fin 128)
    (hz : z.val = j.val) (hn : n ≤ 128) : putAll x0 L (ix2 i z) = scaleOf (amaxAt x0 (i, j)) :=
  foldl_put_at x0 hIn i j z hz hn L _ (.inr (hL _))

/-- All tiles of a block, in the order of the kernel. -/
def tiles (n : ℕ) : List (Fin 8 × Fin n) := (List.finRange 8).flatMap fun i => (List.finRange n).map fun j => (i, j)

theorem mem_tiles (n : ℕ) (p : Fin 8 × Fin n) : p ∈ tiles n :=
  List.mem_flatMap.2 ⟨p.1, List.mem_finRange _, List.mem_map.2 ⟨p.2, List.mem_finRange _, rfl⟩⟩

/-! ## The whole array -/

/-- The array of `8` sequences of `8192` tokens, `n` heads wide. -/
abbrev SA (n : ℕ) : Shape := ⟨3, ![8, 8192, 128 * n]⟩

variable (X : (SA n).Idx → EReal)

/-- The largest magnitude of a block of an array: sequence `b`, token block `k`, head `h`. -/
def amaxArr (b : Fin 8) (k : Fin 64) (h : Fin n) : EReal :=
  amaxOf fun r d => X (ix3 b (⟨128 * k.val + r.val, by omega⟩ : Fin 8192) (⟨128 * h.val + d.val, by omega⟩ : Fin (128 * n)))

/-- The quantised array: every entry over its block's scale, clipped. -/
def codesArr (y : (SA n).Idx) : EReal :=
  codeOf (X y) (amaxArr X (y 0) ⟨(y 1).val / 128, by have : (y 1).val < 8192 := (y 1).isLt; omega⟩
    ⟨(y 2).val / 128, by have : (y 2).val < 128 * n := (y 2).isLt; omega⟩)

/-- The scale of every block. -/
def scalesArr (y : (⟨3, ![8, 64, n]⟩ : Shape).Idx) : EReal := scaleOf (amaxArr X (y 0) (y 1) (y 2))

section blocks

/- The block at sequence `i`, token position `1024 * j`. -/
variable (i : Fin 8) (j : Fin 8)
  (hx : ∀ (r : Fin 1024) (z : Fin (128 * n)), x0 (ix3 0 r z) = X (ix3 i (⟨j.val * 1024 + r.val, by omega⟩ : Fin 8192) z))

include hx in
theorem amaxAt_eq (p : Fin 8 × Fin n) : amaxAt x0 p = amaxArr X i ⟨j.val * 8 + p.1.val, by omega⟩ p.2 := by
  unfold amaxAt amaxArr
  refine congrArg amaxOf (funext fun r => funext fun d => (hx _ _).trans ?_)
  congr 2
  exact Fin.ext (by show j.val * 1024 + (128 * p.1.val + r.val) = 128 * (j.val * 8 + p.1.val) + r.val; omega)

include hx in
theorem block_codes (hIn : ∀ b k h, InRange (amaxArr X b k h)) (y : (SB n).Idx) (Y : (SA n).Idx) (h0 : (Y 0).val = i.val)
    (h1 : (Y 1).val = j.val * 1024 + (y 1).val) (h2 : (Y 2).val = (y 2).val) :
    View.canon ((tiles n).reverse.map (codesPiece x0)) y = codesArr X Y := by
  rw [codes_at x0 (fun p => by rw [amaxAt_eq x0 X i j hx]; exact hIn _ _ _) _ (fun p => List.mem_reverse.2 (mem_tiles n p)),
    amaxAt_eq x0 X i j hx]
  have y1 : (y 1).val < 1024 := (y 1).isLt
  have y2 : (y 2).val < 128 * n := (y 2).isLt
  have y0 : (y 0).val < 1 := (y 0).isLt
  have ey : y = ix3 0 (⟨(y 1).val, y1⟩ : Fin 1024) (⟨(y 2).val, y2⟩ : Fin (128 * n)) := funext fun a =>
    match a with
    | ⟨0, _⟩ => Fin.ext (by show (y 0).val = 0; omega)
    | ⟨1, _⟩ => rfl
    | ⟨2, _⟩ => rfl
  have eY : Y = ix3 i (⟨j.val * 1024 + (y 1).val, by omega⟩ : Fin 8192) (⟨(y 2).val, y2⟩ : Fin (128 * n)) := funext fun a =>
    match a with
    | ⟨0, _⟩ => Fin.ext h0
    | ⟨1, _⟩ => Fin.ext h1
    | ⟨2, _⟩ => Fin.ext h2
  unfold codesArr
  have e1 : x0 y = X Y := (congrArg x0 ey).trans ((hx _ _).trans (congrArg X eY.symm))
  have e2 : (⟨j.val * 8 + (tileOf y).1.val, by omega⟩ : Fin 64) = ⟨(Y 1).val / 128, by have : (Y 1).val < 8192 := (Y 1).isLt; omega⟩ :=
    Fin.ext (by show j.val * 8 + (y 1).val / 128 = (Y 1).val / 128; omega)
  have e3 : (tileOf y).2 = ⟨(Y 2).val / 128, by have : (Y 2).val < 128 * n := (Y 2).isLt; omega⟩ :=
    Fin.ext (by show (y 2).val / 128 = (Y 2).val / 128; omega)
  have e0 : i = Y 0 := Fin.ext h0.symm
  rw [e1, e2, e3, e0]

include hx in
theorem block_scales (hIn : ∀ b k h, InRange (amaxArr X b k h)) (hn : n ≤ 128) (r : Fin 8) (h : Fin n) (z : Fin 128) (hz : z.val = h.val)
    (Y : (⟨3, ![8, 64, n]⟩ : Shape).Idx) (h0 : (Y 0).val = i.val) (h1 : (Y 1).val = j.val * 8 + r.val) (h2 : (Y 2).val = h.val) :
    putAll x0 (tiles n) (ix2 r z) = scalesArr X Y := by
  rw [putAll_at x0 (fun p => by rw [amaxAt_eq x0 X i j hx]; exact hIn _ _ _) _ (mem_tiles n) r h z hz hn, amaxAt_eq x0 X i j hx]
  unfold scalesArr
  have e0 : i = Y 0 := Fin.ext h0.symm
  have e1 : (⟨j.val * 8 + r.val, by omega⟩ : Fin 64) = Y 1 := Fin.ext h1.symm
  have e2 : h = Y 2 := Fin.ext h2.symm
  show scaleOf (amaxArr X i ⟨j.val * 8 + r.val, _⟩ h) = _
  rw [e0, e1, e2]

end blocks

end Cert.Proof.Quant

end
-- ==== Proof.QuantK.lean ====
/- The quantiser of `k`, read: its results are the codes and the scales of its argument. -/
module

public import proofs.«01_k».proof.Proof.QuantBlock
public import proofs.«01_k».proof.Proof.Gen.KernelKIdeal.Value
public import Idealize.ShloMosaic.Lib.Pipeline.ValueKit
public import Idealize.ShloMosaic.Lib.Pipeline.Covers

@[expose] public section

set_option maxRecDepth 16384
set_option maxHeartbeats 4000000

noncomputable section

namespace Cert.Proof.Quant.K

open Cert.KernelKIdeal Cert.KernelKIdeal.Gen
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x256 .bf16) :
    out0_1 (F := Ideal) x0 = View.canon ((tiles 2).reverse.map (codesPiece (n := 2) x0)) := rfl

/-- The block's scales are the tiles' scales, put in order. -/
theorem out2_eq (x0 : Vec Ideal S1x1024x256 .bf16) :
    out0_2 (F := Ideal) x0 = shapeCast S1x8x2 (extractStridedSlice S8x2 ![0, 0] (putAll (n := 2) x0 (tiles 2))
      slices_S8x128_o0_0_S8x2) shapeCasts_S8x2_S1x8x2 :=
  View.canon_unit_zero (S := S1x8x2) (Val := Elt Ideal) (e := .f32) (off := ![0, 0, 0])
    (funext fun a => match a with | ⟨0, _⟩ => rfl | ⟨1, _⟩ => rfl | ⟨2, _⟩ => rfl) inb_S1x8x2_S1x8x2_0_0_0 _

theorem scales_at (v : FVec Ideal S8x128 .f32) (r : Fin 8) (h : Fin 2) :
    shapeCast S1x8x2 (extractStridedSlice S8x2 ![0, 0] v slices_S8x128_o0_0_S8x2) shapeCasts_S8x2_S1x8x2 (ix3 0 r h)
      = v (ix2 r ⟨0 + h.val, by omega⟩) := by
  pointwise

/-! ## The blocks and the final arrays -/

variable (m : (ℓ : Loc nD τ sig) → Buf (Elt Ideal) ℓ) (ρ : Dev nD → PrngReg)

theorem word (n : ℕ) (h : n < 2 ^ 32) : (BitVec.ofNat 32 n).toNat = n := by rw [BitVec.toNat_ofNat, Nat.mod_eq_of_lt h]

section idx

variable (t : Fin cfg0.N)

theorem i0_lt : (grid0.coords t 0).val < 8 := (grid0.coords t 0).isLt
theorem i1_lt : (grid0.coords t 1).val < 8 := (grid0.coords t 1).isLt

theorem idx0 : win0_0.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win0_1.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win0_2.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]

end idx

/-- The argument. -/
abbrev arg (c : Dev nD) : (SA 2).Idx → EReal := m ((c : Thread nD τ).loc main_arg0)

theorem block_at (c : Dev nD) (t : Fin cfg0.N) (r : Fin 1024) (z : Fin 256) : (iblk m c 0 t : Vec Ideal S1x1024x256 .bf16) (ix3 0 r z)
    = arg m c (ix3 (grid0.coords t 0) (⟨(grid0.coords t 1).val * 1024 + r.val, by have := i1_lt t; omega⟩ : Fin 8192) z) := by
  blk_ext [iblk, V, idx0 t]

theorem covers1 : (cfg0.win 1).Covers :=
  (cfg0.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg0.win 2).Covers :=
  (cfg0.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

section final

variable (c : Dev nD) (hIn : ∀ b k h, InRange (amaxArr (n := 2) (arg m c) b k h))

include hIn in
theorem final_codes : (dats m 0 c).arrAt 1 cfg0.N = codesArr (n := 2) (arg m c) := by
  refine (dats m 0 c).arrAt_eq_of_covers 1 _ covers1 fun t hf (y : S1x1024x256.Idx) => ?_
  blk_simp
  rw [after0_1, out1_eq]
  have y0_lt : (y 0).val < 1 := (y 0).isLt
  have e : ∀ a : Fin 3, (((win0_1.blk t).view.emb y) a : ℕ) = win0_1.index t a * win0_1.size a + y a := fun a => win0_1.rect_emb_val t y a
  refine block_codes (n := 2) (iblk m c 0 t) (arg m c) (grid0.coords t 0) (grid0.coords t 1) (block_at m c t) hIn y
    ((win0_1.blk t).view.emb y) ?_ ?_ ?_
  · refine (e 0).trans ?_
    rw [idx1]
    show (grid0.coords t 0).val * 1 + (y 0).val = (grid0.coords t 0).val
    omega
  · refine (e 1).trans ?_
    rw [idx1]
    rfl
  · refine (e 2).trans ?_
    rw [idx1]
    show 0 * 256 + (y 2).val = (y 2).val
    omega

include hIn in
theorem final_scales : (dats m 0 c).arrAt 2 cfg0.N = scalesArr (n := 2) (arg m c) := by
  refine (dats m 0 c).arrAt_eq_of_covers 2 _ covers2 fun t hf (y : S1x8x2.Idx) => ?_
  blk_simp
  rw [after0_2, out2_eq]
  have y0_lt : (y 0).val < 1 := (y 0).isLt
  have y1_lt : (y 1).val < 8 := (y 1).isLt
  have y2_lt : (y 2).val < 2 := (y 2).isLt
  have ey : y = ix3 0 (⟨(y 1).val, y1_lt⟩ : Fin 8) (⟨(y 2).val, y2_lt⟩ : Fin 2) := funext fun a =>
    match a with
    | ⟨0, _⟩ => Fin.ext (by show (y 0).val = 0; omega)
    | ⟨1, _⟩ => rfl
    | ⟨2, _⟩ => rfl
  have e : ∀ a : Fin 3, (((win0_2.blk t).view.emb y) a : ℕ) = win0_2.index t a * win0_2.size a + y a := fun a => win0_2.rect_emb_val t y a
  refine (congrArg _ ey).trans ((scales_at _ _ _).trans (block_scales (n := 2) (iblk m c 0 t) (arg m c) (grid0.coords t 0) (grid0.coords t 1)
    (block_at m c t) hIn (by norm_num) ⟨(y 1).val, y1_lt⟩ ⟨(y 2).val, y2_lt⟩ _ ?_ ((win0_2.blk t).view.emb y) ?_ ?_ ?_))
  · show 0 + (y 2).val = (y 2).val
    omega
  · refine (e 0).trans ?_
    rw [idx2]
    show (grid0.coords t 0).val * 1 + (y 0).val = (grid0.coords t 0).val
    omega
  · refine (e 1).trans ?_
    rw [idx2]
    rfl
  · refine (e 2).trans ?_
    rw [idx2]
    show 0 * 2 + (y 2).val = (y 2).val
    omega

end final

/-- The run, read: the results are the codes and the scales of the argument, which ends unchanged. -/
theorem run (hIn : ∀ c b k h, InRange (amaxArr (n := 2) (arg m c) b k h)) :
    θ_run defs (onTc (τ := τ) (main (F := Ideal))) ⟨m, fun _ => 0, ρ⟩ fun r => ∀ c : Dev nD,
      r.2.mem ((c : Thread nD τ).loc main_v0_0) = codesArr (n := 2) (arg m c)
      ∧ r.2.mem ((c : Thread nD τ).loc main_v0_1) = scalesArr (n := 2) (arg m c)
      ∧ r.2.mem ((c : Thread nD τ).loc main_arg0) = m ((c : Thread nD τ).loc main_arg0) :=
  (θ_run defs _ _).mono (fun _ h c => ⟨(h c).1.trans (final_codes m c (hIn c)), (h c).2.1.trans (final_scales m c (hIn c)), (h c).2.2⟩)
    (Cert.KernelKIdeal.Value.run_blocks m ρ)

end Cert.Proof.Quant.K

end
-- ==== Proof.QuantAmax.lean ====
/- The largest magnitude of every block, as the host's reduction computes it, and what the precondition says of it. Stated for
   any number of heads. -/
module

public import proofs.«01_k».proof.Proof.QuantBlock
public import Idealize.ShloMosaic.PureOps.Ideal.Laws
public import Idealize.ShloMosaic.PureOps.Reduce

@[expose] public section

set_option maxRecDepth 16384
set_option maxHeartbeats 4000000

noncomputable section

namespace Cert.Proof.Quant

open Idealize.ShloMosaic

variable {n : ℕ}

/-- The array with its tokens and its channels split into blocks. -/
abbrev SR (n : ℕ) : Shape := ⟨5, ![8, 64, 128, n, 128]⟩

/-- One number for every block. -/
abbrev SC (n : ℕ) : Shape := ⟨3, ![8, 64, n]⟩

abbrev S0 : Shape := ⟨0, ![]⟩

section amax

variable (hc : (SA n).ShapeCasts (SR n)) (hr : (SR n).ReducesTo [2, 4] (SC n)) (hu : 0 < S0.numel) (X : (SA n).Idx → EReal)

/-- The reduction over a block's tokens and channels. -/
def amaxHost : FVec Ideal (SC n) .f32 :=
  Host.reduce FloatOps.maximumf (Host.absf (F := Ideal) (φ := .f32) (shapeCast (SR n) X hc)) (constant (F := Ideal) S0 .f32 0xFF800000#32) hr hu

theorem split_at (b : Fin 8) (k : Fin 64) (r : Fin 128) (h : Fin n) (d : Fin 128) :
    shapeCast (SR n) X hc (ix5 b k r h d)
      = X (ix3 b (⟨128 * k.val + r.val, by omega⟩ : Fin 8192) (⟨128 * h.val + d.val, by omega⟩ : Fin (128 * n))) := by
  refine shapeCast_apply X hc _ _ ?_
  rw [Shape.rowMajor_val_three, Shape.rowMajor_val_five]
  show (b.val * 8192 + (128 * k.val + r.val)) * (128 * n) + (128 * h.val + d.val)
    = (((b.val * 64 + k.val) * 128 + r.val) * n + h.val) * 128 + d.val
  ring

theorem drop_iff (i : (SR n).Idx) (b : Fin 8) (k : Fin 64) (h : Fin n) :
    hr.drop i = ix3 b k h ↔ (i 0).val = b.val ∧ (i 1).val = k.val ∧ (i 3).val = h.val := by
  have e0 : (hr.drop i 0 : ℕ) = i 0 := rfl
  have e1 : (hr.drop i 1 : ℕ) = i 1 := rfl
  have e2 : (hr.drop i 2 : ℕ) = i 3 := rfl
  constructor
  · intro hd
    rw [hd] at e0 e1 e2
    exact ⟨e0.symm, e1.symm, e2.symm⟩
  · rintro ⟨f0, f1, f2⟩
    exact funext fun a => match a with
      | ⟨0, _⟩ => Fin.ext (e0.trans f0)
      | ⟨1, _⟩ => Fin.ext (e1.trans f1)
      | ⟨2, _⟩ => Fin.ext (e2.trans f2)

theorem ofBits_neg_inf : Ideal.ofBits .f32 0xFF800000#32 = ⊥ := ofBits_f32_neg_inf

theorem amaxHost_at (b : Fin 8) (k : Fin 64) (h : Fin n) : amaxHost hc hr hu X (ix3 b k h) = amaxArr X b k h := by
  unfold amaxHost
  rw [Host.reduce_eq_fold]
  show Finset.fold max (Ideal.ofBits .f32 0xFF800000#32) _ _ = _
  rw [ofBits_neg_inf]
  show Finset.sup _ _ = amaxArr X b k h
  unfold amaxArr amaxOf
  refine le_antisymm (Finset.sup_le fun i hi => ?_) (Finset.sup_le fun d _ => Finset.sup_le fun r _ => ?_)
  · obtain ⟨f0, f1, f2⟩ := (drop_iff hr i b k h).1 (Finset.mem_filter.1 hi).2
    obtain ⟨b', k', r, h', d, rfl⟩ : ∃ b' k' r h' d, i = ix5 b' k' r h' d := ⟨_, _, _, _, _, eq_ix5 i⟩
    obtain rfl : b' = b := Fin.ext f0
    obtain rfl : k' = k := Fin.ext f1
    obtain rfl : h' = h := Fin.ext f2
    show max (shapeCast (SR n) X hc _) (-shapeCast (SR n) X hc _) ≤ _
    rw [split_at]
    exact (Finset.le_sup (f := fun r => max (X (ix3 b' (⟨128 * k'.val + r.val, by omega⟩ : Fin 8192) (⟨128 * h'.val + d.val, by omega⟩ : Fin (128 * n))))
      (-X (ix3 b' (⟨128 * k'.val + r.val, by omega⟩ : Fin 8192) (⟨128 * h'.val + d.val, by omega⟩ : Fin (128 * n))))) (Finset.mem_univ r)).trans
      (Finset.le_sup (f := fun d : Fin 128 => Finset.univ.sup fun r : Fin 128 =>
        max (X (ix3 b' (⟨128 * k'.val + r.val, by omega⟩ : Fin 8192) (⟨128 * h'.val + d.val, by omega⟩ : Fin (128 * n))))
          (-X (ix3 b' (⟨128 * k'.val + r.val, by omega⟩ : Fin 8192) (⟨128 * h'.val + d.val, by omega⟩ : Fin (128 * n))))) (Finset.mem_univ d))
  · have hm : (ix5 b k r h d : (SR n).Idx) ∈ Finset.univ.filter fun i => hr.drop i = ix3 b k h :=
      Finset.mem_filter.2 ⟨Finset.mem_univ _, (drop_iff hr _ b k h).2 ⟨rfl, rfl, rfl⟩⟩
    refine le_trans (le_of_eq ?_) (Finset.le_sup hm)
    show _ = max (shapeCast (SR n) X hc _) (-shapeCast (SR n) X hc _)
    rw [split_at]

end amax

/-! ## One number for every entry -/

/-- A number for every block, put at every entry of the block. -/
theorem spread_at (h1 : (SC n).BroadcastsInDim ⟨5, ![8, 64, 1, n, 1]⟩ ![0, 1, 3])
    (h2 : (⟨5, ![8, 64, 1, n, 1]⟩ : Shape).BroadcastsInDim (SR n) ![0, 1, 2, 3, 4]) (hc : (SR n).ShapeCasts (SA n)) (v : (SC n).Idx → EReal)
    (y : (SA n).Idx) :
    shapeCast (SA n) (broadcastInDim (SR n) ![0, 1, 2, 3, 4] h2 (broadcastInDim ⟨5, ![8, 64, 1, n, 1]⟩ ![0, 1, 3] h1 v)) hc y
      = v (ix3 (y 0) (⟨(y 1).val / 128, by have : (y 1).val < 8192 := (y 1).isLt; omega⟩ : Fin 64)
          (⟨(y 2).val / 128, by have : (y 2).val < 128 * n := (y 2).isLt; omega⟩ : Fin n)) := by
  have y0_lt : (y 0).val < 8 := (y 0).isLt
  have y1_lt : (y 1).val < 8192 := (y 1).isLt
  have y2_lt : (y 2).val < 128 * n := (y 2).isLt
  obtain ⟨k, hk⟩ : ∃ k : Fin 64, k.val = (y 1).val / 128 := ⟨⟨(y 1).val / 128, by omega⟩, rfl⟩
  obtain ⟨h, hh⟩ : ∃ h : Fin n, h.val = (y 2).val / 128 := ⟨⟨(y 2).val / 128, by omega⟩, rfl⟩
  have hn : (if n = 1 then 0 else h.val) = h.val := by split <;> omega
  refine (shapeCast_apply _ hc y (ix5 (y 0) k (⟨(y 1).val % 128, by omega⟩ : Fin 128) h (⟨(y 2).val % 128, by omega⟩ : Fin 128)) ?_).trans
    ((broadcastInDim_apply _ h2 _ _ (ix5 (y 0) k 0 h 0) ?_).trans
      ((broadcastInDim_apply _ h1 v _ (ix3 (y 0) k h) ?_).trans (congrArg v ?_)))
  · rw [Shape.rowMajor_val_three, Shape.rowMajor_val_five]
    show ((((y 0).val * 64 + k.val) * 128 + (y 1).val % 128) * n + h.val) * 128 + (y 2).val % 128
      = ((y 0).val * 8192 + (y 1).val) * (128 * n) + (y 2).val
    have d1 : (y 1).val = 128 * k.val + (y 1).val % 128 := by omega
    have d2 : (y 2).val = 128 * h.val + (y 2).val % 128 := by omega
    generalize (y 1).val % 128 = r at d1 ⊢
    generalize (y 2).val % 128 = d at d2 ⊢
    rw [d1, d2]
    ring
  · exact fun a => match a with
      | ⟨0, _⟩ => rfl
      | ⟨1, _⟩ => rfl
      | ⟨2, _⟩ => rfl
      | ⟨3, _⟩ => hn.symm
      | ⟨4, _⟩ => rfl
  · exact fun a => match a with
      | ⟨0, _⟩ => rfl
      | ⟨1, _⟩ => rfl
      | ⟨2, _⟩ => hn.symm
  · exact funext fun a => match a with
      | ⟨0, _⟩ => rfl
      | ⟨1, _⟩ => Fin.ext hk
      | ⟨2, _⟩ => Fin.ext hh

/-- The exponent as the reference writes it. -/
theorem expo_eq (a : EReal) :
    Scalar.select (Ideal.cmp .oeq a (Ideal.ofBits .f32 0x00000000#32)) (Ideal.ofBits .f32 0x00000000#32)
      (Ideal.liftRound Int.floor (Ideal.div (Ideal.log (a * Ideal.ofBits .f32 0x3B124925#32)) ((Real.log 2 : ℝ) : EReal))
        + Ideal.ofBits .f32 0x3F800000#32) = refExpo a := by
  have z : Ideal.ofBits .f32 0x00000000#32 = (0 : EReal) := by simp [Ideal.ofBits, Ideal.ieee]
  have o : Ideal.ofBits .f32 0x3F800000#32 = ((1 : ℝ) : EReal) := by
    simp [Ideal.ofBits, Ideal.ieee, -EReal.coe_mul]; norm_num
  rw [z, o, ofBits_c448]
  exact Scalar.select_decide _ _ _

/-! ## What the precondition says -/

theorem ofBits_lo : Ideal.ofBits .f32 0x05000000#32 = (((2 : ℝ) ^ (-117 : ℤ) : ℝ) : EReal) := by
  simp [Ideal.ofBits, Ideal.ieee, -EReal.coe_mul]; norm_num

theorem ofBits_hi : Ideal.ofBits .f32 0x7F7F0000#32 = ((255 * (2 : ℝ) ^ (120 : ℤ) : ℝ) : EReal) := by
  simp [Ideal.ofBits, Ideal.ieee, -EReal.coe_mul]; norm_num

/-- The comparisons of the precondition, read. -/
theorem inRange_of (a : EReal)
    (h : IntOp.ori (Ideal.cmp .oeq a (Ideal.ofBits .f32 0x00000000#32))
      (IntOp.andi (Ideal.cmp .oge a (Ideal.ofBits .f32 0x05000000#32))
        (Ideal.cmp .ole a (Ideal.ofBits .f32 0x7F7F0000#32))) = 1#1) : InRange a := by
  rw [ofBits_lo, ofBits_hi, show Ideal.ofBits .f32 0x00000000#32 = (0 : EReal) from by simp [Ideal.ofBits, Ideal.ieee]] at h
  unfold InRange
  by_cases h0 : a = 0
  · exact .inl h0
  · refine .inr ⟨?_, ?_⟩
    · by_contra hlt
      revert h
      simp [Ideal.cmp, h0, hlt, IntOp.ori, IntOp.andi, -zpow_neg, -EReal.coe_mul, -zpow_natCast, -zpow_ofNat]
    · by_contra hlt
      revert h
      simp [Ideal.cmp, h0, hlt, IntOp.ori, IntOp.andi, -zpow_neg, -EReal.coe_mul, -zpow_natCast, -zpow_ofNat]

theorem inRange_of_fn (A : FVec Ideal (SC n) .f32) (hb : S0.BroadcastsInDim (SC n) (![] : Fin 0 → Fin (SC n).rank))
    (h : ori (cmpf .oeq A (broadcastInDim (SC n) ![] hb (constant S0 .f32 0x00000000#32)))
      (andi (cmpf .oge A (broadcastInDim (SC n) ![] hb (constant S0 .f32 0x05000000#32)))
        (cmpf .ole A (broadcastInDim (SC n) ![] hb (constant S0 .f32 0x7F7F0000#32)))) = fun _ => 1#1) (j : (SC n).Idx) : InRange (A j) :=
  inRange_of (A j) (congrFun h j)

end Cert.Proof.Quant

end
-- ==== Proof.QuantRefK.lean ====
/- The reference quantiser of `k`, read: its results are the codes and the scales of its argument; and the precondition of `k`,
   read. -/
module

public import proofs.«01_k».proof.Proof.QuantAmax
public import proofs.«01_k».proof.Proof.Gen.ReferenceKIdeal.Value
public import proofs.«01_k».proof.Proof.Gen.Pre_in_range_k
public import Idealize.ShloMosaic.Lib.Pipeline.ValueKit
public import Idealize.ShloMosaic.Lib.StableHlo.Run

@[expose] public section

set_option maxRecDepth 16384
set_option maxHeartbeats 4000000

noncomputable section

namespace Cert.Proof.Quant.RefK

open Cert.ReferenceKIdeal Cert.ReferenceKIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-- The argument. -/
abbrev arg (c : Dev nD) : (SA 2).Idx → EReal := m ((c : Thread nD τ).loc main_arg0)

/-! ## The host's operations -/

theorem V_amax (c : Dev nD) : V m c main_v3
    = amaxHost (n := 2) shapeCasts_S8x8192x256_S8x64x128x2x128 reducesTo_S8x64x128x2x128_S8x64x2_d2_4 h_S_ (arg m c) := by
  unfold_abbrev_sides
  after_results
  rfl

theorem V_spread (c : Dev nD) : V m c main_v6
    = shapeCast S8x8192x256 (broadcastInDim S8x64x128x2x128 ![0, 1, 2, 3, 4] bcast_S8x64x1x2x1_S8x64x128x2x128_0_1_2_3_4
        (broadcastInDim S8x64x1x2x1 ![0, 1, 3] bcast_S8x64x2_S8x64x1x2x1_0_1_3
          (amaxHost (n := 2) shapeCasts_S8x8192x256_S8x64x128x2x128 reducesTo_S8x64x128x2x128_S8x64x2_d2_4 h_S_ (arg m c))))
        shapeCasts_S8x64x128x2x128_S8x8192x256 := by
  unfold_abbrev_sides
  after_results
  rfl

/-! ## Every window's one block is its array -/

theorem iblk0 (c : Dev nD) (t : Fin cfg0.N) : iblk m c 0 t = V m c main_arg0 := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) _
theorem iblk1 (c : Dev nD) (t : Fin cfg0.N) : iblk m c 1 t = V m c main_v6 := by
  have hz : (fun a => win0_1.index t a * main_v6.ty.shape.size a) = fun _ => 0 := funext fun a => by fin_cases a <;> exact Nat.zero_mul _
  exact Memref.read_access_unit_zero (Elt Ideal) main_v6 hz (fun a => by rw [congrFun hz a]; simp) _
theorem iblk2 (c : Dev nD) (t : Fin cfg0.N) : iblk m c 2 t = V m c main_v3 := by
  have hz : (fun a => win0_2.index t a * main_v3.ty.shape.size a) = fun _ => 0 := funext fun a => by fin_cases a <;> exact Nat.zero_mul _
  exact Memref.read_access_unit_zero (Elt Ideal) main_v3 hz (fun a => by rw [congrFun hz a]; simp) _

/-! ## The body -/

theorem zeros : (![0, 0, 0] : Fin 3 → ℕ) = fun _ => 0 := funext fun a => match a with | ⟨0, _⟩ => rfl | ⟨1, _⟩ => rfl | ⟨2, _⟩ => rfl

theorem out3_at (x0 : Vec Ideal S8x8192x256 .bf16) (x1 : Vec Ideal S8x8192x256 .f32) (x2 : Vec Ideal S8x64x2 .f32) (y : S8x8192x256.Idx) :
    out0_3 (F := Ideal) x0 x1 x2 y = codeOf (x0 y) (x1 y) := by
  have l0 : View.ld x0 r0_0 = x0 := View.ld_unit_zero zeros _ _
  have l1 : View.ld x1 r0_0 = x1 := View.ld_unit_zero zeros _ _
  unfold out0_3
  rw [l0, l1, Cert.ReferenceKIdeal.Value.canon3_eq]
  have i0 : Cert.ReferenceKIdeal.Value.ix3_0 y = y := funext fun a => match a with | ⟨0, _⟩ => rfl | ⟨1, _⟩ => rfl | ⟨2, _⟩ => rfl
  have i1 : Cert.ReferenceKIdeal.Value.ix3_1 y = y := i0
  have i2 : Cert.ReferenceKIdeal.Value.ix3_2 y = y := i0
  show min (Ideal.ofBits .f32 0x43E00000#32) (max (Ideal.ofBits .f32 0xC3E00000#32) (x0 (Cert.ReferenceKIdeal.Value.ix3_0 y)
    * Ideal.exp2 (Ideal.ofBits .f32 0x00000000#32 - Scalar.select (Ideal.cmp .oeq (x1 (Cert.ReferenceKIdeal.Value.ix3_1 y)) (Ideal.ofBits .f32 0x00000000#32)) (Ideal.ofBits .f32 0x00000000#32)
      (Ideal.liftRound Int.floor (Ideal.div (Ideal.log (x1 (Cert.ReferenceKIdeal.Value.ix3_2 y) * Ideal.ofBits .f32 0x3B124925#32)) ((Real.log 2 : ℝ) : EReal))
        + Ideal.ofBits .f32 0x3F800000#32)))) = _
  rw [i0, i1, i2, expo_eq, ofBits_448, ofBits_neg_448, show Ideal.ofBits .f32 0x00000000#32 = (0 : EReal) from by simp [Ideal.ofBits, Ideal.ieee]]
  rfl

theorem out4_at (x0 : Vec Ideal S8x8192x256 .bf16) (x1 : Vec Ideal S8x8192x256 .f32) (x2 : Vec Ideal S8x64x2 .f32) (y : S8x64x2.Idx) :
    out0_4 (F := Ideal) x0 x1 x2 y = scaleOf (x2 y) := by
  have l2 : View.ld x2 r0_1 = x2 := View.ld_unit_zero zeros _ _
  unfold out0_4
  rw [l2, Cert.ReferenceKIdeal.Value.canon4_eq]
  have i0 : Cert.ReferenceKIdeal.Value.ix4_0 y = y := funext fun a => match a with | ⟨0, _⟩ => rfl | ⟨1, _⟩ => rfl | ⟨2, _⟩ => rfl
  have i1 : Cert.ReferenceKIdeal.Value.ix4_1 y = y := i0
  show Ideal.exp2 (Scalar.select (Ideal.cmp .oeq (x2 (Cert.ReferenceKIdeal.Value.ix4_0 y)) (Ideal.ofBits .f32 0x00000000#32)) (Ideal.ofBits .f32 0x00000000#32)
      (Ideal.liftRound Int.floor (Ideal.div (Ideal.log (x2 (Cert.ReferenceKIdeal.Value.ix4_1 y) * Ideal.ofBits .f32 0x3B124925#32)) ((Real.log 2 : ℝ) : EReal))
        + Ideal.ofBits .f32 0x3F800000#32)) = _
  rw [i0, i1, expo_eq]
  rfl

/-! ## The results -/

theorem final_codes (c : Dev nD) : (dats m 0 c).arrAt 3 cfg0.N = codesArr (n := 2) (arg m c) := by
  have hz : ∀ t, (fun a => win0_3.index t a * main_v7_0.ty.shape.size a) = fun _ => 0 := fun t => funext fun a => by fin_cases a <;> exact Nat.zero_mul _
  refine (dats m 0 c).arrAt_eq_of_cover 3 (codesArr (n := 2) (arg m c)) (fun t _ => ?_) fun (i : S8x8192x256.Idx) => ⟨(⟨0, by decide⟩ : Fin cfg0.N), by decide, ?_⟩
  · show (cfg0.win 3).cut (grid0.coords t) ((dats m 0 c).after 3 t) = _
    refine Eq.trans ?_ (Memref.read_access_unit_zero (Elt Ideal) main_v7_0 (hz t) (fun a => by rw [congrFun (hz t) a]; simp) (codesArr (n := 2) (arg m c))).symm
    rw [after0_3, iblk0, iblk1, V_spread, V_main_arg0]
    refine funext fun (y : S8x8192x256.Idx) => (out3_at _ _ _ y).trans ?_
    refine (congrArg (codeOf _) ((spread_at (n := 2) _ _ _ _ y).trans (amaxHost_at (n := 2) _ _ _ _ _ _ _))).trans ?_
    rfl
  · change _ ∈ ((View.whole main_v7_0).slice (win0_3.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

theorem final_scales (c : Dev nD) : (dats m 0 c).arrAt 4 cfg0.N = scalesArr (n := 2) (arg m c) := by
  have hz : ∀ t, (fun a => win0_4.index t a * main_v7_1.ty.shape.size a) = fun _ => 0 := fun t => funext fun a => by fin_cases a <;> exact Nat.zero_mul _
  refine (dats m 0 c).arrAt_eq_of_cover 4 (scalesArr (n := 2) (arg m c)) (fun t _ => ?_) fun (i : S8x64x2.Idx) => ⟨(⟨0, by decide⟩ : Fin cfg0.N), by decide, ?_⟩
  · show (cfg0.win 4).cut (grid0.coords t) ((dats m 0 c).after 4 t) = _
    refine Eq.trans ?_ (Memref.read_access_unit_zero (Elt Ideal) main_v7_1 (hz t) (fun a => by rw [congrFun (hz t) a]; simp) (scalesArr (n := 2) (arg m c))).symm
    rw [after0_4, iblk2, V_amax]
    refine funext fun (y : S8x64x2.Idx) => (out4_at _ _ _ y).trans ?_
    refine (congrArg scaleOf ((congrArg _ (eq_ix3 y)).trans (amaxHost_at (n := 2) _ _ _ _ (y 0) (y 1) (y 2)))).trans ?_
    rfl
  · change _ ∈ ((View.whole main_v7_1).slice (win0_4.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

/-- The run, read: the results are the codes and the scales of the argument, which ends unchanged. -/
theorem run : θ_run defs (onTc (τ := τ) (main (F := Ideal))) ⟨m, fun _ => 0, ρ⟩ fun r => ∀ c : Dev nD,
      r.2.mem ((c : Thread nD τ).loc main_v7_0) = codesArr (n := 2) (arg m c)
      ∧ r.2.mem ((c : Thread nD τ).loc main_v7_1) = scalesArr (n := 2) (arg m c)
      ∧ r.2.mem ((c : Thread nD τ).loc main_arg0) = m ((c : Thread nD τ).loc main_arg0) :=
  (θ_run defs _ _).mono (fun _ h c => ⟨(h c).1.trans (final_codes m c), (h c).2.1.trans (final_scales m c), (h c).2.2⟩)
    (Cert.ReferenceKIdeal.Value.run_blocks m ρ)

/-! ## The precondition -/

theorem inRange (X : (SA 2).Idx → EReal)
    (hp : @Cert.Pre_in_range_k.fn Cert.Pre_in_range_k.Gen.facts Ideal _ X = fun _ => 1#1) (b : Fin 8) (k : Fin 64) (h : Fin 2) :
    InRange (amaxArr X b k h) := by
  rw [← amaxHost_at (n := 2) Cert.Pre_in_range_k.Gen.facts.shapeCasts_S8x8192x256_S8x64x128x2x128
    Cert.Pre_in_range_k.Gen.facts.reducesTo_S8x64x128x2x128_S8x64x2_d2_4 Cert.Pre_in_range_k.Gen.facts.h_S_ X b k h]
  exact inRange_of_fn (n := 2) _ Cert.Pre_in_range_k.Gen.facts.bcast_S_S8x64x2 hp (ix3 b k h)

end Cert.Proof.Quant.RefK

end
-- ==== Proof.QuantX.lean ====
/- The quantiser of `x`, read: its results are the codes and the scales of its argument. -/
module

public import proofs.«01_k».proof.Proof.QuantBlock
public import proofs.«01_k».proof.Proof.Gen.KernelXIdeal.Value
public import Idealize.ShloMosaic.Lib.Pipeline.ValueKit
public import Idealize.ShloMosaic.Lib.Pipeline.Covers

@[expose] public section

set_option maxRecDepth 16384
set_option maxHeartbeats 4000000

noncomputable section

namespace Cert.Proof.Quant.X

open Cert.KernelXIdeal Cert.KernelXIdeal.Gen
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x2048 .bf16) :
    out0_1 (F := Ideal) x0 = View.canon ((tiles 16).reverse.map (codesPiece (n := 16) x0)) := rfl

/-- The block's scales are the tiles' scales, put in order. -/
theorem out2_eq (x0 : Vec Ideal S1x1024x2048 .bf16) :
    out0_2 (F := Ideal) x0 = shapeCast S1x8x16 (extractStridedSlice S8x16 ![0, 0] (putAll (n := 16) x0 (tiles 16))
      slices_S8x128_o0_0_S8x16) shapeCasts_S8x16_S1x8x16 :=
  View.canon_unit_zero (S := S1x8x16) (Val := Elt Ideal) (e := .f32) (off := ![0, 0, 0])
    (funext fun a => match a with | ⟨0, _⟩ => rfl | ⟨1, _⟩ => rfl | ⟨2, _⟩ => rfl) inb_S1x8x16_S1x8x16_0_0_0 _

theorem scales_at (v : FVec Ideal S8x128 .f32) (r : Fin 8) (h : Fin 16) :
    shapeCast S1x8x16 (extractStridedSlice S8x16 ![0, 0] v slices_S8x128_o0_0_S8x16) shapeCasts_S8x16_S1x8x16 (ix3 0 r h)
      = v (ix2 r ⟨0 + h.val, by omega⟩) := by
  pointwise

/-! ## The blocks and the final arrays -/

variable (m : (ℓ : Loc nD τ sig) → Buf (Elt Ideal) ℓ) (ρ : Dev nD → PrngReg)

theorem word (n : ℕ) (h : n < 2 ^ 32) : (BitVec.ofNat 32 n).toNat = n := by rw [BitVec.toNat_ofNat, Nat.mod_eq_of_lt h]

section idx

variable (t : Fin cfg0.N)

theorem i0_lt : (grid0.coords t 0).val < 8 := (grid0.coords t 0).isLt
theorem i1_lt : (grid0.coords t 1).val < 8 := (grid0.coords t 1).isLt

theorem idx0 : win0_0.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win0_1.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win0_2.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]

end idx

/-- The argument. -/
abbrev arg (c : Dev nD) : (SA 16).Idx → EReal := m ((c : Thread nD τ).loc main_arg0)

theorem block_at (c : Dev nD) (t : Fin cfg0.N) (r : Fin 1024) (z : Fin 2048) : (iblk m c 0 t : Vec Ideal S1x1024x2048 .bf16) (ix3 0 r z)
    = arg m c (ix3 (grid0.coords t 0) (⟨(grid0.coords t 1).val * 1024 + r.val, by have := i1_lt t; omega⟩ : Fin 8192) z) := by
  blk_ext [iblk, V, idx0 t]

theorem covers1 : (cfg0.win 1).Covers :=
  (cfg0.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg0.win 2).Covers :=
  (cfg0.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

section final

variable (c : Dev nD) (hIn : ∀ b k h, InRange (amaxArr (n := 16) (arg m c) b k h))

include hIn in
theorem final_codes : (dats m 0 c).arrAt 1 cfg0.N = codesArr (n := 16) (arg m c) := by
  refine (dats m 0 c).arrAt_eq_of_covers 1 _ covers1 fun t hf (y : S1x1024x2048.Idx) => ?_
  blk_simp
  rw [after0_1, out1_eq]
  have y0_lt : (y 0).val < 1 := (y 0).isLt
  have e : ∀ a : Fin 3, (((win0_1.blk t).view.emb y) a : ℕ) = win0_1.index t a * win0_1.size a + y a := fun a => win0_1.rect_emb_val t y a
  refine block_codes (n := 16) (iblk m c 0 t) (arg m c) (grid0.coords t 0) (grid0.coords t 1) (block_at m c t) hIn y
    ((win0_1.blk t).view.emb y) ?_ ?_ ?_
  · refine (e 0).trans ?_
    rw [idx1]
    show (grid0.coords t 0).val * 1 + (y 0).val = (grid0.coords t 0).val
    omega
  · refine (e 1).trans ?_
    rw [idx1]
    rfl
  · refine (e 2).trans ?_
    rw [idx1]
    show 0 * 2048 + (y 2).val = (y 2).val
    omega

include hIn in
theorem final_scales : (dats m 0 c).arrAt 2 cfg0.N = scalesArr (n := 16) (arg m c) := by
  refine (dats m 0 c).arrAt_eq_of_covers 2 _ covers2 fun t hf (y : S1x8x16.Idx) => ?_
  blk_simp
  rw [after0_2, out2_eq]
  have y0_lt : (y 0).val < 1 := (y 0).isLt
  have y1_lt : (y 1).val < 8 := (y 1).isLt
  have y2_lt : (y 2).val < 16 := (y 2).isLt
  have ey : y = ix3 0 (⟨(y 1).val, y1_lt⟩ : Fin 8) (⟨(y 2).val, y2_lt⟩ : Fin 16) := funext fun a =>
    match a with
    | ⟨0, _⟩ => Fin.ext (by show (y 0).val = 0; omega)
    | ⟨1, _⟩ => rfl
    | ⟨2, _⟩ => rfl
  have e : ∀ a : Fin 3, (((win0_2.blk t).view.emb y) a : ℕ) = win0_2.index t a * win0_2.size a + y a := fun a => win0_2.rect_emb_val t y a
  refine (congrArg _ ey).trans ((scales_at _ _ _).trans (block_scales (n := 16) (iblk m c 0 t) (arg m c) (grid0.coords t 0) (grid0.coords t 1)
    (block_at m c t) hIn (by norm_num) ⟨(y 1).val, y1_lt⟩ ⟨(y 2).val, y2_lt⟩ _ ?_ ((win0_2.blk t).view.emb y) ?_ ?_ ?_))
  · show 0 + (y 2).val = (y 2).val
    omega
  · refine (e 0).trans ?_
    rw [idx2]
    show (grid0.coords t 0).val * 1 + (y 0).val = (grid0.coords t 0).val
    omega
  · refine (e 1).trans ?_
    rw [idx2]
    rfl
  · refine (e 2).trans ?_
    rw [idx2]
    show 0 * 16 + (y 2).val = (y 2).val
    omega

end final

/-- The run, read: the results are the codes and the scales of the argument, which ends unchanged. -/
theorem run (hIn : ∀ c b k h, InRange (amaxArr (n := 16) (arg m c) b k h)) :
    θ_run defs (onTc (τ := τ) (main (F := Ideal))) ⟨m, fun _ => 0, ρ⟩ fun r => ∀ c : Dev nD,
      r.2.mem ((c : Thread nD τ).loc main_v0_0) = codesArr (n := 16) (arg m c)
      ∧ r.2.mem ((c : Thread nD τ).loc main_v0_1) = scalesArr (n := 16) (arg m c)
      ∧ r.2.mem ((c : Thread nD τ).loc main_arg0) = m ((c : Thread nD τ).loc main_arg0) :=
  (θ_run defs _ _).mono (fun _ h c => ⟨(h c).1.trans (final_codes m c (hIn c)), (h c).2.1.trans (final_scales m c (hIn c)), (h c).2.2⟩)
    (Cert.KernelXIdeal.Value.run_blocks m ρ)

end Cert.Proof.Quant.X

end
-- ==== Proof.QuantRefX.lean ====
/- The reference quantiser of `x`, read: its results are the codes and the scales of its argument; and the precondition of `x`,
   read. -/
module

public import proofs.«01_k».proof.Proof.QuantAmax
public import proofs.«01_k».proof.Proof.Gen.ReferenceXIdeal.Value
public import proofs.«01_k».proof.Proof.Gen.Pre_in_range_x
public import Idealize.ShloMosaic.Lib.Pipeline.ValueKit
public import Idealize.ShloMosaic.Lib.StableHlo.Run

@[expose] public section

set_option maxRecDepth 16384
set_option maxHeartbeats 4000000

noncomputable section

namespace Cert.Proof.Quant.RefX

open Cert.ReferenceXIdeal Cert.ReferenceXIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-- The argument. -/
abbrev arg (c : Dev nD) : (SA 16).Idx → EReal := m ((c : Thread nD τ).loc main_arg0)

/-! ## The host's operations -/

theorem V_amax (c : Dev nD) : V m c main_v3
    = amaxHost (n := 16) shapeCasts_S8x8192x2048_S8x64x128x16x128 reducesTo_S8x64x128x16x128_S8x64x16_d2_4 h_S_ (arg m c) := by
  unfold_abbrev_sides
  after_results
  rfl

theorem V_spread (c : Dev nD) : V m c main_v6
    = shapeCast S8x8192x2048 (broadcastInDim S8x64x128x16x128 ![0, 1, 2, 3, 4] bcast_S8x64x1x16x1_S8x64x128x16x128_0_1_2_3_4
        (broadcastInDim S8x64x1x16x1 ![0, 1, 3] bcast_S8x64x16_S8x64x1x16x1_0_1_3
          (amaxHost (n := 16) shapeCasts_S8x8192x2048_S8x64x128x16x128 reducesTo_S8x64x128x16x128_S8x64x16_d2_4 h_S_ (arg m c))))
        shapeCasts_S8x64x128x16x128_S8x8192x2048 := by
  unfold_abbrev_sides
  after_results
  rfl

/-! ## Every window's one block is its array -/

theorem iblk0 (c : Dev nD) (t : Fin cfg0.N) : iblk m c 0 t = V m c main_arg0 := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) _
theorem iblk1 (c : Dev nD) (t : Fin cfg0.N) : iblk m c 1 t = V m c main_v6 := by
  have hz : (fun a => win0_1.index t a * main_v6.ty.shape.size a) = fun _ => 0 := funext fun a => by fin_cases a <;> exact Nat.zero_mul _
  exact Memref.read_access_unit_zero (Elt Ideal) main_v6 hz (fun a => by rw [congrFun hz a]; simp) _
theorem iblk2 (c : Dev nD) (t : Fin cfg0.N) : iblk m c 2 t = V m c main_v3 := by
  have hz : (fun a => win0_2.index t a * main_v3.ty.shape.size a) = fun _ => 0 := funext fun a => by fin_cases a <;> exact Nat.zero_mul _
  exact Memref.read_access_unit_zero (Elt Ideal) main_v3 hz (fun a => by rw [congrFun hz a]; simp) _

/-! ## The body -/

theorem zeros : (![0, 0, 0] : Fin 3 → ℕ) = fun _ => 0 := funext fun a => match a with | ⟨0, _⟩ => rfl | ⟨1, _⟩ => rfl | ⟨2, _⟩ => rfl

theorem out3_at (x0 : Vec Ideal S8x8192x2048 .bf16) (x1 : Vec Ideal S8x8192x2048 .f32) (x2 : Vec Ideal S8x64x16 .f32) (y : S8x8192x2048.Idx) :
    out0_3 (F := Ideal) x0 x1 x2 y = codeOf (x0 y) (x1 y) := by
  have l0 : View.ld x0 r0_0 = x0 := View.ld_unit_zero zeros _ _
  have l1 : View.ld x1 r0_0 = x1 := View.ld_unit_zero zeros _ _
  unfold out0_3
  rw [l0, l1, Cert.ReferenceXIdeal.Value.canon3_eq]
  have i0 : Cert.ReferenceXIdeal.Value.ix3_0 y = y := funext fun a => match a with | ⟨0, _⟩ => rfl | ⟨1, _⟩ => rfl | ⟨2, _⟩ => rfl
  have i1 : Cert.ReferenceXIdeal.Value.ix3_1 y = y := i0
  have i2 : Cert.ReferenceXIdeal.Value.ix3_2 y = y := i0
  show min (Ideal.ofBits .f32 0x43E00000#32) (max (Ideal.ofBits .f32 0xC3E00000#32) (x0 (Cert.ReferenceXIdeal.Value.ix3_0 y)
    * Ideal.exp2 (Ideal.ofBits .f32 0x00000000#32 - Scalar.select (Ideal.cmp .oeq (x1 (Cert.ReferenceXIdeal.Value.ix3_1 y)) (Ideal.ofBits .f32 0x00000000#32)) (Ideal.ofBits .f32 0x00000000#32)
      (Ideal.liftRound Int.floor (Ideal.div (Ideal.log (x1 (Cert.ReferenceXIdeal.Value.ix3_2 y) * Ideal.ofBits .f32 0x3B124925#32)) ((Real.log 2 : ℝ) : EReal))
        + Ideal.ofBits .f32 0x3F800000#32)))) = _
  rw [i0, i1, i2, expo_eq, ofBits_448, ofBits_neg_448, show Ideal.ofBits .f32 0x00000000#32 = (0 : EReal) from by simp [Ideal.ofBits, Ideal.ieee]]
  rfl

theorem out4_at (x0 : Vec Ideal S8x8192x2048 .bf16) (x1 : Vec Ideal S8x8192x2048 .f32) (x2 : Vec Ideal S8x64x16 .f32) (y : S8x64x16.Idx) :
    out0_4 (F := Ideal) x0 x1 x2 y = scaleOf (x2 y) := by
  have l2 : View.ld x2 r0_1 = x2 := View.ld_unit_zero zeros _ _
  unfold out0_4
  rw [l2, Cert.ReferenceXIdeal.Value.canon4_eq]
  have i0 : Cert.ReferenceXIdeal.Value.ix4_0 y = y := funext fun a => match a with | ⟨0, _⟩ => rfl | ⟨1, _⟩ => rfl | ⟨2, _⟩ => rfl
  have i1 : Cert.ReferenceXIdeal.Value.ix4_1 y = y := i0
  show Ideal.exp2 (Scalar.select (Ideal.cmp .oeq (x2 (Cert.ReferenceXIdeal.Value.ix4_0 y)) (Ideal.ofBits .f32 0x00000000#32)) (Ideal.ofBits .f32 0x00000000#32)
      (Ideal.liftRound Int.floor (Ideal.div (Ideal.log (x2 (Cert.ReferenceXIdeal.Value.ix4_1 y) * Ideal.ofBits .f32 0x3B124925#32)) ((Real.log 2 : ℝ) : EReal))
        + Ideal.ofBits .f32 0x3F800000#32)) = _
  rw [i0, i1, expo_eq]
  rfl

/-! ## The results -/

theorem final_codes (c : Dev nD) : (dats m 0 c).arrAt 3 cfg0.N = codesArr (n := 16) (arg m c) := by
  have hz : ∀ t, (fun a => win0_3.index t a * main_v7_0.ty.shape.size a) = fun _ => 0 := fun t => funext fun a => by fin_cases a <;> exact Nat.zero_mul _
  refine (dats m 0 c).arrAt_eq_of_cover 3 (codesArr (n := 16) (arg m c)) (fun t _ => ?_) fun (i : S8x8192x2048.Idx) => ⟨(⟨0, by decide⟩ : Fin cfg0.N), by decide, ?_⟩
  · show (cfg0.win 3).cut (grid0.coords t) ((dats m 0 c).after 3 t) = _
    refine Eq.trans ?_ (Memref.read_access_unit_zero (Elt Ideal) main_v7_0 (hz t) (fun a => by rw [congrFun (hz t) a]; simp) (codesArr (n := 16) (arg m c))).symm
    rw [after0_3, iblk0, iblk1, V_spread, V_main_arg0]
    refine funext fun (y : S8x8192x2048.Idx) => (out3_at _ _ _ y).trans ?_
    refine (congrArg (codeOf _) ((spread_at (n := 16) _ _ _ _ y).trans (amaxHost_at (n := 16) _ _ _ _ _ _ _))).trans ?_
    rfl
  · change _ ∈ ((View.whole main_v7_0).slice (win0_3.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

theorem final_scales (c : Dev nD) : (dats m 0 c).arrAt 4 cfg0.N = scalesArr (n := 16) (arg m c) := by
  have hz : ∀ t, (fun a => win0_4.index t a * main_v7_1.ty.shape.size a) = fun _ => 0 := fun t => funext fun a => by fin_cases a <;> exact Nat.zero_mul _
  refine (dats m 0 c).arrAt_eq_of_cover 4 (scalesArr (n := 16) (arg m c)) (fun t _ => ?_) fun (i : S8x64x16.Idx) => ⟨(⟨0, by decide⟩ : Fin cfg0.N), by decide, ?_⟩
  · show (cfg0.win 4).cut (grid0.coords t) ((dats m 0 c).after 4 t) = _
    refine Eq.trans ?_ (Memref.read_access_unit_zero (Elt Ideal) main_v7_1 (hz t) (fun a => by rw [congrFun (hz t) a]; simp) (scalesArr (n := 16) (arg m c))).symm
    rw [after0_4, iblk2, V_amax]
    refine funext fun (y : S8x64x16.Idx) => (out4_at _ _ _ y).trans ?_
    refine (congrArg scaleOf ((congrArg _ (eq_ix3 y)).trans (amaxHost_at (n := 16) _ _ _ _ (y 0) (y 1) (y 2)))).trans ?_
    rfl
  · change _ ∈ ((View.whole main_v7_1).slice (win0_4.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

/-- The run, read: the results are the codes and the scales of the argument, which ends unchanged. -/
theorem run : θ_run defs (onTc (τ := τ) (main (F := Ideal))) ⟨m, fun _ => 0, ρ⟩ fun r => ∀ c : Dev nD,
      r.2.mem ((c : Thread nD τ).loc main_v7_0) = codesArr (n := 16) (arg m c)
      ∧ r.2.mem ((c : Thread nD τ).loc main_v7_1) = scalesArr (n := 16) (arg m c)
      ∧ r.2.mem ((c : Thread nD τ).loc main_arg0) = m ((c : Thread nD τ).loc main_arg0) :=
  (θ_run defs _ _).mono (fun _ h c => ⟨(h c).1.trans (final_codes m c), (h c).2.1.trans (final_scales m c), (h c).2.2⟩)
    (Cert.ReferenceXIdeal.Value.run_blocks m ρ)

/-! ## The precondition -/

theorem inRange (X : (SA 16).Idx → EReal)
    (hp : @Cert.Pre_in_range_x.fn Cert.Pre_in_range_x.Gen.facts Ideal _ X = fun _ => 1#1) (b : Fin 8) (k : Fin 64) (h : Fin 16) :
    InRange (amaxArr X b k h) := by
  rw [← amaxHost_at (n := 16) Cert.Pre_in_range_x.Gen.facts.shapeCasts_S8x8192x2048_S8x64x128x16x128
    Cert.Pre_in_range_x.Gen.facts.reducesTo_S8x64x128x16x128_S8x64x16_d2_4 Cert.Pre_in_range_x.Gen.facts.h_S_ X b k h]
  exact inRange_of_fn (n := 16) _ Cert.Pre_in_range_x.Gen.facts.bcast_S_S8x64x16 hp (ix3 b k h)

end Cert.Proof.Quant.RefX

end
-- ==== Proof.QuantTrans.lean ====
/- The quantising kernel's second copy of its codes: every tile is stored transposed, one plane to a head. The stores are read
   here at an index, for any order of the tiles, and carried back to the codes in their first layout. -/
module

public import proofs.«01_k».proof.Proof.QuantBlock
public import proofs.«01_k».proof.Proof.Gen.KernelVIdeal

@[expose] public section

set_option maxRecDepth 16384
set_option maxHeartbeats 4000000
set_option backward.proofsInPublic true

noncomputable section

namespace Cert.Proof.Quant

open Cert.KernelVIdeal Cert.KernelVIdeal.Gen
open Idealize.ShloMosaic Idealize.ShloMosaic.TcCoe Idealize.ShloMosaic.Tactic

/-- The codes of a tile, transposed. -/
def tileCodesT (t : Vec Ideal S1x128x128 .bf16) : FVec Ideal S1x1x128x128 .fp8e4m3 :=
  shapeCast S1x1x128x128 (truncf .fp8e4m3 (transpose S128x128 [1, 0] (tileScaled t) transposes_S128x128_p1_0_S128x128)
    bitsLt_fp8e4m3_bf16) shapeCasts_S128x128_S1x1x128x128

theorem tileCodesT_at (t : Vec Ideal S1x128x128 .bf16) (h : InRange (tileAmax t)) (d r : Fin 128) :
    tileCodesT t (ix4 0 0 d r) = codeOf (t (ix3 0 r d)) (tileAmax t) := by
  rw [← tileScaled_at t h]
  unfold tileCodesT
  pointwise

/-- A block of `n` heads and `1024` tokens, the tokens last. -/
abbrev SBT (n : ℕ) : Shape := ⟨4, ![1, n, 128, 1024]⟩

theorem tileT_inb (n : ℕ) (p : Fin 8 × Fin n) (a : Fin 4) :
    (![0, p.2.val, 0, 128 * p.1.val] : Fin 4 → ℕ) a + S1x1x128x128.size a ≤ (SBT n).size a := match a with
  | ⟨0, _⟩ => by show 0 + 1 ≤ 1; omega
  | ⟨1, _⟩ => by show p.2.val + 1 ≤ n; omega
  | ⟨2, _⟩ => by show 0 + 128 ≤ 128; omega
  | ⟨3, _⟩ => by show 128 * p.1.val + 128 ≤ 1024; omega

/-- Where the tile of block row `p.1` and head `p.2` goes. -/
abbrev tileRectT (n : ℕ) (p : Fin 8 × Fin n) : Rect (SBT n) :=
  Rect.unit (s := SBT n) ![0, p.2.val, 0, 128 * p.1.val] S1x1x128x128.size (tileT_inb n p)

variable {n : ℕ} (x0 : Vec Ideal (SB n) .bf16)

/-- The tile's transposed store. -/
def codesPieceT (p : Fin 8 × Fin n) : View.Piece (Elt Ideal) (SBT n) .fp8e4m3 :=
  ⟨tileRectT n p, tileCodesT (View.ld x0 (tileRect n p))⟩

/-- Where an entry of the transposed block comes from. -/
def srcOf (y : (SBT n).Idx) : (SB n).Idx :=
  ix3 0 (⟨(y 3).val, (y 3).isLt⟩ : Fin 1024) (⟨128 * (y 1).val + (y 2).val, by
    have h1 : (y 1).val < n := (y 1).isLt
    have h2 : (y 2).val < 128 := (y 2).isLt
    omega⟩ : Fin (128 * n))

theorem codesT_at (hIn : ∀ p, InRange (amaxAt x0 p)) (L : List (Fin 8 × Fin n)) (hL : ∀ p, p ∈ L) (y : (SBT n).Idx) :
    View.canon (L.map (codesPieceT x0)) y = codeOf (x0 (srcOf y)) (amaxAt x0 (tileOf (srcOf y))) := by
  refine View.canon_apply_of_pieces (Val := Elt Ideal) (e := .fp8e4m3) (fun y => codeOf (x0 (srcOf y)) (amaxAt x0 (tileOf (srcOf y)))) _
    (fun q hq x => ?_) y ?_
  · obtain ⟨p, -, rfl⟩ := List.mem_map.1 hq
    have x0' : (x 0).val < 1 := (x 0).isLt
    have x1' : (x 1).val < 1 := (x 1).isLt
    have x2 : (x 2).val < 128 := (x 2).isLt
    have x3 : (x 3).val < 128 := (x 3).isLt
    have ex : x = ix4 0 0 (⟨(x 2).val, x2⟩ : Fin 128) (⟨(x 3).val, x3⟩ : Fin 128) := funext fun a =>
      match a with
      | ⟨0, _⟩ => Fin.ext (by show (x 0).val = 0; omega)
      | ⟨1, _⟩ => Fin.ext (by show (x 1).val = 0; omega)
      | ⟨2, _⟩ => rfl
      | ⟨3, _⟩ => rfl
    have ep : tileOf (srcOf ((tileRectT n p).emb x)) = p := by
      refine Prod.ext (Fin.ext ?_) (Fin.ext ?_)
      · show (128 * p.1.val + 1 * (x 3).val) / 128 = p.1.val
        omega
      · show (128 * (p.2.val + 1 * (x 1).val) + (0 + 1 * (x 2).val)) / 128 = p.2.val
        omega
    have es : srcOf ((tileRectT n p).emb x) = ix3 0 (⟨128 * p.1.val + (x 3).val, by omega⟩ : Fin 1024)
        (⟨128 * p.2.val + (x 2).val, by omega⟩ : Fin (128 * n)) := funext fun a =>
      match a with
      | ⟨0, _⟩ => rfl
      | ⟨1, _⟩ => Fin.ext (by show 128 * p.1.val + 1 * (x 3).val = 128 * p.1.val + (x 3).val; omega)
      | ⟨2, _⟩ => Fin.ext (by show 128 * (p.2.val + 1 * (x 1).val) + (0 + 1 * (x 2).val) = 128 * p.2.val + (x 2).val; omega)
    show tileCodesT (View.ld x0 (tileRect n p)) x
      = codeOf (x0 (srcOf ((tileRectT n p).emb x))) (amaxAt x0 (tileOf (srcOf ((tileRectT n p).emb x))))
    rw [ep, es, ← tileAmax_ld]
    refine (congrArg _ ex).trans ((tileCodesT_at _ (by rw [tileAmax_ld]; exact hIn p) _ _).trans ?_)
    congr 1
    exact ld_at x0 p _ _
  · refine ⟨_, List.mem_map.2 ⟨tileOf (srcOf y), hL _, rfl⟩, (Rect.mem_set_unit (inb := tileT_inb n (tileOf (srcOf y)))).2 fun a => ?_⟩
    have y0 : (y 0).val < 1 := (y 0).isLt
    have y2 : (y 2).val < 128 := (y 2).isLt
    match a with
    | ⟨0, _⟩ => show 0 ≤ (y 0).val ∧ (y 0).val < 0 + 1; omega
    | ⟨1, _⟩ =>
      show (128 * (y 1).val + (y 2).val) / 128 ≤ (y 1).val ∧ (y 1).val < (128 * (y 1).val + (y 2).val) / 128 + 1
      omega
    | ⟨2, _⟩ => show 0 ≤ (y 2).val ∧ (y 2).val < 0 + 128; omega
    | ⟨3, _⟩ => show 128 * ((y 3).val / 128) ≤ (y 3).val ∧ (y 3).val < 128 * ((y 3).val / 128) + 128; omega

/-! ## The whole array -/

/-- The codes of an array, heads first and tokens last. -/
def codesArrT (X : (SA n).Idx → EReal) (y : (⟨4, ![8, n, 128, 8192]⟩ : Shape).Idx) : EReal :=
  codesArr X (ix3 (⟨(y 0).val, (y 0).isLt⟩ : Fin 8) (⟨(y 3).val, (y 3).isLt⟩ : Fin 8192) (⟨128 * (y 1).val + (y 2).val, by
    have h1 : (y 1).val < n := (y 1).isLt
    have h2 : (y 2).val < 128 := (y 2).isLt
    omega⟩ : Fin (128 * n)))

/-- The block at sequence `i`, token position `1024 * j`. -/
theorem block_codesT (X : (SA n).Idx → EReal) (i : Fin 8) (j : Fin 8)
    (hx : ∀ (r : Fin 1024) (z : Fin (128 * n)), x0 (ix3 0 r z) = X (ix3 i (⟨j.val * 1024 + r.val, by omega⟩ : Fin 8192) z))
    (hIn : ∀ b k h, InRange (amaxArr X b k h)) (y : (SBT n).Idx) (Y : (⟨4, ![8, n, 128, 8192]⟩ : Shape).Idx)
    (h0 : (Y 0).val = i.val) (h1 : (Y 1).val = (y 1).val) (h2 : (Y 2).val = (y 2).val) (h3 : (Y 3).val = j.val * 1024 + (y 3).val) :
    View.canon ((tiles n).reverse.map (codesPieceT x0)) y = codesArrT X Y := by
  have hI : ∀ p, InRange (amaxAt x0 p) := fun p => by rw [amaxAt_eq x0 X i j hx]; exact hIn _ _ _
  have hL : ∀ p, p ∈ (tiles n).reverse := fun p => List.mem_reverse.2 (mem_tiles n p)
  refine (codesT_at x0 hI _ hL y).trans ((codes_at x0 hI _ hL (srcOf y)).symm.trans (block_codes x0 X i j hx hIn (srcOf y) _ h0 h3 ?_))
  show 128 * (Y 1).val + (Y 2).val = 128 * (y 1).val + (y 2).val
  rw [h1, h2]

end Cert.Proof.Quant

end
-- ==== Proof.QuantV.lean ====
/- The quantiser of `v`, read: its results are the codes of its argument, their scales, and the codes transposed. -/
module

public import proofs.«01_k».proof.Proof.QuantTrans
public import proofs.«01_k».proof.Proof.Gen.KernelVIdeal.Value
public import Idealize.ShloMosaic.Lib.Pipeline.ValueKit
public import Idealize.ShloMosaic.Lib.Pipeline.Covers

@[expose] public section

set_option maxRecDepth 16384
set_option maxHeartbeats 4000000

noncomputable section

namespace Cert.Proof.Quant.V

open Cert.KernelVIdeal Cert.KernelVIdeal.Gen
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x256 .bf16) :
    out0_1 (F := Ideal) x0 = View.canon ((tiles 2).reverse.map (codesPiece (n := 2) x0)) := rfl

/-- The block's scales are the tiles' scales, put in order. -/
theorem out2_eq (x0 : Vec Ideal S1x1024x256 .bf16) :
    out0_2 (F := Ideal) x0 = shapeCast S1x8x2 (extractStridedSlice S8x2 ![0, 0] (putAll (n := 2) x0 (tiles 2))
      slices_S8x128_o0_0_S8x2) shapeCasts_S8x2_S1x8x2 :=
  View.canon_unit_zero (S := S1x8x2) (Val := Elt Ideal) (e := .f32) (off := ![0, 0, 0])
    (funext fun a => match a with | ⟨0, _⟩ => rfl | ⟨1, _⟩ => rfl | ⟨2, _⟩ => rfl) inb_S1x8x2_S1x8x2_0_0_0 _

/-- The transposed codes are the transposed stores of its tiles, the last first. -/
theorem out3_eq (x0 : Vec Ideal S1x1024x256 .bf16) :
    out0_3 (F := Ideal) x0 = View.canon ((tiles 2).reverse.map (codesPieceT (n := 2) x0)) := rfl

theorem scales_at (v : FVec Ideal S8x128 .f32) (r : Fin 8) (h : Fin 2) :
    shapeCast S1x8x2 (extractStridedSlice S8x2 ![0, 0] v slices_S8x128_o0_0_S8x2) shapeCasts_S8x2_S1x8x2 (ix3 0 r h)
      = v (ix2 r ⟨0 + h.val, by omega⟩) := by
  pointwise

/-! ## The blocks and the final arrays -/

variable (m : (ℓ : Loc nD τ sig) → Buf (Elt Ideal) ℓ) (ρ : Dev nD → PrngReg)

theorem word (n : ℕ) (h : n < 2 ^ 32) : (BitVec.ofNat 32 n).toNat = n := by rw [BitVec.toNat_ofNat, Nat.mod_eq_of_lt h]

section idx

variable (t : Fin cfg0.N)

theorem i0_lt : (grid0.coords t 0).val < 8 := (grid0.coords t 0).isLt
theorem i1_lt : (grid0.coords t 1).val < 8 := (grid0.coords t 1).isLt

theorem idx0 : win0_0.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win0_1.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win0_2.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]

theorem idx3 : win0_3.index t = ![(grid0.coords t 0).val, 0, 0, (grid0.coords t 1).val] := by
  show ![(BitVec.ofNat 32 _).toNat, 0, 0, (BitVec.ofNat 32 _).toNat] = _
  rw [word _ (lt_trans (i0_lt t) (by norm_num)), word _ (lt_trans (i1_lt t) (by norm_num))]

end idx

/-- The argument. -/
abbrev arg (c : Dev nD) : (SA 2).Idx → EReal := m ((c : Thread nD τ).loc main_arg0)

theorem block_at (c : Dev nD) (t : Fin cfg0.N) (r : Fin 1024) (z : Fin 256) : (iblk m c 0 t : Vec Ideal S1x1024x256 .bf16) (ix3 0 r z)
    = arg m c (ix3 (grid0.coords t 0) (⟨(grid0.coords t 1).val * 1024 + r.val, by have := i1_lt t; omega⟩ : Fin 8192) z) := by
  blk_ext [iblk, V, idx0 t]

theorem covers1 : (cfg0.win 1).Covers :=
  (cfg0.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg0.win 2).Covers :=
  (cfg0.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers3 : (cfg0.win 3).Covers :=
  (cfg0.win 3).covers_of_indexMap_surj rfl (by decide) fun β => by
    have h0 : (β (⟨0, by decide⟩ : Fin 4)).val < 8 := lt_of_lt_of_eq (β (⟨0, by decide⟩ : Fin 4)).isLt (by decide)
    have h1 : (β (⟨1, by decide⟩ : Fin 4)).val < 1 := lt_of_lt_of_eq (β (⟨1, by decide⟩ : Fin 4)).isLt (by decide)
    have h2 : (β (⟨2, by decide⟩ : Fin 4)).val < 1 := lt_of_lt_of_eq (β (⟨2, by decide⟩ : Fin 4)).isLt (by decide)
    have h3 : (β (⟨3, by decide⟩ : Fin 4)).val < 8 := lt_of_lt_of_eq (β (⟨3, by decide⟩ : Fin 4)).isLt (by decide)
    refine ⟨fun a => match a with | ⟨0, _⟩ => (⟨_, h0⟩ : Fin 8) | ⟨1, _⟩ => (⟨_, h3⟩ : Fin 8), fun a => ?_⟩
    match a with
    | ⟨0, _⟩ => exact word _ (lt_trans h0 (by norm_num))
    | ⟨1, _⟩ => show 0 = (β (⟨1, by decide⟩ : Fin 4)).val; omega
    | ⟨2, _⟩ => show 0 = (β (⟨2, by decide⟩ : Fin 4)).val; omega
    | ⟨3, _⟩ => exact word _ (lt_trans h3 (by norm_num))

section final

variable (c : Dev nD) (hIn : ∀ b k h, InRange (amaxArr (n := 2) (arg m c) b k h))

include hIn in
theorem final_codes : (dats m 0 c).arrAt 1 cfg0.N = codesArr (n := 2) (arg m c) := by
  refine (dats m 0 c).arrAt_eq_of_covers 1 _ covers1 fun t hf (y : S1x1024x256.Idx) => ?_
  blk_simp
  rw [after0_1, out1_eq]
  have y0_lt : (y 0).val < 1 := (y 0).isLt
  have e : ∀ a : Fin 3, (((win0_1.blk t).view.emb y) a : ℕ) = win0_1.index t a * win0_1.size a + y a := fun a => win0_1.rect_emb_val t y a
  refine block_codes (n := 2) (iblk m c 0 t) (arg m c) (grid0.coords t 0) (grid0.coords t 1) (block_at m c t) hIn y
    ((win0_1.blk t).view.emb y) ?_ ?_ ?_
  · refine (e 0).trans ?_
    rw [idx1]
    show (grid0.coords t 0).val * 1 + (y 0).val = (grid0.coords t 0).val
    omega
  · refine (e 1).trans ?_
    rw [idx1]
    rfl
  · refine (e 2).trans ?_
    rw [idx1]
    show 0 * 256 + (y 2).val = (y 2).val
    omega

include hIn in
theorem final_scales : (dats m 0 c).arrAt 2 cfg0.N = scalesArr (n := 2) (arg m c) := by
  refine (dats m 0 c).arrAt_eq_of_covers 2 _ covers2 fun t hf (y : S1x8x2.Idx) => ?_
  blk_simp
  rw [after0_2, out2_eq]
  have y0_lt : (y 0).val < 1 := (y 0).isLt
  have y1_lt : (y 1).val < 8 := (y 1).isLt
  have y2_lt : (y 2).val < 2 := (y 2).isLt
  have ey : y = ix3 0 (⟨(y 1).val, y1_lt⟩ : Fin 8) (⟨(y 2).val, y2_lt⟩ : Fin 2) := funext fun a =>
    match a with
    | ⟨0, _⟩ => Fin.ext (by show (y 0).val = 0; omega)
    | ⟨1, _⟩ => rfl
    | ⟨2, _⟩ => rfl
  have e : ∀ a : Fin 3, (((win0_2.blk t).view.emb y) a : ℕ) = win0_2.index t a * win0_2.size a + y a := fun a => win0_2.rect_emb_val t y a
  refine (congrArg _ ey).trans ((scales_at _ _ _).trans (block_scales (n := 2) (iblk m c 0 t) (arg m c) (grid0.coords t 0) (grid0.coords t 1)
    (block_at m c t) hIn (by norm_num) ⟨(y 1).val, y1_lt⟩ ⟨(y 2).val, y2_lt⟩ _ ?_ ((win0_2.blk t).view.emb y) ?_ ?_ ?_))
  · show 0 + (y 2).val = (y 2).val
    omega
  · refine (e 0).trans ?_
    rw [idx2]
    show (grid0.coords t 0).val * 1 + (y 0).val = (grid0.coords t 0).val
    omega
  · refine (e 1).trans ?_
    rw [idx2]
    rfl
  · refine (e 2).trans ?_
    rw [idx2]
    show 0 * 2 + (y 2).val = (y 2).val
    omega

include hIn in
theorem final_codesT : (dats m 0 c).arrAt 3 cfg0.N = codesArrT (n := 2) (arg m c) := by
  refine (dats m 0 c).arrAt_eq_of_covers 3 _ covers3 fun t hf (y : S1x2x128x1024.Idx) => ?_
  blk_simp
  rw [after0_3, out3_eq]
  have y0_lt : (y 0).val < 1 := (y 0).isLt
  have e : ∀ a : Fin 4, (((win0_3.blk t).view.emb y) a : ℕ) = win0_3.index t a * win0_3.size a + y a := fun a => win0_3.rect_emb_val t y a
  refine block_codesT (n := 2) (iblk m c 0 t) (arg m c) (grid0.coords t 0) (grid0.coords t 1) (block_at m c t) hIn y
    ((win0_3.blk t).view.emb y) ?_ ?_ ?_ ?_
  · refine (e 0).trans ?_
    rw [idx3]
    show (grid0.coords t 0).val * 1 + (y 0).val = (grid0.coords t 0).val
    omega
  · refine (e 1).trans ?_
    rw [idx3]
    show 0 * 2 + (y 1).val = (y 1).val
    omega
  · refine (e 2).trans ?_
    rw [idx3]
    show 0 * 128 + (y 2).val = (y 2).val
    omega
  · refine (e 3).trans ?_
    rw [idx3]
    rfl

end final

/-- The run, read: the results are the codes, the scales and the transposed codes of the argument, which ends unchanged. -/
theorem run (hIn : ∀ c b k h, InRange (amaxArr (n := 2) (arg m c) b k h)) :
    θ_run defs (onTc (τ := τ) (main (F := Ideal))) ⟨m, fun _ => 0, ρ⟩ fun r => ∀ c : Dev nD,
      r.2.mem ((c : Thread nD τ).loc main_v0_0) = codesArr (n := 2) (arg m c)
      ∧ r.2.mem ((c : Thread nD τ).loc main_v0_1) = scalesArr (n := 2) (arg m c)
      ∧ r.2.mem ((c : Thread nD τ).loc main_v0_2) = codesArrT (n := 2) (arg m c)
      ∧ r.2.mem ((c : Thread nD τ).loc main_arg0) = m ((c : Thread nD τ).loc main_arg0) :=
  (θ_run defs _ _).mono (fun _ h c => ⟨(h c).1.trans (final_codes m c (hIn c)), (h c).2.1.trans (final_scales m c (hIn c)),
      (h c).2.2.1.trans (final_codesT m c (hIn c)), (h c).2.2.2⟩)
    (Cert.KernelVIdeal.Value.run_blocks m ρ)

end Cert.Proof.Quant.V

end
-- ==== Proof.QuantRefV.lean ====
/- The reference quantiser of `v`, read: its results are the codes of its argument, their scales, and the codes transposed; and
   the precondition of `v`, read. -/
module

public import proofs.«01_k».proof.Proof.QuantRefK
public import proofs.«01_k».proof.Proof.QuantTrans
public import proofs.«01_k».proof.Proof.Gen.ReferenceVIdeal.Frame
public import proofs.«01_k».proof.Proof.Gen.Pre_in_range_v
public import Idealize.ShloMosaic.Lib.Pipeline.ValueKit
public import Idealize.ShloMosaic.Lib.StableHlo.Run

@[expose] public section

set_option maxRecDepth 16384
set_option maxHeartbeats 4000000

noncomputable section

namespace Cert.Proof.Quant.RefV

open Cert.ReferenceVIdeal Cert.ReferenceVIdeal.Gen
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-- The argument. -/
abbrev arg (c : Dev nD) : (SA 2).Idx → EReal := m ((c : Thread nD τ).loc main_arg0)

/-! ## The host's operations -/

/-- What the region finds, after the host's operations before it. -/
abbrev before (c : Dev nD) (b : Ref sig .tc) : Buf (Elt Ideal) ((c : Thread nD τ).loc b) := StableHlo.after hostOps0 (fun b => m (c, b)) b

theorem V_eq (c : Dev nD) (b : Ref sig .tc) : V m c b = before m c b :=
  congrArg (fun l => StableHlo.after l (fun b => m (c, b)) (Proc.devRef .tc b)) (List.append_nil hostOps0)

theorem V_amax (c : Dev nD) : V m c main_v3
    = amaxHost (n := 2) shapeCasts_S8x8192x256_S8x64x128x2x128 reducesTo_S8x64x128x2x128_S8x64x2_d2_4 h_S_ (arg m c) := by
  rw [V_eq]
  unfold_abbrev_sides
  after_results
  rfl

theorem V_spread (c : Dev nD) : V m c main_v6
    = shapeCast S8x8192x256 (broadcastInDim S8x64x128x2x128 ![0, 1, 2, 3, 4] bcast_S8x64x1x2x1_S8x64x128x2x128_0_1_2_3_4
        (broadcastInDim S8x64x1x2x1 ![0, 1, 3] bcast_S8x64x2_S8x64x1x2x1_0_1_3
          (amaxHost (n := 2) shapeCasts_S8x8192x256_S8x64x128x2x128 reducesTo_S8x64x128x2x128_S8x64x2_d2_4 h_S_ (arg m c))))
        shapeCasts_S8x64x128x2x128_S8x8192x256 := by
  rw [V_eq]
  unfold_abbrev_sides
  after_results
  rfl

/-! ## Every window's one block is its array -/

theorem iblk0 (c : Dev nD) (t : Fin cfg0.N) : iblk m c 0 t = V m c main_arg0 := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) _
theorem iblk1 (c : Dev nD) (t : Fin cfg0.N) : iblk m c 1 t = V m c main_v6 := by
  have hz : (fun a => win0_1.index t a * main_v6.ty.shape.size a) = fun _ => 0 := funext fun a => by fin_cases a <;> exact Nat.zero_mul _
  exact Memref.read_access_unit_zero (Elt Ideal) main_v6 hz (fun a => by rw [congrFun hz a]; simp) _
theorem iblk2 (c : Dev nD) (t : Fin cfg0.N) : iblk m c 2 t = V m c main_v3 := by
  have hz : (fun a => win0_2.index t a * main_v3.ty.shape.size a) = fun _ => 0 := funext fun a => by fin_cases a <;> exact Nat.zero_mul _
  exact Memref.read_access_unit_zero (Elt Ideal) main_v3 hz (fun a => by rw [congrFun hz a]; simp) _

/-! ## The body -/

theorem out3_at (x0 : Vec Ideal S8x8192x256 .bf16) (x1 : Vec Ideal S8x8192x256 .f32) (x2 : Vec Ideal S8x64x2 .f32) (y : S8x8192x256.Idx) :
    out0_3 (F := Ideal) x0 x1 x2 y = codeOf (x0 y) (x1 y) := RefK.out3_at x0 x1 x2 y

theorem out4_at (x0 : Vec Ideal S8x8192x256 .bf16) (x1 : Vec Ideal S8x8192x256 .f32) (x2 : Vec Ideal S8x64x2 .f32) (y : S8x64x2.Idx) :
    out0_4 (F := Ideal) x0 x1 x2 y = scaleOf (x2 y) := RefK.out4_at x0 x1 x2 y

/-! ## The results -/

theorem final_codes (c : Dev nD) : (dats m 0 c).arrAt 3 cfg0.N = codesArr (n := 2) (arg m c) := by
  have hz : ∀ t, (fun a => win0_3.index t a * main_v7_0.ty.shape.size a) = fun _ => 0 := fun t => funext fun a => by fin_cases a <;> exact Nat.zero_mul _
  refine (dats m 0 c).arrAt_eq_of_cover 3 (codesArr (n := 2) (arg m c)) (fun t _ => ?_) fun (i : S8x8192x256.Idx) => ⟨(⟨0, by decide⟩ : Fin cfg0.N), by decide, ?_⟩
  · show (cfg0.win 3).cut (grid0.coords t) ((dats m 0 c).after 3 t) = _
    refine Eq.trans ?_ (Memref.read_access_unit_zero (Elt Ideal) main_v7_0 (hz t) (fun a => by rw [congrFun (hz t) a]; simp) (codesArr (n := 2) (arg m c))).symm
    rw [after0_3, iblk0, iblk1, V_spread, V_main_arg0]
    refine funext fun (y : S8x8192x256.Idx) => (out3_at _ _ _ y).trans ?_
    refine (congrArg (codeOf _) ((spread_at (n := 2) _ _ _ _ y).trans (amaxHost_at (n := 2) _ _ _ _ _ _ _))).trans ?_
    rfl
  · change _ ∈ ((View.whole main_v7_0).slice (win0_3.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

theorem final_scales (c : Dev nD) : (dats m 0 c).arrAt 4 cfg0.N = scalesArr (n := 2) (arg m c) := by
  have hz : ∀ t, (fun a => win0_4.index t a * main_v7_1.ty.shape.size a) = fun _ => 0 := fun t => funext fun a => by fin_cases a <;> exact Nat.zero_mul _
  refine (dats m 0 c).arrAt_eq_of_cover 4 (scalesArr (n := 2) (arg m c)) (fun t _ => ?_) fun (i : S8x64x2.Idx) => ⟨(⟨0, by decide⟩ : Fin cfg0.N), by decide, ?_⟩
  · show (cfg0.win 4).cut (grid0.coords t) ((dats m 0 c).after 4 t) = _
    refine Eq.trans ?_ (Memref.read_access_unit_zero (Elt Ideal) main_v7_1 (hz t) (fun a => by rw [congrFun (hz t) a]; simp) (scalesArr (n := 2) (arg m c))).symm
    rw [after0_4, iblk2, V_amax]
    refine funext fun (y : S8x64x2.Idx) => (out4_at _ _ _ y).trans ?_
    refine (congrArg scaleOf ((congrArg _ (eq_ix3 y)).trans (amaxHost_at (n := 2) _ _ _ _ (y 0) (y 1) (y 2)))).trans ?_
    rfl
  · change _ ∈ ((View.whole main_v7_1).slice (win0_4.rect _)).set
    rw [View.set_slice_whole, Rect.mem_set_unit]
    exact fun a => match a with
      | ⟨0, _⟩ => ⟨le_of_eq_of_le (Nat.zero_mul _) (Nat.zero_le _), lt_of_lt_of_eq (i 0).isLt (by simp; rfl)⟩
      | ⟨1, _⟩ => ⟨le_of_eq_of_le (Nat.zero_mul _) (Nat.zero_le _), lt_of_lt_of_eq (i 1).isLt (by simp; rfl)⟩
      | ⟨2, _⟩ => ⟨le_of_eq_of_le (Nat.zero_mul _) (Nat.zero_le _), lt_of_lt_of_eq (i 2).isLt (by simp; rfl)⟩

theorem arr_inj : Function.Injective (Pipeline.arrRef spec0) := winFacts0.arr_inj

theorem transposed_at (x : FVec Ideal S8x8192x256 .fp8e4m3) (b : Fin 8) (h : Fin 2) (d : Fin 128) (s : Fin 8192) :
    transpose S8x2x128x8192 [0, 2, 3, 1] (shapeCast S8x8192x2x128 x shapeCasts_S8x8192x256_S8x8192x2x128)
        transposes_S8x8192x2x128_S8x2x128x8192_0_2_3_1 (ix4 b h d s)
      = x (ix3 b s (⟨128 * h.val + d.val, by omega⟩ : Fin 256)) := by
  pointwise
  exact congrArg (fun z => x (ix3 b s z)) (Fin.ext (by show h.val * 128 + d.val = 128 * h.val + d.val; omega))

/-- The third result is the first, transposed by the host. -/
theorem final_codesT (c : Dev nD) :
    Pipeline.afterTail₀ cfgs (dats m) 0 (V0 m) [hostOps1] c main_v9 = codesArrT (n := 2) (arg m c) := by
  have e : Pipeline.withArrays (cfgs 0).spec c (V0 m c) (fun w => (dats m 0 c).arrAt w (cfgs 0).N) (Proc.devRef .tc main_v7_0)
      = codesArr (n := 2) (arg m c) :=
    (Pipeline.withArrays_arr (cfgs 0).spec arr_inj c (V0 m c) (fun w => (dats m 0 c).arrAt w (cfgs 0).N) 3).trans (final_codes m c)
  unfold Pipeline.afterTail₀
  generalize Pipeline.withArrays (cfgs 0).spec c (V0 m c) (fun w => (dats m 0 c).arrAt w (cfgs 0).N) = W at e
  have r : StableHlo.after (List.flatten [hostOps1]) W (Proc.devRef .tc main_v9)
      = transpose S8x2x128x8192 [0, 2, 3, 1] (shapeCast S8x8192x2x128 (W (Proc.devRef .tc main_v7_0)) shapeCasts_S8x8192x256_S8x8192x2x128)
        transposes_S8x8192x2x128_S8x2x128x8192_0_2_3_1 := by
    rw [show List.flatten [hostOps1] = hostOps1 (F := Ideal) from List.append_nil _]
    unfold_abbrev_sides
    after_results
    rfl
  refine r.trans ?_
  rw [e]
  exact funext fun (y : S8x2x128x8192.Idx) => (congrArg _ (eq_ix4 y)).trans (transposed_at _ (y 0) (y 1) (y 2) (y 3))

/-- The run, read: the results are the codes, the scales and the transposed codes of the argument, which ends unchanged. -/
theorem run : θ_run defs (onTc (τ := τ) (main (F := Ideal))) ⟨m, fun _ => 0, ρ⟩ fun r => ∀ c : Dev nD,
      r.2.mem ((c : Thread nD τ).loc main_v7_0) = codesArr (n := 2) (arg m c)
      ∧ r.2.mem ((c : Thread nD τ).loc main_v7_1) = scalesArr (n := 2) (arg m c)
      ∧ r.2.mem ((c : Thread nD τ).loc main_v9) = codesArrT (n := 2) (arg m c)
      ∧ r.2.mem ((c : Thread nD τ).loc main_arg0) = m ((c : Thread nD τ).loc main_arg0) :=
  (θ_run defs _ _).mono (fun _ h c => ⟨((h c).1 3).trans (final_codes m c), ((h c).1 4).trans (final_scales m c),
      ((h c).2 main_v9 (Pipeline.mem_restRefs_of main_v9 (by decide) (by decide))).trans (final_codesT m c),
      ((h c).1 0).trans (((dats m 0 c).arrAt_in 0 rfl _).trans (V_main_arg0 m c))⟩)
    (run_main m ρ)

/-! ## The precondition -/

theorem inRange (X : (SA 2).Idx → EReal)
    (hp : @Cert.Pre_in_range_v.fn Cert.Pre_in_range_v.Gen.facts Ideal _ X = fun _ => 1#1) (b : Fin 8) (k : Fin 64) (h : Fin 2) :
    InRange (amaxArr X b k h) := by
  rw [← amaxHost_at (n := 2) Cert.Pre_in_range_v.Gen.facts.shapeCasts_S8x8192x256_S8x64x128x2x128
    Cert.Pre_in_range_v.Gen.facts.reducesTo_S8x64x128x2x128_S8x64x2_d2_4 Cert.Pre_in_range_v.Gen.facts.h_S_ X b k h]
  exact inRange_of_fn (n := 2) _ Cert.Pre_in_range_v.Gen.facts.bcast_S_S8x64x2 hp (ix3 b k h)

end Cert.Proof.Quant.RefV

end
-- ==== Proof.WRefRun.lean ====
/- The run of the joined reference's kernel: it quantises its three inputs whole, then goes through the output tiles: one trip of
   that loop, the loop by an invariant on the output array, the body's triple, and the launch. -/
module

public import proofs.«01_k».proof.Defs
public import proofs.«01_k».proof.Proof.Gen.WholeRefIdeal.Frame
public import Idealize.ShloMosaic.Lib.VecWindow
public import proofs.«01_k».proof.Proof.Gen.WholeRefIdeal.Points
public import proofs.«01_k».proof.Proof.Gen.WholeRefIdeal.Loops
public import Idealize.ShloMosaic.Lib.Pipeline.Value
public import Idealize.ShloMosaic.Lib.Tactic
public import Idealize.ShloMosaic.Lib.Quiescent
public import Idealize.ShloMosaic.Lib.WritesUnit
public import Idealize.ShloMosaic.Lib.Claim
public import Idealize.ShloMosaic.Lib.Pointwise

@[expose] public section

set_option maxRecDepth 16384
set_option maxHeartbeats 4000000

noncomputable section

namespace Cert.Proof.WRef

open Cert.WholeRefIdeal Cert.WholeRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section body

variable (c : Dev nD) (arg0 : Memref sig .tc .vmem S8x8192x2048 .bf16) (harg0 : arg0.IsWhole)
  (arg1 : Memref sig .tc .vmem S8x8192x2048 .f32) (harg1 : arg1.IsWhole)
  (arg2 : Memref sig .tc .vmem S8x64x16 .f32) (harg2 : arg2.IsWhole)
  (arg3 : Memref sig .tc .vmem S8x8192x256 .bf16) (harg3 : arg3.IsWhole)
  (arg4 : Memref sig .tc .vmem S8x8192x256 .f32) (harg4 : arg4.IsWhole)
  (arg5 : Memref sig .tc .vmem S8x64x2 .f32) (harg5 : arg5.IsWhole)
  (arg6 : Memref sig .tc .vmem S8x8192x256 .bf16) (harg6 : arg6.IsWhole)
  (arg7 : Memref sig .tc .vmem S8x8192x256 .f32) (harg7 : arg7.IsWhole)
  (arg8 : Memref sig .tc .vmem S8x64x2 .f32) (harg8 : arg8.IsWhole)
  (arg9 : Memref sig .tc .vmem S8x8192x2048 .bf16) (harg9 : arg9.IsWhole)
  (arg10 : Memref sig .tc .vmem S8x8192x2048 .fp8e4m3) (harg10 : arg10.IsWhole)
  (arg11 : Memref sig .tc .vmem S8x64x16 .f32) (harg11 : arg11.IsWhole)
  (arg12 : Memref sig .tc .vmem S8x8192x256 .fp8e4m3) (harg12 : arg12.IsWhole)
  (arg13 : Memref sig .tc .vmem S8x64x2 .f32) (harg13 : arg13.IsWhole)
  (arg14 : Memref sig .tc .vmem S8x8192x256 .fp8e4m3) (harg14 : arg14.IsWhole)
  (arg15 : Memref sig .tc .vmem S8x64x2 .f32) (harg15 : arg15.IsWhole)
  (X10 : BufTy.Contents (Elt F) arg10.view.ty)
  (X11 : BufTy.Contents (Elt F) arg11.view.ty)
  (X12 : BufTy.Contents (Elt F) arg12.view.ty)
  (X13 : BufTy.Contents (Elt F) arg13.view.ty)
  (X14 : BufTy.Contents (Elt F) arg14.view.ty)
  (X15 : BufTy.Contents (Elt F) arg15.view.ty)

/-- What a trip of the tile loop holds: the codes and scales at their contents, the output at `f`. -/
abbrev Trip (f : BufTy.Contents (Elt F) arg9.view.ty) : sProp 𝕄 :=
  iprop((arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (arg9.view.loc (c : Thread nD τ) ↦[arg9.view.set]{fullShare} f))

/-- One trip stores one tile: its value is found by the run. -/
@[irreducible] def trip (k : Fin k0_t1_loop.trips) :
    { P : FVec F S1x128x128 .bf16 // ∀ (E : Set ℕ) (f : BufTy.Contents (Elt F) arg9.view.ty),
      Trip c arg9 arg10 arg11 arg12 arg13 arg14 arg15 X10 X11 X12 X13 X14 X15 f
      ⊢ wp frame (wpE (defs₀ (F := F)) Variants.none (c : Thread nD τ) none) E
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 k ())
          (fun _ => Trip c arg9 arg10 arg11 arg12 arg13 arg14 arg15 X10 X11 X12 X13 X14 X15 (arg9.view.writes (Elt F) f
            [⟨Rect.unit (s := S8x8192x2048) (k0_off1 k) S1x128x128.size (k0_off1_inb k), P⟩])) } := by
  refine ⟨?_, fun E f => ?run⟩
  case run =>
    unfold k0_t1_body
    simp only [k0_part3_eq_skeleton]
    iintro ⟨H10, H11, H12, H13, H14, H15, H9⟩
    sl_exec
    sl_step
    sl_close

/-- The tile loop runs once per output tile. -/
theorem trips_eq : k0_t1_loop.trips = 8192 := by decide +kernel

/-- Which tile trip `k` stores: batch `k / 1024`, query block `k % 64`, head `k / 64 % 16`. -/
theorem off1_eq : ∀ k : Fin k0_t1_loop.trips,
    k0_off1 k = ![k.val / 1024, k.val % 64 * 128, k.val / 64 % 16 * 128] := by
  have h : ∀ k : Fin k0_t1_loop.trips, k0_off1 k 0 = k.val / 1024 ∧ k0_off1 k 1 = k.val % 64 * 128
      ∧ k0_off1 k 2 = k.val / 64 % 16 * 128 := by decide +kernel
  intro k; funext a
  match a with
  | ⟨0, _⟩ => exact (h k).1
  | ⟨1, _⟩ => exact (h k).2.1
  | ⟨2, _⟩ => exact (h k).2.2

/-- The trip that stores element `y` of the output. -/
def tileOf (y : S8x8192x2048.Idx) : Fin k0_t1_loop.trips :=
  ⟨(y 0).val * 1024 + (y 2).val / 128 * 64 + (y 1).val / 128, by
    have h0 : (y 0).val < 8 := (y 0).isLt
    have h1 : (y 1).val < 8192 := (y 1).isLt
    have h2 : (y 2).val < 2048 := (y 2).isLt
    rw [trips_eq]; omega⟩

/-- Where in its tile element `y` lies. -/
def inTile (y : S8x8192x2048.Idx) : S1x128x128.Idx :=
  ix3 (0 : Fin 1) (⟨(y 1).val % 128, Nat.mod_lt _ (by omega)⟩ : Fin 128) (⟨(y 2).val % 128, Nat.mod_lt _ (by omega)⟩ : Fin 128)

/-- What the output holds when every tile has been stored. -/
def out : Vec F S8x8192x2048 .bf16 := fun y =>
  (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 (tileOf y)).1 (inTile y)

/-- The tile loop's invariant: every element whose tile has been stored holds its value. -/
abbrev inv (k : ℕ) : sProp 𝕄 :=
  iprop((arg10.view.loc (c : Thread nD τ) ↦[arg10.view.set]{fullShare} X10)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (arg14.view.loc (c : Thread nD τ) ↦[arg14.view.set]{fullShare} X14)
    ∗ (arg15.view.loc (c : Thread nD τ) ↦[arg15.view.set]{fullShare} X15)
    ∗ (∃ f, (arg9.view.loc (c : Thread nD τ) ↦[arg9.view.set]{fullShare} f)
        ∗ ⌜∀ y, (tileOf y).val < k → arg9.view.read (Elt F) f y
            = out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 y⌝))

/-- One more tile stored. -/
theorem stored (k : Fin k0_t1_loop.trips) (f : BufTy.Contents (Elt F) arg9.view.ty)
    (h : ∀ y, (tileOf y).val < k.val → arg9.view.read (Elt F) f y
      = out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 y)
    (y : S8x8192x2048.Idx) (hy : (tileOf y).val < k.val + 1) :
    arg9.view.read (Elt F) (arg9.view.writes (Elt F) f
      [⟨Rect.unit (s := S8x8192x2048) (k0_off1 k) S1x128x128.size (k0_off1_inb k),
        (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 k).1⟩]) y
      = out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 y := by
  have h0 : (y 0).val < 8 := (y 0).isLt
  have h1 : (y 1).val < 8192 := (y 1).isLt
  have h2 : (y 2).val < 2048 := (y 2).isLt
  have hk : k.val < 8192 := trips_eq ▸ k.isLt
  have ht : (tileOf y).val = (y 0).val * 1024 + (y 2).val / 128 * 64 + (y 1).val / 128 := rfl
  by_cases e : tileOf y = k
  · subst e
    unfold out
    refine View.read_writes_cons_unit_of_mem arg9.view f (k0_off1_inb _) _ _ y (inTile y) (off1_eq _) fun a => ?_
    rw [ht]
    match a with
    | ⟨0, _⟩ =>
      show (y 0).val = ((y 0).val * 1024 + (y 2).val / 128 * 64 + (y 1).val / 128) / 1024 + 0
      omega
    | ⟨1, _⟩ =>
      show (y 1).val = ((y 0).val * 1024 + (y 2).val / 128 * 64 + (y 1).val / 128) % 64 * 128 + (y 1).val % 128
      omega
    | ⟨2, _⟩ =>
      show (y 2).val = ((y 0).val * 1024 + (y 2).val / 128 * 64 + (y 1).val / 128) / 64 % 16 * 128 + (y 2).val % 128
      omega
  · have hne : (tileOf y).val ≠ k.val := fun h => e (Fin.ext h)
    rw [← h y (by omega)]
    have hs : (y 0).val < k.val / 1024 ∨ k.val / 1024 + 1 ≤ (y 0).val
        ∨ (y 1).val < k.val % 64 * 128 ∨ k.val % 64 * 128 + 128 ≤ (y 1).val
        ∨ (y 2).val < k.val / 64 % 16 * 128 ∨ k.val / 64 % 16 * 128 + 128 ≤ (y 2).val := by omega
    rcases hs with hs | hs | hs | hs | hs | hs
    · exact View.read_writes_cons_unit_of_not_mem arg9.view f (k0_off1_inb _) _ _ y (off1_eq k) 0 (.inl hs)
    · exact View.read_writes_cons_unit_of_not_mem arg9.view f (k0_off1_inb _) _ _ y (off1_eq k) 0 (.inr hs)
    · exact View.read_writes_cons_unit_of_not_mem arg9.view f (k0_off1_inb _) _ _ y (off1_eq k) 1 (.inl hs)
    · exact View.read_writes_cons_unit_of_not_mem arg9.view f (k0_off1_inb _) _ _ y (off1_eq k) 1 (.inr hs)
    · exact View.read_writes_cons_unit_of_not_mem arg9.view f (k0_off1_inb _) _ _ y (off1_eq k) 2 (.inl hs)
    · exact View.read_writes_cons_unit_of_not_mem arg9.view f (k0_off1_inb _) _ _ y (off1_eq k) 2 (.inr hs)

set_option warn.classDefReducibility false in
/-- The tile loop by its invariant. -/
@[sl_loop] def loopInv (E : Set ℕ) :
    LoopInvTy_k0_t1 (F := F) Unit ℕ (UR sig nD τ) ℕ Variants.none c none E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 where
  inv k _ := inv c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 k
  step k acc := by
    iintro ⟨H10, H11, H12, H13, H14, H15, ⟨%f, H9, %h⟩⟩
    iapply (wp_wand_r Idealize.ShloMosaic.frame (wpE (defs₀ (F := F)) Variants.none (c : Thread nD τ) none) E)
    isplitl [H10 H11 H12 H13 H14 H15 H9]
    · iapply ((trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 k).2 E f)
      isplitl [H10]; · iexact H10
      isplitl [H11]; · iexact H11
      isplitl [H12]; · iexact H12
      isplitl [H13]; · iexact H13
      isplitl [H14]; · iexact H14
      isplitl [H15]; · iexact H15
      iexact H9
    · iintro %yld ⟨H10, H11, H12, H13, H14, H15, H9⟩
      isplitl [H10]; · iexact H10
      isplitl [H11]; · iexact H11
      isplitl [H12]; · iexact H12
      isplitl [H13]; · iexact H13
      isplitl [H14]; · iexact H14
      isplitl [H15]; · iexact H15
      iexists _; isplitl [H9]; · iexact H9
      ipureintro
      exact stored c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 k f h

/-- The values' codes, from the array and its spread maxima. -/
abbrev codesV (v84 : Vec F S8x8192x256 .f32) (v101 : Vec F S8x8192x256 .bf16) : FVec F S8x8192x256 .fp8e4m3 :=
  k0_pay1 (Scalar.ofBits .f32 0x43E00000#32) (k0_pay34 v84 v101)

theorem zeros : (![0, 0, 0] : Fin 3 → ℕ) = fun _ => 0 := funext fun a => match a with | ⟨0, _⟩ => rfl | ⟨1, _⟩ => rfl | ⟨2, _⟩ => rfl

/-- The body's triple: the inputs are left as they were; the outputs hold their codes and scales, and `out` of them. -/
theorem bodyRun (x0 : Vec F S8x8192x2048 .bf16)
    (x1 : Vec F S8x8192x2048 .f32)
    (x2 : Vec F S8x64x16 .f32)
    (x3 : Vec F S8x8192x256 .bf16)
    (x4 : Vec F S8x8192x256 .f32)
    (x5 : Vec F S8x64x2 .f32)
    (x6 : Vec F S8x8192x256 .bf16)
    (x7 : Vec F S8x8192x256 .f32)
    (x8 : Vec F S8x64x2 .f32) (E : Set ℕ) (K : PUnit → sProp 𝕄) :
    iprop(owns (c : Thread nD τ) arg0 fullShare (x0)
        ∗ owns (c : Thread nD τ) arg1 fullShare (x1)
        ∗ owns (c : Thread nD τ) arg2 fullShare (x2)
        ∗ owns (c : Thread nD τ) arg3 fullShare (x3)
        ∗ owns (c : Thread nD τ) arg4 fullShare (x4)
        ∗ owns (c : Thread nD τ) arg5 fullShare (x5)
        ∗ owns (c : Thread nD τ) arg6 fullShare (x6)
        ∗ owns (c : Thread nD τ) arg7 fullShare (x7)
        ∗ owns (c : Thread nD τ) arg8 fullShare (x8)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg0 fullShare (x0)
        ∗ owns (c : Thread nD τ) arg1 fullShare (x1)
        ∗ owns (c : Thread nD τ) arg2 fullShare (x2)
        ∗ owns (c : Thread nD τ) arg3 fullShare (x3)
        ∗ owns (c : Thread nD τ) arg4 fullShare (x4)
        ∗ owns (c : Thread nD τ) arg5 fullShare (x5)
        ∗ owns (c : Thread nD τ) arg6 fullShare (x6)
        ∗ owns (c : Thread nD τ) arg7 fullShare (x7)
        ∗ owns (c : Thread nD τ) arg8 fullShare (x8)
        ∗ owns (c : Thread nD τ) arg9 fullShare (out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 (harg10.unread (k0_pay28 x1 x0)) (harg11.unread (k0_pay31 (k0_pay29 x2) (k0_pay30 x2))) (harg12.unread (k0_pay32 x4 x3)) (harg13.unread (k0_pay33 x5)) (harg14.unread (codesV x7 x6)) (harg15.unread (k0_pay2 x8)))
        ∗ owns (c : Thread nD τ) arg10 fullShare (k0_pay28 x1 x0)
        ∗ owns (c : Thread nD τ) arg11 fullShare (k0_pay31 (k0_pay29 x2) (k0_pay30 x2))
        ∗ owns (c : Thread nD τ) arg12 fullShare (k0_pay32 x4 x3)
        ∗ owns (c : Thread nD τ) arg13 fullShare (k0_pay33 x5)
        ∗ owns (c : Thread nD τ) arg14 fullShare (codesV x7 x6)
        ∗ owns (c : Thread nD τ) arg15 fullShare (k0_pay2 x8)) -∗ K ⟨⟩))
      ⊢ wp frame (wpE (defs₀ (F := F)) Variants.none c none) E
          (cc0__whole_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__whole_body_eq_skeleton]; unfold cc0__whole_body_skel
  simp only [k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  have e10 : arg10.view.writes (Elt F) arg10.view.junk (bodyRun.sl.H10_1 c arg0 harg0 arg1 harg1 x0 x1) = harg10.unread (k0_pay28 x1 x0) :=
    harg10.eq_unread (by
      unfold bodyRun.sl.H10_1
      rw [View.read_writes_full]
      exact congrArg₂ k0_pay28 ((View.readAt_full _ _ _).trans (harg1.read_unread _)) ((View.readAt_full _ _ _).trans (harg0.read_unread _)))
  have e11 : arg11.view.writes (Elt F) arg11.view.junk (bodyRun.sl.H11_1 c arg2 harg2 x2) = harg11.unread (k0_pay31 (k0_pay29 x2) (k0_pay30 x2)) :=
    harg11.eq_unread (by
      unfold bodyRun.sl.H11_1
      rw [View.read_writes_full]
      exact congrArg (fun v => k0_pay31 (k0_pay29 v) (k0_pay30 v)) ((View.readAt_full _ _ _).trans (harg2.read_unread _)))
  have e12 : arg12.view.writes (Elt F) arg12.view.junk (bodyRun.sl.H12_1 c arg3 harg3 arg4 harg4 x3 x4) = harg12.unread (k0_pay32 x4 x3) :=
    harg12.eq_unread (by
      unfold bodyRun.sl.H12_1
      rw [View.read_writes_full]
      exact congrArg₂ k0_pay32 ((View.readAt_full _ _ _).trans (harg4.read_unread _)) ((View.readAt_full _ _ _).trans (harg3.read_unread _)))
  have e13 : arg13.view.writes (Elt F) arg13.view.junk (bodyRun.sl.H13_1 c arg5 harg5 x5) = harg13.unread (k0_pay33 x5) :=
    harg13.eq_unread (by
      unfold bodyRun.sl.H13_1
      rw [View.read_writes_full]
      exact congrArg k0_pay33 ((View.readAt_full _ _ _).trans (harg5.read_unread _)))
  have e14 : arg14.view.writes (Elt F) arg14.view.junk (bodyRun.sl.H14_1 c arg6 harg6 arg7 harg7 x6 x7) = harg14.unread (codesV x7 x6) :=
    harg14.eq_unread (by
      unfold bodyRun.sl.H14_1
      rw [View.read_writes_full]
      exact congrArg₂ codesV ((View.readAt_full _ _ _).trans (harg7.read_unread _)) ((View.readAt_full _ _ _).trans (harg6.read_unread _)))
  have e15 : arg15.view.writes (Elt F) arg15.view.junk (bodyRun.sl.H15_1 c arg8 harg8 x8) = harg15.unread (k0_pay2 x8) :=
    harg15.eq_unread (by
      unfold bodyRun.sl.H15_1
      rw [View.read_writes_full]
      exact congrArg k0_pay2 ((View.readAt_full _ _ _).trans (harg8.read_unread _)))
  rw [e10, e11, e12, e13, e14, e15] at hL7 ⊢
  isplitl [H9]; · iexists _; isplitr; · ipureintro; exact funext fun y => hL7 y (lt_of_lt_of_eq (tileOf y).isLt rfl)
                  iexact H9
  isplitl [H10]; · iexists _; isplitr; · ipureintro; exact harg10.read_unread _
                   iexact H10
  isplitl [H11]; · iexists _; isplitr; · ipureintro; exact harg11.read_unread _
                   iexact H11
  isplitl [H12]; · iexists _; isplitr; · ipureintro; exact harg12.read_unread _
                   iexact H12
  isplitl [H13]; · iexists _; isplitr; · ipureintro; exact harg13.read_unread _
                   iexact H13
  isplitl [H14]; · iexists _; isplitr; · ipureintro; exact harg14.read_unread _
                   iexact H14
  iexists _; isplitr; · ipureintro; exact harg15.read_unread _
  iexact H15

end body

/-! ## The launch -/

variable (m : (ℓ : Loc nD τ sig) → Buf (Elt F) ℓ) (ρ : Dev nD → PrngReg)

/-- What the result's staging buffer holds after the body. -/
def outAt (c : Dev nD) (t : Fin cfg0.N) : Vec F S8x8192x2048 .bf16 :=
  out c (win0_0.stage (cfg0.slots t 0)) (hstage0_0 0)
    (win0_1.stage (cfg0.slots t 1)) (hstage0_1 0)
    (win0_2.stage (cfg0.slots t 2)) (hstage0_2 0)
    (win0_3.stage (cfg0.slots t 3)) (hstage0_3 0)
    (win0_4.stage (cfg0.slots t 4)) (hstage0_4 0)
    (win0_5.stage (cfg0.slots t 5)) (hstage0_5 0)
    (win0_6.stage (cfg0.slots t 6)) (hstage0_6 0)
    (win0_7.stage (cfg0.slots t 7)) (hstage0_7 0)
    (win0_8.stage (cfg0.slots t 8)) (hstage0_8 0)
    (win0_9.stage (cfg0.slots t 9)) (hstage0_9 0)
    (win0_10.stage (cfg0.slots t 10)) (hstage0_10 0)
    (win0_11.stage (cfg0.slots t 11)) (hstage0_11 0)
    (win0_12.stage (cfg0.slots t 12)) (hstage0_12 0)
    (win0_13.stage (cfg0.slots t 13)) (hstage0_13 0)
    (win0_14.stage (cfg0.slots t 14)) (hstage0_14 0)
    (win0_15.stage (cfg0.slots t 15)) (hstage0_15 0)
    ((hstage0_10 0).unread (k0_pay28 (iblk m c 1 t) (iblk m c 0 t)))
    ((hstage0_11 0).unread (k0_pay31 (k0_pay29 (iblk m c 2 t)) (k0_pay30 (iblk m c 2 t))))
    ((hstage0_12 0).unread (k0_pay32 (iblk m c 4 t) (iblk m c 3 t)))
    ((hstage0_13 0).unread (k0_pay33 (iblk m c 5 t)))
    ((hstage0_14 0).unread (codesV (iblk m c 7 t) (iblk m c 6 t)))
    ((hstage0_15 0).unread (k0_pay2 (iblk m c 8 t)))

/-- The pipeline's proof data: each input at its block, the outputs at the codes, the scales and `outAt` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, _⟩ => k0_pay28 (iblk m c 1 t) (iblk m c 0 t)
    | ⟨11, _⟩ => k0_pay31 (k0_pay29 (iblk m c 2 t)) (k0_pay30 (iblk m c 2 t))
    | ⟨12, _⟩ => k0_pay32 (iblk m c 4 t) (iblk m c 3 t)
    | ⟨13, _⟩ => k0_pay33 (iblk m c 5 t)
    | ⟨14, _⟩ => codesV (iblk m c 7 t) (iblk m c 6 t)
    | ⟨15, _⟩ => k0_pay2 (iblk m c 8 t)
    | ⟨n + 16, h⟩ => absurd h (Nat.not_lt.mpr (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]
theorem after10 (c : Dev nD) (t : Fin cfg0.N) : (dats m 0 c).after 10 t = k0_pay28 (iblk m c 1 t) (iblk m c 0 t) := by dsimp only [dats]
theorem after11 (c : Dev nD) (t : Fin cfg0.N) : (dats m 0 c).after 11 t = k0_pay31 (k0_pay29 (iblk m c 2 t)) (k0_pay30 (iblk m c 2 t)) := by dsimp only [dats]
theorem after12 (c : Dev nD) (t : Fin cfg0.N) : (dats m 0 c).after 12 t = k0_pay32 (iblk m c 4 t) (iblk m c 3 t) := by dsimp only [dats]
theorem after13 (c : Dev nD) (t : Fin cfg0.N) : (dats m 0 c).after 13 t = k0_pay33 (iblk m c 5 t) := by dsimp only [dats]
theorem after14 (c : Dev nD) (t : Fin cfg0.N) : (dats m 0 c).after 14 t = codesV (iblk m c 7 t) (iblk m c 6 t) := by dsimp only [dats]
theorem after15 (c : Dev nD) (t : Fin cfg0.N) : (dats m 0 c).after 15 t = k0_pay2 (iblk m c 8 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15]
  unfold outAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (bodyRun c _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the run ends with every array at its final contents and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.WRef

end
-- ==== Proof.WRefStep.lean ====
/- One trip of the joined reference's block loop, element by element: the row carried for query `r` takes the plain step. -/
module

public import proofs.«01_k».proof.Proof.WRefRun
public import proofs.«01_k».proof.Proof.Spec

@[expose] public section

set_option maxRecDepth 16384
set_option maxHeartbeats 4000000

noncomputable section

namespace Cert.Proof.WRef

open Cert.WholeRefIdeal Cert.WholeRefIdeal.Gen
open Idealize.ShloMosaic

/-- What the block loop carries: running maxima, sums and output rows of a tile's 128 queries. -/
abbrev Carry := FVec Ideal S128x1 .f32 × FVec Ideal S128x1 .f32 × FVec Ideal S128x128 .f32

/-- The carried row of query `r`. -/
def rowOf (a : Carry) (r : Fin 128) : Row := ⟨a.1 (ix2 r 0), a.2.1 (ix2 r 0), fun d => a.2.2 (ix2 r d)⟩

theorem named_scale : (Named.named κ "scale" 0x3DB504F3#32 : Ideal .f32) = (c1 : EReal) := rfl
theorem named_mask : (Named.named κ "mask" 0xF149F2CA#32 : Ideal .f32) = ⊥ := rfl
theorem named_ln2 : (Named.named κ "ln2" 0x3F317218#32 : Ideal .f32) = ((Real.log 2 : ℝ) : EReal) := rfl

theorem ofBits_neg_inf : Ideal.ofBits .f32 0xFF800000#32 = ⊥ := by simp [Ideal.ofBits, Ideal.ieee]

/-- The positions compare as numbers: nothing wraps. -/
theorem sle_pos (i j : ℕ) (hi : i < 64) (hj : j < 64) (r k : Fin 128) :
    IntOp.cmpi .sle (IntOp.addi (Scalar.muli (Scf.iv 0#32 1#32 j) 128#32) (BitVec.ofNat 32 k.val))
      (IntOp.addi (Scalar.muli (BitVec.ofNat 32 i) 128#32) (BitVec.ofNat 32 r.val))
    = BitVec.ofBool (decide (j * 128 + k.val ≤ i * 128 + r.val)) := by
  have e1 : IntOp.addi (Scalar.muli (Scf.iv 0#32 1#32 j) 128#32) (BitVec.ofNat 32 k.val)
      = BitVec.ofNat 32 (j * 128 + k.val) := by
    show (0#32 + BitVec.ofNat 32 j * 1#32) * 128#32 + BitVec.ofNat 32 k.val = _
    apply BitVec.eq_of_toNat_eq; simp
  have e2 : IntOp.addi (Scalar.muli (BitVec.ofNat 32 i) 128#32) (BitVec.ofNat 32 r.val)
      = BitVec.ofNat 32 (i * 128 + r.val) := by
    show BitVec.ofNat 32 i * 128#32 + BitVec.ofNat 32 r.val = _
    apply BitVec.eq_of_toNat_eq; simp
  rw [e1, e2]
  show BitVec.ofBool (BitVec.sle _ _) = _
  congr 1
  rw [BitVec.sle_eq_decide, BitVec.toInt_ofNat', BitVec.toInt_ofNat']
  have hk := k.isLt; have hr := r.isLt
  rw [Int.bmod_eq_of_le (by omega) (by omega), Int.bmod_eq_of_le (by omega) (by omega)]
  congr 1
  exact propext (by omega)

section pay

variable (t : Fin k0_t1_loop.trips) (n : Fin (k0_t2_loop t).trips) (v11 kb : Vec Ideal S1x128x128 .fp8e4m3)
  (v16 sk : Vec Ideal S1x1x1 .f32) (m : FVec Ideal S128x1 .f32) (i : ℕ) (hi : i < 64) (hn : n.val < 64) (r k : Fin 128)

/-- The tile's scores. -/
abbrev sc : Fin 128 → EReal := score (fun r d => v11 (ix3 0 r d)) (fun k d => kb (ix3 0 k d)) (v16 (ix3 0 0 0)) (sk (ix3 0 0 0)) i n.val r

include hi hn

omit hi hn in
theorem pay17_at : k0_pay17 v16 (ix2 0 0) = v16 (ix3 0 0 0) := by
  unfold k0_pay17
  pointwise

theorem pay6_at : k0_pay6 t (BitVec.ofNat 32 i) (k0_pay16 v11) (k0_pay17 v16) 0#32 1#32 n kb sk (ix2 r k)
    = sc t n v11 kb v16 sk i r k := by
  unfold k0_pay6 k0_pay16
  pointwise
  rw [sle_pos i n.val hi hn, named_scale, named_mask, Scalar.select_decide, pay17_at]
  rfl

theorem pay7_at : k0_pay7 t (BitVec.ofNat 32 i) (k0_pay16 v11) (k0_pay17 v16) 0#32 1#32 n m kb sk (ix2 r 0)
    = newMax (sc t n v11 kb v16 sk i r) (m (ix2 r 0)) := by
  unfold k0_pay7
  pointwise
  rw [ofBits_neg_inf]
  simp only [pay6_at t n v11 kb v16 sk i hi hn]
  rfl

theorem pay8_at : k0_pay8 t (BitVec.ofNat 32 i) (k0_pay16 v11) (k0_pay17 v16) 0#32 1#32 n m kb sk (ix2 r 0)
    = shrink (sc t n v11 kb v16 sk i r) (m (ix2 r 0)) := by
  unfold k0_pay8
  pointwise
  rw [pay7_at t n v11 kb v16 sk m i hi hn]
  rfl

theorem pay9_at : k0_pay21 (k0_pay9 t (BitVec.ofNat 32 i) (k0_pay16 v11) (k0_pay17 v16) 0#32 1#32 n m kb sk) (ix2 r k)
    = prob (sc t n v11 kb v16 sk i r) (m (ix2 r 0)) k := by
  unfold k0_pay21 k0_pay9
  pointwise
  rw [pay7_at t n v11 kb v16 sk m i hi hn, pay6_at t n v11 kb v16 sk i hi hn]
  rfl

theorem pay22_at (l : FVec Ideal S128x1 .f32) :
    k0_pay22 l (k0_pay8 t (BitVec.ofNat 32 i) (k0_pay16 v11) (k0_pay17 v16) 0#32 1#32 n m kb sk)
      (k0_pay9 t (BitVec.ofNat 32 i) (k0_pay16 v11) (k0_pay17 v16) 0#32 1#32 n m kb sk) (ix2 r 0)
    = l (ix2 r 0) * shrink (sc t n v11 kb v16 sk i r) (m (ix2 r 0))
      + ∑ k, prob (sc t n v11 kb v16 sk i r) (m (ix2 r 0)) k := by
  unfold k0_pay22
  pointwise
  rw [pay8_at t n v11 kb v16 sk m i hi hn]
  simp only [pay9_at t n v11 kb v16 sk m i hi hn]

omit hi hn

/-- The stored row, from the probabilities: the reference's quantiser and its second product. -/
theorem pay23_at (acc : FVec Ideal S128x128 .f32) (v57 : FVec Ideal S128x128 .fp8e4m3) (v66 : FVec Ideal S1x1 .f32)
    (v86 : FVec Ideal S128x1 .f32) (v89 : FVec Ideal S128x128 .f32) (d : Fin 128) :
    k0_pay23 acc v57 v66 v86 v89 (ix2 r d) = acc (ix2 r d) * v86 (ix2 r 0)
      + (∑ k, min ((448 : ℝ) : EReal) (max 0 (k0_pay21 v89 (ix2 r k)
          * Ideal.exp2 (0 - refExpo (Finset.univ.sup fun k => k0_pay21 v89 (ix2 r k))))) * v57 (ix2 d k))
        * (Ideal.exp2 (refExpo (Finset.univ.sup fun k => k0_pay21 v89 (ix2 r k))) * v66 (ix2 0 0)) := by
  unfold k0_pay23
  pointwise
  rw [ofBits_neg_inf, ofBits_448, ofBits_c448, named_ln2]
  rfl

include hi hn

/-- One trip of the block loop is the plain step on every row. -/
theorem step_row (vb : Vec Ideal S1x128x128 .fp8e4m3) (sv : Vec Ideal S1x1x1 .f32) (a : Carry) :
    rowOf (k0_pay7 t (BitVec.ofNat 32 i) (k0_pay16 v11) (k0_pay17 v16) 0#32 1#32 n a.1 kb sk,
        k0_pay22 a.2.1 (k0_pay8 t (BitVec.ofNat 32 i) (k0_pay16 v11) (k0_pay17 v16) 0#32 1#32 n a.1 kb sk)
          (k0_pay9 t (BitVec.ofNat 32 i) (k0_pay16 v11) (k0_pay17 v16) 0#32 1#32 n a.1 kb sk),
        k0_pay23 a.2.2 (k0_pay4 vb) (k0_pay5 sv) (k0_pay8 t (BitVec.ofNat 32 i) (k0_pay16 v11) (k0_pay17 v16) 0#32 1#32 n a.1 kb sk)
          (k0_pay9 t (BitVec.ofNat 32 i) (k0_pay16 v11) (k0_pay17 v16) 0#32 1#32 n a.1 kb sk)) r
      = step (sc t n v11 kb v16 sk i r) (fun k d => vb (ix3 0 k d)) (sv (ix3 0 0 0)) (rowOf a r) := by
  unfold rowOf
  refine congr (congr (congrArg Row.mk ?_) ?_) (funext fun d => ?_)
  · exact pay7_at t n v11 kb v16 sk a.1 i hi hn r
  · exact pay22_at t n v11 kb v16 sk a.1 i hi hn r a.2.1
  · show k0_pay23 _ _ _ _ _ (ix2 r d) = _
    rw [pay23_at, pay8_at t n v11 kb v16 sk a.1 i hi hn]
    simp only [pay9_at t n v11 kb v16 sk a.1 i hi hn]
    have hv : ∀ k, k0_pay4 vb (ix2 d k) = vb (ix3 0 k d) := fun k => by
      unfold k0_pay4
      pointwise
    have hs : k0_pay5 sv (ix2 0 0) = sv (ix3 0 0 0) := by
      unfold k0_pay5
      pointwise
    simp only [hv, hs]
    exact ref_acc (sc t n v11 kb v16 sk i r) (fun k d => vb (ix3 0 k d)) (sv (ix3 0 0 0)) (rowOf a r) d

end pay

end Cert.Proof.WRef
-- ==== Proof.WRefIndex.lean ====
/- Which tile a trip of the joined reference's loop works on, and where its loads start. -/
module

public import proofs.«01_k».proof.Proof.WRefRun
public import Idealize.ShloMosaic.Lib.Pipeline.ValueKit

@[expose] public section

set_option maxRecDepth 16384
set_option maxHeartbeats 4000000

noncomputable section

namespace Cert.Proof.WRef

open Cert.WholeRefIdeal Cert.WholeRefIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

/-! ## Index arithmetic -/

/-- A tile's batch entry, head and query block. -/
def bOf (t : Fin k0_t1_loop.trips) : Fin 8 := ⟨t.val / 1024, by have := lt_of_lt_of_eq t.isLt trips_eq; omega⟩
def hOf (t : Fin k0_t1_loop.trips) : Fin 16 := ⟨t.val / 64 % 16, by omega⟩
def iOf (t : Fin k0_t1_loop.trips) : Fin 64 := ⟨t.val % 64, by omega⟩

theorem blocks_eq : ∀ t : Fin k0_t1_loop.trips, (k0_t2_loop t).trips = t.val % 64 + 1 := by decide +kernel

theorem tail_eq : ∀ t : Fin k0_t1_loop.trips, (k0_t3_loop t).trips = 0 := by decide +kernel

theorem block_lt (t : Fin k0_t1_loop.trips) (n : Fin (k0_t2_loop t).trips) : n.val < 64 := by
  have := lt_of_lt_of_eq n.isLt (blocks_eq t); omega

theorem v4_eq : ∀ t : Fin k0_t1_loop.trips,
    Scalar.remsi (Scf.iv 0#32 1#32 t.val) 64#32 = BitVec.ofNat 32 (t.val % 64) := by decide +kernel

theorem off3_eq (t : Fin k0_t1_loop.trips) (n : Fin (k0_t2_loop t).trips) :
    k0_off3 t n = ![t.val / 1024, n.val * 128, t.val / 64 % 16 / 8 * 128] :=
  (k0_off3_eq t n).trans (by rw [Nat.mul_comm 128, Nat.mul_comm 128])

end Cert.Proof.WRef
-- ==== Proof.WRefValue.lean ====
/- What the whole reference's tile loop stores: the attention of the codes and scales, element by element. -/
module

public import proofs.«01_k».proof.Proof.WRefStep
public import proofs.«01_k».proof.Proof.WRefIndex
public import Idealize.ShloMosaic.Lib.Pipeline.ValueKit

@[expose] public section

set_option maxRecDepth 16384
set_option maxHeartbeats 4000000

noncomputable section

namespace Cert.Proof.WRef

open Cert.WholeRefIdeal Cert.WholeRefIdeal.Gen
open Idealize.ShloMosaic Idealize.ShloMosaic.TcCoe Idealize.ShloMosaic.Tactic
open Idealize.SL Idealize.SL.RA Idealize.SL.BI
open Idealize.ShloMosaic.Pipeline (Dat Cfg Window BodyObligation cellOf)

section value

variable (c : Dev nD) (arg0 : Memref sig .tc .vmem S8x8192x2048 .bf16) (harg0 : arg0.IsWhole)
  (arg1 : Memref sig .tc .vmem S8x8192x2048 .f32) (harg1 : arg1.IsWhole)
  (arg2 : Memref sig .tc .vmem S8x64x16 .f32) (harg2 : arg2.IsWhole)
  (arg3 : Memref sig .tc .vmem S8x8192x256 .bf16) (harg3 : arg3.IsWhole)
  (arg4 : Memref sig .tc .vmem S8x8192x256 .f32) (harg4 : arg4.IsWhole)
  (arg5 : Memref sig .tc .vmem S8x64x2 .f32) (harg5 : arg5.IsWhole)
  (arg6 : Memref sig .tc .vmem S8x8192x256 .bf16) (harg6 : arg6.IsWhole)
  (arg7 : Memref sig .tc .vmem S8x8192x256 .f32) (harg7 : arg7.IsWhole)
  (arg8 : Memref sig .tc .vmem S8x64x2 .f32) (harg8 : arg8.IsWhole)
  (arg9 : Memref sig .tc .vmem S8x8192x2048 .bf16) (harg9 : arg9.IsWhole)
  (arg10 : Memref sig .tc .vmem S8x8192x2048 .fp8e4m3) (harg10 : arg10.IsWhole)
  (arg11 : Memref sig .tc .vmem S8x64x16 .f32) (harg11 : arg11.IsWhole)
  (arg12 : Memref sig .tc .vmem S8x8192x256 .fp8e4m3) (harg12 : arg12.IsWhole)
  (arg13 : Memref sig .tc .vmem S8x64x2 .f32) (harg13 : arg13.IsWhole)
  (arg14 : Memref sig .tc .vmem S8x8192x256 .fp8e4m3) (harg14 : arg14.IsWhole)
  (arg15 : Memref sig .tc .vmem S8x64x2 .f32) (harg15 : arg15.IsWhole)
  (X10 : BufTy.Contents (Elt Ideal) arg10.view.ty)
  (X11 : BufTy.Contents (Elt Ideal) arg11.view.ty)
  (X12 : BufTy.Contents (Elt Ideal) arg12.view.ty)
  (X13 : BufTy.Contents (Elt Ideal) arg13.view.ty)
  (X14 : BufTy.Contents (Elt Ideal) arg14.view.ty)
  (X15 : BufTy.Contents (Elt Ideal) arg15.view.ty)
  (VT : (⟨4, ![8, 2, 128, 8192]⟩ : Shape).Idx → EReal)
  (hVT : ∀ b g d p, arg14.view.read (Elt Ideal) X14 (ix3 b p (kcol g d)) = VT (ix4 b g d p))

/-! ## The loads -/

variable (t : Fin k0_t1_loop.trips) (n : Fin (k0_t2_loop t).trips)

theorem ld_q (r d : Fin 128) :
    View.readAt (Elt Ideal) arg10.view (Rect.unit (s := S8x8192x2048) (k0_off1 t) S1x128x128.size (k0_off1_inb t)).toLoadRect X10 (ix3 0 r d)
      = arg10.view.read (Elt Ideal) X10 (ix3 (bOf t) (pos (iOf t) r) (qcol (hOf t) d)) := by
  rw [View.readAt_eq_ld]
  refine View.ld_unit_apply_of _ _ _ _ _ _ fun a => ?_
  refine Eq.trans ?_ (congrArg (· + _) (congrFun (off1_eq t) a).symm)
  match a with
  | ⟨0, _⟩ => rfl
  | ⟨1, _⟩ => rfl
  | ⟨2, _⟩ => rfl

theorem ld_k (k d : Fin 128) :
    View.readAt (Elt Ideal) arg12.view (Rect.unit (s := S8x8192x256) (k0_off3 t n) S1x128x128.size (k0_off3_inb t n)).toLoadRect X12 (ix3 0 k d)
      = arg12.view.read (Elt Ideal) X12 (ix3 (bOf t) (pos ⟨n.val, block_lt t n⟩ k) (kcol (kvOf (hOf t)) d)) := by
  rw [View.readAt_eq_ld]
  refine View.ld_unit_apply_of _ _ _ _ _ _ fun a => ?_
  refine Eq.trans ?_ (congrArg (· + _) (congrFun (off3_eq t n) a).symm)
  match a with
  | ⟨0, _⟩ => rfl
  | ⟨1, _⟩ => rfl
  | ⟨2, _⟩ => rfl

include hVT in
theorem ld_v (d k : Fin 128) :
    View.readAt (Elt Ideal) arg14.view (Rect.unit (s := S8x8192x256) (k0_off3 t n) S1x128x128.size (k0_off3_inb t n)).toLoadRect X14 (ix3 0 k d)
      = VT (ix4 (bOf t) (kvOf (hOf t)) d (pos ⟨n.val, block_lt t n⟩ k)) :=
  (ld_k arg14 X14 t n k d).trans (hVT _ _ _ _)

theorem ld_sq (x) :
    View.readAt (Elt Ideal) arg11.view (Rect.unit (s := S8x64x16) (k0_off2 t) S1x1x1.size (k0_off2_inb t)).toLoadRect X11 x
      = arg11.view.read (Elt Ideal) X11 (ix3 (bOf t) (iOf t) (hOf t)) := by
  rw [View.readAt_eq_ld]
  refine View.ld_unit_apply_of _ _ _ _ _ _ fun a => ?_
  refine Eq.trans ?_ (congrArg (· + _) (congrFun (k0_off2_eq t) a).symm)
  match a with
  | ⟨0, _⟩ => have := (x 0).isLt; change _ < 1 at this; show t.val / 1024 = t.val / 1024 + (x 0).val; omega
  | ⟨1, _⟩ => have := (x 1).isLt; change _ < 1 at this; show t.val % 64 = t.val % 64 + (x 1).val; omega
  | ⟨2, _⟩ => have := (x 2).isLt; change _ < 1 at this; show t.val / 64 % 16 = t.val / 64 % 16 + (x 2).val; omega

theorem ld_s (arg : Memref sig .tc .vmem S8x64x2 .f32) (X : BufTy.Contents (Elt Ideal) arg.view.ty) (x) :
    View.readAt (Elt Ideal) arg.view (Rect.unit (s := S8x64x2) (k0_off4 t n) S1x1x1.size (k0_off4_inb t n)).toLoadRect X x
      = arg.view.read (Elt Ideal) X (ix3 (bOf t) ⟨n.val, block_lt t n⟩ (kvOf (hOf t))) := by
  rw [View.readAt_eq_ld]
  refine View.ld_unit_apply_of _ _ _ _ _ _ fun a => ?_
  refine Eq.trans ?_ (congrArg (· + _) (congrFun (k0_off4_eq t n) a).symm)
  match a with
  | ⟨0, _⟩ => have := (x 0).isLt; change _ < 1 at this; show t.val / 1024 = t.val / 1024 + (x 0).val; omega
  | ⟨1, _⟩ => have := (x 1).isLt; change _ < 1 at this; show n.val = n.val + (x 1).val; omega
  | ⟨2, _⟩ => have := (x 2).isLt; change _ < 1 at this; show t.val / 64 % 16 / 8 = t.val / 64 % 16 / 8 + (x 2).val; omega

/-! ## The block loop -/

/-- The rows of tile `t`, from what the inputs' views read. -/
abbrev tileRows (r : Fin 128) : ℕ → Row :=
  rows (arg10.view.read (Elt Ideal) X10) (arg11.view.read (Elt Ideal) X11) (arg12.view.read (Elt Ideal) X12)
    (arg13.view.read (Elt Ideal) X13) VT (arg15.view.read (Elt Ideal) X15) (bOf t) (hOf t) (iOf t) r

/-- The tile's query codes and scale, as its trip reads them. -/
abbrev qOf := View.readAt (Elt Ideal) arg10.view (Rect.unit (s := S8x8192x2048) (k0_off1 t) S1x128x128.size (k0_off1_inb t)).toLoadRect X10

abbrev kOf := View.readAt (Elt Ideal) arg12.view (Rect.unit (s := S8x8192x256) (k0_off3 t n) S1x128x128.size (k0_off3_inb t n)).toLoadRect X12

abbrev vOf := View.readAt (Elt Ideal) arg14.view (Rect.unit (s := S8x8192x256) (k0_off3 t n) S1x128x128.size (k0_off3_inb t n)).toLoadRect X14

/-- A key block's scale. -/
abbrev sOf (arg : Memref sig .tc .vmem S8x64x2 .f32) (X : BufTy.Contents (Elt Ideal) arg.view.ty) :=
  View.readAt (Elt Ideal) arg.view (Rect.unit (s := S8x64x2) (k0_off4 t n) S1x1x1.size (k0_off4_inb t n)).toLoadRect X

/-- The tile's query scale. -/
abbrev sqOf := View.readAt (Elt Ideal) arg11.view (Rect.unit (s := S8x64x16) (k0_off2 t) S1x1x1.size (k0_off2_inb t)).toLoadRect X11

include hVT in
theorem trip_row (w1 w5 : BitVec 32) (a : Carry) (r : Fin 128) :
    rowOf (tripR_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
        0#32 1#32 t w1 (BitVec.ofNat 32 (t.val % 64)) w5 (qOf arg10 X10 t) (sqOf arg11 X11 t) X12 X13 X14 X15 n a) r
      = step (score (fun r d => arg10.view.read (Elt Ideal) X10 (ix3 (bOf t) (pos (iOf t) r) (qcol (hOf t) d)))
            (fun k d => arg12.view.read (Elt Ideal) X12 (ix3 (bOf t) (pos ⟨n.val, block_lt t n⟩ k) (kcol (kvOf (hOf t)) d)))
            (arg11.view.read (Elt Ideal) X11 (ix3 (bOf t) (iOf t) (hOf t)))
            (arg13.view.read (Elt Ideal) X13 (ix3 (bOf t) ⟨n.val, block_lt t n⟩ (kvOf (hOf t)))) (iOf t).val n.val r)
          (fun k d => VT (ix4 (bOf t) (kvOf (hOf t)) d (pos ⟨n.val, block_lt t n⟩ k)))
          (arg15.view.read (Elt Ideal) X15 (ix3 (bOf t) ⟨n.val, block_lt t n⟩ (kvOf (hOf t)))) (rowOf a r) := by
  have hi : t.val % 64 < 64 := Nat.mod_lt _ (by omega)
  have hn := block_lt t n
  have h : tripR_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
      0#32 1#32 t w1 (BitVec.ofNat 32 (t.val % 64)) w5 (qOf arg10 X10 t) (sqOf arg11 X11 t) X12 X13 X14 X15 n a
      = (k0_pay7 t (BitVec.ofNat 32 (t.val % 64)) (k0_pay16 (qOf arg10 X10 t)) (k0_pay17 (sqOf arg11 X11 t)) 0#32 1#32 n a.1 (kOf arg12 X12 t n) (sOf t n arg13 X13),
        k0_pay22 a.2.1 (k0_pay8 t (BitVec.ofNat 32 (t.val % 64)) (k0_pay16 (qOf arg10 X10 t)) (k0_pay17 (sqOf arg11 X11 t)) 0#32 1#32 n a.1 (kOf arg12 X12 t n) (sOf t n arg13 X13))
          (k0_pay9 t (BitVec.ofNat 32 (t.val % 64)) (k0_pay16 (qOf arg10 X10 t)) (k0_pay17 (sqOf arg11 X11 t)) 0#32 1#32 n a.1 (kOf arg12 X12 t n) (sOf t n arg13 X13)),
        k0_pay23 a.2.2 (k0_pay4 (vOf arg14 X14 t n)) (k0_pay5 (sOf t n arg15 X15))
          (k0_pay8 t (BitVec.ofNat 32 (t.val % 64)) (k0_pay16 (qOf arg10 X10 t)) (k0_pay17 (sqOf arg11 X11 t)) 0#32 1#32 n a.1 (kOf arg12 X12 t n) (sOf t n arg13 X13))
          (k0_pay9 t (BitVec.ofNat 32 (t.val % 64)) (k0_pay16 (qOf arg10 X10 t)) (k0_pay17 (sqOf arg11 X11 t)) 0#32 1#32 n a.1 (kOf arg12 X12 t n) (sOf t n arg13 X13))) := by
    unfold tripR_k0_t2 trip_k0_t2
    rfl
  rw [h, step_row t n (qOf arg10 X10 t) (kOf arg12 X12 t n) (sqOf arg11 X11 t) (sOf t n arg13 X13) (t.val % 64) hi hn]
  unfold sc
  simp only [ld_q, ld_k, ld_v arg14 X14 VT hVT, ld_s, ld_sq]
  rfl

include hVT in
/-- After `n` blocks the carried rows are the specification's. -/
theorem st_row (w1 w5 : BitVec 32) (r : Fin 128) : ∀ k : ℕ, k ≤ (k0_t2_loop t).trips →
    rowOf (st_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
        0#32 1#32 t w1 (BitVec.ofNat 32 (t.val % 64)) w5 (qOf arg10 X10 t) (sqOf arg11 X11 t) X12 X13 X14 X15 (k0_pay18, k0_pay19, k0_pay20) k) r
      = tileRows arg10 arg11 arg12 arg13 arg15 X10 X11 X12 X13 X15 VT t r k
  | 0, _ => by
    rw [st_k0_t2_zero]
    unfold rowOf k0_pay18 k0_pay19 k0_pay20
    pointwise
    rfl
  | k + 1, h => by
    have hk : k < (k0_t2_loop t).trips := h
    have e := st_k0_t2_succ (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
        0#32 1#32 t w1 (BitVec.ofNat 32 (t.val % 64)) w5 (qOf arg10 X10 t) (sqOf arg11 X11 t) X12 X13 X14 X15 (k0_pay18, k0_pay19, k0_pay20) ⟨k, hk⟩
    rw [show k + 1 = (⟨k, hk⟩ : Fin (k0_t2_loop t).trips).val + 1 from rfl, e, trip_row (hVT := hVT),
      st_row w1 w5 r k hk.le]
    unfold tileRows
    rw [rows, dif_pos (block_lt t ⟨k, hk⟩)]

include hVT in
/-- What a trip stores. -/
theorem trip_value (r d : Fin 128) :
    (trip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 t).1 (ix3 0 r d)
      = finish (tileRows arg10 arg11 arg12 arg13 arg15 X10 X11 X12 X13 X15 VT t r (t.val % 64 + 1)) d := by
  have hst := st_row c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 VT hVT t
    (trip.sl.v127 t) (trip.sl.v131 t) r _ le_rfl
  have ht : Scf.trips (k0_t3_loop t).lb (k0_t3_loop t).ub (k0_t3_loop t).st = 0 := tail_eq t
  have hv4 : trip.sl.v130 t = BitVec.ofNat 32 (t.val % 64) := v4_eq t
  rw [← blocks_eq t, ← hst]
  unfold trip
  dsimp only
  unfold trip.sl.r
  rw [ht, hv4, st_k0_t3_zero]
  generalize st_k0_t2 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15
        0#32 1#32 t _ _ _ _ _ X12 X13 X14 X15 _ _ = st
  unfold k0_pay3 k0_pay27
  pointwise
  rfl

include hVT in
/-- What the tile loop leaves is the attention of what the inputs' views read. -/
theorem out_eq (y : S8x8192x2048.Idx) :
    out c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 y
      = attention (arg10.view.read (Elt Ideal) X10) (arg11.view.read (Elt Ideal) X11) (arg12.view.read (Elt Ideal) X12)
          (arg13.view.read (Elt Ideal) X13) VT (arg15.view.read (Elt Ideal) X15) y := by
  have h0 : (y 0).val < 8 := (y 0).isLt
  have h1 : (y 1).val < 8192 := (y 1).isLt
  have h2 : (y 2).val < 2048 := (y 2).isLt
  have hv : (tileOf y).val = (y 0).val * 1024 + (y 2).val / 128 * 64 + (y 1).val / 128 := rfl
  have e0 : bOf (tileOf y) = y 0 := Fin.ext (by show (tileOf y).val / 1024 = _; omega)
  have e1 : hOf (tileOf y) = ⟨(y 2).val / 128, by omega⟩ := Fin.ext (by show (tileOf y).val / 64 % 16 = (y 2).val / 128; omega)
  have e2 : iOf (tileOf y) = ⟨(y 1).val / 128, by omega⟩ := Fin.ext (by show (tileOf y).val % 64 = (y 1).val / 128; omega)
  have e3 : (tileOf y).val % 64 = (y 1).val / 128 := by omega
  unfold out
  refine (trip_value c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 X10 X11 X12 X13 X14 X15 VT hVT _ _ _).trans ?_
  unfold tileRows attention
  rw [e0, e1, e2, e3]

end value

end Cert.Proof.WRef
-- ==== Proof.WRefResult.lean ====
/- The whole reference's run, read: its results are the attention of the quantised arguments, and their codes and scales. -/
module

public import proofs.«01_k».proof.Proof.WRefValue
public import proofs.«01_k».proof.Proof.QuantAmax
public import proofs.«01_k».proof.Proof.QuantTrans
public import Idealize.ShloMosaic.Lib.Pipeline.Value

@[expose] public section

set_option maxRecDepth 16384
set_option maxHeartbeats 4000000

noncomputable section

namespace Cert.Proof.WRef

open Cert.WholeRefIdeal Cert.WholeRefIdeal.Gen Cert.Proof.Quant
open Idealize.ShloMosaic Idealize.ShloMosaic.TcCoe Idealize.ShloMosaic.Tactic Idealize.SL.Sem Idealize.ShloMosaic.StableHlo
open Idealize.ShloMosaic.Pipeline (Dat)

/-! ## The quantisers' stores -/

theorem codesX_at (a : Vec Ideal S8x8192x2048 .f32) (x : Vec Ideal S8x8192x2048 .bf16) (y : S8x8192x2048.Idx) : k0_pay28 a x y = codeOf (x y) (a y) := by
  unfold k0_pay28
  pointwise
  rw [named_ln2, ofBits_448, ofBits_neg_448, ofBits_c448]
  rfl

theorem codesK_at (a : Vec Ideal S8x8192x256 .f32) (x : Vec Ideal S8x8192x256 .bf16) (y : S8x8192x256.Idx) : k0_pay32 a x y = codeOf (x y) (a y) := by
  unfold k0_pay32
  pointwise
  rw [named_ln2, ofBits_448, ofBits_neg_448, ofBits_c448]
  rfl

theorem codesV_at (a : Vec Ideal S8x8192x256 .f32) (x : Vec Ideal S8x8192x256 .bf16) (y : S8x8192x256.Idx) : codesV a x y = codeOf (x y) (a y) := by
  unfold codesV k0_pay1 k0_pay34
  pointwise
  rw [named_ln2, ofBits_448, ofBits_neg_448, ofBits_c448]
  rfl

theorem scalesX_at (a : Vec Ideal S8x64x16 .f32) (y : S8x64x16.Idx) : k0_pay31 (k0_pay29 a) (k0_pay30 a) y = scaleOf (a y) := by
  unfold k0_pay31 k0_pay30 k0_pay29
  pointwise
  rw [named_ln2, ofBits_c448]
  rfl

theorem scalesK_at (a : Vec Ideal S8x64x2 .f32) (y : S8x64x2.Idx) : k0_pay33 a y = scaleOf (a y) := by
  unfold k0_pay33
  pointwise
  rw [named_ln2, ofBits_c448]
  rfl

theorem scalesV_at (a : Vec Ideal S8x64x2 .f32) (y : S8x64x2.Idx) : k0_pay2 a y = scaleOf (a y) := by
  unfold k0_pay2
  pointwise
  rw [named_ln2, ofBits_c448]
  rfl

variable (m : (ℓ : Loc nD τ sig) → Buf (Elt Ideal) ℓ) (ρ : Dev nD → PrngReg)

/-- The arguments. -/
abbrev argX (c : Dev nD) : (SA 16).Idx → EReal := m ((c : Thread nD τ).loc main_arg0)
abbrev argK (c : Dev nD) : (SA 2).Idx → EReal := m ((c : Thread nD τ).loc main_arg1)
abbrev argV (c : Dev nD) : (SA 2).Idx → EReal := m ((c : Thread nD τ).loc main_arg2)

/-! ## The host's operations -/

/-- What the region finds, after the host's operations before it. -/
abbrev found (c : Dev nD) (b : Ref sig .tc) : Buf (Elt Ideal) ((c : Thread nD τ).loc b) := StableHlo.after hostOps0 (fun b => m (c, b)) b

theorem V_eq (c : Dev nD) (b : Ref sig .tc) : V m c b = found m c b :=
  congrArg (fun l => StableHlo.after l (fun b => m (c, b)) (Proc.devRef .tc b)) (List.append_nil hostOps0)

/-- Every block's largest magnitude, and that spread over the block. -/
abbrev amax16 (X : (SA 16).Idx → EReal) : FVec Ideal S8x64x16 .f32 :=
  amaxHost (n := 16) shapeCasts_S8x8192x2048_S8x64x128x16x128 reducesTo_S8x64x128x16x128_S8x64x16_d2_4 h_S_ X
abbrev amax2 (X : (SA 2).Idx → EReal) : FVec Ideal S8x64x2 .f32 :=
  amaxHost (n := 2) shapeCasts_S8x8192x256_S8x64x128x2x128 reducesTo_S8x64x128x2x128_S8x64x2_d2_4 h_S_ X
abbrev spread16 (A : FVec Ideal S8x64x16 .f32) : FVec Ideal S8x8192x2048 .f32 :=
  shapeCast S8x8192x2048 (broadcastInDim S8x64x128x16x128 ![0, 1, 2, 3, 4] bcast_S8x64x1x16x1_S8x64x128x16x128_0_1_2_3_4
    (broadcastInDim S8x64x1x16x1 ![0, 1, 3] bcast_S8x64x16_S8x64x1x16x1_0_1_3 A)) shapeCasts_S8x64x128x16x128_S8x8192x2048
abbrev spread2 (A : FVec Ideal S8x64x2 .f32) : FVec Ideal S8x8192x256 .f32 :=
  shapeCast S8x8192x256 (broadcastInDim S8x64x128x2x128 ![0, 1, 2, 3, 4] bcast_S8x64x1x2x1_S8x64x128x2x128_0_1_2_3_4
    (broadcastInDim S8x64x1x2x1 ![0, 1, 3] bcast_S8x64x2_S8x64x1x2x1_0_1_3 A)) shapeCasts_S8x64x128x2x128_S8x8192x256

theorem V_main_v3 (c : Dev nD) : V m c main_v3 = amax16 (argX m c) := by
  rw [V_eq]
  unfold_abbrev_sides
  after_results
  rfl

theorem V_main_v14 (c : Dev nD) : V m c main_v14 = spread16 (amax16 (argX m c)) := by
  rw [V_eq]
  unfold_abbrev_sides
  after_results
  rfl

theorem V_main_v7 (c : Dev nD) : V m c main_v7 = amax2 (argK m c) := by
  rw [V_eq]
  unfold_abbrev_sides
  after_results
  rfl

theorem V_main_v17 (c : Dev nD) : V m c main_v17 = spread2 (amax2 (argK m c)) := by
  rw [V_eq]
  unfold_abbrev_sides
  after_results
  rfl

theorem V_main_v11 (c : Dev nD) : V m c main_v11 = amax2 (argV m c) := by
  rw [V_eq]
  unfold_abbrev_sides
  after_results
  rfl

theorem V_main_v20 (c : Dev nD) : V m c main_v20 = spread2 (amax2 (argV m c)) := by
  rw [V_eq]
  unfold_abbrev_sides
  after_results
  rfl

/-! ## Every window's one block is its array -/

theorem iblk0 (c : Dev nD) (t : Fin cfg0.N) : iblk m c 0 t = V m c main_arg0 := by
  have hz : (fun a => win0_0.index t a * main_arg0.ty.shape.size a) = fun _ => 0 := funext fun a => by fin_cases a <;> exact Nat.zero_mul _
  exact Memref.read_access_unit_zero (Elt Ideal) main_arg0 hz (fun a => by rw [congrFun hz a]; simp) _
theorem iblk1 (c : Dev nD) (t : Fin cfg0.N) : iblk m c 1 t = V m c main_v14 := by
  have hz : (fun a => win0_1.index t a * main_v14.ty.shape.size a) = fun _ => 0 := funext fun a => by fin_cases a <;> exact Nat.zero_mul _
  exact Memref.read_access_unit_zero (Elt Ideal) main_v14 hz (fun a => by rw [congrFun hz a]; simp) _
theorem iblk2 (c : Dev nD) (t : Fin cfg0.N) : iblk m c 2 t = V m c main_v3 := by
  have hz : (fun a => win0_2.index t a * main_v3.ty.shape.size a) = fun _ => 0 := funext fun a => by fin_cases a <;> exact Nat.zero_mul _
  exact Memref.read_access_unit_zero (Elt Ideal) main_v3 hz (fun a => by rw [congrFun hz a]; simp) _
theorem iblk3 (c : Dev nD) (t : Fin cfg0.N) : iblk m c 3 t = V m c main_arg1 := by
  have hz : (fun a => win0_3.index t a * main_arg1.ty.shape.size a) = fun _ => 0 := funext fun a => by fin_cases a <;> exact Nat.zero_mul _
  exact Memref.read_access_unit_zero (Elt Ideal) main_arg1 hz (fun a => by rw [congrFun hz a]; simp) _
theorem iblk4 (c : Dev nD) (t : Fin cfg0.N) : iblk m c 4 t = V m c main_v17 := by
  have hz : (fun a => win0_4.index t a * main_v17.ty.shape.size a) = fun _ => 0 := funext fun a => by fin_cases a <;> exact Nat.zero_mul _
  exact Memref.read_access_unit_zero (Elt Ideal) main_v17 hz (fun a => by rw [congrFun hz a]; simp) _
theorem iblk5 (c : Dev nD) (t : Fin cfg0.N) : iblk m c 5 t = V m c main_v7 := by
  have hz : (fun a => win0_5.index t a * main_v7.ty.shape.size a) = fun _ => 0 := funext fun a => by fin_cases a <;> exact Nat.zero_mul _
  exact Memref.read_access_unit_zero (Elt Ideal) main_v7 hz (fun a => by rw [congrFun hz a]; simp) _
theorem iblk6 (c : Dev nD) (t : Fin cfg0.N) : iblk m c 6 t = V m c main_arg2 := by
  have hz : (fun a => win0_6.index t a * main_arg2.ty.shape.size a) = fun _ => 0 := funext fun a => by fin_cases a <;> exact Nat.zero_mul _
  exact Memref.read_access_unit_zero (Elt Ideal) main_arg2 hz (fun a => by rw [congrFun hz a]; simp) _
theorem iblk7 (c : Dev nD) (t : Fin cfg0.N) : iblk m c 7 t = V m c main_v20 := by
  have hz : (fun a => win0_7.index t a * main_v20.ty.shape.size a) = fun _ => 0 := funext fun a => by fin_cases a <;> exact Nat.zero_mul _
  exact Memref.read_access_unit_zero (Elt Ideal) main_v20 hz (fun a => by rw [congrFun hz a]; simp) _
theorem iblk8 (c : Dev nD) (t : Fin cfg0.N) : iblk m c 8 t = V m c main_v11 := by
  have hz : (fun a => win0_8.index t a * main_v11.ty.shape.size a) = fun _ => 0 := funext fun a => by fin_cases a <;> exact Nat.zero_mul _
  exact Memref.read_access_unit_zero (Elt Ideal) main_v11 hz (fun a => by rw [congrFun hz a]; simp) _

/-! ## The codes and scales -/

theorem spread16_at (X : (SA 16).Idx → EReal) (y : S8x8192x2048.Idx) : codeOf (X y) (spread16 (amax16 X) y) = codesArr (n := 16) X y :=
  congrArg (codeOf _) ((spread_at (n := 16) _ _ _ _ y).trans (amaxHost_at (n := 16) _ _ _ _ _ _ _))

theorem spread2_at (X : (SA 2).Idx → EReal) (y : S8x8192x256.Idx) : codeOf (X y) (spread2 (amax2 X) y) = codesArr (n := 2) X y :=
  congrArg (codeOf _) ((spread_at (n := 2) _ _ _ _ y).trans (amaxHost_at (n := 2) _ _ _ _ _ _ _))

theorem amax16_at (X : (SA 16).Idx → EReal) (y : S8x64x16.Idx) : scaleOf (amax16 X y) = scalesArr (n := 16) X y :=
  congrArg scaleOf ((congrArg _ (eq_ix3 y)).trans (amaxHost_at (n := 16) _ _ _ _ (y 0) (y 1) (y 2)))

theorem amax2_at (X : (SA 2).Idx → EReal) (y : S8x64x2.Idx) : scaleOf (amax2 X y) = scalesArr (n := 2) X y :=
  congrArg scaleOf ((congrArg _ (eq_ix3 y)).trans (amaxHost_at (n := 2) _ _ _ _ (y 0) (y 1) (y 2)))

theorem codesX_eq (c : Dev nD) (t : Fin cfg0.N) : k0_pay28 (iblk m c 1 t) (iblk m c 0 t) = codesArr (n := 16) (argX m c) := by
  rw [iblk0, iblk1, V_main_v14, V_main_arg0]
  exact funext fun y => (codesX_at _ _ y).trans (spread16_at _ y)
theorem scalesX_eq (c : Dev nD) (t : Fin cfg0.N) : k0_pay31 (k0_pay29 (iblk m c 2 t)) (k0_pay30 (iblk m c 2 t)) = scalesArr (n := 16) (argX m c) := by
  rw [iblk2, V_main_v3]
  exact funext fun y => (scalesX_at _ y).trans (amax16_at _ y)
theorem codesK_eq (c : Dev nD) (t : Fin cfg0.N) : k0_pay32 (iblk m c 4 t) (iblk m c 3 t) = codesArr (n := 2) (argK m c) := by
  rw [iblk3, iblk4, V_main_v17, V_main_arg1]
  exact funext fun y => (codesK_at _ _ y).trans (spread2_at _ y)
theorem scalesK_eq (c : Dev nD) (t : Fin cfg0.N) : k0_pay33 (iblk m c 5 t) = scalesArr (n := 2) (argK m c) := by
  rw [iblk5, V_main_v7]
  exact funext fun y => (scalesK_at _ y).trans (amax2_at _ y)
theorem codesV_eq (c : Dev nD) (t : Fin cfg0.N) : codesV (iblk m c 7 t) (iblk m c 6 t) = codesArr (n := 2) (argV m c) := by
  rw [iblk6, iblk7, V_main_v20, V_main_arg2]
  exact funext fun y => (codesV_at _ _ y).trans (spread2_at _ y)
theorem scalesV_eq (c : Dev nD) (t : Fin cfg0.N) : k0_pay2 (iblk m c 8 t) = scalesArr (n := 2) (argV m c) := by
  rw [iblk8, V_main_v11]
  exact funext fun y => (scalesV_at _ y).trans (amax2_at _ y)

/-! ## The attention -/

/-- The attention of the quantised arguments. -/
abbrev result (c : Dev nD) : Buf (Elt Ideal) ((c : Thread nD τ).loc main_v21_0) :=
  attention (codesArr (n := 16) (argX m c)) (scalesArr (n := 16) (argX m c)) (codesArr (n := 2) (argK m c)) (scalesArr (n := 2) (argK m c))
    (codesArrT (n := 2) (argV m c)) (scalesArr (n := 2) (argV m c))

theorem outAt_eq (c : Dev nD) (t : Fin cfg0.N) : outAt m c t = result m c := by
  funext y
  unfold outAt
  rw [out_eq (VT := codesArrT (n := 2) (argV m c))]
  · simp only [(hstage0_10 0).read_unread, (hstage0_11 0).read_unread, (hstage0_12 0).read_unread, (hstage0_13 0).read_unread,
      (hstage0_15 0).read_unread, codesX_eq, scalesX_eq, codesK_eq, scalesK_eq, scalesV_eq]
  · intro b g d p
    rw [(hstage0_14 0).read_unread, codesV_eq]
    exact congrArg (fun z => codesArr (n := 2) (argV m c) (ix3 b p z)) (Fin.ext (by show g.val * 128 + d.val = 128 * g.val + d.val; omega))

/-! ## The results -/

/-- A block as large as its array holds every index. -/
theorem mem_all {s : Shape} {off : Fin s.rank → ℕ} (hoff : off = fun _ => 0) (inb) (i : s.Idx) :
    i ∈ (Rect.unit (s := s) off s.size inb).set := by
  subst hoff
  rw [Rect.mem_set_unit]
  exact fun a => ⟨Nat.zero_le _, lt_of_lt_of_eq (i a).isLt (Nat.zero_add _).symm⟩

theorem final_y (c : Dev nD) : (dats m 0 c).arrAt 9 cfg0.N = result m c := by
  have hz : ∀ t, (fun a => win0_9.index t a * main_v21_0.ty.shape.size a) = fun _ => 0 := fun t => funext fun a => by fin_cases a <;> exact Nat.zero_mul _
  refine (dats m 0 c).arrAt_eq_of_cover 9 (result m c) (fun t _ => ?_) fun (i : S8x8192x2048.Idx) => ⟨(⟨0, by decide⟩ : Fin cfg0.N), by decide, ?_⟩
  · show (cfg0.win 9).cut (grid0.coords t) ((dats m 0 c).after 9 t) = _
    rw [after9, outAt_eq]
    exact (Memref.read_access_unit_zero (Elt Ideal) main_v21_0 (hz t) (fun a => by rw [congrFun (hz t) a]; simp) (result m c)).symm
  · change _ ∈ ((View.whole main_v21_0).slice (win0_9.rect _)).set
    rw [View.set_slice_whole]
    exact mem_all (hz _) _ i

theorem final_codesX (c : Dev nD) : (dats m 0 c).arrAt 10 cfg0.N = codesArr (n := 16) (argX m c) := by
  have hz : ∀ t, (fun a => win0_10.index t a * main_v21_1.ty.shape.size a) = fun _ => 0 := fun t => funext fun a => by fin_cases a <;> exact Nat.zero_mul _
  refine (dats m 0 c).arrAt_eq_of_cover 10 (codesArr (n := 16) (argX m c)) (fun t _ => ?_) fun (i : S8x8192x2048.Idx) => ⟨(⟨0, by decide⟩ : Fin cfg0.N), by decide, ?_⟩
  · show (cfg0.win 10).cut (grid0.coords t) ((dats m 0 c).after 10 t) = _
    rw [after10, codesX_eq]
    exact (Memref.read_access_unit_zero (Elt Ideal) main_v21_1 (hz t) (fun a => by rw [congrFun (hz t) a]; simp) (codesArr (n := 16) (argX m c))).symm
  · change _ ∈ ((View.whole main_v21_1).slice (win0_10.rect _)).set
    rw [View.set_slice_whole]
    exact mem_all (hz _) _ i

theorem final_scalesX (c : Dev nD) : (dats m 0 c).arrAt 11 cfg0.N = scalesArr (n := 16) (argX m c) := by
  have hz : ∀ t, (fun a => win0_11.index t a * main_v21_2.ty.shape.size a) = fun _ => 0 := fun t => funext fun a => by fin_cases a <;> exact Nat.zero_mul _
  refine (dats m 0 c).arrAt_eq_of_cover 11 (scalesArr (n := 16) (argX m c)) (fun t _ => ?_) fun (i : S8x64x16.Idx) => ⟨(⟨0, by decide⟩ : Fin cfg0.N), by decide, ?_⟩
  · show (cfg0.win 11).cut (grid0.coords t) ((dats m 0 c).after 11 t) = _
    rw [after11, scalesX_eq]
    exact (Memref.read_access_unit_zero (Elt Ideal) main_v21_2 (hz t) (fun a => by rw [congrFun (hz t) a]; simp) (scalesArr (n := 16) (argX m c))).symm
  · change _ ∈ ((View.whole main_v21_2).slice (win0_11.rect _)).set
    rw [View.set_slice_whole]
    exact mem_all (hz _) _ i

theorem final_codesK (c : Dev nD) : (dats m 0 c).arrAt 12 cfg0.N = codesArr (n := 2) (argK m c) := by
  have hz : ∀ t, (fun a => win0_12.index t a * main_v21_3.ty.shape.size a) = fun _ => 0 := fun t => funext fun a => by fin_cases a <;> exact Nat.zero_mul _
  refine (dats m 0 c).arrAt_eq_of_cover 12 (codesArr (n := 2) (argK m c)) (fun t _ => ?_) fun (i : S8x8192x256.Idx) => ⟨(⟨0, by decide⟩ : Fin cfg0.N), by decide, ?_⟩
  · show (cfg0.win 12).cut (grid0.coords t) ((dats m 0 c).after 12 t) = _
    rw [after12, codesK_eq]
    exact (Memref.read_access_unit_zero (Elt Ideal) main_v21_3 (hz t) (fun a => by rw [congrFun (hz t) a]; simp) (codesArr (n := 2) (argK m c))).symm
  · change _ ∈ ((View.whole main_v21_3).slice (win0_12.rect _)).set
    rw [View.set_slice_whole]
    exact mem_all (hz _) _ i

theorem final_scalesK (c : Dev nD) : (dats m 0 c).arrAt 13 cfg0.N = scalesArr (n := 2) (argK m c) := by
  have hz : ∀ t, (fun a => win0_13.index t a * main_v21_4.ty.shape.size a) = fun _ => 0 := fun t => funext fun a => by fin_cases a <;> exact Nat.zero_mul _
  refine (dats m 0 c).arrAt_eq_of_cover 13 (scalesArr (n := 2) (argK m c)) (fun t _ => ?_) fun (i : S8x64x2.Idx) => ⟨(⟨0, by decide⟩ : Fin cfg0.N), by decide, ?_⟩
  · show (cfg0.win 13).cut (grid0.coords t) ((dats m 0 c).after 13 t) = _
    rw [after13, scalesK_eq]
    exact (Memref.read_access_unit_zero (Elt Ideal) main_v21_4 (hz t) (fun a => by rw [congrFun (hz t) a]; simp) (scalesArr (n := 2) (argK m c))).symm
  · change _ ∈ ((View.whole main_v21_4).slice (win0_13.rect _)).set
    rw [View.set_slice_whole]
    exact mem_all (hz _) _ i

theorem final_codesV (c : Dev nD) : (dats m 0 c).arrAt 14 cfg0.N = codesArr (n := 2) (argV m c) := by
  have hz : ∀ t, (fun a => win0_14.index t a * main_v21_5.ty.shape.size a) = fun _ => 0 := fun t => funext fun a => by fin_cases a <;> exact Nat.zero_mul _
  refine (dats m 0 c).arrAt_eq_of_cover 14 (codesArr (n := 2) (argV m c)) (fun t _ => ?_) fun (i : S8x8192x256.Idx) => ⟨(⟨0, by decide⟩ : Fin cfg0.N), by decide, ?_⟩
  · show (cfg0.win 14).cut (grid0.coords t) ((dats m 0 c).after 14 t) = _
    rw [after14, codesV_eq]
    exact (Memref.read_access_unit_zero (Elt Ideal) main_v21_5 (hz t) (fun a => by rw [congrFun (hz t) a]; simp) (codesArr (n := 2) (argV m c))).symm
  · change _ ∈ ((View.whole main_v21_5).slice (win0_14.rect _)).set
    rw [View.set_slice_whole]
    exact mem_all (hz _) _ i

theorem final_scalesV (c : Dev nD) : (dats m 0 c).arrAt 15 cfg0.N = scalesArr (n := 2) (argV m c) := by
  have hz : ∀ t, (fun a => win0_15.index t a * main_v21_6.ty.shape.size a) = fun _ => 0 := fun t => funext fun a => by fin_cases a <;> exact Nat.zero_mul _
  refine (dats m 0 c).arrAt_eq_of_cover 15 (scalesArr (n := 2) (argV m c)) (fun t _ => ?_) fun (i : S8x64x2.Idx) => ⟨(⟨0, by decide⟩ : Fin cfg0.N), by decide, ?_⟩
  · show (cfg0.win 15).cut (grid0.coords t) ((dats m 0 c).after 15 t) = _
    rw [after15, scalesV_eq]
    exact (Memref.read_access_unit_zero (Elt Ideal) main_v21_6 (hz t) (fun a => by rw [congrFun (hz t) a]; simp) (scalesArr (n := 2) (argV m c))).symm
  · change _ ∈ ((View.whole main_v21_6).slice (win0_15.rect _)).set
    rw [View.set_slice_whole]
    exact mem_all (hz _) _ i

/-- The run, read: the attention of the quantised arguments, their codes and scales, and the arguments unchanged. -/
theorem run : θ_run defs (onTc (τ := τ) (main (F := Ideal))) ⟨m, fun _ => 0, ρ⟩ fun r => ∀ c : Dev nD,
      r.2.mem ((c : Thread nD τ).loc main_v21_0) = result m c
      ∧ r.2.mem ((c : Thread nD τ).loc main_v21_1) = codesArr (n := 16) (argX m c)
      ∧ r.2.mem ((c : Thread nD τ).loc main_v21_2) = scalesArr (n := 16) (argX m c)
      ∧ r.2.mem ((c : Thread nD τ).loc main_v21_3) = codesArr (n := 2) (argK m c)
      ∧ r.2.mem ((c : Thread nD τ).loc main_v21_4) = scalesArr (n := 2) (argK m c)
      ∧ r.2.mem ((c : Thread nD τ).loc main_v21_5) = codesArr (n := 2) (argV m c)
      ∧ r.2.mem ((c : Thread nD τ).loc main_v21_6) = scalesArr (n := 2) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 9).trans (final_y m c), ((h c).1 10).trans (final_codesX m c), ((h c).1 11).trans (final_scalesX m c), ((h c).1 12).trans (final_codesK m c), ((h c).1 13).trans (final_scalesK m c), ((h c).1 14).trans (final_codesV m c), ((h c).1 15).trans (final_scalesV m c),
    ((h c).1 0).trans (((dats m 0 c).arrAt_in 0 rfl _).trans (V_main_arg0 m c)),
    ((h c).1 3).trans (((dats m 0 c).arrAt_in 3 rfl _).trans (V_main_arg1 m c)),
    ((h c).1 6).trans (((dats m 0 c).arrAt_in 6 rfl _).trans (V_main_arg2 m c))⟩)
    (run_main m ρ)

end Cert.Proof.WRef

end
-- ==== Proof.WKerStep.lean ====
/- One key block of the whole kernel's attention call, column by column: the payloads of a trip read at an index, and the carried column they leave. -/
module

public import proofs.«01_k».proof.Proof.Spec
public import proofs.«01_k».proof.Proof.Gen.WholeIdeal.Frame
public import Idealize.ShloMosaic.Lib.Pointwise
public import Idealize.ShloMosaic.Lib.Pipeline.ValueKit

@[expose] public section

set_option maxRecDepth 16384
set_option maxHeartbeats 4000000

noncomputable section

namespace Cert.Proof.WKer

open Cert.WholeIdeal Cert.WholeIdeal.Gen
open Idealize.ShloMosaic Idealize.ShloMosaic.TcCoe Idealize.ShloMosaic.Tactic

variable (v16 : FVec Ideal S1024x128 .fp8e4m3) (v65 : FVec Ideal S1x1024 .f32) (kb : Vec Ideal S1x128x128 .fp8e4m3)
  (vt : Vec Ideal S1x1x128x128 .fp8e4m3) (sk sv : Elt Ideal .f32) (m l : FVec Ideal S1x1024 .f32) (acc : FVec Ideal S128x1024 .f32)
  (x : Fin 1024)

/-- One step of the bit search, on vectors. -/
def upV (a : FVec Ideal S1x1024 .f32) (e : IVec S1x1024 32) (b : BitVec 32) : IVec S1x1024 32 :=
  select (cmpf .olt a (bitcastToFloat .f32 (shli (addi e (broadcast S1x1024 b)) (broadcast S1x1024 23#32)))) e
    (addi e (broadcast S1x1024 b))

theorem upV_at (a : FVec Ideal S1x1024 .f32) (e : IVec S1x1024 32) (b : BitVec 32) :
    upV a e b (ix2 0 x) = up (a (ix2 0 x)) (e (ix2 0 x)) b := by
  unfold upV
  pointwise
  rfl

theorem expo_at (a : FVec Ideal S1x1024 .f32) :
    k3_pay13 a (upV a (upV a (broadcast S1x1024 0#32) 128#32) 64#32) 32#32 (ix2 0 x) = kerExpo (a (ix2 0 x)) := by
  have h : k3_pay13 a (upV a (upV a (broadcast S1x1024 0#32) 128#32) 64#32) 32#32
      = (fun e : IVec S1x1024 32 => select (cmpi .eq e (broadcast S1x1024 0#32)) (broadcast S1x1024 126#32) e)
        (upV a (upV a (upV a (upV a (upV a (upV a (upV a (upV a (broadcast S1x1024 0#32) 128#32) 64#32) 32#32) 16#32) 8#32) 4#32) 2#32) 1#32) := rfl
  rw [h]
  dsimp only
  generalize hv : upV a (upV a (upV a (upV a (upV a (upV a (upV a (upV a (broadcast S1x1024 0#32) 128#32) 64#32) 32#32) 16#32) 8#32) 4#32) 2#32) 1#32 = v
  pointwise
  rw [← hv]
  simp only [upV_at]
  show Scalar.select (BitVec.ofBool (bisect (a (ix2 0 x)) == 0#32)) _ _ = _
  rw [beq_eq_decide, Scalar.select_decide]
  rfl

/-! ## A full block -/

/-- The block's scores in powers of two, query column `x`. -/
abbrev sc : Fin 128 → EReal := fun k => (∑ d, kb (ix3 0 k d) * v16 (ix2 x d)) * (v65 (ix2 0 x) * (sk * (c2 : EReal)))

theorem named_scale : (Named.named κ "scale_log2e" 0x3E0293EE#32 : Ideal .f32) = (c2 : EReal) := rfl
theorem named_mask : (Named.named κ "mask" 0xF149F2CA#32 : Ideal .f32) = ⊥ := rfl
theorem ofBits_neg_inf : Ideal.ofBits .f32 0xFF800000#32 = ⊥ := by simp [Ideal.ofBits, Ideal.ieee]

theorem pay7_at (k : Fin 128) : k3_pay7 v16 v65 kb sk (ix2 k x) = sc v16 v65 kb sk x k := by
  unfold k3_pay7
  pointwise
  rw [named_scale]

theorem pay8_at : k3_pay8 v16 v65 kb sk (ix2 0 x) = Finset.univ.sup (sc v16 v65 kb sk x) := by
  unfold k3_pay8
  pointwise
  rw [ofBits_neg_inf]
  simp only [pay7_at]
  rfl

theorem pay9_at : k3_pay9 v16 v65 m kb sk (ix2 0 x) = max (m (ix2 0 x)) (Finset.univ.sup (sc v16 v65 kb sk x)) := by
  unfold k3_pay9
  pointwise
  rw [pay8_at]

theorem pay10_at : k3_pay10 v16 v65 m kb sk (ix2 0 x)
    = Ideal.exp2 (m (ix2 0 x) - max (m (ix2 0 x)) (Finset.univ.sup (sc v16 v65 kb sk x))) := by
  unfold k3_pay10
  pointwise
  rw [pay9_at]
  rfl

theorem pay11_at : k3_pay11 v16 v65 m kb sk (ix2 0 x)
    = Ideal.exp2 (Finset.univ.sup (sc v16 v65 kb sk x) - max (m (ix2 0 x)) (Finset.univ.sup (sc v16 v65 kb sk x))) * c448 := by
  unfold k3_pay11
  pointwise
  rw [pay9_at, pay8_at, ofBits_c448]
  rfl

/-- The exponents the kernel finds. -/
theorem pay13_at : k3_pay13 (k3_pay11 v16 v65 m kb sk) (k3_pay12 v16 v65 m kb sk) 32#32 (ix2 0 x)
    = kExpo (sc v16 v65 kb sk x) (m (ix2 0 x)) := by
  rw [show k3_pay12 v16 v65 m kb sk = upV (k3_pay11 v16 v65 m kb sk) (upV (k3_pay11 v16 v65 m kb sk) (broadcast S1x1024 0#32) 128#32) 64#32
    from rfl, expo_at, pay11_at]
  rfl

section quantise

/- The quantiser and the second product, for any scores, maxima and exponents. -/
variable (S : FVec Ideal S128x1024 .f32) (M a : FVec Ideal S1x1024 .f32) (e : IVec S1x1024 32) (t : Fin 128 → EReal) (M0 : EReal)
  (hS : ∀ k, S (ix2 k x) = t k) (hM : M (ix2 0 x) = max M0 (Finset.univ.sup t)) (he : e (ix2 0 x) = kExpo t M0)

include hM hS he in
theorem pay29_at (k : Fin 128) : k3_pay29 S M e 126#32 (ix2 k x) = kProb t M0 k := by
  unfold k3_pay29
  pointwise
  rw [hS, hM, he]
  rfl

include he in
theorem pay30_at : k3_pay30 (F := Ideal) e (ix2 0 x) = kScale t M0 := by
  unfold k3_pay30
  pointwise
  rw [he]
  rfl

include hM hS he in
theorem pay31_at : k3_pay31 l S M a e 126#32 (ix2 0 x) = l (ix2 0 x) * a (ix2 0 x) + (∑ k, kProb t M0 k) * kScale t M0 := by
  unfold k3_pay31
  pointwise
  rw [pay30_at x e t M0 he]
  simp only [pay29_at x S M e t M0 hS hM he]

include hM hS he in
theorem pay32_at (vt : Vec Ideal S1x1x128x128 .fp8e4m3) (d : Fin 128) : k3_pay32 (k3_pay6 vt) S M a e 126#32 acc sv (ix2 d x)
    = acc (ix2 d x) * a (ix2 0 x)
      + (∑ k, vt (ix4 0 0 d k) * min ((448 : ℝ) : EReal) (max 0 (kProb t M0 k))) * (kScale t M0 * sv) := by
  unfold k3_pay32 k3_pay6
  pointwise
  rw [pay30_at x e t M0 he, ofBits_448]
  simp only [pay29_at x S M e t M0 hS hM he]

end quantise

/-! ## The diagonal block -/

/-- The diagonal block's scores: a query sees the keys up to its own position in the block. -/
abbrev scM : Fin 128 → EReal := fun k => if k.val ≤ x.val % 128 then sc v16 v65 kb sk x k else ⊥

theorem sle_pos (k : Fin 128) : IntOp.cmpi .sle (BitVec.ofNat 32 k.val) (IntOp.andi (BitVec.ofNat 32 x.val) 127#32)
    = BitVec.ofBool (decide (k.val ≤ x.val % 128)) := by
  have e : IntOp.andi (BitVec.ofNat 32 x.val) 127#32 = BitVec.ofNat 32 (x.val % 128) := by
    show BitVec.ofNat 32 x.val &&& 127#32 = _
    apply BitVec.eq_of_toNat_eq
    rw [BitVec.toNat_and, BitVec.toNat_ofNat, BitVec.toNat_ofNat, BitVec.toNat_ofNat]
    have hx := x.isLt
    rw [Nat.mod_eq_of_lt (by omega : x.val < 2 ^ 32), Nat.mod_eq_of_lt (by omega : 127 < 2 ^ 32),
      Nat.mod_eq_of_lt (by omega : x.val % 128 < 2 ^ 32)]
    exact Nat.and_two_pow_sub_one_eq_mod x.val 7
  rw [e]
  show BitVec.ofBool (BitVec.sle _ _) = _
  congr 1
  rw [BitVec.sle_eq_decide, BitVec.toInt_ofNat', BitVec.toInt_ofNat']
  have hk := k.isLt; have hr := x.isLt
  rw [Int.bmod_eq_of_le (by omega) (by omega), Int.bmod_eq_of_le (by omega) (by omega)]
  congr 1
  exact propext (by omega)

theorem pay38_at (k : Fin 128) : k3_pay38 v16 v65 kb sk (ix2 k x) = scM v16 v65 kb sk x k := by
  unfold k3_pay38
  pointwise
  rw [sle_pos, named_scale, named_mask, Scalar.select_decide]

theorem pay39_at : k3_pay39 v16 v65 kb sk (ix2 0 x) = Finset.univ.sup (scM v16 v65 kb sk x) := by
  unfold k3_pay39
  pointwise
  rw [ofBits_neg_inf]
  simp only [pay38_at]
  rfl

theorem pay40_at : k3_pay40 v16 v65 m kb sk (ix2 0 x) = max (m (ix2 0 x)) (Finset.univ.sup (scM v16 v65 kb sk x)) := by
  unfold k3_pay40
  pointwise
  rw [pay39_at]

theorem pay41_at : k3_pay41 m (k3_pay40 v16 v65 m kb sk) (ix2 0 x)
    = Ideal.exp2 (m (ix2 0 x) - max (m (ix2 0 x)) (Finset.univ.sup (scM v16 v65 kb sk x))) := by
  unfold k3_pay41
  pointwise
  rw [pay40_at]
  rfl

theorem pay42_at : k3_pay42 (k3_pay39 v16 v65 kb sk) (k3_pay40 v16 v65 m kb sk) (ix2 0 x)
    = Ideal.exp2 (Finset.univ.sup (scM v16 v65 kb sk x) - max (m (ix2 0 x)) (Finset.univ.sup (scM v16 v65 kb sk x))) * c448 := by
  unfold k3_pay42
  pointwise
  rw [pay40_at, pay39_at, ofBits_c448]
  rfl

/-- The diagonal block's exponents are found by the same search. -/
theorem pay46_eq (A B : FVec Ideal S1x1024 .f32) : k3_pay46 (k3_pay42 A B) (k3_pay43 A B) (k3_pay44 A B) (k3_pay45 A B)
    = k3_pay13 (k3_pay42 A B) (upV (k3_pay42 A B) (upV (k3_pay42 A B) (broadcast S1x1024 0#32) 128#32) 64#32) 32#32 := rfl

theorem pay46_at : k3_pay46 (k3_pay42 (k3_pay39 v16 v65 kb sk) (k3_pay40 v16 v65 m kb sk))
      (k3_pay43 (k3_pay39 v16 v65 kb sk) (k3_pay40 v16 v65 m kb sk)) (k3_pay44 (k3_pay39 v16 v65 kb sk) (k3_pay40 v16 v65 m kb sk))
      (k3_pay45 (k3_pay39 v16 v65 kb sk) (k3_pay40 v16 v65 m kb sk)) (ix2 0 x)
    = kExpo (scM v16 v65 kb sk x) (m (ix2 0 x)) := by
  rw [pay46_eq, expo_at, pay42_at]
  rfl

/- The rest of the diagonal block is the full block's arithmetic. -/
section same
variable (S : FVec Ideal S128x1024 .f32) (M a A acc0 : FVec Ideal S1x1024 .f32) (e1 e2 e3 : IVec S1x1024 32)

theorem pay49_eq : k3_pay49 l S M a A e1 e2 e3 = k3_pay31 l S M a (k3_pay46 A e1 e2 e3) 126#32 := rfl
theorem pay51_eq (vt : Vec Ideal S1x1x128x128 .fp8e4m3) :
    k3_pay51 a (k3_pay48 A e1 e2 e3) (k3_pay50 (k3_pay37 vt) S M A e1 e2 e3) acc sv
    = k3_pay32 (k3_pay6 vt) S M a (k3_pay46 A e1 e2 e3) 126#32 acc sv := rfl
end same

/-! ## The query operand -/

/-- Column `x` of the queries is row `x % 128` of head `x / 128`'s piece. -/
theorem pay22_at (d : Fin 128) (a : Fin 8 → Vec Ideal S1x128x128 .fp8e4m3) :
    k3_pay22 (F := Ideal) (a 0) (a 1) (a 2) (a 3) (a 4) (a 5) (a 6) (a 7) (ix2 x d)
      = a ⟨x.val / 128, by omega⟩ (ix3 0 ⟨x.val % 128, by omega⟩ d) := by
  unfold k3_pay22
  pointwise
  have hx := x.isLt
  have key : ∀ (n : ℕ) (hn : n < 8) (z : Fin 128), x.val = n * 128 + z.val →
      a ⟨n, hn⟩ (ix3 0 z d) = a ⟨x.val / 128, by omega⟩ (ix3 0 ⟨x.val % 128, by omega⟩ d) := fun n hn z hz => by
    have e1 : (⟨x.val / 128, by omega⟩ : Fin 8) = ⟨n, hn⟩ := Fin.ext (by show x.val / 128 = n; omega)
    have e2 : (⟨x.val % 128, by omega⟩ : Fin 128) = z := Fin.ext (by show x.val % 128 = z.val; omega)
    rw [e1, e2]
  split
  · exact key 0 (by omega) _ (by simp only []; omega)
  split
  · exact key 1 (by omega) _ (by simp only []; omega)
  split
  · exact key 2 (by omega) _ (by simp only []; omega)
  split
  · exact key 3 (by omega) _ (by simp only []; omega)
  split
  · exact key 4 (by omega) _ (by simp only []; omega)
  split
  · exact key 5 (by omega) _ (by simp only []; omega)
  split
  · exact key 6 (by omega) _ (by simp only []; omega)
  · exact key 7 (by omega) _ (by simp only []; omega)

theorem pay24_at (a : Fin 8 → Elt Ideal .f32) :
    k3_pay24 (F := Ideal) (k3_pay23 (a 0)) (a 1) (a 2) (a 3) (a 4) (a 5) (a 6) (a 7) (ix2 0 x) = a ⟨x.val / 128, by omega⟩ := by
  unfold k3_pay24 k3_pay23
  pointwise
  have hx := x.isLt
  have key : ∀ (n : ℕ) (hn : n < 8), x.val / 128 = n → a ⟨n, hn⟩ = a ⟨x.val / 128, by omega⟩ := fun n hn hz => by
    subst hz; rfl
  split
  · exact key 0 (by omega) (by omega)
  split
  · exact key 1 (by omega) (by omega)
  split
  · exact key 2 (by omega) (by omega)
  split
  · exact key 3 (by omega) (by omega)
  split
  · exact key 4 (by omega) (by omega)
  split
  · exact key 5 (by omega) (by omega)
  split
  · exact key 6 (by omega) (by omega)
  · exact key 7 (by omega) (by omega)

end Cert.Proof.WKer

end
-- ==== Proof.WKerLoop.lean ====
/- The whole kernel's loop over full key blocks: after each trip every query column holds the specification's row. -/
module

public import proofs.«01_k».proof.Proof.WKerStep
public import Idealize.ShloMosaic.Lib.VecWindow

@[expose] public section

set_option maxRecDepth 16384
set_option maxHeartbeats 4000000

noncomputable section

namespace Cert.Proof.WKer

open Cert.WholeIdeal Cert.WholeIdeal.Gen
open Idealize.ShloMosaic Idealize.ShloMosaic.TcCoe Idealize.ShloMosaic.Tactic

/-! ## A column against a row -/

/-- Column `x` of the kernel's state is the row `R`: its maximum in powers of two, its sum and its accumulator as they are. -/
def Sim (m l : FVec Ideal S1x1024 .f32) (acc : FVec Ideal S128x1024 .f32) (x : Fin 1024) (R : Row) : Prop :=
  m (ix2 0 x) = R.m * (r2 : EReal) ∧ l (ix2 0 x) = R.l ∧ ∀ d : Fin 128, acc (ix2 d x) = R.acc d

theorem sim_init (x : Fin 1024) : Sim (k3_pay27 (F := Ideal)) (k3_pay28 (F := Ideal)) (k3_pay26 (k3_pay25 (F := Ideal))) x Row.init := by
  refine ⟨?_, ?_, fun d => ?_⟩
  · unfold k3_pay27
    pointwise
    exact (EReal.bot_mul_coe_of_pos r2_pos).symm
  · unfold k3_pay28
    pointwise
    rfl
  · unfold k3_pay26 k3_pay25
    pointwise
    rfl

section sim

variable (v16 : FVec Ideal S1024x128 .fp8e4m3) (v65 : FVec Ideal S1x1024 .f32) (kb : Vec Ideal S1x128x128 .fp8e4m3)
  (vt : Vec Ideal S1x1x128x128 .fp8e4m3) (sk sv : Elt Ideal .f32) (m l : FVec Ideal S1x1024 .f32) (acc : FVec Ideal S128x1024 .f32)
  (x : Fin 1024) (R : Row) (s : Fin 128 → EReal)

/-- The exponents of a full block. -/
abbrev expo : IVec S1x1024 32 := k3_pay13 (k3_pay11 v16 v65 m kb sk) (k3_pay12 v16 v65 m kb sk) 32#32

/-- The accumulator after a full block. -/
abbrev accNext : FVec Ideal S128x1024 .f32 :=
  k3_pay32 (k3_pay6 vt) (k3_pay7 v16 v65 kb sk) (k3_pay9 v16 v65 m kb sk) (k3_pay10 v16 v65 m kb sk) (expo v16 v65 kb sk m) 126#32 acc sv

/-- The running sum after a full block. -/
abbrev lNext : FVec Ideal S1x1024 .f32 :=
  k3_pay31 l (k3_pay7 v16 v65 kb sk) (k3_pay9 v16 v65 m kb sk) (k3_pay10 v16 v65 m kb sk) (expo v16 v65 kb sk m) 126#32

/-- A full block takes the row to its next one. -/
theorem sim_full (h : Sim m l acc x R) (hs : sc v16 v65 kb sk x = fun k => s k * (r2 : EReal)) :
    Sim (k3_pay9 v16 v65 m kb sk) (lNext v16 v65 kb sk m l) (accNext v16 v65 kb vt sk sv m acc) x
      (step s (fun k d => vt (ix4 0 0 d k)) sv R) := by
  obtain ⟨hm, hl, ha⟩ := h
  have h9 := pay9_at v16 v65 kb sk m x
  have he := pay13_at v16 v65 kb sk m x
  have h10 := pay10_at v16 v65 kb sk m x
  refine ⟨?_, ?_, fun d => ?_⟩
  · rw [h9, hs, hm, newMax_scale]
    rfl
  · refine (pay31_at l x _ _ _ _ (sc v16 v65 kb sk x) (m (ix2 0 x)) (pay7_at v16 v65 kb sk x) h9 he).trans ?_
    rw [h10, hs, hm, hl]
    exact kernel_l s _ sv R
  · refine (pay32_at sv acc x _ _ _ _ (sc v16 v65 kb sk x) (m (ix2 0 x)) (pay7_at v16 v65 kb sk x) h9 he vt d).trans ?_
    rw [h10, hs, hm, ha]
    exact kernel_acc s (fun k d => vt (ix4 0 0 d k)) sv R d

/-- The exponents of the diagonal block. -/
abbrev expoM : IVec S1x1024 32 :=
  k3_pay46 (k3_pay42 (k3_pay39 v16 v65 kb sk) (k3_pay40 v16 v65 m kb sk))
    (k3_pay43 (k3_pay39 v16 v65 kb sk) (k3_pay40 v16 v65 m kb sk)) (k3_pay44 (k3_pay39 v16 v65 kb sk) (k3_pay40 v16 v65 m kb sk))
    (k3_pay45 (k3_pay39 v16 v65 kb sk) (k3_pay40 v16 v65 m kb sk))

/-- The diagonal block takes the row to its next one. -/
theorem sim_diag (h : Sim m l acc x R) (hs : scM v16 v65 kb sk x = fun k => s k * (r2 : EReal)) :
    Sim (k3_pay40 v16 v65 m kb sk)
      (k3_pay31 l (k3_pay38 v16 v65 kb sk) (k3_pay40 v16 v65 m kb sk) (k3_pay41 m (k3_pay40 v16 v65 m kb sk)) (expoM v16 v65 kb sk m) 126#32)
      (k3_pay32 (k3_pay6 vt) (k3_pay38 v16 v65 kb sk) (k3_pay40 v16 v65 m kb sk) (k3_pay41 m (k3_pay40 v16 v65 m kb sk))
        (expoM v16 v65 kb sk m) 126#32 acc sv) x
      (step s (fun k d => vt (ix4 0 0 d k)) sv R) := by
  obtain ⟨hm, hl, ha⟩ := h
  have h9 := pay40_at v16 v65 kb sk m x
  have he := pay46_at v16 v65 kb sk m x
  have h10 := pay41_at v16 v65 kb sk m x
  refine ⟨?_, ?_, fun d => ?_⟩
  · rw [h9, hs, hm, newMax_scale]
    rfl
  · refine (pay31_at l x _ _ _ _ (scM v16 v65 kb sk x) (m (ix2 0 x)) (pay38_at v16 v65 kb sk x) h9 he).trans ?_
    rw [h10, hs, hm, hl]
    exact kernel_l s _ sv R
  · refine (pay32_at sv acc x _ _ _ _ (scM v16 v65 kb sk x) (m (ix2 0 x)) (pay38_at v16 v65 kb sk x) h9 he vt d).trans ?_
    rw [h10, hs, hm, ha]
    exact kernel_acc s (fun k d => vt (ix4 0 0 d k)) sv R d

end sim

/-! ## Index arithmetic -/

variable (i : grid3.Coords)

theorem i0_lt : (i 0).val < 8 := (i 0).isLt
theorem i1_lt : (i 1).val < 2 := (i 1).isLt
theorem i2_lt : (i 2).val < 64 := (i 2).isLt

theorem trips1 : (k3_t1_loop i).trips = (i 2).val := by
  have h : ∀ n : Fin 64, Scf.trips 0#32 (Scalar.addi 0#32 (Scalar.muli (Scalar.divsi (Scalar.subi (BitVec.ofNat 32 n.val) 0#32) 1#32) 1#32)) 1#32
      = n.val := by decide +kernel
  exact h ⟨(i 2).val, i2_lt i⟩

theorem trips2 : (k3_t2_loop i).trips = 0 := by
  have h : ∀ n : Fin 64, Scf.trips (Scalar.addi 0#32 (Scalar.muli (Scalar.divsi (Scalar.subi (BitVec.ofNat 32 n.val) 0#32) 1#32) 1#32))
      (Scalar.addi 0#32 (Scalar.subi (BitVec.ofNat 32 n.val) 0#32)) 1#32 = 0 := by decide +kernel
  exact h ⟨(i 2).val, i2_lt i⟩

theorem block_lt (n : Fin (k3_t1_loop i).trips) : n.val < (i 2).val := lt_of_lt_of_eq n.isLt (trips1 i)

theorem iv_words : ∀ n : Fin 64, (Scalar.indexCast (Scf.iv 0#32 1#32 n.val)).toNat = n.val
    ∧ (Scalar.indexCast (Scalar.muli (Scf.iv 0#32 1#32 n.val) 128#32)).toNat = n.val * 128
    ∧ (Scalar.indexCast (BitVec.ofNat 32 n.val)).toNat = n.val
    ∧ (Scalar.indexCast (Scalar.muli (BitVec.ofNat 32 n.val) 128#32)).toNat = n.val * 128 := by decide +kernel

theorem head_words : ∀ (g : Fin 2) (r : Fin 8), (Scalar.indexCast (BitVec.ofNat 32 g.val)).toNat = g.val
    ∧ (Scalar.indexCast (Scalar.addi (Scalar.muli (BitVec.ofNat 32 g.val) 8#32) (BitVec.ofNat 32 r.val))).toNat = g.val * 8 + r.val := by
  decide +kernel

variable (n : Fin (k3_t1_loop i).trips)

theorem off2_eq : k3_off2 i n = ![0, n.val * 128, 0] := by
  have h := (iv_words ⟨n.val, by have := block_lt i n; have := i2_lt i; omega⟩).2.1
  show ![0, _, 0] = _
  rw [h]
theorem off3_eq : k3_off3 i n = ![0, 0, 0, n.val * 128] := by
  have h := (iv_words ⟨n.val, by have := block_lt i n; have := i2_lt i; omega⟩).2.1
  show ![0, 0, 0, _] = _
  rw [h]
theorem off4_eq : k3_off4 i n = ![0, n.val, (i 1).val] := by
  have h := (iv_words ⟨n.val, by have := block_lt i n; have := i2_lt i; omega⟩).1
  have h' := (head_words ⟨(i 1).val, i1_lt i⟩ 0).1
  show ![0, _, _] = _
  rw [h, h']
theorem off8_eq : k3_off8 i = ![0, (i 2).val * 128, 0] := by
  have h := (iv_words ⟨(i 2).val, i2_lt i⟩).2.2.2
  show ![0, _, 0] = _
  rw [h]
theorem off9_eq : k3_off9 i = ![0, 0, 0, (i 2).val * 128] := by
  have h := (iv_words ⟨(i 2).val, i2_lt i⟩).2.2.2
  show ![0, 0, 0, _] = _
  rw [h]
theorem off10_eq : k3_off10 i = ![0, (i 2).val, (i 1).val] := by
  have h := (iv_words ⟨(i 2).val, i2_lt i⟩).2.2.1
  have h' := (head_words ⟨(i 1).val, i1_lt i⟩ 0).1
  show ![0, _, _] = _
  rw [h, h']
theorem off1_eq (r : Fin 8) : k3_off1 i (BitVec.ofNat 32 r.val) = ![0, (i 2).val, (i 1).val * 8 + r.val] := by
  have h := (iv_words ⟨(i 2).val, i2_lt i⟩).2.2.1
  have h' := (head_words ⟨(i 1).val, i1_lt i⟩ r).2
  show ![0, _, _] = _
  rw [h, h']

/-! ## The loads -/

variable (arg4 : Memref sig .tc .smem S1x64x2 .f32) (arg7 : Memref sig .tc .vmem S1x8192x128 .fp8e4m3)
  (arg8 : Memref sig .tc .vmem S1x1x128x8192 .fp8e4m3)
  (X4 : BufTy.Contents (Elt Ideal) arg4.view.ty) (X7 : BufTy.Contents (Elt Ideal) arg7.view.ty)
  (X8 : BufTy.Contents (Elt Ideal) arg8.view.ty)

/-- A trip's key codes, value codes and scales, as it reads them. -/
abbrev kOf := View.readAt (Elt Ideal) arg7.view (Rect.unit (s := S1x8192x128) (k3_off2 i n) S1x128x128.size (k3_off2_inb i n)).toLoadRect X7
abbrev vOf := View.readAt (Elt Ideal) arg8.view (Rect.unit (s := S1x1x128x8192) (k3_off3 i n) S1x1x128x128.size (k3_off3_inb i n)).toLoadRect X8
abbrev sOf : Elt Ideal .f32 :=
  View.readAt (Elt Ideal) arg4.view (Rect.unit (s := S1x64x2) (k3_off4 i n) S1x1x1.size (k3_off4_inb i n)).toLoadRect X4
    (Shape.Idx.first (numel1_S1x1x1.symm ▸ Nat.one_pos))

/-- The diagonal block's. -/
abbrev kOfM := View.readAt (Elt Ideal) arg7.view (Rect.unit (s := S1x8192x128) (k3_off8 i) S1x128x128.size (k3_off8_inb i)).toLoadRect X7
abbrev vOfM := View.readAt (Elt Ideal) arg8.view (Rect.unit (s := S1x1x128x8192) (k3_off9 i) S1x1x128x128.size (k3_off9_inb i)).toLoadRect X8
abbrev sOfM : Elt Ideal .f32 :=
  View.readAt (Elt Ideal) arg4.view (Rect.unit (s := S1x64x2) (k3_off10 i) S1x1x1.size (k3_off10_inb i)).toLoadRect X4
    (Shape.Idx.first (numel1_S1x1x1.symm ▸ Nat.one_pos))

theorem n_lt : n.val < 64 := by have := block_lt i n; have := i2_lt i; omega

theorem ld_k (k d : Fin 128) : kOf i n arg7 X7 (ix3 0 k d) = arg7.view.read (Elt Ideal) X7 (ix3 0 (pos ⟨n.val, n_lt i n⟩ k) d) := by
  unfold kOf
  rw [View.readAt_eq_ld]
  refine View.ld_unit_apply_of _ _ _ _ _ _ fun a => ?_
  refine Eq.trans ?_ (congrArg (· + _) (congrFun (off2_eq i n) a).symm)
  match a with
  | ⟨0, _⟩ => rfl
  | ⟨1, _⟩ => rfl
  | ⟨2, _⟩ => exact (Nat.zero_add _).symm

theorem ld_v (d k : Fin 128) : vOf i n arg8 X8 (ix4 0 0 d k) = arg8.view.read (Elt Ideal) X8 (ix4 0 0 d (pos ⟨n.val, n_lt i n⟩ k)) := by
  unfold vOf
  rw [View.readAt_eq_ld]
  refine View.ld_unit_apply_of _ _ _ _ _ _ fun a => ?_
  refine Eq.trans ?_ (congrArg (· + _) (congrFun (off3_eq i n) a).symm)
  match a with
  | ⟨0, _⟩ => rfl
  | ⟨1, _⟩ => rfl
  | ⟨2, _⟩ => exact (Nat.zero_add _).symm
  | ⟨3, _⟩ => rfl

theorem ld_s : sOf i n arg4 X4 = arg4.view.read (Elt Ideal) X4 (ix3 0 ⟨n.val, n_lt i n⟩ (i 1)) := by
  unfold sOf
  rw [View.readAt_eq_ld]
  refine View.ld_unit_apply_of _ _ _ _ _ _ fun a => ?_
  refine Eq.trans ?_ (congrArg (· + _) (congrFun (off4_eq i n) a).symm)
  match a with
  | ⟨0, _⟩ => rfl
  | ⟨1, _⟩ => rfl
  | ⟨2, _⟩ => rfl

theorem ld_kM (k d : Fin 128) : kOfM i arg7 X7 (ix3 0 k d) = arg7.view.read (Elt Ideal) X7 (ix3 0 (pos (i 2) k) d) := by
  unfold kOfM
  rw [View.readAt_eq_ld]
  refine View.ld_unit_apply_of _ _ _ _ _ _ fun a => ?_
  refine Eq.trans ?_ (congrArg (· + _) (congrFun (off8_eq i) a).symm)
  match a with
  | ⟨0, _⟩ => rfl
  | ⟨1, _⟩ => rfl
  | ⟨2, _⟩ => exact (Nat.zero_add _).symm

theorem ld_vM (d k : Fin 128) : vOfM i arg8 X8 (ix4 0 0 d k) = arg8.view.read (Elt Ideal) X8 (ix4 0 0 d (pos (i 2) k)) := by
  unfold vOfM
  rw [View.readAt_eq_ld]
  refine View.ld_unit_apply_of _ _ _ _ _ _ fun a => ?_
  refine Eq.trans ?_ (congrArg (· + _) (congrFun (off9_eq i) a).symm)
  match a with
  | ⟨0, _⟩ => rfl
  | ⟨1, _⟩ => rfl
  | ⟨2, _⟩ => exact (Nat.zero_add _).symm
  | ⟨3, _⟩ => rfl

theorem ld_sM : sOfM i arg4 X4 = arg4.view.read (Elt Ideal) X4 (ix3 0 (i 2) (i 1)) := by
  unfold sOfM
  rw [View.readAt_eq_ld]
  refine View.ld_unit_apply_of _ _ _ _ _ _ fun a => ?_
  refine Eq.trans ?_ (congrArg (· + _) (congrFun (off10_eq i) a).symm)
  match a with
  | ⟨0, _⟩ => rfl
  | ⟨1, _⟩ => rfl
  | ⟨2, _⟩ => rfl

/-! ## One trip -/

variable (c : Dev nD) (arg3 : Memref sig .tc .smem S1x64x16 .f32) (harg3 : arg3.IsWhole) (harg4 : arg4.IsWhole)
  (arg5 : Memref sig .tc .smem S1x64x2 .f32) (harg5 : arg5.IsWhole)
  (arg6 : Memref sig .tc .vmem S1x128x1024 .fp8e4m3) (harg6 : arg6.IsWhole) (harg7 : arg7.IsWhole) (harg8 : arg8.IsWhole)
  (arg9 : Memref sig .tc .vmem S1x128x1024 .bf16) (harg9 : arg9.IsWhole)
  (arg10 : Memref sig .tc .vmem S128x1024 .f32) (harg10 : arg10.IsWhole) (w1 w2 : BitVec 32)
  (v16 : FVec Ideal S1024x128 .fp8e4m3) (v65 : FVec Ideal S1x1024 .f32) (v66 : FVec Ideal S128x1024 .f32)
  (X5 : BufTy.Contents (Elt Ideal) arg5.view.ty) (f : BufTy.Contents (Elt Ideal) arg10.view.ty)
  (a : FVec Ideal S1x1024 .f32 × FVec Ideal S1x1024 .f32)

theorem trip_carry : tripR_k3_t1 (F := Ideal) Variants.none c none i arg3 harg3 arg4 harg4 arg5 harg5 arg6 harg6 arg7 harg7 arg8 harg8 arg9
      harg9 arg10 harg10 w1 w2 v16 v65 v66 X4 X5 X7 X8 n a f
    = (k3_pay9 v16 v65 a.1 (kOf i n arg7 X7) (sOf i n arg4 X4), lNext v16 v65 (kOf i n arg7 X7) (sOf i n arg4 X4) a.1 a.2) := by
  unfold tripR_k3_t1 trip_k3_t1
  rfl

theorem trip_acc : arg10.view.read (Elt Ideal) (arg10.view.writes (Elt Ideal) f (tripL_k3_t1 (F := Ideal) Variants.none c none i arg3 harg3
      arg4 harg4 arg5 harg5 arg6 harg6 arg7 harg7 arg8 harg8 arg9 harg9 arg10 harg10 w1 w2 v16 v65 v66 X4 X5 X7 X8 n a f))
    = accNext v16 v65 (kOf i n arg7 X7) (vOf i n arg8 X8) (sOf i n arg4 X4) (sOf i n arg5 X5) a.1 (arg10.view.read (Elt Ideal) f) := by
  have h : tripL_k3_t1 (F := Ideal) Variants.none c none i arg3 harg3
      arg4 harg4 arg5 harg5 arg6 harg6 arg7 harg7 arg8 harg8 arg9 harg9 arg10 harg10 w1 w2 v16 v65 v66 X4 X5 X7 X8 n a f
      = [⟨Rect.unit ![0, 0] S128x1024.size inb_S128x1024_S128x1024_0_0,
          accNext v16 v65 (kOf i n arg7 X7) (vOf i n arg8 X8) (sOf i n arg4 X4) (sOf i n arg5 X5) a.1
            (View.readAt (Elt Ideal) arg10.view (Rect.unit ![0, 0] S128x1024.size inb_S128x1024_S128x1024_0_0).toLoadRect f)⟩] := by
    unfold tripL_k3_t1 trip_k3_t1
    rfl
  rw [h, View.read_writes_full, View.readAt_full]

/-! ## The loop -/

variable (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal) (x : Fin 1024)

/-- The head and the query of column `x`. -/
def hdOf : Fin 16 := ⟨(i 1).val * 8 + x.val / 128, by have := i1_lt i; omega⟩
def qrOf : Fin 128 := ⟨x.val % 128, by omega⟩

theorem kv_eq : kvOf (hdOf i x) = i 1 := Fin.ext (by show ((i 1).val * 8 + x.val / 128) / 8 = (i 1).val; omega)

/-- Column `x`'s row after `k` blocks. -/
abbrev colRows : ℕ → Row := rows Q SQ K SK VT SV (i 0) (hdOf i x) (i 2) (qrOf x)

/-- The operands are the arrays' blocks. -/
structure Blocks : Prop where
  q : ∀ x d, v16 (ix2 x d) = Q (ix3 (i 0) (pos (i 2) (qrOf x)) (qcol (hdOf i x) d))
  sq : ∀ x, v65 (ix2 0 x) = SQ (ix3 (i 0) (i 2) (hdOf i x))
  k : ∀ p d, arg7.view.read (Elt Ideal) X7 (ix3 0 p d) = K (ix3 (i 0) p (kcol (i 1) d))
  sk : ∀ j, arg4.view.read (Elt Ideal) X4 (ix3 0 j (i 1)) = SK (ix3 (i 0) j (i 1))
  v : ∀ d p, arg8.view.read (Elt Ideal) X8 (ix4 0 0 d p) = VT (ix4 (i 0) (i 1) d p)
  sv : ∀ j, arg5.view.read (Elt Ideal) X5 (ix3 0 j (i 1)) = SV (ix3 (i 0) j (i 1))

variable (hB : Blocks i arg4 arg7 arg8 X4 X7 X8 arg5 v16 v65 X5 Q SQ K SK VT SV)

include hB in
theorem scores_full : sc v16 v65 (kOf i n arg7 X7) (sOf i n arg4 X4) x = fun k =>
    score (fun r d => Q (ix3 (i 0) (pos (i 2) r) (qcol (hdOf i x) d))) (fun k d => K (ix3 (i 0) (pos ⟨n.val, n_lt i n⟩ k) (kcol (kvOf (hdOf i x)) d)))
      (SQ (ix3 (i 0) (i 2) (hdOf i x))) (SK (ix3 (i 0) ⟨n.val, n_lt i n⟩ (kvOf (hdOf i x)))) (i 2).val n.val (qrOf x) k * (r2 : EReal) := by
  funext k
  rw [← score_two, if_pos (by have := block_lt i n; have := k.isLt; omega), kv_eq]
  unfold sc
  simp only [ld_k, ld_s, hB.q, hB.sq, hB.k, hB.sk]

include hB in
theorem scores_diag : scM v16 v65 (kOfM i arg7 X7) (sOfM i arg4 X4) x = fun k =>
    score (fun r d => Q (ix3 (i 0) (pos (i 2) r) (qcol (hdOf i x) d))) (fun k d => K (ix3 (i 0) (pos (i 2) k) (kcol (kvOf (hdOf i x)) d)))
      (SQ (ix3 (i 0) (i 2) (hdOf i x))) (SK (ix3 (i 0) (i 2) (kvOf (hdOf i x)))) (i 2).val (i 2).val (qrOf x) k * (r2 : EReal) := by
  funext k
  rw [← score_two, kv_eq]
  unfold scM sc
  simp only [ld_kM, ld_sM, hB.q, hB.sq, hB.k, hB.sk]
  have e : (k.val ≤ x.val % 128) = ((i 2).val * 128 + k.val ≤ (i 2).val * 128 + (qrOf x).val) :=
    propext (by show _ ↔ (i 2).val * 128 + k.val ≤ (i 2).val * 128 + x.val % 128; omega)
  have e' : arg4.view.read (Elt Ideal) X4 (ix3 0 (i 2) (i 1)) = SK (ix3 (i 0) (i 2) (i 1)) := hB.sk (i 2)
  simp only [e, e']

theorem rows_succ (b : Fin 8) (h : Fin 16) (j : Fin 64) (r : Fin 128) (k : ℕ) (hk : k < 64) : rows Q SQ K SK VT SV b h j r (k + 1)
    = step (score (fun r d => Q (ix3 b (pos j r) (qcol h d))) (fun k' d => K (ix3 b (pos ⟨k, hk⟩ k') (kcol (kvOf h) d)))
          (SQ (ix3 b j h)) (SK (ix3 b ⟨k, hk⟩ (kvOf h))) j.val k r)
        (fun k' d => VT (ix4 b (kvOf h) d (pos ⟨k, hk⟩ k'))) (SV (ix3 b ⟨k, hk⟩ (kvOf h))) (rows Q SQ K SK VT SV b h j r k) := by
  rw [rows, dif_pos hk]

/-- The loop's state after `k` trips, over the scratch as the zero store left it. -/
abbrev stAt (G : BufTy.Contents (Elt Ideal) arg10.view.ty) (k : ℕ) :=
  st_k3_t1 (F := Ideal) Variants.none c none i arg3 harg3 arg4 harg4 arg5 harg5 arg6 harg6 arg7 harg7 arg8 harg8 arg9 harg9 arg10 harg10
    w1 w2 v16 v65 v66 X4 X5 X7 X8 G (k3_pay27, k3_pay28) k

include hB in
theorem loop_row (G : BufTy.Contents (Elt Ideal) arg10.view.ty) (hG : arg10.view.read (Elt Ideal) G = k3_pay26 (k3_pay25 (F := Ideal))) :
    ∀ k : ℕ, k ≤ (k3_t1_loop i).trips →
    Sim (stAt i arg4 arg7 arg8 X4 X7 X8 c arg3 harg3 harg4 arg5 harg5 arg6 harg6 harg7 harg8 arg9 harg9 arg10 harg10 w1 w2 v16 v65 v66 X5 G k).1.1
      (stAt i arg4 arg7 arg8 X4 X7 X8 c arg3 harg3 harg4 arg5 harg5 arg6 harg6 harg7 harg8 arg9 harg9 arg10 harg10 w1 w2 v16 v65 v66 X5 G k).1.2
      (arg10.view.read (Elt Ideal) (arg10.view.writes (Elt Ideal) G
        (stAt i arg4 arg7 arg8 X4 X7 X8 c arg3 harg3 harg4 arg5 harg5 arg6 harg6 harg7 harg8 arg9 harg9 arg10 harg10 w1 w2 v16 v65 v66 X5 G k).2))
      x (colRows i Q SQ K SK VT SV x k)
  | 0, _ => by
    have e : stAt i arg4 arg7 arg8 X4 X7 X8 c arg3 harg3 harg4 arg5 harg5 arg6 harg6 harg7 harg8 arg9 harg9 arg10 harg10 w1 w2 v16 v65 v66 X5 G 0
        = ((k3_pay27, k3_pay28), []) := rfl
    rw [e, View.writes_nil, hG]
    exact sim_init x
  | k + 1, h => by
    have hk : k < (k3_t1_loop i).trips := h
    have ih := loop_row G hG k hk.le
    have e := st_k3_t1_succ (F := Ideal) Variants.none c none i arg3 harg3 arg4 harg4 arg5 harg5 arg6 harg6 arg7 harg7 arg8 harg8 arg9 harg9
      arg10 harg10 w1 w2 v16 v65 v66 X4 X5 X7 X8 G (k3_pay27, k3_pay28) ⟨k, hk⟩
    change stAt i arg4 arg7 arg8 X4 X7 X8 c arg3 harg3 harg4 arg5 harg5 arg6 harg6 harg7 harg8 arg9 harg9 arg10 harg10 w1 w2 v16 v65 v66 X5 G (k + 1)
      = _ at e
    rw [e]
    dsimp only
    rw [View.writes_append, trip_acc, trip_carry]
    refine Eq.mpr (congrArg (Sim _ _ _ x) (rows_succ Q SQ K SK VT SV (i 0) (hdOf i x) (i 2) (qrOf x) k (n_lt i ⟨k, hk⟩))) ?_
    have hv : (fun (k' : Fin 128) (d : Fin 128) => VT (ix4 (i 0) (kvOf (hdOf i x)) d (pos ⟨k, n_lt i ⟨k, hk⟩⟩ k')))
        = fun k' d => vOf i ⟨k, hk⟩ arg8 X8 (ix4 0 0 d k') := by
      funext k' d; rw [ld_v, hB.v, kv_eq]
    have hsv : SV (ix3 (i 0) ⟨k, n_lt i ⟨k, hk⟩⟩ (kvOf (hdOf i x))) = sOf i ⟨k, hk⟩ arg5 X5 := by
      rw [ld_s, hB.sv, kv_eq]
    rw [hv, hsv]
    exact sim_full _ _ _ _ _ _ _ _ _ _ _ _ ih (scores_full i ⟨k, hk⟩ arg4 arg7 arg8 X4 X7 X8 arg5 v16 v65 X5 Q SQ K SK VT SV x hB)

end Cert.Proof.WKer

end
-- ==== Proof.WKerPoint.lean ====
/- One grid point of the whole kernel's attention call: what it leaves in its output block, from its input blocks. -/
module

public import proofs.«01_k».proof.Proof.WKerLoop
public import Idealize.ShloMosaic.Lib.Pipeline.Value
public import Idealize.ShloMosaic.Lib.Pipeline.ValueKit.Tiles

@[expose] public section

set_option maxRecDepth 16384
set_option maxHeartbeats 4000000

noncomputable section

namespace Cert.Proof.WKer

open Cert.WholeIdeal Cert.WholeIdeal.Gen
open Idealize.ShloMosaic Idealize.ShloMosaic.TcCoe Idealize.ShloMosaic.Tactic

variable (c : Dev nD) (i : grid3.Coords) (arg3 : Memref sig .tc .smem S1x64x16 .f32) (harg3 : arg3.IsWhole)
  (arg4 : Memref sig .tc .smem S1x64x2 .f32) (harg4 : arg4.IsWhole) (arg5 : Memref sig .tc .smem S1x64x2 .f32) (harg5 : arg5.IsWhole)
  (arg6 : Memref sig .tc .vmem S1x128x1024 .fp8e4m3) (harg6 : arg6.IsWhole)
  (arg7 : Memref sig .tc .vmem S1x8192x128 .fp8e4m3) (harg7 : arg7.IsWhole)
  (arg8 : Memref sig .tc .vmem S1x1x128x8192 .fp8e4m3) (harg8 : arg8.IsWhole)
  (arg9 : Memref sig .tc .vmem S1x128x1024 .bf16) (harg9 : arg9.IsWhole)
  (arg10 : Memref sig .tc .vmem S128x1024 .f32) (harg10 : arg10.IsWhole)
  (x0 : Vec Ideal S1x64x16 .f32) (x1 : Vec Ideal S1x64x2 .f32) (x2 : Vec Ideal S1x64x2 .f32) (x3 : Vec Ideal S1x128x1024 .fp8e4m3)
  (x4 : Vec Ideal S1x8192x128 .fp8e4m3) (x5 : Vec Ideal S1x1x128x8192 .fp8e4m3)

/-! ## The query operands -/

theorem q_inb (g : Fin 8) : ∀ a, (![0, 0, g.val * 128] : Fin 3 → ℕ) a + S1x128x128.size a ≤ S1x128x1024.size a := fun a =>
  match a with
  | ⟨0, _⟩ => by show 0 + 1 ≤ 1; omega
  | ⟨1, _⟩ => by show 0 + 128 ≤ 128; omega
  | ⟨2, _⟩ => by show g.val * 128 + 128 ≤ 1024; omega

/-- Query head `g`'s codes, as the kernel loads them. -/
def qld (g : Fin 8) : Vec Ideal S1x128x128 .fp8e4m3 :=
  View.readAt (Elt Ideal) arg6.view (Rect.unit (s := S1x128x1024) ![0, 0, g.val * 128] S1x128x128.size (q_inb g)).toLoadRect (harg6.unread x3)

theorem q_at (x : Fin 1024) (d : Fin 128) : kernelRun3_A.sl.r_1 (F := Ideal) c arg6 harg6 x3 (ix2 x d)
    = x3 (ix3 0 (qrOf x) ⟨x.val / 128 * 128 + d.val, by omega⟩) := by
  have e : kernelRun3_A.sl.r_1 (F := Ideal) c arg6 harg6 x3 = k3_pay22 (qld arg6 harg6 x3 0) (qld arg6 harg6 x3 1) (qld arg6 harg6 x3 2)
      (qld arg6 harg6 x3 3) (qld arg6 harg6 x3 4) (qld arg6 harg6 x3 5) (qld arg6 harg6 x3 6) (qld arg6 harg6 x3 7) := rfl
  rw [e, pay22_at x d (qld arg6 harg6 x3)]
  unfold qld
  rw [View.readAt_eq_ld, harg6.read_unread]
  refine View.ld_unit_apply_of _ _ _ _ _ _ fun a => ?_
  match a with
  | ⟨0, _⟩ => rfl
  | ⟨1, _⟩ => exact (Nat.zero_add _).symm
  | ⟨2, _⟩ => rfl

theorem off1_inb (g : Fin 8) : ∀ a, k3_off1 i (BitVec.ofNat 32 g.val) a + S1x1x1.size a ≤ S1x64x16.size a := fun a => by
  rw [off1_eq]
  have h1 := i1_lt i
  have h2 := i2_lt i
  exact match a with
  | ⟨0, _⟩ => by show 0 + 1 ≤ 1; omega
  | ⟨1, _⟩ => by show (i 2).val + 1 ≤ 64; omega
  | ⟨2, _⟩ => by show (i 1).val * 8 + g.val + 1 ≤ 16; omega

/-- Query head `g`'s scale, as the kernel loads it. -/
def sld (g : Fin 8) : Elt Ideal .f32 :=
  View.readAt (Elt Ideal) arg3.view (Rect.unit (s := S1x64x16) (k3_off1 i (BitVec.ofNat 32 g.val)) S1x1x1.size (off1_inb i g)).toLoadRect
    (harg3.unread x0) (Shape.Idx.first (numel1_S1x1x1.symm ▸ Nat.one_pos))

theorem sq_at (x : Fin 1024) : kernelRun3_A.sl.r_10 (F := Ideal) c i arg3 harg3 x0 (ix2 0 x) = x0 (ix3 0 (i 2) (hdOf i x)) := by
  have e : kernelRun3_A.sl.r_10 (F := Ideal) c i arg3 harg3 x0 = k3_pay24 (k3_pay23 (sld i arg3 harg3 x0 0)) (sld i arg3 harg3 x0 1)
      (sld i arg3 harg3 x0 2) (sld i arg3 harg3 x0 3) (sld i arg3 harg3 x0 4) (sld i arg3 harg3 x0 5) (sld i arg3 harg3 x0 6)
      (sld i arg3 harg3 x0 7) := rfl
  rw [e, pay24_at x (sld i arg3 harg3 x0)]
  unfold sld
  rw [View.readAt_eq_ld, harg3.read_unread]
  refine View.ld_unit_apply_of _ _ _ _ _ _ fun a => ?_
  refine Eq.trans ?_ (congrArg (· + _) (congrFun (off1_eq i _) a).symm)
  match a with
  | ⟨0, _⟩ => rfl
  | ⟨1, _⟩ => rfl
  | ⟨2, _⟩ => rfl

/-! ## The run's names -/

/-- The state the diagonal block starts from, as the run spells it. -/
abbrev S1 := stAt i arg4 arg7 arg8 (harg4.unread x1) (harg7.unread x4) (harg8.unread x5) c arg3 harg3 harg4 arg5 harg5 arg6 harg6 harg7 harg8 arg9 harg9 arg10 harg10
    (BitVec.ofNat 32 (i 1).val) (BitVec.ofNat 32 (i 2).val) (kernelRun3_A.sl.r_1 (F := Ideal) c arg6 harg6 x3)
    (kernelRun3_A.sl.r_10 (F := Ideal) c i arg3 harg3 x0) k3_pay25 (harg5.unread x2)
    (arg10.view.writes (Elt Ideal) arg10.view.junk kernelRun3_A.sl.HS0_1) (k3_t1_loop i).trips

/-- The state after the second loop, which takes no trip. -/
abbrev S2 := st_k3_t2 (F := Ideal) Variants.none c none i arg3 harg3 arg4 harg4 arg5 harg5 arg6 harg6 arg7 harg7 arg8 harg8 arg9 harg9 arg10 harg10
    (BitVec.ofNat 32 (i 1).val) (BitVec.ofNat 32 (i 2).val) (kernelRun3_A.sl.r_1 (F := Ideal) c arg6 harg6 x3)
    (kernelRun3_A.sl.r_10 (F := Ideal) c i arg3 harg3 x0) k3_pay25 (kernelRun3_A.sl.v76 i) (harg4.unread x1) (harg5.unread x2) (harg7.unread x4) (harg8.unread x5)
    (arg10.view.writes (Elt Ideal) arg10.view.junk ((S1 c i arg3 harg3 arg4 harg4 arg5 harg5 arg6 harg6 arg7 harg7 arg8 harg8 arg9 harg9 arg10 harg10 x0 x1 x2 x3 x4 x5).2
      ++ kernelRun3_A.sl.HS0_1))
    ((S1 c i arg3 harg3 arg4 harg4 arg5 harg5 arg6 harg6 arg7 harg7 arg8 harg8 arg9 harg9 arg10 harg10 x0 x1 x2 x3 x4 x5).1.1,
      (S1 c i arg3 harg3 arg4 harg4 arg5 harg5 arg6 harg6 arg7 harg7 arg8 harg8 arg9 harg9 arg10 harg10 x0 x1 x2 x3 x4 x5).1.2)
    (k3_t2_loop i).trips

theorem S2_eq : S2 c i arg3 harg3 arg4 harg4 arg5 harg5 arg6 harg6 arg7 harg7 arg8 harg8 arg9 harg9 arg10 harg10 x0 x1 x2 x3 x4 x5
    = ((S1 c i arg3 harg3 arg4 harg4 arg5 harg5 arg6 harg6 arg7 harg7 arg8 harg8 arg9 harg9 arg10 harg10 x0 x1 x2 x3 x4 x5).1, []) := by
  unfold S2
  rw [trips2]
  rfl

/-- The new sum, maximum and accumulator of the diagonal block. -/
abbrev diagM (a : FVec Ideal S1x1024 .f32) : FVec Ideal S1x1024 .f32 :=
  k3_pay40 (kernelRun3_A.sl.r_1 (F := Ideal) c arg6 harg6 x3) (kernelRun3_A.sl.r_10 (F := Ideal) c i arg3 harg3 x0) a
    (kOfM i arg7 (harg7.unread x4)) (sOfM i arg4 (harg4.unread x1))
abbrev diagL (a l : FVec Ideal S1x1024 .f32) : FVec Ideal S1x1024 .f32 :=
  k3_pay31 l (k3_pay38 (kernelRun3_A.sl.r_1 (F := Ideal) c arg6 harg6 x3) (kernelRun3_A.sl.r_10 (F := Ideal) c i arg3 harg3 x0)
      (kOfM i arg7 (harg7.unread x4)) (sOfM i arg4 (harg4.unread x1)))
    (diagM c i arg3 harg3 arg4 harg4 arg6 harg6 arg7 harg7 x0 x1 x3 x4 a)
    (k3_pay41 a (diagM c i arg3 harg3 arg4 harg4 arg6 harg6 arg7 harg7 x0 x1 x3 x4 a))
    (expoM (kernelRun3_A.sl.r_1 (F := Ideal) c arg6 harg6 x3) (kernelRun3_A.sl.r_10 (F := Ideal) c i arg3 harg3 x0)
      (kOfM i arg7 (harg7.unread x4)) (sOfM i arg4 (harg4.unread x1)) a) 126#32
abbrev diagA (a : FVec Ideal S1x1024 .f32) (acc : FVec Ideal S128x1024 .f32) : FVec Ideal S128x1024 .f32 :=
  k3_pay32 (k3_pay6 (vOfM i arg8 (harg8.unread x5))) (k3_pay38 (kernelRun3_A.sl.r_1 (F := Ideal) c arg6 harg6 x3)
      (kernelRun3_A.sl.r_10 (F := Ideal) c i arg3 harg3 x0) (kOfM i arg7 (harg7.unread x4)) (sOfM i arg4 (harg4.unread x1)))
    (diagM c i arg3 harg3 arg4 harg4 arg6 harg6 arg7 harg7 x0 x1 x3 x4 a)
    (k3_pay41 a (diagM c i arg3 harg3 arg4 harg4 arg6 harg6 arg7 harg7 x0 x1 x3 x4 a))
    (expoM (kernelRun3_A.sl.r_1 (F := Ideal) c arg6 harg6 x3) (kernelRun3_A.sl.r_10 (F := Ideal) c i arg3 harg3 x0)
      (kOfM i arg7 (harg7.unread x4)) (sOfM i arg4 (harg4.unread x1)) a) 126#32 acc (sOfM i arg5 (harg5.unread x2))

theorem sum_eq : kernelRun3_A.sl.r_24 (F := Ideal) c i arg3 harg3 arg4 harg4 arg5 harg5 arg6 harg6 arg7 harg7 arg8 harg8 arg9 harg9 arg10 harg10 x0 x1 x2 x3 x4 x5
    = diagL c i arg3 harg3 arg4 harg4 arg6 harg6 arg7 harg7 x0 x1 x3 x4
      (S2 c i arg3 harg3 arg4 harg4 arg5 harg5 arg6 harg6 arg7 harg7 arg8 harg8 arg9 harg9 arg10 harg10 x0 x1 x2 x3 x4 x5).1.1
      (S2 c i arg3 harg3 arg4 harg4 arg5 harg5 arg6 harg6 arg7 harg7 arg8 harg8 arg9 harg9 arg10 harg10 x0 x1 x2 x3 x4 x5).1.2 := by
  rfl

theorem acc_eq : kernelRun3_A.sl.v210 (F := Ideal) c i arg3 harg3 arg4 harg4 arg5 harg5 arg6 harg6 arg7 harg7 arg8 harg8 arg9 harg9 arg10 harg10 x0 x1 x2 x3 x4 x5
    = diagA c i arg3 harg3 arg4 harg4 arg5 harg5 arg6 harg6 arg7 harg7 arg8 harg8 x0 x1 x2 x3 x4 x5
      (S2 c i arg3 harg3 arg4 harg4 arg5 harg5 arg6 harg6 arg7 harg7 arg8 harg8 arg9 harg9 arg10 harg10 x0 x1 x2 x3 x4 x5).1.1
      (arg10.view.read (Elt Ideal) (arg10.view.writes (Elt Ideal) arg10.view.junk
        ((S2 c i arg3 harg3 arg4 harg4 arg5 harg5 arg6 harg6 arg7 harg7 arg8 harg8 arg9 harg9 arg10 harg10 x0 x1 x2 x3 x4 x5).2
          ++ ((S1 c i arg3 harg3 arg4 harg4 arg5 harg5 arg6 harg6 arg7 harg7 arg8 harg8 arg9 harg9 arg10 harg10 x0 x1 x2 x3 x4 x5).2
            ++ kernelRun3_A.sl.HS0_1)))) := by
  unfold kernelRun3_A.sl.v210 kernelRun3_A.sl.HS0_1_1
  rw [View.readCov_full]
  have h : kernelRun3_A.sl.v196 (F := Ideal) c i arg3 harg3 arg4 harg4 arg5 harg5 arg6 harg6 arg7 harg7 arg8 harg8 arg9 harg9 arg10 harg10 x0 x1 x2 x3 x4 x5
      = arg10.view.read (Elt Ideal) (arg10.view.writes (Elt Ideal) arg10.view.junk
        ((S2 c i arg3 harg3 arg4 harg4 arg5 harg5 arg6 harg6 arg7 harg7 arg8 harg8 arg9 harg9 arg10 harg10 x0 x1 x2 x3 x4 x5).2 ++ ((S1 c i arg3 harg3 arg4 harg4 arg5 harg5 arg6 harg6 arg7 harg7 arg8 harg8 arg9 harg9 arg10 harg10 x0 x1 x2 x3 x4 x5).2 ++ kernelRun3_A.sl.HS0_1))) := View.readAt_full _ _ _
  rw [h]
  rfl

/-! ## The column's row at the end -/

variable (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal)

/-- The input blocks are the arrays' at this grid point. -/
structure Arrays : Prop where
  q : ∀ (r : Fin 128) (z : Fin 1024), x3 (ix3 0 r z)
    = Q (ix3 (i 0) (pos (i 2) r) ⟨(i 1).val * 1024 + z.val, by have := i1_lt i; omega⟩)
  sq : ∀ (j : Fin 64) (h : Fin 16), x0 (ix3 0 j h) = SQ (ix3 (i 0) j h)
  k : ∀ (p : Fin 8192) (d : Fin 128), x4 (ix3 0 p d) = K (ix3 (i 0) p (kcol (i 1) d))
  sk : ∀ (j : Fin 64) (g : Fin 2), x1 (ix3 0 j g) = SK (ix3 (i 0) j g)
  v : ∀ (d : Fin 128) (p : Fin 8192), x5 (ix4 0 0 d p) = VT (ix4 (i 0) (i 1) d p)
  sv : ∀ (j : Fin 64) (g : Fin 2), x2 (ix3 0 j g) = SV (ix3 (i 0) j g)

variable (hA : Arrays i x0 x1 x2 x3 x4 x5 Q SQ K SK VT SV)

include hA in
theorem blocks : Blocks i arg4 arg7 arg8 (harg4.unread x1) (harg7.unread x4) (harg8.unread x5) arg5
    (kernelRun3_A.sl.r_1 (F := Ideal) c arg6 harg6 x3) (kernelRun3_A.sl.r_10 (F := Ideal) c i arg3 harg3 x0) (harg5.unread x2) Q SQ K SK VT SV where
  q x d := by
    rw [q_at, hA.q]
    exact congrArg (fun z => Q (ix3 (i 0) (pos (i 2) (qrOf x)) z)) (Fin.ext (by
      show (i 1).val * 1024 + (x.val / 128 * 128 + d.val) = ((i 1).val * 8 + x.val / 128) * 128 + d.val; omega))
  sq x := (sq_at c i arg3 harg3 x0 x).trans (hA.sq _ _)
  k p d := by rw [harg7.read_unread]; exact hA.k p d
  sk j := by rw [harg4.read_unread]; exact hA.sk j (i 1)
  v d p := by rw [harg8.read_unread]; exact hA.v d p
  sv j := by rw [harg5.read_unread]; exact hA.sv j (i 1)

theorem zero_read : arg10.view.read (Elt Ideal) (arg10.view.writes (Elt Ideal) arg10.view.junk (kernelRun3_A.sl.HS0_1 (F := Ideal)))
    = k3_pay26 (k3_pay25 (F := Ideal)) := by
  unfold kernelRun3_A.sl.HS0_1
  rw [View.read_writes_full]

include hA in
theorem final_row (x : Fin 1024) : ∃ m, Sim m
    (kernelRun3_A.sl.r_24 (F := Ideal) c i arg3 harg3 arg4 harg4 arg5 harg5 arg6 harg6 arg7 harg7 arg8 harg8 arg9 harg9 arg10 harg10 x0 x1 x2 x3 x4 x5)
    (kernelRun3_A.sl.v210 (F := Ideal) c i arg3 harg3 arg4 harg4 arg5 harg5 arg6 harg6 arg7 harg7 arg8 harg8 arg9 harg9 arg10 harg10 x0 x1 x2 x3 x4 x5)
    x (colRows i Q SQ K SK VT SV x ((i 2).val + 1)) := by
  have hB := blocks c i arg3 harg3 arg4 harg4 arg5 harg5 arg6 harg6 arg7 harg7 arg8 harg8 x0 x1 x2 x3 x4 x5 Q SQ K SK VT SV hA
  have h := loop_row i arg4 arg7 arg8 (harg4.unread x1) (harg7.unread x4) (harg8.unread x5) c arg3 harg3 harg4 arg5 harg5 arg6 harg6 harg7 harg8
    arg9 harg9 arg10 harg10 (BitVec.ofNat 32 (i 1).val) (BitVec.ofNat 32 (i 2).val) _ _ k3_pay25 (harg5.unread x2) Q SQ K SK VT SV x hB
    (arg10.view.writes (Elt Ideal) arg10.view.junk kernelRun3_A.sl.HS0_1) (zero_read arg10) _ le_rfl
  rw [← View.writes_append, trips1] at h
  rw [sum_eq, acc_eq, S2_eq, List.nil_append]
  refine ⟨diagM c i arg3 harg3 arg4 harg4 arg6 harg6 arg7 harg7 x0 x1 x3 x4
    (S1 c i arg3 harg3 arg4 harg4 arg5 harg5 arg6 harg6 arg7 harg7 arg8 harg8 arg9 harg9 arg10 harg10 x0 x1 x2 x3 x4 x5).1.1, Eq.mpr (congrArg (Sim _ _ _ x) (rows_succ Q SQ K SK VT SV (i 0) (hdOf i x) (i 2) (qrOf x) (i 2).val (i2_lt i))) ?_⟩
  have hv : (fun (k' : Fin 128) (d : Fin 128) => VT (ix4 (i 0) (kvOf (hdOf i x)) d (pos ⟨(i 2).val, i2_lt i⟩ k')))
      = fun k' d => vOfM i arg8 (harg8.unread x5) (ix4 0 0 d k') := by
    funext k' d; rw [ld_vM, hB.v, kv_eq]; rfl
  have hsv : SV (ix3 (i 0) ⟨(i 2).val, i2_lt i⟩ (kvOf (hdOf i x))) = sOfM i arg5 (harg5.unread x2) := by
    rw [ld_sM, kv_eq]; exact (hB.sv (i 2)).symm
  rw [hv, hsv]
  refine sim_diag _ _ _ _ _ _ _ _ _ _ _ _ ?_ (scores_diag i arg4 arg7 arg8 _ _ _ arg5 _ _ _ Q SQ K SK VT SV x hB)
  unfold S1
  rw [trips1]
  exact h

/-- The normalised accumulator is the row's output. -/
theorem norm_at (x : Fin 1024) (d : Fin 128) (m l : FVec Ideal S1x1024 .f32) (acc : FVec Ideal S128x1024 .f32) (R : Row) (h : Sim m l acc x R)
    (hR : Good R) : k3_pay52 l acc (ix2 d x) = finish R d := by
  have e : k3_pay52 l acc (ix2 d x) = acc (ix2 d x) * Ideal.div 1 (l (ix2 0 x)) := by
    unfold k3_pay52
    pointwise
  rw [e, h.2.1, h.2.2, mul_reciprocal hR]

end Cert.Proof.WKer

end
-- ==== Proof.WKerResult.lean ====
/- The whole kernel's attention call, read at its entry contents: its result is the attention of its inputs. -/
module

public import proofs.«01_k».proof.Proof.WKerPoint
public import proofs.«01_k».proof.Proof.Gen.WholeIdeal.Frame
public import Idealize.ShloMosaic.Lib.Pipeline.ValueKit
public import Idealize.ShloMosaic.Lib.Pipeline.Covers

@[expose] public section

set_option maxRecDepth 16384
set_option maxHeartbeats 4000000

noncomputable section

namespace Cert.Proof.WKer

open Cert.WholeIdeal Cert.WholeIdeal.Gen
open Idealize.ShloMosaic Idealize.ShloMosaic.TcCoe Idealize.ShloMosaic.Tactic Idealize.SL.Sem
open Idealize.ShloMosaic.Pipeline (Dat)

/-! ## The output block -/

section block

variable (l : FVec Ideal S1x1024 .f32) (acc : FVec Ideal S128x1024 .f32) (e : FVec Ideal S128x1024 .f32) (r d : Fin 128)

theorem out0_at : k3_pay53 l acc (ix3 0 r d) = k3_pay52 l acc (ix2 d ⟨0 + r.val, by omega⟩) := by
  unfold k3_pay53
  pointwise
theorem out1_at : k3_pay54 l acc (ix3 0 r d) = k3_pay52 l acc (ix2 d ⟨128 + r.val, by omega⟩) := by
  unfold k3_pay54
  pointwise
theorem out2_at : k3_pay55 l acc (ix3 0 r d) = k3_pay52 l acc (ix2 d ⟨256 + r.val, by omega⟩) := by
  unfold k3_pay55
  pointwise
theorem out3_at : k3_pay1 (k3_pay56 l acc) (ix3 0 r d) = k3_pay52 l acc (ix2 d ⟨384 + r.val, by omega⟩) := by
  unfold k3_pay1 k3_pay56
  pointwise
theorem out4_at : k3_pay2 e (ix3 0 r d) = e (ix2 d ⟨512 + r.val, by omega⟩) := by
  unfold k3_pay2
  pointwise
theorem out5_at : k3_pay3 e (ix3 0 r d) = e (ix2 d ⟨640 + r.val, by omega⟩) := by
  unfold k3_pay3
  pointwise
theorem out6_at : k3_pay4 e (ix3 0 r d) = e (ix2 d ⟨768 + r.val, by omega⟩) := by
  unfold k3_pay4
  pointwise
theorem out7_at : k3_pay5 e (ix3 0 r d) = e (ix2 d ⟨896 + r.val, by omega⟩) := by
  unfold k3_pay5
  pointwise

end block

section point

variable (c : Dev nD) (i : grid3.Coords) (arg3 : Memref sig .tc .smem S1x64x16 .f32) (harg3 : arg3.IsWhole)
  (arg4 : Memref sig .tc .smem S1x64x2 .f32) (harg4 : arg4.IsWhole) (arg5 : Memref sig .tc .smem S1x64x2 .f32) (harg5 : arg5.IsWhole)
  (arg6 : Memref sig .tc .vmem S1x128x1024 .fp8e4m3) (harg6 : arg6.IsWhole)
  (arg7 : Memref sig .tc .vmem S1x8192x128 .fp8e4m3) (harg7 : arg7.IsWhole)
  (arg8 : Memref sig .tc .vmem S1x1x128x8192 .fp8e4m3) (harg8 : arg8.IsWhole)
  (arg9 : Memref sig .tc .vmem S1x128x1024 .bf16) (harg9 : arg9.IsWhole)
  (arg10 : Memref sig .tc .vmem S128x1024 .f32) (harg10 : arg10.IsWhole)
  (x0 : Vec Ideal S1x64x16 .f32) (x1 : Vec Ideal S1x64x2 .f32) (x2 : Vec Ideal S1x64x2 .f32) (x3 : Vec Ideal S1x128x1024 .fp8e4m3)
  (x4 : Vec Ideal S1x8192x128 .fp8e4m3) (x5 : Vec Ideal S1x1x128x8192 .fp8e4m3)
  (Q : (⟨3, ![8, 8192, 2048]⟩ : Shape).Idx → EReal) (SQ : (⟨3, ![8, 64, 16]⟩ : Shape).Idx → EReal)
  (K : (⟨3, ![8, 8192, 256]⟩ : Shape).Idx → EReal) (SK : (⟨3, ![8, 64, 2]⟩ : Shape).Idx → EReal)
  (VT : (⟨4, ![8, 2, 128, 8192]⟩ : Shape).Idx → EReal) (SV : (⟨3, ![8, 64, 2]⟩ : Shape).Idx → EReal)
  (hA : Arrays i x0 x1 x2 x3 x4 x5 Q SQ K SK VT SV)

include hA in
/-- The normalised accumulator at a column, read in the attention's own indices. -/
theorem norm_attention (x : Fin 1024) (d : Fin 128) (y : (⟨3, ![8, 8192, 2048]⟩ : Shape).Idx) (h0 : y 0 = i 0)
    (h1 : (y 1).val = (i 2).val * 128 + x.val % 128) (h2 : (y 2).val = (i 1).val * 1024 + x.val / 128 * 128 + d.val) :
    k3_pay52 (kernelRun3_A.sl.r_24 (F := Ideal) c i arg3 harg3 arg4 harg4 arg5 harg5 arg6 harg6 arg7 harg7 arg8 harg8 arg9 harg9 arg10 harg10 x0 x1 x2 x3 x4 x5)
      (kernelRun3_A.sl.v210 (F := Ideal) c i arg3 harg3 arg4 harg4 arg5 harg5 arg6 harg6 arg7 harg7 arg8 harg8 arg9 harg9 arg10 harg10 x0 x1 x2 x3 x4 x5) (ix2 d x)
      = attention Q SQ K SK VT SV y := by
  obtain ⟨m, hm⟩ := final_row c i arg3 harg3 arg4 harg4 arg5 harg5 arg6 harg6 arg7 harg7 arg8 harg8 arg9 harg9 arg10 harg10 x0 x1 x2 x3 x4 x5
    Q SQ K SK VT SV hA x
  rw [norm_at x d m _ _ _ hm (rows_good _ _ _ _ _ _ _ _ _ _ _)]
  unfold attention
  have e1 : (⟨(y 2).val / 128, by have : (y 2).val < 2048 := (y 2).isLt; omega⟩ : Fin 16) = hdOf i x :=
    Fin.ext (by show (y 2).val / 128 = (i 1).val * 8 + x.val / 128; omega)
  have e2 : (⟨(y 1).val / 128, by have : (y 1).val < 8192 := (y 1).isLt; omega⟩ : Fin 64) = i 2 :=
    Fin.ext (by show (y 1).val / 128 = (i 2).val; omega)
  have e3 : (⟨(y 1).val % 128, Nat.mod_lt _ (by omega)⟩ : Fin 128) = qrOf x :=
    Fin.ext (by show (y 1).val % 128 = x.val % 128; omega)
  have e4 : (⟨(y 2).val % 128, Nat.mod_lt _ (by omega)⟩ : Fin 128) = d :=
    Fin.ext (by show (y 2).val % 128 = d.val; omega)
  have e5 : (y 1).val / 128 + 1 = (i 2).val + 1 := by omega
  rw [e1, e2, e3, e4, e5, h0]

include hA in
theorem point_eq (r : Fin 128) (z : Fin 1024) (y : (⟨3, ![8, 8192, 2048]⟩ : Shape).Idx) (h0 : y 0 = i 0)
    (h1 : (y 1).val = (i 2).val * 128 + r.val) (h2 : (y 2).val = (i 1).val * 1024 + z.val) :
    out3_A_6 (F := Ideal) c i arg3 harg3 arg4 harg4 arg5 harg5 arg6 harg6 arg7 harg7 arg8 harg8 arg9 harg9 arg10 harg10 x0 x1 x2 x3 x4 x5 (ix3 0 r z)
      = attention Q SQ K SK VT SV y := by
  have key := fun x d => norm_attention c i arg3 harg3 arg4 harg4 arg5 harg5 arg6 harg6 arg7 harg7 arg8 harg8 arg9 harg9 arg10 harg10
    x0 x1 x2 x3 x4 x5 Q SQ K SK VT SV hA x d y h0
  unfold out3_A_6
  rw [View.read_writes_eq_canon _ _ _ (cover3_A_6 c i arg3 harg3 arg4 harg4 arg5 harg5 arg6 harg6 arg7 harg7 arg8 harg8 arg9 harg9 arg10 harg10
    x0 x1 x2 x3 x4 x5)]
  refine View.canon_eq_of_allAt _ _ _ (cover3_A_6 c i arg3 harg3 arg4 harg4 arg5 harg5 arg6 harg6 arg7 harg7 arg8 harg8 arg9 harg9 arg10 harg10
    x0 x1 x2 x3 x4 x5 _) ?_
  unfold kernelRun3_A
  dsimp only
  refine View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_cons_unit _ _ _ _ _ (fun (x : S1x128x128.Idx) hx => ?_) (View.allAt_cons_unit _ _ _ _ _ (fun (x : S1x128x128.Idx) hx => ?_)
    (View.allAt_nil _ _))))))))
  all_goals
    have hr : r.val = 0 + (x 1).val := hx 1
    have x1_lt : (x 1).val < 128 := (x 1).isLt
    have x2_lt : (x 2).val < 128 := (x 2).isLt
    have ex : x = ix3 0 (⟨(x 1).val, x1_lt⟩ : Fin 128) (⟨(x 2).val, x2_lt⟩ : Fin 128) := funext fun a =>
      match a with
      | ⟨0, _⟩ => Fin.ext (by have : (x 0).val < 1 := (x 0).isLt; show (x 0).val = 0; omega)
      | ⟨1, _⟩ => rfl
      | ⟨2, _⟩ => rfl
  · have hz : z.val = 896 + (x 2).val := hx 2
    rw [ex]
    refine (out7_at _ _ _).trans (key _ _ ?_ ?_) <;> dsimp only <;> omega
  · have hz : z.val = 768 + (x 2).val := hx 2
    rw [ex]
    refine (out6_at _ _ _).trans (key _ _ ?_ ?_) <;> dsimp only <;> omega
  · have hz : z.val = 640 + (x 2).val := hx 2
    rw [ex]
    refine (out5_at _ _ _).trans (key _ _ ?_ ?_) <;> dsimp only <;> omega
  · have hz : z.val = 512 + (x 2).val := hx 2
    rw [ex]
    refine (out4_at _ _ _).trans (key _ _ ?_ ?_) <;> dsimp only <;> omega
  · have hz : z.val = 384 + (x 2).val := hx 2
    rw [ex]
    refine (out3_at _ _ _ _).trans (key _ _ ?_ ?_) <;> dsimp only <;> omega
  · have hz : z.val = 256 + (x 2).val := hx 2
    rw [ex]
    refine (out2_at _ _ _ _).trans (key _ _ ?_ ?_) <;> dsimp only <;> omega
  · have hz : z.val = 128 + (x 2).val := hx 2
    rw [ex]
    refine (out1_at _ _ _ _).trans (key _ _ ?_ ?_) <;> dsimp only <;> omega
  · have hz : z.val = 0 + (x 2).val := hx 2
    rw [ex]
    refine (out0_at _ _ _ _).trans (key _ _ ?_ ?_) <;> dsimp only <;> omega

end point

/-! ## The blocks and the final array -/

variable (V : (c : Dev nD) → (b : Ref sig .tc) → Buf (Elt Ideal) ((c : Thread nD τ).loc b))

theorem word (n : ℕ) (h : n < 2 ^ 32) : (BitVec.ofNat 32 n).toNat = n := by rw [BitVec.toNat_ofNat, Nat.mod_eq_of_lt h]

section idx

variable (t : Fin cfg3.N)

theorem w0 : (BitVec.ofNat 32 (grid3.coords t 0).val).toNat = (grid3.coords t 0).val :=
  word _ (lt_trans (i0_lt _) (by norm_num))
theorem w1 : (BitVec.ofNat 32 (grid3.coords t 1).val).toNat = (grid3.coords t 1).val :=
  word _ (lt_trans (i1_lt _) (by norm_num))
theorem w2 : (BitVec.ofNat 32 (grid3.coords t 2).val).toNat = (grid3.coords t 2).val :=
  word _ (lt_trans (i2_lt _) (by norm_num))

theorem idx0 : win3_0.index t = ![(grid3.coords t 0).val, 0, 0] := by
  show ![(BitVec.ofNat 32 _).toNat, 0, 0] = _
  rw [w0]
theorem idx1 : win3_1.index t = ![(grid3.coords t 0).val, 0, 0] := by
  show ![(BitVec.ofNat 32 _).toNat, 0, 0] = _
  rw [w0]
theorem idx2 : win3_2.index t = ![(grid3.coords t 0).val, 0, 0] := by
  show ![(BitVec.ofNat 32 _).toNat, 0, 0] = _
  rw [w0]
theorem idx3 : win3_3.index t = ![(grid3.coords t 0).val, (grid3.coords t 2).val, (grid3.coords t 1).val] := by
  show ![(BitVec.ofNat 32 _).toNat, (BitVec.ofNat 32 _).toNat, (BitVec.ofNat 32 _).toNat] = _
  rw [w0, w1, w2]
theorem idx4 : win3_4.index t = ![(grid3.coords t 0).val, 0, (grid3.coords t 1).val] := by
  show ![(BitVec.ofNat 32 _).toNat, 0, (BitVec.ofNat 32 _).toNat] = _
  rw [w0, w1]
theorem idx5 : win3_5.index t = ![(grid3.coords t 0).val, (grid3.coords t 1).val, 0, 0] := by
  show ![(BitVec.ofNat 32 _).toNat, (BitVec.ofNat 32 _).toNat, 0, 0] = _
  rw [w0, w1]
theorem idx6 : win3_6.index t = ![(grid3.coords t 0).val, (grid3.coords t 2).val, (grid3.coords t 1).val] := by
  show ![(BitVec.ofNat 32 _).toNat, (BitVec.ofNat 32 _).toNat, (BitVec.ofNat 32 _).toNat] = _
  rw [w0, w1, w2]

end idx

theorem arrays (c : Dev nD) (t : Fin cfg3.N) : Arrays (grid3.coords t) (iblk3 V c 0 t) (iblk3 V c 1 t) (iblk3 V c 2 t) (iblk3 V c 3 t) (iblk3 V c 4 t)
    (iblk3 V c 5 t) (V c main_v0_0) (V c main_v0_1) (V c main_v1_0)
    (V c main_v1_1) (V c main_v2_2) (V c main_v2_1) where
  q r z := by blk_ext [iblk3, idx3 t, pos]
  sq j h := by blk_ext [iblk3, idx0 t]
  k p d := by blk_ext [iblk3, idx4 t, kcol]
  sk j g := by blk_ext [iblk3, idx1 t]
  v d p := by blk_ext [iblk3, idx5 t]
  sv j g := by blk_ext [iblk3, idx2 t]

/-- The attention of the call's inputs. -/
abbrev result (c : Dev nD) : Buf (Elt Ideal) ((c : Thread nD τ).loc main_v3) :=
  attention (V c main_v0_0) (V c main_v0_1) (V c main_v1_0)
    (V c main_v1_1) (V c main_v2_2) (V c main_v2_1)

theorem covers6 : (cfg3.win 6).Covers :=
  (cfg3.win 6).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 64 := lt_of_lt_of_eq (β (⟨1, by decide⟩ : Fin 3)).isLt (by decide)
    have h2 : (β (⟨2, by decide⟩ : Fin 3)).val < 2 := lt_of_lt_of_eq (β (⟨2, by decide⟩ : Fin 3)).isLt (by decide)
    refine ⟨fun a => match a with | ⟨0, _⟩ => (⟨_, h0⟩ : Fin 8) | ⟨1, _⟩ => (⟨_, h2⟩ : Fin 2) | ⟨2, _⟩ => (⟨_, h1⟩ : Fin 64), fun a => ?_⟩
    match a with
    | ⟨0, _⟩ => exact word _ (lt_trans h0 (by norm_num))
    | ⟨1, _⟩ => exact word _ (lt_trans h1 (by norm_num))
    | ⟨2, _⟩ => exact word _ (lt_trans h2 (by norm_num))

theorem final_o (c : Dev nD) : (dat3 V c).arrAt 6 cfg3.N = result V c := by
  refine (dat3 V c).arrAt_eq_of_covers 6 _ covers6 fun t hf (y : S1x128x1024.Idx) => ?_
  blk_simp
  rw [after3_6]
  have y1_lt : (y 1).val < 128 := (y 1).isLt
  have y2_lt : (y 2).val < 1024 := (y 2).isLt
  have y0_lt : (y 0).val < 1 := (y 0).isLt
  have ey : y = ix3 0 (⟨(y 1).val, y1_lt⟩ : Fin 128) (⟨(y 2).val, y2_lt⟩ : Fin 1024) := funext fun a =>
    match a with
    | ⟨0, _⟩ => Fin.ext (by show (y 0).val = 0; omega)
    | ⟨1, _⟩ => rfl
    | ⟨2, _⟩ => rfl
  have e : ∀ a : Fin 3, (((win3_6.blk t).view.emb y) a : ℕ) = win3_6.index t a * win3_6.size a + y a := fun a => win3_6.rect_emb_val t y a
  unfold outsAt3
  refine (congrArg _ ey).trans (point_eq c (grid3.coords t) _ _ _ _ _ _ _ _ _ _ _ _ _ _ _ _ _ _ _ _ _ _ _ _ _ _ _ _ (arrays V c t) _ _
    ((win3_6.blk t).view.emb y) (Fin.ext ?_) ?_ ?_)
  · refine (e 0).trans ?_
    rw [idx6]
    show (grid3.coords t 0).val * 1 + (y 0).val = (grid3.coords t 0).val
    omega
  · refine (e 1).trans ?_
    rw [idx6]
    rfl
  · refine (e 2).trans ?_
    rw [idx6]
    rfl

end Cert.Proof.WKer

end
-- ==== Proof.WQuantX.lean ====
/- The whole kernel's call that quantises `x`, read at its entry contents: its results are the codes and the scales of its argument. -/
module

public import proofs.«01_k».proof.Proof.QuantBlock
public import proofs.«01_k».proof.Proof.Gen.WholeIdeal.Frame
public import Idealize.ShloMosaic.Lib.Pipeline.ValueKit
public import Idealize.ShloMosaic.Lib.Pipeline.Covers

@[expose] public section

set_option maxRecDepth 16384
set_option maxHeartbeats 4000000

noncomputable section

namespace Cert.Proof.WQuant.X

open Cert.WholeIdeal Cert.WholeIdeal.Gen Cert.Proof.Quant
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x2048 .bf16) :
    out0_1 (F := Ideal) x0 = View.canon ((tiles 16).reverse.map (codesPiece (n := 16) x0)) := rfl

/-- The block's scales are the tiles' scales, put in order. -/
theorem out2_eq (x0 : Vec Ideal S1x1024x2048 .bf16) :
    out0_2 (F := Ideal) x0 = shapeCast S1x8x16 (extractStridedSlice S8x16 ![0, 0] (putAll (n := 16) x0 (tiles 16))
      slices_S8x128_o0_0_S8x16) shapeCasts_S8x16_S1x8x16 :=
  View.canon_unit_zero (S := S1x8x16) (Val := Elt Ideal) (e := .f32) (off := ![0, 0, 0])
    (funext fun a => match a with | ⟨0, _⟩ => rfl | ⟨1, _⟩ => rfl | ⟨2, _⟩ => rfl) inb_S1x8x16_S1x8x16_0_0_0 _

theorem scales_at (v : FVec Ideal S8x128 .f32) (r : Fin 8) (h : Fin 16) :
    shapeCast S1x8x16 (extractStridedSlice S8x16 ![0, 0] v slices_S8x128_o0_0_S8x16) shapeCasts_S8x16_S1x8x16 (ix3 0 r h)
      = v (ix2 r ⟨0 + h.val, by omega⟩) := by
  pointwise

/-! ## The blocks and the final arrays -/

variable (V : (c : Dev nD) → (b : Ref sig .tc) → Buf (Elt Ideal) ((c : Thread nD τ).loc b))

theorem word (n : ℕ) (h : n < 2 ^ 32) : (BitVec.ofNat 32 n).toNat = n := by rw [BitVec.toNat_ofNat, Nat.mod_eq_of_lt h]

section idx

variable (t : Fin cfg0.N)

theorem i0_lt : (grid0.coords t 0).val < 8 := (grid0.coords t 0).isLt
theorem i1_lt : (grid0.coords t 1).val < 8 := (grid0.coords t 1).isLt

theorem idx0 : win0_0.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win0_1.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win0_2.index t = ![(grid0.coords t 0).val, (grid0.coords t 1).val, 0] := by
  show ![(BitVec.ofNat 32 _).toNat, (BitVec.ofNat 32 _).toNat, 0] = _
  rw [word _ (lt_trans (i0_lt t) (by norm_num)), word _ (lt_trans (i1_lt t) (by norm_num))]

end idx

/-- The argument. -/
abbrev arg (c : Dev nD) : (SA 16).Idx → EReal := V c main_arg0

theorem block_at (c : Dev nD) (t : Fin cfg0.N) (r : Fin 1024) (z : Fin 2048) : (iblk0 V c 0 t : Vec Ideal S1x1024x2048 .bf16) (ix3 0 r z)
    = arg V c (ix3 (grid0.coords t 0) (⟨(grid0.coords t 1).val * 1024 + r.val, by have := i1_lt t; omega⟩ : Fin 8192) z) := by
  blk_ext [iblk0, idx0 t]

theorem covers1 : (cfg0.win 1).Covers :=
  (cfg0.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg0.win 2).Covers :=
  (cfg0.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

section final

variable (c : Dev nD) (hIn : ∀ b k h, InRange (amaxArr (n := 16) (arg V c) b k h))

include hIn in
theorem final_codes : (dat0 V c).arrAt 1 cfg0.N = codesArr (n := 16) (arg V c) := by
  refine (dat0 V c).arrAt_eq_of_covers 1 _ covers1 fun t hf (y : S1x1024x2048.Idx) => ?_
  blk_simp
  rw [after0_1, out1_eq]
  have y0_lt : (y 0).val < 1 := (y 0).isLt
  have e : ∀ a : Fin 3, (((win0_1.blk t).view.emb y) a : ℕ) = win0_1.index t a * win0_1.size a + y a := fun a => win0_1.rect_emb_val t y a
  refine block_codes (n := 16) (iblk0 V c 0 t) (arg V c) (grid0.coords t 0) (grid0.coords t 1) (block_at V c t) hIn y
    ((win0_1.blk t).view.emb y) ?_ ?_ ?_
  · refine (e 0).trans ?_
    rw [idx1]
    show (grid0.coords t 0).val * 1 + (y 0).val = (grid0.coords t 0).val
    omega
  · refine (e 1).trans ?_
    rw [idx1]
    rfl
  · refine (e 2).trans ?_
    rw [idx1]
    show 0 * 2048 + (y 2).val = (y 2).val
    omega

include hIn in
theorem final_scales : (dat0 V c).arrAt 2 cfg0.N = scalesArr (n := 16) (arg V c) := by
  refine (dat0 V c).arrAt_eq_of_covers 2 _ covers2 fun t hf (y : S1x8x16.Idx) => ?_
  blk_simp
  rw [after0_2, out2_eq]
  have y0_lt : (y 0).val < 1 := (y 0).isLt
  have y1_lt : (y 1).val < 8 := (y 1).isLt
  have y2_lt : (y 2).val < 16 := (y 2).isLt
  have ey : y = ix3 0 (⟨(y 1).val, y1_lt⟩ : Fin 8) (⟨(y 2).val, y2_lt⟩ : Fin 16) := funext fun a =>
    match a with
    | ⟨0, _⟩ => Fin.ext (by show (y 0).val = 0; omega)
    | ⟨1, _⟩ => rfl
    | ⟨2, _⟩ => rfl
  have e : ∀ a : Fin 3, (((win0_2.blk t).view.emb y) a : ℕ) = win0_2.index t a * win0_2.size a + y a := fun a => win0_2.rect_emb_val t y a
  refine (congrArg _ ey).trans ((scales_at _ _ _).trans (block_scales (n := 16) (iblk0 V c 0 t) (arg V c) (grid0.coords t 0) (grid0.coords t 1)
    (block_at V c t) hIn (by norm_num) ⟨(y 1).val, y1_lt⟩ ⟨(y 2).val, y2_lt⟩ _ ?_ ((win0_2.blk t).view.emb y) ?_ ?_ ?_))
  · show 0 + (y 2).val = (y 2).val
    omega
  · refine (e 0).trans ?_
    rw [idx2]
    show (grid0.coords t 0).val * 1 + (y 0).val = (grid0.coords t 0).val
    omega
  · refine (e 1).trans ?_
    rw [idx2]
    rfl
  · refine (e 2).trans ?_
    rw [idx2]
    show 0 * 16 + (y 2).val = (y 2).val
    omega

end final

end Cert.Proof.WQuant.X

end
-- ==== Proof.WQuantK.lean ====
/- The whole kernel's call that quantises `k`, read at its entry contents: its results are the codes and the scales of its argument. -/
module

public import proofs.«01_k».proof.Proof.QuantBlock
public import proofs.«01_k».proof.Proof.Gen.WholeIdeal.Frame
public import Idealize.ShloMosaic.Lib.Pipeline.ValueKit
public import Idealize.ShloMosaic.Lib.Pipeline.Covers

@[expose] public section

set_option maxRecDepth 16384
set_option maxHeartbeats 4000000

noncomputable section

namespace Cert.Proof.WQuant.K

open Cert.WholeIdeal Cert.WholeIdeal.Gen Cert.Proof.Quant
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x256 .bf16) :
    out1_1 (F := Ideal) x0 = View.canon ((tiles 2).reverse.map (codesPiece (n := 2) x0)) := rfl

/-- The block's scales are the tiles' scales, put in order. -/
theorem out2_eq (x0 : Vec Ideal S1x1024x256 .bf16) :
    out1_2 (F := Ideal) x0 = shapeCast S1x8x2 (extractStridedSlice S8x2 ![0, 0] (putAll (n := 2) x0 (tiles 2))
      slices_S8x128_o0_0_S8x2) shapeCasts_S8x2_S1x8x2 :=
  View.canon_unit_zero (S := S1x8x2) (Val := Elt Ideal) (e := .f32) (off := ![0, 0, 0])
    (funext fun a => match a with | ⟨0, _⟩ => rfl | ⟨1, _⟩ => rfl | ⟨2, _⟩ => rfl) inb_S1x8x2_S1x8x2_0_0_0 _

theorem scales_at (v : FVec Ideal S8x128 .f32) (r : Fin 8) (h : Fin 2) :
    shapeCast S1x8x2 (extractStridedSlice S8x2 ![0, 0] v slices_S8x128_o0_0_S8x2) shapeCasts_S8x2_S1x8x2 (ix3 0 r h)
      = v (ix2 r ⟨0 + h.val, by omega⟩) := by
  pointwise

/-! ## The blocks and the final arrays -/

variable (V : (c : Dev nD) → (b : Ref sig .tc) → Buf (Elt Ideal) ((c : Thread nD τ).loc b))

theorem word (n : ℕ) (h : n < 2 ^ 32) : (BitVec.ofNat 32 n).toNat = n := by rw [BitVec.toNat_ofNat, Nat.mod_eq_of_lt h]

section idx

variable (t : Fin cfg1.N)

theorem i0_lt : (grid1.coords t 0).val < 8 := (grid1.coords t 0).isLt
theorem i1_lt : (grid1.coords t 1).val < 8 := (grid1.coords t 1).isLt

theorem idx0 : win1_0.index t = ![(grid1.coords t 0).val, (grid1.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win1_1.index t = ![(grid1.coords t 0).val, (grid1.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win1_2.index t = ![(grid1.coords t 0).val, (grid1.coords t 1).val, 0] := by
  show ![(BitVec.ofNat 32 _).toNat, (BitVec.ofNat 32 _).toNat, 0] = _
  rw [word _ (lt_trans (i0_lt t) (by norm_num)), word _ (lt_trans (i1_lt t) (by norm_num))]

end idx

/-- The argument. -/
abbrev arg (c : Dev nD) : (SA 2).Idx → EReal := V c main_arg1

theorem block_at (c : Dev nD) (t : Fin cfg1.N) (r : Fin 1024) (z : Fin 256) : (iblk1 V c 0 t : Vec Ideal S1x1024x256 .bf16) (ix3 0 r z)
    = arg V c (ix3 (grid1.coords t 0) (⟨(grid1.coords t 1).val * 1024 + r.val, by have := i1_lt t; omega⟩ : Fin 8192) z) := by
  blk_ext [iblk1, idx0 t]

theorem covers1 : (cfg1.win 1).Covers :=
  (cfg1.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg1.win 2).Covers :=
  (cfg1.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

section final

variable (c : Dev nD) (hIn : ∀ b k h, InRange (amaxArr (n := 2) (arg V c) b k h))

include hIn in
theorem final_codes : (dat1 V c).arrAt 1 cfg1.N = codesArr (n := 2) (arg V c) := by
  refine (dat1 V c).arrAt_eq_of_covers 1 _ covers1 fun t hf (y : S1x1024x256.Idx) => ?_
  blk_simp
  rw [after1_1, out1_eq]
  have y0_lt : (y 0).val < 1 := (y 0).isLt
  have e : ∀ a : Fin 3, (((win1_1.blk t).view.emb y) a : ℕ) = win1_1.index t a * win1_1.size a + y a := fun a => win1_1.rect_emb_val t y a
  refine block_codes (n := 2) (iblk1 V c 0 t) (arg V c) (grid1.coords t 0) (grid1.coords t 1) (block_at V c t) hIn y
    ((win1_1.blk t).view.emb y) ?_ ?_ ?_
  · refine (e 0).trans ?_
    rw [idx1]
    show (grid1.coords t 0).val * 1 + (y 0).val = (grid1.coords t 0).val
    omega
  · refine (e 1).trans ?_
    rw [idx1]
    rfl
  · refine (e 2).trans ?_
    rw [idx1]
    show 0 * 256 + (y 2).val = (y 2).val
    omega

include hIn in
theorem final_scales : (dat1 V c).arrAt 2 cfg1.N = scalesArr (n := 2) (arg V c) := by
  refine (dat1 V c).arrAt_eq_of_covers 2 _ covers2 fun t hf (y : S1x8x2.Idx) => ?_
  blk_simp
  rw [after1_2, out2_eq]
  have y0_lt : (y 0).val < 1 := (y 0).isLt
  have y1_lt : (y 1).val < 8 := (y 1).isLt
  have y2_lt : (y 2).val < 2 := (y 2).isLt
  have ey : y = ix3 0 (⟨(y 1).val, y1_lt⟩ : Fin 8) (⟨(y 2).val, y2_lt⟩ : Fin 2) := funext fun a =>
    match a with
    | ⟨0, _⟩ => Fin.ext (by show (y 0).val = 0; omega)
    | ⟨1, _⟩ => rfl
    | ⟨2, _⟩ => rfl
  have e : ∀ a : Fin 3, (((win1_2.blk t).view.emb y) a : ℕ) = win1_2.index t a * win1_2.size a + y a := fun a => win1_2.rect_emb_val t y a
  refine (congrArg _ ey).trans ((scales_at _ _ _).trans (block_scales (n := 2) (iblk1 V c 0 t) (arg V c) (grid1.coords t 0) (grid1.coords t 1)
    (block_at V c t) hIn (by norm_num) ⟨(y 1).val, y1_lt⟩ ⟨(y 2).val, y2_lt⟩ _ ?_ ((win1_2.blk t).view.emb y) ?_ ?_ ?_))
  · show 0 + (y 2).val = (y 2).val
    omega
  · refine (e 0).trans ?_
    rw [idx2]
    show (grid1.coords t 0).val * 1 + (y 0).val = (grid1.coords t 0).val
    omega
  · refine (e 1).trans ?_
    rw [idx2]
    rfl
  · refine (e 2).trans ?_
    rw [idx2]
    show 0 * 2 + (y 2).val = (y 2).val
    omega

end final

end Cert.Proof.WQuant.K

end
-- ==== Proof.WQuantV.lean ====
/- The whole kernel's call that quantises `v`, read at its entry contents: its results are the codes of its argument, their scales, and the codes transposed. -/
module

public import proofs.«01_k».proof.Proof.QuantTrans
public import proofs.«01_k».proof.Proof.Gen.WholeIdeal.Frame
public import Idealize.ShloMosaic.Lib.Pipeline.ValueKit
public import Idealize.ShloMosaic.Lib.Pipeline.Covers

@[expose] public section

set_option maxRecDepth 16384
set_option maxHeartbeats 4000000

noncomputable section

namespace Cert.Proof.WQuant.V

open Cert.WholeIdeal Cert.WholeIdeal.Gen Cert.Proof.Quant
open Idealize.ShloMosaic Idealize.ShloMosaic.TcCoe Idealize.ShloMosaic.Tactic Idealize.SL.Sem
open Idealize.ShloMosaic.Pipeline (Dat)

/-- The block's codes are the stores of its tiles, the last first. -/
theorem out1_eq (x0 : Vec Ideal S1x1024x256 .bf16) :
    out2_1 (F := Ideal) x0 = View.canon ((tiles 2).reverse.map (codesPiece (n := 2) x0)) := rfl

/-- The block's scales are the tiles' scales, put in order. -/
theorem out2_eq (x0 : Vec Ideal S1x1024x256 .bf16) :
    out2_2 (F := Ideal) x0 = shapeCast S1x8x2 (extractStridedSlice S8x2 ![0, 0] (putAll (n := 2) x0 (tiles 2))
      slices_S8x128_o0_0_S8x2) shapeCasts_S8x2_S1x8x2 :=
  View.canon_unit_zero (S := S1x8x2) (Val := Elt Ideal) (e := .f32) (off := ![0, 0, 0])
    (funext fun a => match a with | ⟨0, _⟩ => rfl | ⟨1, _⟩ => rfl | ⟨2, _⟩ => rfl) inb_S1x8x2_S1x8x2_0_0_0 _

/-- The transposed codes are the transposed stores of its tiles, the last first. -/
theorem out3_eq (x0 : Vec Ideal S1x1024x256 .bf16) :
    out2_3 (F := Ideal) x0 = View.canon ((tiles 2).reverse.map (codesPieceT (n := 2) x0)) := rfl

theorem scales_at (v : FVec Ideal S8x128 .f32) (r : Fin 8) (h : Fin 2) :
    shapeCast S1x8x2 (extractStridedSlice S8x2 ![0, 0] v slices_S8x128_o0_0_S8x2) shapeCasts_S8x2_S1x8x2 (ix3 0 r h)
      = v (ix2 r ⟨0 + h.val, by omega⟩) := by
  pointwise

/-! ## The blocks and the final arrays -/

variable (V : (c : Dev nD) → (b : Ref sig .tc) → Buf (Elt Ideal) ((c : Thread nD τ).loc b))

theorem word (n : ℕ) (h : n < 2 ^ 32) : (BitVec.ofNat 32 n).toNat = n := by rw [BitVec.toNat_ofNat, Nat.mod_eq_of_lt h]

section idx

variable (t : Fin cfg2.N)

theorem i0_lt : (grid2.coords t 0).val < 8 := (grid2.coords t 0).isLt
theorem i1_lt : (grid2.coords t 1).val < 8 := (grid2.coords t 1).isLt

theorem idx0 : win2_0.index t = ![(grid2.coords t 0).val, (grid2.coords t 1).val, 0] := by
  show ![(BitVec.ofNat 32 _).toNat, (BitVec.ofNat 32 _).toNat, 0] = _
  rw [word _ (lt_trans (i0_lt t) (by norm_num)), word _ (lt_trans (i1_lt t) (by norm_num))]
theorem idx1 : win2_1.index t = ![(grid2.coords t 0).val, (grid2.coords t 1).val, 0] := by
  show ![(BitVec.ofNat 32 _).toNat, (BitVec.ofNat 32 _).toNat, 0] = _
  rw [word _ (lt_trans (i0_lt t) (by norm_num)), word _ (lt_trans (i1_lt t) (by norm_num))]
theorem idx2 : win2_2.index t = ![(grid2.coords t 0).val, (grid2.coords t 1).val, 0] := by
  show ![(BitVec.ofNat 32 _).toNat, (BitVec.ofNat 32 _).toNat, 0] = _
  rw [word _ (lt_trans (i0_lt t) (by norm_num)), word _ (lt_trans (i1_lt t) (by norm_num))]

theorem idx3 : win2_3.index t = ![(grid2.coords t 0).val, 0, 0, (grid2.coords t 1).val] := by
  show ![(BitVec.ofNat 32 _).toNat, 0, 0, (BitVec.ofNat 32 _).toNat] = _
  rw [word _ (lt_trans (i0_lt t) (by norm_num)), word _ (lt_trans (i1_lt t) (by norm_num))]

end idx

/-- The argument. -/
abbrev arg (c : Dev nD) : (SA 2).Idx → EReal := V c main_arg2

theorem block_at (c : Dev nD) (t : Fin cfg2.N) (r : Fin 1024) (z : Fin 256) : (iblk2 V c 0 t : Vec Ideal S1x1024x256 .bf16) (ix3 0 r z)
    = arg V c (ix3 (grid2.coords t 0) (⟨(grid2.coords t 1).val * 1024 + r.val, by have := i1_lt t; omega⟩ : Fin 8192) z) := by
  blk_ext [iblk2, idx0 t]

theorem covers1 : (cfg2.win 1).Covers :=
  (cfg2.win 1).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers2 : (cfg2.win 2).Covers :=
  (cfg2.win 2).covers_of_indexMap_surj rfl (by decide) fun β => by
    have h0 : (β (⟨0, by decide⟩ : Fin 3)).val < 8 := lt_of_lt_of_eq (β (⟨0, by decide⟩ : Fin 3)).isLt (by decide)
    have h1 : (β (⟨1, by decide⟩ : Fin 3)).val < 8 := lt_of_lt_of_eq (β (⟨1, by decide⟩ : Fin 3)).isLt (by decide)
    have h2 : (β (⟨2, by decide⟩ : Fin 3)).val < 1 := lt_of_lt_of_eq (β (⟨2, by decide⟩ : Fin 3)).isLt (by decide)
    refine ⟨fun a => match a with | ⟨0, _⟩ => (⟨_, h0⟩ : Fin 8) | ⟨1, _⟩ => (⟨_, h1⟩ : Fin 8), fun a => ?_⟩
    match a with
    | ⟨0, _⟩ => exact word _ (lt_trans h0 (by norm_num))
    | ⟨1, _⟩ => exact word _ (lt_trans h1 (by norm_num))
    | ⟨2, _⟩ => show 0 = (β (⟨2, by decide⟩ : Fin 3)).val; omega

theorem covers3 : (cfg2.win 3).Covers :=
  (cfg2.win 3).covers_of_indexMap_surj rfl (by decide) fun β => by
    have h0 : (β (⟨0, by decide⟩ : Fin 4)).val < 8 := lt_of_lt_of_eq (β (⟨0, by decide⟩ : Fin 4)).isLt (by decide)
    have h1 : (β (⟨1, by decide⟩ : Fin 4)).val < 1 := lt_of_lt_of_eq (β (⟨1, by decide⟩ : Fin 4)).isLt (by decide)
    have h2 : (β (⟨2, by decide⟩ : Fin 4)).val < 1 := lt_of_lt_of_eq (β (⟨2, by decide⟩ : Fin 4)).isLt (by decide)
    have h3 : (β (⟨3, by decide⟩ : Fin 4)).val < 8 := lt_of_lt_of_eq (β (⟨3, by decide⟩ : Fin 4)).isLt (by decide)
    refine ⟨fun a => match a with | ⟨0, _⟩ => (⟨_, h0⟩ : Fin 8) | ⟨1, _⟩ => (⟨_, h3⟩ : Fin 8), fun a => ?_⟩
    match a with
    | ⟨0, _⟩ => exact word _ (lt_trans h0 (by norm_num))
    | ⟨1, _⟩ => show 0 = (β (⟨1, by decide⟩ : Fin 4)).val; omega
    | ⟨2, _⟩ => show 0 = (β (⟨2, by decide⟩ : Fin 4)).val; omega
    | ⟨3, _⟩ => exact word _ (lt_trans h3 (by norm_num))

section final

variable (c : Dev nD) (hIn : ∀ b k h, InRange (amaxArr (n := 2) (arg V c) b k h))

include hIn in
theorem final_codes : (dat2 V c).arrAt 1 cfg2.N = codesArr (n := 2) (arg V c) := by
  refine (dat2 V c).arrAt_eq_of_covers 1 _ covers1 fun t hf (y : S1x1024x256.Idx) => ?_
  blk_simp
  rw [after2_1, out1_eq]
  have y0_lt : (y 0).val < 1 := (y 0).isLt
  have e : ∀ a : Fin 3, (((win2_1.blk t).view.emb y) a : ℕ) = win2_1.index t a * win2_1.size a + y a := fun a => win2_1.rect_emb_val t y a
  refine block_codes (n := 2) (iblk2 V c 0 t) (arg V c) (grid2.coords t 0) (grid2.coords t 1) (block_at V c t) hIn y
    ((win2_1.blk t).view.emb y) ?_ ?_ ?_
  · refine (e 0).trans ?_
    rw [idx1]
    show (grid2.coords t 0).val * 1 + (y 0).val = (grid2.coords t 0).val
    omega
  · refine (e 1).trans ?_
    rw [idx1]
    rfl
  · refine (e 2).trans ?_
    rw [idx1]
    show 0 * 256 + (y 2).val = (y 2).val
    omega

include hIn in
theorem final_scales : (dat2 V c).arrAt 2 cfg2.N = scalesArr (n := 2) (arg V c) := by
  refine (dat2 V c).arrAt_eq_of_covers 2 _ covers2 fun t hf (y : S1x8x2.Idx) => ?_
  blk_simp
  rw [after2_2, out2_eq]
  have y0_lt : (y 0).val < 1 := (y 0).isLt
  have y1_lt : (y 1).val < 8 := (y 1).isLt
  have y2_lt : (y 2).val < 2 := (y 2).isLt
  have ey : y = ix3 0 (⟨(y 1).val, y1_lt⟩ : Fin 8) (⟨(y 2).val, y2_lt⟩ : Fin 2) := funext fun a =>
    match a with
    | ⟨0, _⟩ => Fin.ext (by show (y 0).val = 0; omega)
    | ⟨1, _⟩ => rfl
    | ⟨2, _⟩ => rfl
  have e : ∀ a : Fin 3, (((win2_2.blk t).view.emb y) a : ℕ) = win2_2.index t a * win2_2.size a + y a := fun a => win2_2.rect_emb_val t y a
  refine (congrArg _ ey).trans ((scales_at _ _ _).trans (block_scales (n := 2) (iblk2 V c 0 t) (arg V c) (grid2.coords t 0) (grid2.coords t 1)
    (block_at V c t) hIn (by norm_num) ⟨(y 1).val, y1_lt⟩ ⟨(y 2).val, y2_lt⟩ _ ?_ ((win2_2.blk t).view.emb y) ?_ ?_ ?_))
  · show 0 + (y 2).val = (y 2).val
    omega
  · refine (e 0).trans ?_
    rw [idx2]
    show (grid2.coords t 0).val * 1 + (y 0).val = (grid2.coords t 0).val
    omega
  · refine (e 1).trans ?_
    rw [idx2]
    rfl
  · refine (e 2).trans ?_
    rw [idx2]
    show 0 * 2 + (y 2).val = (y 2).val
    omega

include hIn in
theorem final_codesT : (dat2 V c).arrAt 3 cfg2.N = codesArrT (n := 2) (arg V c) := by
  refine (dat2 V c).arrAt_eq_of_covers 3 _ covers3 fun t hf (y : S1x2x128x1024.Idx) => ?_
  blk_simp
  rw [after2_3, out3_eq]
  have y0_lt : (y 0).val < 1 := (y 0).isLt
  have e : ∀ a : Fin 4, (((win2_3.blk t).view.emb y) a : ℕ) = win2_3.index t a * win2_3.size a + y a := fun a => win2_3.rect_emb_val t y a
  refine block_codesT (n := 2) (iblk2 V c 0 t) (arg V c) (grid2.coords t 0) (grid2.coords t 1) (block_at V c t) hIn y
    ((win2_3.blk t).view.emb y) ?_ ?_ ?_ ?_
  · refine (e 0).trans ?_
    rw [idx3]
    show (grid2.coords t 0).val * 1 + (y 0).val = (grid2.coords t 0).val
    omega
  · refine (e 1).trans ?_
    rw [idx3]
    show 0 * 2 + (y 1).val = (y 1).val
    omega
  · refine (e 2).trans ?_
    rw [idx3]
    show 0 * 128 + (y 2).val = (y 2).val
    omega
  · refine (e 3).trans ?_
    rw [idx3]
    rfl

end final

end Cert.Proof.WQuant.V

end
-- ==== Proof.WRun.lean ====
/- The whole kernel's run, read: its results are the attention of the quantised arguments, and their codes and scales. -/
module

public import proofs.«01_k».proof.Proof.WKerResult
public import proofs.«01_k».proof.Proof.WQuantX
public import proofs.«01_k».proof.Proof.WQuantK
public import proofs.«01_k».proof.Proof.WQuantV
public import proofs.«01_k».proof.Proof.Gen.WholeIdeal.Frame

@[expose] public section

set_option maxRecDepth 16384
set_option maxHeartbeats 4000000

noncomputable section

namespace Cert.Proof.Whole

open Cert.WholeIdeal Cert.WholeIdeal.Gen Cert.Proof.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section read

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with every buffer outside a call's scratch at the contents after the last call. -/
theorem run_read : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end read

variable (m : (ℓ : Loc nD τ sig) → Buf (Elt Ideal) ℓ) (ρ : Dev nD → PrngReg) (c : Dev nD)

/-- The arguments. -/
abbrev argX : (SA 16).Idx → EReal := m ((c : Thread nD τ).loc main_arg0)
abbrev argK : (SA 2).Idx → EReal := m ((c : Thread nD τ).loc main_arg1)
abbrev argV : (SA 2).Idx → EReal := m ((c : Thread nD τ).loc main_arg2)

/-- The attention of the quantised arguments. -/
abbrev result : Buf (Elt Ideal) ((c : Thread nD τ).loc main_v3) :=
  attention (codesArr (n := 16) (argX m c)) (scalesArr (n := 16) (argX m c)) (codesArr (n := 2) (argK m c)) (scalesArr (n := 2) (argK m c))
    (codesArrT (n := 2) (argV m c)) (scalesArr (n := 2) (argV m c))

/-- Every block of every argument is in range. -/
structure Ranges : Prop where
  x : ∀ b k h, InRange (amaxArr (n := 16) (argX m c) b k h)
  k : ∀ b k h, InRange (amaxArr (n := 2) (argK m c) b k h)
  v : ∀ b k h, InRange (amaxArr (n := 2) (argV m c) b k h)

theorem argK_at : WQuant.K.arg (V1 m ρ) c = argK m c := W1_args m ρ c main_arg1 (by decide)
theorem argV_at : WQuant.V.arg (V2 m ρ) c = argV m c := W2_args m ρ c main_arg2 (by decide)

variable (hr : Ranges m c)

include hr

theorem foundK (b k h) : InRange (amaxArr (n := 2) (WQuant.K.arg (V1 m ρ) c) b k h) := by
  rw [argK_at]
  exact hr.k b k h
theorem foundV (b k h) : InRange (amaxArr (n := 2) (WQuant.V.arg (V2 m ρ) c) b k h) := by
  rw [argV_at]
  exact hr.v b k h

/-! ## What the attention call finds -/

theorem xCodes : W3 m ρ c (Proc.devRef .tc main_v0_0) = codesArr (n := 16) (argX m c) :=
  (W3_of m ρ c main_v0_0 (by decide)).trans <| (W2_of m ρ c main_v0_0 (by decide)).trans <|
    (W1_arr m ρ c 1).trans (WQuant.X.final_codes (V0 m ρ) c hr.x)
theorem xScales : W3 m ρ c (Proc.devRef .tc main_v0_1) = scalesArr (n := 16) (argX m c) :=
  (W3_of m ρ c main_v0_1 (by decide)).trans <| (W2_of m ρ c main_v0_1 (by decide)).trans <|
    (W1_arr m ρ c 2).trans (WQuant.X.final_scales (V0 m ρ) c hr.x)
theorem kCodes : W3 m ρ c (Proc.devRef .tc main_v1_0) = codesArr (n := 2) (argK m c) :=
  (W3_of m ρ c main_v1_0 (by decide)).trans <| (W2_arr m ρ c 1).trans <|
    (WQuant.K.final_codes (V1 m ρ) c (foundK m ρ c hr)).trans (congrArg (codesArr (n := 2)) (argK_at m ρ c))
theorem kScales : W3 m ρ c (Proc.devRef .tc main_v1_1) = scalesArr (n := 2) (argK m c) :=
  (W3_of m ρ c main_v1_1 (by decide)).trans <| (W2_arr m ρ c 2).trans <|
    (WQuant.K.final_scales (V1 m ρ) c (foundK m ρ c hr)).trans (congrArg (scalesArr (n := 2)) (argK_at m ρ c))
theorem vCodes : W3 m ρ c (Proc.devRef .tc main_v2_0) = codesArr (n := 2) (argV m c) :=
  (W3_arr m ρ c 1).trans <|
    (WQuant.V.final_codes (V2 m ρ) c (foundV m ρ c hr)).trans (congrArg (codesArr (n := 2)) (argV_at m ρ c))
theorem vScales : W3 m ρ c (Proc.devRef .tc main_v2_1) = scalesArr (n := 2) (argV m c) :=
  (W3_arr m ρ c 2).trans <|
    (WQuant.V.final_scales (V2 m ρ) c (foundV m ρ c hr)).trans (congrArg (scalesArr (n := 2)) (argV_at m ρ c))
theorem vCodesT : W3 m ρ c (Proc.devRef .tc main_v2_2) = codesArrT (n := 2) (argV m c) :=
  (W3_arr m ρ c 3).trans <|
    (WQuant.V.final_codesT (V2 m ρ) c (foundV m ρ c hr)).trans (congrArg (codesArrT (n := 2)) (argV_at m ρ c))

/-! ## What the last call leaves -/

theorem attended : W4 m ρ c (Proc.devRef .tc main_v3) = result m c := by
  refine (W4_arr m ρ c 6).trans ((WKer.final_o (V3 m ρ) c).trans ?_)
  show attention (W3 m ρ c (Proc.devRef .tc main_v0_0)) (W3 m ρ c (Proc.devRef .tc main_v0_1)) (W3 m ρ c (Proc.devRef .tc main_v1_0))
    (W3 m ρ c (Proc.devRef .tc main_v1_1)) (W3 m ρ c (Proc.devRef .tc main_v2_2)) (W3 m ρ c (Proc.devRef .tc main_v2_1)) = _
  rw [xCodes m ρ c hr, xScales m ρ c hr, kCodes m ρ c hr, kScales m ρ c hr, vCodesT m ρ c hr, vScales m ρ c hr]

omit hr

/-- The run, read: the attention of the quantised arguments, their codes and scales, and the arguments unchanged. -/
theorem run (hr : ∀ c, Ranges m c) : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_v0_0) = codesArr (n := 16) (argX m c)
      ∧ r.2.mem ((c : Thread nD τ).loc main_v0_1) = scalesArr (n := 16) (argX m c)
      ∧ r.2.mem ((c : Thread nD τ).loc main_v1_0) = codesArr (n := 2) (argK m c)
      ∧ r.2.mem ((c : Thread nD τ).loc main_v1_1) = scalesArr (n := 2) (argK m c)
      ∧ r.2.mem ((c : Thread nD τ).loc main_v2_0) = codesArr (n := 2) (argV m c)
      ∧ r.2.mem ((c : Thread nD τ).loc main_v2_1) = scalesArr (n := 2) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c _ (mem_uc main_v3 (by decide))).trans (attended m ρ c (hr c)),
     (h c _ (mem_uc main_v0_0 (by decide))).trans ((W4_of m ρ c main_v0_0 (by decide)).trans (xCodes m ρ c (hr c))),
     (h c _ (mem_uc main_v0_1 (by decide))).trans ((W4_of m ρ c main_v0_1 (by decide)).trans (xScales m ρ c (hr c))),
     (h c _ (mem_uc main_v1_0 (by decide))).trans ((W4_of m ρ c main_v1_0 (by decide)).trans (kCodes m ρ c (hr c))),
     (h c _ (mem_uc main_v1_1 (by decide))).trans ((W4_of m ρ c main_v1_1 (by decide)).trans (kScales m ρ c (hr c))),
     (h c _ (mem_uc main_v2_0 (by decide))).trans ((W4_of m ρ c main_v2_0 (by decide)).trans (vCodes m ρ c (hr c))),
     (h c _ (mem_uc main_v2_1 (by decide))).trans ((W4_of m ρ c main_v2_1 (by decide)).trans (vScales m ρ c (hr c))),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_read m ρ)

end Cert.Proof.Whole

end
-- ==== Proof.WRange.lean ====
/- The whole kernel's precondition, read: every block of every argument is in range. -/
module

public import proofs.«01_k».proof.Proof.QuantAmax
public import proofs.«01_k».proof.Proof.Gen.Pre_in_range_all
public import Idealize.ShloMosaic.Lib.Pipeline.Value

@[expose] public section

set_option maxRecDepth 16384
set_option maxHeartbeats 4000000

noncomputable section

namespace Cert.Proof.WQuant

open Cert.Pre_in_range_all Cert.Proof.Quant
open Idealize.ShloMosaic Idealize.ShloMosaic.TcCoe

/-- The precondition's comparisons of one argument's blocks, over the largest magnitudes. -/
abbrev tests (n : ℕ) (A : FVec Ideal (SC n) .f32) (hb : S0.BroadcastsInDim (SC n) (![] : Fin 0 → Fin (SC n).rank)) : IVec (SC n) 1 :=
  ori (cmpf .oeq A (broadcastInDim (SC n) ![] hb (constant S0 .f32 0x00000000#32)))
    (andi (cmpf .oge A (broadcastInDim (SC n) ![] hb (constant S0 .f32 0x05000000#32)))
      (cmpf .ole A (broadcastInDim (SC n) ![] hb (constant S0 .f32 0x7F7F0000#32))))

section concat

variable (p : S8x64x16.Idx → BitVec 1) (q r : S8x64x2.Idx → BitVec 1)
  (h : Shape.Concatenates [S8x64x16, S8x64x2, S8x64x2] S8x64x20 2)
  (e : concatenate S8x64x20 2 [⟨S8x64x16, p⟩, ⟨S8x64x2, q⟩, ⟨S8x64x2, r⟩] h = fun _ => 1#1)

include e

theorem piece0 (b : Fin 8) (k : Fin 64) (g : Fin 16) : p (ix3 b k g) = 1#1 :=
  (concatenate_apply_piece (t := S8x64x20) 2 [⟨S8x64x16, p⟩, ⟨S8x64x2, q⟩, ⟨S8x64x2, r⟩] h (ix3 b k (⟨0 + g.val, by omega⟩ : Fin 20)) 0 (show 0 < 3 by decide)
    S8x64x16 p rfl rfl 0 rfl (ix3 b k g) (fun a ha => match a, ha with
      | ⟨0, _⟩, _ => rfl | ⟨1, _⟩, _ => rfl | ⟨2, _⟩, ha => absurd rfl ha) rfl).symm.trans (congrFun e _)

theorem piece1 (b : Fin 8) (k : Fin 64) (g : Fin 2) : q (ix3 b k g) = 1#1 :=
  (concatenate_apply_piece (t := S8x64x20) 2 [⟨S8x64x16, p⟩, ⟨S8x64x2, q⟩, ⟨S8x64x2, r⟩] h (ix3 b k (⟨16 + g.val, by omega⟩ : Fin 20)) 1 (show 1 < 3 by decide)
    S8x64x2 q rfl rfl 16 rfl (ix3 b k g) (fun a ha => match a, ha with
      | ⟨0, _⟩, _ => rfl | ⟨1, _⟩, _ => rfl | ⟨2, _⟩, ha => absurd rfl ha) rfl).symm.trans (congrFun e _)

theorem piece2 (b : Fin 8) (k : Fin 64) (g : Fin 2) : r (ix3 b k g) = 1#1 :=
  (concatenate_apply_piece (t := S8x64x20) 2 [⟨S8x64x16, p⟩, ⟨S8x64x2, q⟩, ⟨S8x64x2, r⟩] h (ix3 b k (⟨18 + g.val, by omega⟩ : Fin 20)) 2 (show 2 < 3 by decide)
    S8x64x2 r rfl rfl 18 rfl (ix3 b k g) (fun a ha => match a, ha with
      | ⟨0, _⟩, _ => rfl | ⟨1, _⟩, _ => rfl | ⟨2, _⟩, ha => absurd rfl ha) rfl).symm.trans (congrFun e _)

end concat

/-- An entry that passes the comparisons is in range. -/
theorem inRange_at (n : ℕ) (A : FVec Ideal (SC n) .f32) (hb : S0.BroadcastsInDim (SC n) (![] : Fin 0 → Fin (SC n).rank)) (j : (SC n).Idx)
    (h : tests n A hb j = 1#1) : InRange (A j) := inRange_of (A j) h

section range

variable (X : (SA 16).Idx → EReal) (K V : (SA 2).Idx → EReal)

/-- Every block's largest magnitude, by the precondition's reduction. -/
def amaxX : FVec Ideal (SC 16) .f32 :=
  amaxHost (n := 16) Gen.facts.shapeCasts_S8x8192x2048_S8x64x128x16x128 Gen.facts.reducesTo_S8x64x128x16x128_S8x64x16_d2_4 Gen.facts.h_S_ X
def amaxK : FVec Ideal (SC 2) .f32 :=
  amaxHost (n := 2) Gen.facts.shapeCasts_S8x8192x256_S8x64x128x2x128 Gen.facts.reducesTo_S8x64x128x2x128_S8x64x2_d2_4 Gen.facts.h_S_ K

/-- The precondition is the three arguments' comparisons, side by side. -/
theorem fn_eq : @fn Gen.facts Ideal _ X K V
    = concatenate S8x64x20 2
        [⟨S8x64x16, tests 16 (amaxX X) Gen.facts.bcast_S_S8x64x16⟩,
         ⟨S8x64x2, tests 2 (amaxK K) Gen.facts.bcast_S_S8x64x2⟩,
         ⟨S8x64x2, tests 2 (amaxK V) Gen.facts.bcast_S_S8x64x2⟩]
        Gen.facts.concatenates_S8x64x16_S8x64x2_S8x64x2_S8x64x20_d2 := rfl

variable (hp : @fn Gen.facts Ideal _ X K V = fun _ => 1#1)

include hp

theorem inRangeX (b : Fin 8) (k : Fin 64) (g : Fin 16) : InRange (amaxArr X b k g) := by
  have e : amaxX X (ix3 b k g) = amaxArr X b k g := amaxHost_at (n := 16) _ _ _ X b k g
  have t := piece0 _ _ _ _ ((fn_eq X K V).symm.trans hp) b k g
  exact e ▸ inRange_at 16 (amaxX X) Gen.facts.bcast_S_S8x64x16 (ix3 b k g) t

theorem inRangeK (b : Fin 8) (k : Fin 64) (g : Fin 2) : InRange (amaxArr K b k g) := by
  have e : amaxK K (ix3 b k g) = amaxArr K b k g := amaxHost_at (n := 2) _ _ _ K b k g
  have t := piece1 _ _ _ _ ((fn_eq X K V).symm.trans hp) b k g
  exact e ▸ inRange_at 2 (amaxK K) Gen.facts.bcast_S_S8x64x2 (ix3 b k g) t

theorem inRangeV (b : Fin 8) (k : Fin 64) (g : Fin 2) : InRange (amaxArr V b k g) := by
  have e : amaxK V (ix3 b k g) = amaxArr V b k g := amaxHost_at (n := 2) _ _ _ V b k g
  have t := piece2 _ _ _ _ ((fn_eq X K V).symm.trans hp) b k g
  exact e ▸ inRange_at 2 (amaxK V) Gen.facts.bcast_S_S8x64x2 (ix3 b k g) t

end range

end Cert.Proof.WQuant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.KernelK
public import proofs.«01_k».proof.Proof.Gen.KernelK.Skeleton
public import proofs.«01_k».proof.Proof.Gen.KernelK.Launch
public import proofs.«01_k».proof.Proof.Gen.KernelK.Points
public import proofs.«01_k».proof.Proof.Gen.KernelK.Frame
public import proofs.«01_k».proof.Proof.Gen.KernelKIdeal
public import proofs.«01_k».proof.Proof.Gen.KernelKIdeal.Skeleton
public import proofs.«01_k».proof.Proof.Gen.KernelKIdeal.Launch
public import proofs.«01_k».proof.Proof.Gen.KernelKIdeal.Points
public import proofs.«01_k».proof.Proof.Gen.KernelKIdeal.Frame
public import proofs.«01_k».proof.Proof.Gen.ReferenceKIdeal
public import proofs.«01_k».proof.Proof.Gen.ReferenceKIdeal.Skeleton
public import proofs.«01_k».proof.Proof.Gen.ReferenceKIdeal.Launch
public import proofs.«01_k».proof.Proof.Gen.ReferenceKIdeal.Points
public import proofs.«01_k».proof.Proof.Gen.ReferenceKIdeal.Frame
public import proofs.«01_k».proof.Proof.Gen.KernelKIdeal.Value
public import proofs.«01_k».proof.Proof.Gen.ReferenceKIdeal.Value
public import proofs.«01_k».proof.Proof.Gen.Pre_in_range_k
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.ReferenceXIdeal
public import proofs.«01_k».proof.Proof.Gen.ReferenceXIdeal.Skeleton
public import proofs.«01_k».proof.Proof.Gen.ReferenceXIdeal.Launch
public import proofs.«01_k».proof.Proof.Gen.ReferenceXIdeal.Points
public import proofs.«01_k».proof.Proof.Gen.ReferenceXIdeal.Frame
public import proofs.«01_k».proof.Proof.Gen.KernelXIdeal.Value
public import proofs.«01_k».proof.Proof.Gen.ReferenceXIdeal.Value
public import proofs.«01_k».proof.Proof.Gen.Pre_in_range_x
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.ReferenceVIdeal.Skeleton
public import proofs.«01_k».proof.Proof.Gen.ReferenceVIdeal.Launch
public import proofs.«01_k».proof.Proof.Gen.ReferenceVIdeal.Points
public import proofs.«01_k».proof.Proof.Gen.ReferenceVIdeal.Frame
public import proofs.«01_k».proof.Proof.Gen.KernelVIdeal.Value
public import proofs.«01_k».proof.Proof.Gen.Pre_in_range_v
public import proofs.«01_k».proof.Proof.Gen.Whole
public import proofs.«01_k».proof.Proof.Gen.Whole.Skeleton
public import proofs.«01_k».proof.Proof.Gen.Whole.Launch
public import proofs.«01_k».proof.Proof.Gen.Whole.Points
public import proofs.«01_k».proof.Proof.Gen.Whole.Frame
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeIdeal.Frame
public import proofs.«01_k».proof.Proof.Gen.WholeRefIdeal
public import proofs.«01_k».proof.Proof.Gen.WholeRefIdeal.Skeleton
public import proofs.«01_k».proof.Proof.Gen.WholeRefIdeal.Launch
public import proofs.«01_k».proof.Proof.Gen.WholeRefIdeal.Points
public import proofs.«01_k».proof.Proof.Gen.WholeRefIdeal.Loops
public import proofs.«01_k».proof.Proof.Gen.Pre_in_range_all
public import proofs.«01_k».proof.Proof.Gen.WholeRefIdeal.Frame
public import proofs.«01_k».proof.Proof.RefRun
public import proofs.«01_k».proof.Proof.RefResult
public import proofs.«01_k».proof.Proof.KerResult
public import proofs.«01_k».proof.Proof.QuantK
public import proofs.«01_k».proof.Proof.QuantRefK
public import proofs.«01_k».proof.Proof.QuantX
public import proofs.«01_k».proof.Proof.QuantRefX
public import proofs.«01_k».proof.Proof.QuantV
public import proofs.«01_k».proof.Proof.QuantRefV
public import proofs.«01_k».proof.Proof.WRefResult
public import proofs.«01_k».proof.Proof.WRun
public import proofs.«01_k».proof.Proof.WRange
public import Idealize.ShloMosaic.Adequacy
public import Idealize.ShloMosaic.Init

@[expose] public section

noncomputable section

namespace Cert.Proof

open Idealize.ShloMosaic Idealize.SL.Sem

/-- From memories agreeing on the arguments, the kernel and the reference end with the same result. -/
theorem algebraic : Cert.algebraic_KernelIdeal_ReferenceIdeal (hKernelIdeal := Cert.KernelIdeal.Gen.facts)
    (hReferenceIdeal := Cert.ReferenceIdeal.Gen.facts) := fun m g m' g' _ hin => by
  have e : ∀ c, Ref.result m' c = Ker.result m c := fun c => by
    obtain ⟨h0, h1, h2, h3, h4, h5⟩ := hin c
    unfold Ref.result Ker.result
    rw [h0, h1, h2, h3, h4, h5]
  exact ⟨fun c => Ker.result m c, Ker.run m g,
    (θ_run _ _ _).mono (fun _ h c => ⟨(h c).1.trans (e c), (h c).2⟩) (Ref.run m' g')⟩

/-- For every `k` whose blocks are in range, the quantiser and its reference end with the same codes and scales. -/
theorem algebraic_k : Cert.algebraic_KernelKIdeal_ReferenceKIdeal_pre_in_range_k (hKernelKIdeal := Cert.KernelKIdeal.Gen.facts)
    (hReferenceKIdeal := Cert.ReferenceKIdeal.Gen.facts) (hPre_in_range_k := Cert.Pre_in_range_k.Gen.facts) := fun m g m' g' hp hin => by
  have e : ∀ c, Quant.RefK.arg m' c = Quant.K.arg m c := fun c => hin c
  refine ⟨fun c => Quant.codesArr (Quant.K.arg m c), fun c => Quant.scalesArr (Quant.K.arg m c),
    Quant.K.run m g fun c => Quant.RefK.inRange _ (hp c), (θ_run _ _ _).mono (fun _ h c => ?_) (Quant.RefK.run m' g')⟩
  exact ⟨(h c).1.trans (congrArg Quant.codesArr (e c)), (h c).2.1.trans (congrArg Quant.scalesArr (e c)), (h c).2.2⟩

/-- For every `x` whose blocks are in range, the quantiser and its reference end with the same codes and scales. -/
theorem algebraic_x : Cert.algebraic_KernelXIdeal_ReferenceXIdeal_pre_in_range_x (hKernelXIdeal := Cert.KernelXIdeal.Gen.facts)
    (hReferenceXIdeal := Cert.ReferenceXIdeal.Gen.facts) (hPre_in_range_x := Cert.Pre_in_range_x.Gen.facts) := fun m g m' g' hp hin => by
  have e : ∀ c, Quant.RefX.arg m' c = Quant.X.arg m c := fun c => hin c
  refine ⟨fun c => Quant.codesArr (Quant.X.arg m c), fun c => Quant.scalesArr (Quant.X.arg m c),
    Quant.X.run m g fun c => Quant.RefX.inRange _ (hp c), (θ_run _ _ _).mono (fun _ h c => ?_) (Quant.RefX.run m' g')⟩
  exact ⟨(h c).1.trans (congrArg Quant.codesArr (e c)), (h c).2.1.trans (congrArg Quant.scalesArr (e c)), (h c).2.2⟩

/-- For every `v` whose blocks are in range, the quantiser and its reference end with the same codes, scales and transposed codes. -/
theorem algebraic_v : Cert.algebraic_KernelVIdeal_ReferenceVIdeal_pre_in_range_v (hKernelVIdeal := Cert.KernelVIdeal.Gen.facts)
    (hReferenceVIdeal := Cert.ReferenceVIdeal.Gen.facts) (hPre_in_range_v := Cert.Pre_in_range_v.Gen.facts) := fun m g m' g' hp hin => by
  have e : ∀ c, Quant.RefV.arg m' c = Quant.V.arg m c := fun c => hin c
  refine ⟨fun c => Quant.codesArr (Quant.V.arg m c), fun c => Quant.scalesArr (Quant.V.arg m c), fun c => Quant.codesArrT (Quant.V.arg m c),
    Quant.V.run m g fun c => Quant.RefV.inRange _ (hp c), (θ_run _ _ _).mono (fun _ h c => ?_) (Quant.RefV.run m' g')⟩
  exact ⟨(h c).1.trans (congrArg Quant.codesArr (e c)), (h c).2.1.trans (congrArg Quant.scalesArr (e c)),
    (h c).2.2.1.trans (congrArg Quant.codesArrT (e c)), (h c).2.2.2⟩

/-- For all `x`, `k`, `v` whose blocks are in range, the whole kernel and its reference end with the same seven results. -/
theorem algebraic_whole : Cert.algebraic_WholeIdeal_WholeRefIdeal_pre_in_range_all (hWholeIdeal := Cert.WholeIdeal.Gen.facts)
    (hWholeRefIdeal := Cert.WholeRefIdeal.Gen.facts) (hPre_in_range_all := Cert.Pre_in_range_all.Gen.facts) := fun m g m' g' hp hin => by
  have ex : ∀ c, WRef.argX m' c = Whole.argX m c := fun c => (hin c).1
  have ek : ∀ c, WRef.argK m' c = Whole.argK m c := fun c => (hin c).2.1
  have ev : ∀ c, WRef.argV m' c = Whole.argV m c := fun c => (hin c).2.2
  have e : ∀ c, WRef.result m' c = Whole.result m c := fun c => by
    unfold WRef.result Whole.result
    rw [ex c, ek c, ev c]
  refine ⟨fun c => Whole.result m c, fun c => Quant.codesArr (Whole.argX m c), fun c => Quant.scalesArr (Whole.argX m c),
    fun c => Quant.codesArr (Whole.argK m c), fun c => Quant.scalesArr (Whole.argK m c),
    fun c => Quant.codesArr (Whole.argV m c), fun c => Quant.scalesArr (Whole.argV m c),
    Whole.run m g fun c => ⟨WQuant.inRangeX _ _ _ (hp c), WQuant.inRangeK _ _ _ (hp c), WQuant.inRangeV _ _ _ (hp c)⟩,
    (θ_run _ _ _).mono (fun _ h c => ?_) (WRef.run m' g')⟩
  obtain ⟨h0, h1, h2, h3, h4, h5, h6, ha⟩ := h c
  exact ⟨h0.trans (e c), h1.trans (congrArg Quant.codesArr (ex c)), h2.trans (congrArg Quant.scalesArr (ex c)),
    h3.trans (congrArg Quant.codesArr (ek c)), h4.trans (congrArg Quant.scalesArr (ek c)),
    h5.trans (congrArg Quant.codesArr (ev c)), h6.trans (congrArg Quant.scalesArr (ev c)), ha⟩

theorem claim : Cert.Claim := ⟨Cert.Kernel.Gen.facts, Cert.KernelIdeal.Gen.facts, Cert.ReferenceIdeal.Gen.facts,
  Cert.KernelK.Gen.facts, Cert.KernelKIdeal.Gen.facts, Cert.ReferenceKIdeal.Gen.facts,
  Cert.KernelX.Gen.facts, Cert.KernelXIdeal.Gen.facts, Cert.ReferenceXIdeal.Gen.facts,
  Cert.KernelV.Gen.facts, Cert.KernelVIdeal.Gen.facts, Cert.ReferenceVIdeal.Gen.facts,
  Cert.Whole.Gen.facts, Cert.WholeIdeal.Gen.facts, Cert.WholeRefIdeal.Gen.facts,
  Cert.Pre_in_range_k.Gen.facts, Cert.Pre_in_range_x.Gen.facts, Cert.Pre_in_range_v.Gen.facts, Cert.Pre_in_range_all.Gen.facts,
  fun m ρ _ => Cert.Kernel.Gen.frame m ρ, fun m ρ _ => Cert.KernelIdeal.Gen.frame m ρ, fun m ρ _ => Ref.frame m ρ,
  fun m ρ _ => Cert.KernelK.Gen.frame m ρ, fun m ρ _ => Cert.KernelKIdeal.Gen.frame m ρ, fun m ρ _ => Cert.KernelKIdeal.Gen.frame m ρ,
  fun m ρ _ => Cert.ReferenceKIdeal.Gen.frame m ρ, fun m ρ _ => Cert.ReferenceKIdeal.Gen.frame m ρ,
  fun m ρ _ => Cert.KernelX.Gen.frame m ρ, fun m ρ _ => Cert.KernelXIdeal.Gen.frame m ρ, fun m ρ _ => Cert.KernelXIdeal.Gen.frame m ρ,
  fun m ρ _ => Cert.ReferenceXIdeal.Gen.frame m ρ, fun m ρ _ => Cert.ReferenceXIdeal.Gen.frame m ρ,
  fun m ρ _ => Cert.KernelV.Gen.frame m ρ, fun m ρ _ => Cert.KernelVIdeal.Gen.frame m ρ, fun m ρ _ => Cert.KernelVIdeal.Gen.frame m ρ,
  fun m ρ _ => Cert.ReferenceVIdeal.Gen.frame m ρ, fun m ρ _ => Cert.ReferenceVIdeal.Gen.frame m ρ,
  fun m ρ _ => Cert.Whole.Gen.frame m ρ, fun m ρ _ => Cert.WholeIdeal.Gen.frame m ρ, fun m ρ _ => Cert.WholeIdeal.Gen.frame m ρ,
  fun m ρ _ => WRef.frame m ρ, fun m ρ _ => WRef.frame m ρ,
  ⟨IdealRules.named_const.statement Cert.KernelIdeal.κ "mask" .f32 0xF149F2CA#32 ⊥ rfl,
   IdealRules.named_const.statement Cert.KernelIdeal.κ "scale_log2e" .f32 0x3E0293EE#32
    ((((Real.sqrt 128) * (Real.log 2))⁻¹ : ℝ) : EReal) rfl⟩,
  algebraic, trivial, algebraic_k, trivial, algebraic_x, trivial, algebraic_v,
  ⟨IdealRules.named_const.statement Cert.WholeIdeal.κ "mask" .f32 0xF149F2CA#32 ⊥ rfl,
   IdealRules.named_const.statement Cert.WholeIdeal.κ "scale_log2e" .f32 0x3E0293EE#32
    ((((Real.sqrt 128) * (Real.log 2))⁻¹ : ℝ) : EReal) rfl⟩,
  algebraic_whole⟩

end Cert.Proof

end
